-- ==== Defs.lean ====
def Pre_Scores [hPre_any_page : Cert.Pre_any_page.Facts] (m : (ℓ : Loc Cert.Scores.nD Cert.Scores.τ Cert.Scores.sig) → Buf (Elt Bits) ℓ) : Prop :=
  ∀ c : Dev Cert.Scores.nD,
    (Cert.Pre_any_page.fn (F := Bits) (m ((c.tc : Thread Cert.Scores.nD Cert.Scores.τ).loc Cert.Scores.main_arg0)) (m ((c.tc : Thread Cert.Scores.nD Cert.Scores.τ).loc Cert.Scores.main_arg1)) (m ((c.tc : Thread Cert.Scores.nD Cert.Scores.τ).loc Cert.Scores.main_arg2)) (m ((c.tc : Thread Cert.Scores.nD Cert.Scores.τ).loc Cert.Scores.main_arg3)) (m ((c.tc : Thread Cert.Scores.nD Cert.Scores.τ).loc Cert.Scores.main_arg4))) = (fun _ => 1#1)

def Pre_ScoresIdeal [hPre_any_page : Cert.Pre_any_page.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_any_page.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))) = (fun _ => 1#1)

def Pre_ScoresRefIdeal [hPre_any_page : Cert.Pre_any_page.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_any_page.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3)) (m ((c.tc : Thread Cert.ScoresRefIdeal.nD Cert.ScoresRefIdeal.τ).loc Cert.ScoresRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_GmlpS (m : (ℓ : Loc Cert.GmlpS.nD Cert.GmlpS.τ Cert.GmlpS.sig) → Buf (Elt Bits) ℓ) : Prop :=
  True

def Pre_GmlpSIdeal (m : (ℓ : Loc Cert.GmlpSIdeal.nD Cert.GmlpSIdeal.τ Cert.GmlpSIdeal.sig) → Buf (Elt Ideal) ℓ) : Prop :=
  True

def Pre_GmlpSRefIdeal (m : (ℓ : Loc Cert.GmlpSRefIdeal.nD Cert.GmlpSRefIdeal.τ Cert.GmlpSRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_MemAttnS (m : (ℓ : Loc Cert.MemAttnS.nD Cert.MemAttnS.τ Cert.MemAttnS.sig) → Buf (Elt Bits) ℓ) : Prop :=
  True

def Pre_MemAttnSIdeal (m : (ℓ : Loc Cert.MemAttnSIdeal.nD Cert.MemAttnSIdeal.τ Cert.MemAttnSIdeal.sig) → Buf (Elt Ideal) ℓ) : Prop :=
  True

def Pre_MemAttnSRefIdeal (m : (ℓ : Loc Cert.MemAttnSRefIdeal.nD Cert.MemAttnSRefIdeal.τ Cert.MemAttnSRefIdeal.sig) → Buf (Elt Ideal) ℓ) : Prop :=
  True

def Pre_Sattn [hPre_some_chosen : Cert.Pre_some_chosen.Facts] (m : (ℓ : Loc Cert.Sattn.nD Cert.Sattn.τ Cert.Sattn.sig) → Buf (Elt Bits) ℓ) : Prop :=
  ∀ c : Dev Cert.Sattn.nD,
    (Cert.Pre_some_chosen.fn (F := Bits) (m ((c.tc : Thread Cert.Sattn.nD Cert.Sattn.τ).loc Cert.Sattn.main_arg0)) (m ((c.tc : Thread Cert.Sattn.nD Cert.Sattn.τ).loc Cert.Sattn.main_arg1)) (m ((c.tc : Thread Cert.Sattn.nD Cert.Sattn.τ).loc Cert.Sattn.main_arg2)) (m ((c.tc : Thread Cert.Sattn.nD Cert.Sattn.τ).loc Cert.Sattn.main_arg3)) (m ((c.tc : Thread Cert.Sattn.nD Cert.Sattn.τ).loc Cert.Sattn.main_arg4)) (m ((c.tc : Thread Cert.Sattn.nD Cert.Sattn.τ).loc Cert.Sattn.main_arg5)) (m ((c.tc : Thread Cert.Sattn.nD Cert.Sattn.τ).loc Cert.Sattn.main_arg6))) = (fun _ => 1#1)

def Pre_SattnIdeal [hPre_some_chosen : Cert.Pre_some_chosen.Facts] (m : (ℓ : Loc Cert.SattnIdeal.nD Cert.SattnIdeal.τ Cert.SattnIdeal.sig) → Buf (Elt Ideal) ℓ) : Prop :=
  ∀ c : Dev Cert.SattnIdeal.nD,
    (Cert.Pre_some_chosen.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5)) (m ((c.tc : Thread Cert.SattnIdeal.nD Cert.SattnIdeal.τ).loc Cert.SattnIdeal.main_arg6))) = (fun _ => 1#1)

def Pre_SattnRefIdeal [hPre_some_chosen : Cert.Pre_some_chosen.Facts] (m : (ℓ : Loc Cert.SattnRefIdeal.nD Cert.SattnRefIdeal.τ Cert.SattnRefIdeal.sig) → Buf (Elt Ideal) ℓ) : Prop :=
  ∀ c : Dev Cert.SattnRefIdeal.nD,
    (Cert.Pre_some_chosen.fn (F := Ideal) (m ((c.tc : Thread Cert.SattnRefIdeal.nD Cert.SattnRefIdeal.τ).loc Cert.SattnRefIdeal.main_arg0)) (m ((c.tc : Thread Cert.SattnRefIdeal.nD Cert.SattnRefIdeal.τ).loc Cert.SattnRefIdeal.main_arg1)) (m ((c.tc : Thread Cert.SattnRefIdeal.nD Cert.SattnRefIdeal.τ).loc Cert.SattnRefIdeal.main_arg2)) (m ((c.tc : Thread Cert.SattnRefIdeal.nD Cert.SattnRefIdeal.τ).loc Cert.SattnRefIdeal.main_arg3)) (m ((c.tc : Thread Cert.SattnRefIdeal.nD Cert.SattnRefIdeal.τ).loc Cert.SattnRefIdeal.main_arg4)) (m ((c.tc : Thread Cert.SattnRefIdeal.nD Cert.SattnRefIdeal.τ).loc Cert.SattnRefIdeal.main_arg5)) (m ((c.tc : Thread Cert.SattnRefIdeal.nD Cert.SattnRefIdeal.τ).loc Cert.SattnRefIdeal.main_arg6))) = (fun _ => 1#1)

def quiescent_Scores [hScores : Cert.Scores.Facts] [hPre_any_page : Cert.Pre_any_page.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] [hPre_any_page : Cert.Pre_any_page.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresRefIdeal [hScoresRefIdeal : Cert.ScoresRefIdeal.Facts] [hPre_any_page : Cert.Pre_any_page.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2))
      ∧ r.2.sem = fun _ => 0)

def quiescent_GmlpS [hGmlpS : Cert.GmlpS.Facts] : Prop :=
  ∀ (m : (ℓ : Loc Cert.GmlpS.nD Cert.GmlpS.τ Cert.GmlpS.sig) → Buf (Elt Bits) ℓ) (g : Dev Cert.GmlpS.nD → PrngReg), Pre_GmlpS m →
    θ_run (Cert.GmlpS.defs (F := Bits)) (onTc (τ := Cert.GmlpS.τ) (Cert.GmlpS.main (F := Bits))) ⟨m, fun _ => 0, g⟩ (fun r => (∀ c : Dev Cert.GmlpS.nD,
      r.2.mem ((c.tc : Thread Cert.GmlpS.nD Cert.GmlpS.τ).loc Cert.GmlpS.main_arg0) = m ((c.tc : Thread Cert.GmlpS.nD Cert.GmlpS.τ).loc Cert.GmlpS.main_arg0)
      ∧ r.2.mem ((c.tc : Thread Cert.GmlpS.nD Cert.GmlpS.τ).loc Cert.GmlpS.main_arg1) = m ((c.tc : Thread Cert.GmlpS.nD Cert.GmlpS.τ).loc Cert.GmlpS.main_arg1)
      ∧ r.2.mem ((c.tc : Thread Cert.GmlpS.nD Cert.GmlpS.τ).loc Cert.GmlpS.main_arg2) = m ((c.tc : Thread Cert.GmlpS.nD Cert.GmlpS.τ).loc Cert.GmlpS.main_arg2))
      ∧ r.2.sem = fun _ => 0)

def quiescent_GmlpSIdeal [hGmlpSIdeal : Cert.GmlpSIdeal.Facts] : Prop :=
  ∀ (m : (ℓ : Loc Cert.GmlpSIdeal.nD Cert.GmlpSIdeal.τ Cert.GmlpSIdeal.sig) → Buf (Elt Ideal) ℓ) (g : Dev Cert.GmlpSIdeal.nD → PrngReg), Pre_GmlpSIdeal m →
    θ_run (Cert.GmlpSIdeal.defs (F := Ideal)) (onTc (τ := Cert.GmlpSIdeal.τ) (Cert.GmlpSIdeal.main (F := Ideal))) ⟨m, fun _ => 0, g⟩ (fun r => (∀ c : Dev Cert.GmlpSIdeal.nD,
      r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
      ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
      ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2))
      ∧ r.2.sem = fun _ => 0)

def quiescent_GmlpSRefIdeal [hGmlpSRefIdeal : Cert.GmlpSRefIdeal.Facts] : Prop :=
  ∀ (m : (ℓ : Loc Cert.GmlpSRefIdeal.nD Cert.GmlpSRefIdeal.τ Cert.GmlpSRefIdeal.sig) → Buf (Elt Ideal) ℓ) (g : Dev Cert.GmlpSRefIdeal.nD → PrngReg), Pre_GmlpSRefIdeal m →
    θ_run (Cert.GmlpSRefIdeal.defs (F := Ideal)) (onTc (τ := Cert.GmlpSRefIdeal.τ) (Cert.GmlpSRefIdeal.main (F := Ideal))) ⟨m, fun _ => 0, g⟩ (fun r => (∀ c : Dev Cert.GmlpSRefIdeal.nD,
      r.2.mem ((c.tc : Thread Cert.GmlpSRefIdeal.nD Cert.GmlpSRefIdeal.τ).loc Cert.GmlpSRefIdeal.main_arg0) = m ((c.tc : Thread Cert.GmlpSRefIdeal.nD Cert.GmlpSRefIdeal.τ).loc Cert.GmlpSRefIdeal.main_arg0)
      ∧ r.2.mem ((c.tc : Thread Cert.GmlpSRefIdeal.nD Cert.GmlpSRefIdeal.τ).loc Cert.GmlpSRefIdeal.main_arg1) = m ((c.tc : Thread Cert.GmlpSRefIdeal.nD Cert.GmlpSRefIdeal.τ).loc Cert.GmlpSRefIdeal.main_arg1)
      ∧ r.2.mem ((c.tc : Thread Cert.GmlpSRefIdeal.nD Cert.GmlpSRefIdeal.τ).loc Cert.GmlpSRefIdeal.main_arg2) = m ((c.tc : Thread Cert.GmlpSRefIdeal.nD Cert.GmlpSRefIdeal.τ).loc Cert.GmlpSRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnS [hMemAttnS : Cert.MemAttnS.Facts] : Prop :=
  ∀ (m : (ℓ : Loc Cert.MemAttnS.nD Cert.MemAttnS.τ Cert.MemAttnS.sig) → Buf (Elt Bits) ℓ) (g : Dev Cert.MemAttnS.nD → PrngReg), Pre_MemAttnS m →
    θ_run (Cert.MemAttnS.defs (F := Bits)) (onTc (τ := Cert.MemAttnS.τ) (Cert.MemAttnS.main (F := Bits))) ⟨m, fun _ => 0, g⟩ (fun r => (∀ c : Dev Cert.MemAttnS.nD,
      r.2.mem ((c.tc : Thread Cert.MemAttnS.nD Cert.MemAttnS.τ).loc Cert.MemAttnS.main_arg0) = m ((c.tc : Thread Cert.MemAttnS.nD Cert.MemAttnS.τ).loc Cert.MemAttnS.main_arg0)
      ∧ r.2.mem ((c.tc : Thread Cert.MemAttnS.nD Cert.MemAttnS.τ).loc Cert.MemAttnS.main_arg1) = m ((c.tc : Thread Cert.MemAttnS.nD Cert.MemAttnS.τ).loc Cert.MemAttnS.main_arg1)
      ∧ r.2.mem ((c.tc : Thread Cert.MemAttnS.nD Cert.MemAttnS.τ).loc Cert.MemAttnS.main_arg2) = m ((c.tc : Thread Cert.MemAttnS.nD Cert.MemAttnS.τ).loc Cert.MemAttnS.main_arg2))
      ∧ r.2.sem = fun _ => 0)

def quiescent_MemAttnSIdeal [hMemAttnSIdeal : Cert.MemAttnSIdeal.Facts] : Prop :=
  ∀ (m : (ℓ : Loc Cert.MemAttnSIdeal.nD Cert.MemAttnSIdeal.τ Cert.MemAttnSIdeal.sig) → Buf (Elt Ideal) ℓ) (g : Dev Cert.MemAttnSIdeal.nD → PrngReg), Pre_MemAttnSIdeal m →
    θ_run (Cert.MemAttnSIdeal.defs (F := Ideal)) (onTc (τ := Cert.MemAttnSIdeal.τ) (Cert.MemAttnSIdeal.main (F := Ideal))) ⟨m, fun _ => 0, g⟩ (fun r => (∀ c : Dev Cert.MemAttnSIdeal.nD,
      r.2.mem ((c.tc : Thread Cert.MemAttnSIdeal.nD Cert.MemAttnSIdeal.τ).loc Cert.MemAttnSIdeal.main_arg0) = m ((c.tc : Thread Cert.MemAttnSIdeal.nD Cert.MemAttnSIdeal.τ).loc Cert.MemAttnSIdeal.main_arg0)
      ∧ r.2.mem ((c.tc : Thread Cert.MemAttnSIdeal.nD Cert.MemAttnSIdeal.τ).loc Cert.MemAttnSIdeal.main_arg1) = m ((c.tc : Thread Cert.MemAttnSIdeal.nD Cert.MemAttnSIdeal.τ).loc Cert.MemAttnSIdeal.main_arg1)
      ∧ r.2.mem ((c.tc : Thread Cert.MemAttnSIdeal.nD Cert.MemAttnSIdeal.τ).loc Cert.MemAttnSIdeal.main_arg2) = m ((c.tc : Thread Cert.MemAttnSIdeal.nD Cert.MemAttnSIdeal.τ).loc Cert.MemAttnSIdeal.main_arg2))
      ∧ r.2.sem = fun _ => 0)

def quiescent_MemAttnSRefIdeal [hMemAttnSRefIdeal : Cert.MemAttnSRefIdeal.Facts] : Prop :=
  ∀ (m : (ℓ : Loc Cert.MemAttnSRefIdeal.nD Cert.MemAttnSRefIdeal.τ Cert.MemAttnSRefIdeal.sig) → Buf (Elt Ideal) ℓ) (g : Dev Cert.MemAttnSRefIdeal.nD → PrngReg), Pre_MemAttnSRefIdeal m →
    θ_run (Cert.MemAttnSRefIdeal.defs (F := Ideal)) (onTc (τ := Cert.MemAttnSRefIdeal.τ) (Cert.MemAttnSRefIdeal.main (F := Ideal))) ⟨m, fun _ => 0, g⟩ (fun r => (∀ c : Dev Cert.MemAttnSRefIdeal.nD,
      r.2.mem ((c.tc : Thread Cert.MemAttnSRefIdeal.nD Cert.MemAttnSRefIdeal.τ).loc Cert.MemAttnSRefIdeal.main_arg0) = m ((c.tc : Thread Cert.MemAttnSRefIdeal.nD Cert.MemAttnSRefIdeal.τ).loc Cert.MemAttnSRefIdeal.main_arg0)
      ∧ r.2.mem ((c.tc : Thread Cert.MemAttnSRefIdeal.nD Cert.MemAttnSRefIdeal.τ).loc Cert.MemAttnSRefIdeal.main_arg1) = m ((c.tc : Thread Cert.MemAttnSRefIdeal.nD Cert.MemAttnSRefIdeal.τ).loc Cert.MemAttnSRefIdeal.main_arg1)
      ∧ r.2.mem ((c.tc : Thread Cert.MemAttnSRefIdeal.nD Cert.MemAttnSRefIdeal.τ).loc Cert.MemAttnSRefIdeal.main_arg2) = m ((c.tc : Thread Cert.MemAttnSRefIdeal.nD Cert.MemAttnSRefIdeal.τ).loc Cert.MemAttnSRefIdeal.main_arg2))
      ∧ r.2.sem = fun _ => 0)

def quiescent_Sattn [hSattn : Cert.Sattn.Facts] [hPre_some_chosen : Cert.Pre_some_chosen.Facts] : Prop :=
  ∀ (m : (ℓ : Loc Cert.Sattn.nD Cert.Sattn.τ Cert.Sattn.sig) → Buf (Elt Bits) ℓ) (g : Dev Cert.Sattn.nD → PrngReg), Pre_Sattn m →
    θ_run (Cert.Sattn.defs (F := Bits)) (onTc (τ := Cert.Sattn.τ) (Cert.Sattn.main (F := Bits))) ⟨m, fun _ => 0, g⟩ (fun r => (∀ c : Dev Cert.Sattn.nD,
      r.2.mem ((c.tc : Thread Cert.Sattn.nD Cert.Sattn.τ).loc Cert.Sattn.main_arg0) = m ((c.tc : Thread Cert.Sattn.nD Cert.Sattn.τ).loc Cert.Sattn.main_arg0)
      ∧ r.2.mem ((c.tc : Thread Cert.Sattn.nD Cert.Sattn.τ).loc Cert.Sattn.main_arg1) = m ((c.tc : Thread Cert.Sattn.nD Cert.Sattn.τ).loc Cert.Sattn.main_arg1)
      ∧ r.2.mem ((c.tc : Thread Cert.Sattn.nD Cert.Sattn.τ).loc Cert.Sattn.main_arg2) = m ((c.tc : Thread Cert.Sattn.nD Cert.Sattn.τ).loc Cert.Sattn.main_arg2)
      ∧ r.2.mem ((c.tc : Thread Cert.Sattn.nD Cert.Sattn.τ).loc Cert.Sattn.main_arg3) = m ((c.tc : Thread Cert.Sattn.nD Cert.Sattn.τ).loc Cert.Sattn.main_arg3)
      ∧ r.2.mem ((c.tc : Thread Cert.Sattn.nD Cert.Sattn.τ).loc Cert.Sattn.main_arg4) = m ((c.tc : Thread Cert.Sattn.nD Cert.Sattn.τ).loc Cert.Sattn.main_arg4)
      ∧ r.2.mem ((c.tc : Thread Cert.Sattn.nD Cert.Sattn.τ).loc Cert.Sattn.main_arg5) = m ((c.tc : Thread Cert.Sattn.nD Cert.Sattn.τ).loc Cert.Sattn.main_arg5)
      ∧ r.2.mem ((c.tc : Thread Cert.Sattn.nD Cert.Sattn.τ).loc Cert.Sattn.main_arg6) = m ((c.tc : Thread Cert.Sattn.nD Cert.Sattn.τ).loc Cert.Sattn.main_arg6))
      ∧ r.2.sem = fun _ => 0)

def quiescent_SattnIdeal [hSattnIdeal : Cert.SattnIdeal.Facts] [hPre_some_chosen : Cert.Pre_some_chosen.Facts] : Prop :=
  ∀ (m : (ℓ : Loc Cert.SattnIdeal.nD Cert.SattnIdeal.τ Cert.SattnIdeal.sig) → Buf (Elt Ideal) ℓ) (g : Dev Cert.SattnIdeal.nD → PrngReg), Pre_SattnIdeal m →
    θ_run (Cert.SattnIdeal.defs (F := Ideal)) (onTc (τ := Cert.SattnIdeal.τ) (Cert.SattnIdeal.main (F := Ideal))) ⟨m, fun _ => 0, g⟩ (fun r => (∀ c : Dev Cert.SattnIdeal.nD,
      r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
      ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
      ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
      ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
      ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
      ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5)
      ∧ r.2.mem ((c.tc : Thread Cert.SattnIdeal.nD Cert.SattnIdeal.τ).loc Cert.SattnIdeal.main_arg6) = m ((c.tc : Thread Cert.SattnIdeal.nD Cert.SattnIdeal.τ).loc Cert.SattnIdeal.main_arg6))
      ∧ r.2.sem = fun _ => 0)

def quiescent_SattnRefIdeal [hSattnRefIdeal : Cert.SattnRefIdeal.Facts] [hPre_some_chosen : Cert.Pre_some_chosen.Facts] : Prop :=
  ∀ (m : (ℓ : Loc Cert.SattnRefIdeal.nD Cert.SattnRefIdeal.τ Cert.SattnRefIdeal.sig) → Buf (Elt Ideal) ℓ) (g : Dev Cert.SattnRefIdeal.nD → PrngReg), Pre_SattnRefIdeal m →
    θ_run (Cert.SattnRefIdeal.defs (F := Ideal)) (onTc (τ := Cert.SattnRefIdeal.τ) (Cert.SattnRefIdeal.main (F := Ideal))) ⟨m, fun _ => 0, g⟩ (fun r => (∀ c : Dev Cert.SattnRefIdeal.nD,
      r.2.mem ((c.tc : Thread Cert.SattnRefIdeal.nD Cert.SattnRefIdeal.τ).loc Cert.SattnRefIdeal.main_arg0) = m ((c.tc : Thread Cert.SattnRefIdeal.nD Cert.SattnRefIdeal.τ).loc Cert.SattnRefIdeal.main_arg0)
      ∧ r.2.mem ((c.tc : Thread Cert.SattnRefIdeal.nD Cert.SattnRefIdeal.τ).loc Cert.SattnRefIdeal.main_arg1) = m ((c.tc : Thread Cert.SattnRefIdeal.nD Cert.SattnRefIdeal.τ).loc Cert.SattnRefIdeal.main_arg1)
      ∧ r.2.mem ((c.tc : Thread Cert.SattnRefIdeal.nD Cert.SattnRefIdeal.τ).loc Cert.SattnRefIdeal.main_arg2) = m ((c.tc : Thread Cert.SattnRefIdeal.nD Cert.SattnRefIdeal.τ).loc Cert.SattnRefIdeal.main_arg2)
      ∧ r.2.mem ((c.tc : Thread Cert.SattnRefIdeal.nD Cert.SattnRefIdeal.τ).loc Cert.SattnRefIdeal.main_arg3) = m ((c.tc : Thread Cert.SattnRefIdeal.nD Cert.SattnRefIdeal.τ).loc Cert.SattnRefIdeal.main_arg3)
      ∧ r.2.mem ((c.tc : Thread Cert.SattnRefIdeal.nD Cert.SattnRefIdeal.τ).loc Cert.SattnRefIdeal.main_arg4) = m ((c.tc : Thread Cert.SattnRefIdeal.nD Cert.SattnRefIdeal.τ).loc Cert.SattnRefIdeal.main_arg4)
      ∧ r.2.mem ((c.tc : Thread Cert.SattnRefIdeal.nD Cert.SattnRefIdeal.τ).loc Cert.SattnRefIdeal.main_arg5) = m ((c.tc : Thread Cert.SattnRefIdeal.nD Cert.SattnRefIdeal.τ).loc Cert.SattnRefIdeal.main_arg5)
      ∧ r.2.mem ((c.tc : Thread Cert.SattnRefIdeal.nD Cert.SattnRefIdeal.τ).loc Cert.SattnRefIdeal.main_arg6) = m ((c.tc : Thread Cert.SattnRefIdeal.nD Cert.SattnRefIdeal.τ).loc Cert.SattnRefIdeal.main_arg6))
      ∧ r.2.sem = fun _ => 0)

def preserves_Scores_ScoresIdeal : Prop :=
  True

def algebraic_ScoresIdeal_ScoresRefIdeal [hScoresIdeal : Cert.ScoresIdeal.Facts] [hScoresRefIdeal : Cert.ScoresRefIdeal.Facts] [hPre_any_page : Cert.Pre_any_page.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)
      ∧ m' ((c.tc : Thread Cert.ScoresRefIdeal.nD Cert.ScoresRefIdeal.τ).loc Cert.ScoresRefIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v8)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v8) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v17) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3)
          ∧ r.2.mem ((c.tc : Thread Cert.ScoresRefIdeal.nD Cert.ScoresRefIdeal.τ).loc Cert.ScoresRefIdeal.main_arg4) = m' ((c.tc : Thread Cert.ScoresRefIdeal.nD Cert.ScoresRefIdeal.τ).loc Cert.ScoresRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v12_0)) (v1 : (c : Dev Cert.MergeIdeal.nD) → Buf (Elt Ideal) ((c.tc : Thread Cert.MergeIdeal.nD Cert.MergeIdeal.τ).loc Cert.MergeIdeal.main_v12_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12_0) = v0 c
          ∧ r.2.mem ((c.tc : Thread Cert.MergeIdeal.nD Cert.MergeIdeal.τ).loc Cert.MergeIdeal.main_v12_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v53) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v26)) (v1 : (c : Dev Cert.ProjIdeal.nD) → Buf (Elt Ideal) ((c.tc : Thread Cert.ProjIdeal.nD Cert.ProjIdeal.τ).loc Cert.ProjIdeal.main_v27)) (v2 : (c : Dev Cert.ProjIdeal.nD) → Buf (Elt Ideal) ((c.tc : Thread Cert.ProjIdeal.nD Cert.ProjIdeal.τ).loc Cert.ProjIdeal.main_v28_0)) (v3 : (c : Dev Cert.ProjIdeal.nD) → Buf (Elt Ideal) ((c.tc : Thread Cert.ProjIdeal.nD Cert.ProjIdeal.τ).loc Cert.ProjIdeal.main_v28_1)) (v4 : (c : Dev Cert.ProjIdeal.nD) → Buf (Elt Ideal) ((c.tc : Thread Cert.ProjIdeal.nD Cert.ProjIdeal.τ).loc Cert.ProjIdeal.main_v29_0)) (v5 : (c : Dev Cert.ProjIdeal.nD) → Buf (Elt Ideal) ((c.tc : Thread Cert.ProjIdeal.nD Cert.ProjIdeal.τ).loc Cert.ProjIdeal.main_v29_1)) (v6 : (c : Dev Cert.ProjIdeal.nD) → Buf (Elt Ideal) ((c.tc : Thread Cert.ProjIdeal.nD Cert.ProjIdeal.τ).loc Cert.ProjIdeal.main_v30)) (v7 : (c : Dev Cert.ProjIdeal.nD) → Buf (Elt Ideal) ((c.tc : Thread Cert.ProjIdeal.nD Cert.ProjIdeal.τ).loc Cert.ProjIdeal.main_v34)) (v8 : (c : Dev Cert.ProjIdeal.nD) → Buf (Elt Ideal) ((c.tc : Thread Cert.ProjIdeal.nD Cert.ProjIdeal.τ).loc Cert.ProjIdeal.main_v35)) (v9 : (c : Dev Cert.ProjIdeal.nD) → Buf (Elt Ideal) ((c.tc : Thread Cert.ProjIdeal.nD Cert.ProjIdeal.τ).loc Cert.ProjIdeal.main_v32)) (v10 : (c : Dev Cert.ProjIdeal.nD) → Buf (Elt Ideal) ((c.tc : Thread Cert.ProjIdeal.nD Cert.ProjIdeal.τ).loc Cert.ProjIdeal.main_v33)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v26) = v0 c
          ∧ r.2.mem ((c.tc : Thread Cert.ProjIdeal.nD Cert.ProjIdeal.τ).loc Cert.ProjIdeal.main_v27) = v1 c
          ∧ r.2.mem ((c.tc : Thread Cert.ProjIdeal.nD Cert.ProjIdeal.τ).loc Cert.ProjIdeal.main_v28_0) = v2 c
          ∧ r.2.mem ((c.tc : Thread Cert.ProjIdeal.nD Cert.ProjIdeal.τ).loc Cert.ProjIdeal.main_v28_1) = v3 c
          ∧ r.2.mem ((c.tc : Thread Cert.ProjIdeal.nD Cert.ProjIdeal.τ).loc Cert.ProjIdeal.main_v29_0) = v4 c
          ∧ r.2.mem ((c.tc : Thread Cert.ProjIdeal.nD Cert.ProjIdeal.τ).loc Cert.ProjIdeal.main_v29_1) = v5 c
          ∧ r.2.mem ((c.tc : Thread Cert.ProjIdeal.nD Cert.ProjIdeal.τ).loc Cert.ProjIdeal.main_v30) = v6 c
          ∧ r.2.mem ((c.tc : Thread Cert.ProjIdeal.nD Cert.ProjIdeal.τ).loc Cert.ProjIdeal.main_v34) = v7 c
          ∧ r.2.mem ((c.tc : Thread Cert.ProjIdeal.nD Cert.ProjIdeal.τ).loc Cert.ProjIdeal.main_v35) = v8 c
          ∧ r.2.mem ((c.tc : Thread Cert.ProjIdeal.nD Cert.ProjIdeal.τ).loc Cert.ProjIdeal.main_v32) = v9 c
          ∧ r.2.mem ((c.tc : Thread Cert.ProjIdeal.nD Cert.ProjIdeal.τ).loc Cert.ProjIdeal.main_v33) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v90) = v0 c
          ∧ r.2.mem ((c.tc : Thread Cert.ProjRefIdeal.nD Cert.ProjRefIdeal.τ).loc Cert.ProjRefIdeal.main_v84) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_v85) = v3 c
          ∧ r.2.mem ((c.tc : Thread Cert.ProjRefIdeal.nD Cert.ProjRefIdeal.τ).loc Cert.ProjRefIdeal.main_v21) = v4 c
          ∧ r.2.mem ((c.tc : Thread Cert.ProjRefIdeal.nD Cert.ProjRefIdeal.τ).loc Cert.ProjRefIdeal.main_v86) = v5 c
          ∧ r.2.mem ((c.tc : Thread Cert.ProjRefIdeal.nD Cert.ProjRefIdeal.τ).loc Cert.ProjRefIdeal.main_v87) = v6 c
          ∧ r.2.mem ((c.tc : Thread Cert.ProjRefIdeal.nD Cert.ProjRefIdeal.τ).loc Cert.ProjRefIdeal.main_v23) = v7 c
          ∧ r.2.mem ((c.tc : Thread Cert.ProjRefIdeal.nD Cert.ProjRefIdeal.τ).loc Cert.ProjRefIdeal.main_v24) = v8 c
          ∧ r.2.mem ((c.tc : Thread Cert.ProjRefIdeal.nD Cert.ProjRefIdeal.τ).loc Cert.ProjRefIdeal.main_v88) = v9 c
          ∧ r.2.mem ((c.tc : Thread Cert.ProjRefIdeal.nD Cert.ProjRefIdeal.τ).loc Cert.ProjRefIdeal.main_v89) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)) →
    ∃ (v0 : (c : Dev Cert.ProjSIdeal.nD) → Buf (Elt Ideal) ((c.tc : Thread Cert.ProjSIdeal.nD Cert.ProjSIdeal.τ).loc Cert.ProjSIdeal.main_v26)) (v1 : (c : Dev Cert.ProjSIdeal.nD) → Buf (Elt Ideal) ((c.tc : Thread Cert.ProjSIdeal.nD Cert.ProjSIdeal.τ).loc Cert.ProjSIdeal.main_v27)) (v2 : (c : Dev Cert.ProjSIdeal.nD) → Buf (Elt Ideal) ((c.tc : Thread Cert.ProjSIdeal.nD Cert.ProjSIdeal.τ).loc Cert.ProjSIdeal.main_v28_0)) (v3 : (c : Dev Cert.ProjSIdeal.nD) → Buf (Elt Ideal) ((c.tc : Thread Cert.ProjSIdeal.nD Cert.ProjSIdeal.τ).loc Cert.ProjSIdeal.main_v28_1)) (v4 : (c : Dev Cert.ProjSIdeal.nD) → Buf (Elt Ideal) ((c.tc : Thread Cert.ProjSIdeal.nD Cert.ProjSIdeal.τ).loc Cert.ProjSIdeal.main_v29_0)) (v5 : (c : Dev Cert.ProjSIdeal.nD) → Buf (Elt Ideal) ((c.tc : Thread Cert.ProjSIdeal.nD Cert.ProjSIdeal.τ).loc Cert.ProjSIdeal.main_v29_1)) (v6 : (c : Dev Cert.ProjSIdeal.nD) → Buf (Elt Ideal) ((c.tc : Thread Cert.ProjSIdeal.nD Cert.ProjSIdeal.τ).loc Cert.ProjSIdeal.main_v30)) (v7 : (c : Dev Cert.ProjSIdeal.nD) → Buf (Elt Ideal) ((c.tc : Thread Cert.ProjSIdeal.nD Cert.ProjSIdeal.τ).loc Cert.ProjSIdeal.main_v34)) (v8 : (c : Dev Cert.ProjSIdeal.nD) → Buf (Elt Ideal) ((c.tc : Thread Cert.ProjSIdeal.nD Cert.ProjSIdeal.τ).loc Cert.ProjSIdeal.main_v35)) (v9 : (c : Dev Cert.ProjSIdeal.nD) → Buf (Elt Ideal) ((c.tc : Thread Cert.ProjSIdeal.nD Cert.ProjSIdeal.τ).loc Cert.ProjSIdeal.main_v32)) (v10 : (c : Dev Cert.ProjSIdeal.nD) → Buf (Elt Ideal) ((c.tc : Thread Cert.ProjSIdeal.nD Cert.ProjSIdeal.τ).loc Cert.ProjSIdeal.main_v33)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v26) = v0 c
          ∧ r.2.mem ((c.tc : Thread Cert.ProjSIdeal.nD Cert.ProjSIdeal.τ).loc Cert.ProjSIdeal.main_v27) = v1 c
          ∧ r.2.mem ((c.tc : Thread Cert.ProjSIdeal.nD Cert.ProjSIdeal.τ).loc Cert.ProjSIdeal.main_v28_0) = v2 c
          ∧ r.2.mem ((c.tc : Thread Cert.ProjSIdeal.nD Cert.ProjSIdeal.τ).loc Cert.ProjSIdeal.main_v28_1) = v3 c
          ∧ r.2.mem ((c.tc : Thread Cert.ProjSIdeal.nD Cert.ProjSIdeal.τ).loc Cert.ProjSIdeal.main_v29_0) = v4 c
          ∧ r.2.mem ((c.tc : Thread Cert.ProjSIdeal.nD Cert.ProjSIdeal.τ).loc Cert.ProjSIdeal.main_v29_1) = v5 c
          ∧ r.2.mem ((c.tc : Thread Cert.ProjSIdeal.nD Cert.ProjSIdeal.τ).loc Cert.ProjSIdeal.main_v30) = v6 c
          ∧ r.2.mem ((c.tc : Thread Cert.ProjSIdeal.nD Cert.ProjSIdeal.τ).loc Cert.ProjSIdeal.main_v34) = v7 c
          ∧ r.2.mem ((c.tc : Thread Cert.ProjSIdeal.nD Cert.ProjSIdeal.τ).loc Cert.ProjSIdeal.main_v35) = v8 c
          ∧ r.2.mem ((c.tc : Thread Cert.ProjSIdeal.nD Cert.ProjSIdeal.τ).loc Cert.ProjSIdeal.main_v32) = v9 c
          ∧ r.2.mem ((c.tc : Thread Cert.ProjSIdeal.nD Cert.ProjSIdeal.τ).loc Cert.ProjSIdeal.main_v33) = v10 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v83) = v0 c
          ∧ r.2.mem ((c.tc : Thread Cert.ProjSRefIdeal.nD Cert.ProjSRefIdeal.τ).loc Cert.ProjSRefIdeal.main_v84) = v1 c
          ∧ r.2.mem ((c.tc : Thread Cert.ProjSRefIdeal.nD Cert.ProjSRefIdeal.τ).loc Cert.ProjSRefIdeal.main_v20) = v2 c
          ∧ r.2.mem ((c.tc : Thread Cert.ProjSRefIdeal.nD Cert.ProjSRefIdeal.τ).loc Cert.ProjSRefIdeal.main_v85) = v3 c
          ∧ r.2.mem ((c.tc : Thread Cert.ProjSRefIdeal.nD Cert.ProjSRefIdeal.τ).loc Cert.ProjSRefIdeal.main_v21) = v4 c
          ∧ r.2.mem ((c.tc : Thread Cert.ProjSRefIdeal.nD Cert.ProjSRefIdeal.τ).loc Cert.ProjSRefIdeal.main_v86) = v5 c
          ∧ r.2.mem ((c.tc : Thread Cert.ProjSRefIdeal.nD Cert.ProjSRefIdeal.τ).loc Cert.ProjSRefIdeal.main_v87) = v6 c
          ∧ r.2.mem ((c.tc : Thread Cert.ProjSRefIdeal.nD Cert.ProjSRefIdeal.τ).loc Cert.ProjSRefIdeal.main_v23) = v7 c
          ∧ r.2.mem ((c.tc : Thread Cert.ProjSRefIdeal.nD Cert.ProjSRefIdeal.τ).loc Cert.ProjSRefIdeal.main_v24) = v8 c
          ∧ r.2.mem ((c.tc : Thread Cert.ProjSRefIdeal.nD Cert.ProjSRefIdeal.τ).loc Cert.ProjSRefIdeal.main_v88) = v9 c
          ∧ r.2.mem ((c.tc : Thread Cert.ProjSRefIdeal.nD Cert.ProjSRefIdeal.τ).loc Cert.ProjSRefIdeal.main_v89) = v10 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v8)) (v1 : (c : Dev Cert.MemKvIdeal.nD) → Buf (Elt Ideal) ((c.tc : Thread Cert.MemKvIdeal.nD Cert.MemKvIdeal.τ).loc Cert.MemKvIdeal.main_v10)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v8) = v0 c
          ∧ r.2.mem ((c.tc : Thread Cert.MemKvIdeal.nD Cert.MemKvIdeal.τ).loc Cert.MemKvIdeal.main_v10) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v17) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v6)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v6) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v23) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)
      ∧ m' ((c.tc : Thread Cert.MergeSRefIdeal.nD Cert.MergeSRefIdeal.τ).loc Cert.MergeSRefIdeal.main_arg10) = m ((c.tc : Thread Cert.MergeSIdeal.nD Cert.MergeSIdeal.τ).loc Cert.MergeSIdeal.main_arg10)) →
    ∃ (v0 : (c : Dev Cert.MergeSIdeal.nD) → Buf (Elt Ideal) ((c.tc : Thread Cert.MergeSIdeal.nD Cert.MergeSIdeal.τ).loc Cert.MergeSIdeal.main_v12_0)) (v1 : (c : Dev Cert.MergeSIdeal.nD) → Buf (Elt Ideal) ((c.tc : Thread Cert.MergeSIdeal.nD Cert.MergeSIdeal.τ).loc Cert.MergeSIdeal.main_v12_1)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v12_0) = v0 c
          ∧ r.2.mem ((c.tc : Thread Cert.MergeSIdeal.nD Cert.MergeSIdeal.τ).loc Cert.MergeSIdeal.main_v12_1) = v1 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v38) = v0 c
          ∧ r.2.mem ((c.tc : Thread Cert.MergeSRefIdeal.nD Cert.MergeSRefIdeal.τ).loc Cert.MergeSRefIdeal.main_v53) = v1 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9)
          ∧ r.2.mem ((c.tc : Thread Cert.MergeSRefIdeal.nD Cert.MergeSRefIdeal.τ).loc Cert.MergeSRefIdeal.main_arg10) = m' ((c.tc : Thread Cert.MergeSRefIdeal.nD Cert.MergeSRefIdeal.τ).loc Cert.MergeSRefIdeal.main_arg10))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)) →
    ∃ (v0 : (c : Dev Cert.GmlpIdeal.nD) → Buf (Elt Ideal) ((c.tc : Thread Cert.GmlpIdeal.nD Cert.GmlpIdeal.τ).loc Cert.GmlpIdeal.main_v3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v3) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v18) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2))

def preserves_GmlpS_GmlpSIdeal : Prop :=
  True

def algebraic_GmlpSIdeal_GmlpSRefIdeal [hGmlpSIdeal : Cert.GmlpSIdeal.Facts] [hGmlpSRefIdeal : Cert.GmlpSRefIdeal.Facts] : Prop :=
  ∀ (m : (ℓ : Loc Cert.GmlpSIdeal.nD Cert.GmlpSIdeal.τ Cert.GmlpSIdeal.sig) → Buf (Elt Ideal) ℓ) (g : Dev Cert.GmlpSIdeal.nD → PrngReg)
    (m' : (ℓ : Loc Cert.GmlpSRefIdeal.nD Cert.GmlpSRefIdeal.τ Cert.GmlpSRefIdeal.sig) → Buf (Elt Ideal) ℓ) (g' : Dev Cert.GmlpSRefIdeal.nD → PrngReg), Pre_GmlpSIdeal m →
    (∀ c : Dev Cert.GmlpSIdeal.nD,
      m' ((c.tc : Thread Cert.GmlpSRefIdeal.nD Cert.GmlpSRefIdeal.τ).loc Cert.GmlpSRefIdeal.main_arg0) = m ((c.tc : Thread Cert.GmlpSIdeal.nD Cert.GmlpSIdeal.τ).loc Cert.GmlpSIdeal.main_arg0)
      ∧ m' ((c.tc : Thread Cert.GmlpSRefIdeal.nD Cert.GmlpSRefIdeal.τ).loc Cert.GmlpSRefIdeal.main_arg1) = m ((c.tc : Thread Cert.GmlpSIdeal.nD Cert.GmlpSIdeal.τ).loc Cert.GmlpSIdeal.main_arg1)
      ∧ m' ((c.tc : Thread Cert.GmlpSRefIdeal.nD Cert.GmlpSRefIdeal.τ).loc Cert.GmlpSRefIdeal.main_arg2) = m ((c.tc : Thread Cert.GmlpSIdeal.nD Cert.GmlpSIdeal.τ).loc Cert.GmlpSIdeal.main_arg2)) →
    ∃ (v0 : (c : Dev Cert.GmlpSIdeal.nD) → Buf (Elt Ideal) ((c.tc : Thread Cert.GmlpSIdeal.nD Cert.GmlpSIdeal.τ).loc Cert.GmlpSIdeal.main_v12)),
      θ_run (Cert.GmlpSIdeal.defs (F := Ideal)) (onTc (τ := Cert.GmlpSIdeal.τ) (Cert.GmlpSIdeal.main (F := Ideal))) ⟨m, fun _ => 0, g⟩ (fun r => ∀ c : Dev Cert.GmlpSIdeal.nD,
          r.2.mem ((c.tc : Thread Cert.GmlpSIdeal.nD Cert.GmlpSIdeal.τ).loc Cert.GmlpSIdeal.main_v12) = v0 c
          ∧ r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
          ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
          ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2))
      ∧ θ_run (Cert.GmlpSRefIdeal.defs (F := Ideal)) (onTc (τ := Cert.GmlpSRefIdeal.τ) (Cert.GmlpSRefIdeal.main (F := Ideal))) ⟨m', fun _ => 0, g'⟩ (fun r => ∀ c : Dev Cert.GmlpSRefIdeal.nD,
          r.2.mem ((c.tc : Thread Cert.GmlpSRefIdeal.nD Cert.GmlpSRefIdeal.τ).loc Cert.GmlpSRefIdeal.main_v19) = v0 c
          ∧ r.2.mem ((c.tc : Thread Cert.GmlpSRefIdeal.nD Cert.GmlpSRefIdeal.τ).loc Cert.GmlpSRefIdeal.main_arg0) = m' ((c.tc : Thread Cert.GmlpSRefIdeal.nD Cert.GmlpSRefIdeal.τ).loc Cert.GmlpSRefIdeal.main_arg0)
          ∧ r.2.mem ((c.tc : Thread Cert.GmlpSRefIdeal.nD Cert.GmlpSRefIdeal.τ).loc Cert.GmlpSRefIdeal.main_arg1) = m' ((c.tc : Thread Cert.GmlpSRefIdeal.nD Cert.GmlpSRefIdeal.τ).loc Cert.GmlpSRefIdeal.main_arg1)
          ∧ r.2.mem ((c.tc : Thread Cert.GmlpSRefIdeal.nD Cert.GmlpSRefIdeal.τ).loc Cert.GmlpSRefIdeal.main_arg2) = m' ((c.tc : Thread Cert.GmlpSRefIdeal.nD Cert.GmlpSRefIdeal.τ).loc Cert.GmlpSRefIdeal.main_arg2))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v1) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v21) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_MemAttnS_MemAttnSIdeal : Prop :=
  True

def algebraic_MemAttnSIdeal_MemAttnSRefIdeal [hMemAttnSIdeal : Cert.MemAttnSIdeal.Facts] [hMemAttnSRefIdeal : Cert.MemAttnSRefIdeal.Facts] : Prop :=
  ∀ (m : (ℓ : Loc Cert.MemAttnSIdeal.nD Cert.MemAttnSIdeal.τ Cert.MemAttnSIdeal.sig) → Buf (Elt Ideal) ℓ) (g : Dev Cert.MemAttnSIdeal.nD → PrngReg)
    (m' : (ℓ : Loc Cert.MemAttnSRefIdeal.nD Cert.MemAttnSRefIdeal.τ Cert.MemAttnSRefIdeal.sig) → Buf (Elt Ideal) ℓ) (g' : Dev Cert.MemAttnSRefIdeal.nD → PrngReg), Pre_MemAttnSIdeal m →
    (∀ c : Dev Cert.MemAttnSIdeal.nD,
      m' ((c.tc : Thread Cert.MemAttnSRefIdeal.nD Cert.MemAttnSRefIdeal.τ).loc Cert.MemAttnSRefIdeal.main_arg0) = m ((c.tc : Thread Cert.MemAttnSIdeal.nD Cert.MemAttnSIdeal.τ).loc Cert.MemAttnSIdeal.main_arg0)
      ∧ m' ((c.tc : Thread Cert.MemAttnSRefIdeal.nD Cert.MemAttnSRefIdeal.τ).loc Cert.MemAttnSRefIdeal.main_arg1) = m ((c.tc : Thread Cert.MemAttnSIdeal.nD Cert.MemAttnSIdeal.τ).loc Cert.MemAttnSIdeal.main_arg1)
      ∧ m' ((c.tc : Thread Cert.MemAttnSRefIdeal.nD Cert.MemAttnSRefIdeal.τ).loc Cert.MemAttnSRefIdeal.main_arg2) = m ((c.tc : Thread Cert.MemAttnSIdeal.nD Cert.MemAttnSIdeal.τ).loc Cert.MemAttnSIdeal.main_arg2)) →
    ∃ (v0 : (c : Dev Cert.MemAttnSIdeal.nD) → Buf (Elt Ideal) ((c.tc : Thread Cert.MemAttnSIdeal.nD Cert.MemAttnSIdeal.τ).loc Cert.MemAttnSIdeal.main_v1)),
      θ_run (Cert.MemAttnSIdeal.defs (F := Ideal)) (onTc (τ := Cert.MemAttnSIdeal.τ) (Cert.MemAttnSIdeal.main (F := Ideal))) ⟨m, fun _ => 0, g⟩ (fun r => ∀ c : Dev Cert.MemAttnSIdeal.nD,
          r.2.mem ((c.tc : Thread Cert.MemAttnSIdeal.nD Cert.MemAttnSIdeal.τ).loc Cert.MemAttnSIdeal.main_v1) = v0 c
          ∧ r.2.mem ((c.tc : Thread Cert.MemAttnSIdeal.nD Cert.MemAttnSIdeal.τ).loc Cert.MemAttnSIdeal.main_arg0) = m ((c.tc : Thread Cert.MemAttnSIdeal.nD Cert.MemAttnSIdeal.τ).loc Cert.MemAttnSIdeal.main_arg0)
          ∧ r.2.mem ((c.tc : Thread Cert.MemAttnSIdeal.nD Cert.MemAttnSIdeal.τ).loc Cert.MemAttnSIdeal.main_arg1) = m ((c.tc : Thread Cert.MemAttnSIdeal.nD Cert.MemAttnSIdeal.τ).loc Cert.MemAttnSIdeal.main_arg1)
          ∧ r.2.mem ((c.tc : Thread Cert.MemAttnSIdeal.nD Cert.MemAttnSIdeal.τ).loc Cert.MemAttnSIdeal.main_arg2) = m ((c.tc : Thread Cert.MemAttnSIdeal.nD Cert.MemAttnSIdeal.τ).loc Cert.MemAttnSIdeal.main_arg2))
      ∧ θ_run (Cert.MemAttnSRefIdeal.defs (F := Ideal)) (onTc (τ := Cert.MemAttnSRefIdeal.τ) (Cert.MemAttnSRefIdeal.main (F := Ideal))) ⟨m', fun _ => 0, g'⟩ (fun r => ∀ c : Dev Cert.MemAttnSRefIdeal.nD,
          r.2.mem ((c.tc : Thread Cert.MemAttnSRefIdeal.nD Cert.MemAttnSRefIdeal.τ).loc Cert.MemAttnSRefIdeal.main_v21) = v0 c
          ∧ r.2.mem ((c.tc : Thread Cert.MemAttnSRefIdeal.nD Cert.MemAttnSRefIdeal.τ).loc Cert.MemAttnSRefIdeal.main_arg0) = m' ((c.tc : Thread Cert.MemAttnSRefIdeal.nD Cert.MemAttnSRefIdeal.τ).loc Cert.MemAttnSRefIdeal.main_arg0)
          ∧ r.2.mem ((c.tc : Thread Cert.MemAttnSRefIdeal.nD Cert.MemAttnSRefIdeal.τ).loc Cert.MemAttnSRefIdeal.main_arg1) = m' ((c.tc : Thread Cert.MemAttnSRefIdeal.nD Cert.MemAttnSRefIdeal.τ).loc Cert.MemAttnSRefIdeal.main_arg1)
          ∧ r.2.mem ((c.tc : Thread Cert.MemAttnSRefIdeal.nD Cert.MemAttnSRefIdeal.τ).loc Cert.MemAttnSRefIdeal.main_arg2) = m' ((c.tc : Thread Cert.MemAttnSRefIdeal.nD Cert.MemAttnSRefIdeal.τ).loc Cert.MemAttnSRefIdeal.main_arg2))

def preserves_Sattn_SattnIdeal : Prop :=
  True

def algebraic_SattnIdeal_SattnRefIdeal [hSattnIdeal : Cert.SattnIdeal.Facts] [hSattnRefIdeal : Cert.SattnRefIdeal.Facts] [hPre_some_chosen : Cert.Pre_some_chosen.Facts] : Prop :=
  ∀ (m : (ℓ : Loc Cert.SattnIdeal.nD Cert.SattnIdeal.τ Cert.SattnIdeal.sig) → Buf (Elt Ideal) ℓ) (g : Dev Cert.SattnIdeal.nD → PrngReg)
    (m' : (ℓ : Loc Cert.SattnRefIdeal.nD Cert.SattnRefIdeal.τ Cert.SattnRefIdeal.sig) → Buf (Elt Ideal) ℓ) (g' : Dev Cert.SattnRefIdeal.nD → PrngReg), Pre_SattnIdeal m →
    (∀ c : Dev Cert.SattnIdeal.nD,
      m' ((c.tc : Thread Cert.SattnRefIdeal.nD Cert.SattnRefIdeal.τ).loc Cert.SattnRefIdeal.main_arg0) = m ((c.tc : Thread Cert.SattnIdeal.nD Cert.SattnIdeal.τ).loc Cert.SattnIdeal.main_arg0)
      ∧ m' ((c.tc : Thread Cert.SattnRefIdeal.nD Cert.SattnRefIdeal.τ).loc Cert.SattnRefIdeal.main_arg1) = m ((c.tc : Thread Cert.SattnIdeal.nD Cert.SattnIdeal.τ).loc Cert.SattnIdeal.main_arg1)
      ∧ m' ((c.tc : Thread Cert.SattnRefIdeal.nD Cert.SattnRefIdeal.τ).loc Cert.SattnRefIdeal.main_arg2) = m ((c.tc : Thread Cert.SattnIdeal.nD Cert.SattnIdeal.τ).loc Cert.SattnIdeal.main_arg2)
      ∧ m' ((c.tc : Thread Cert.SattnRefIdeal.nD Cert.SattnRefIdeal.τ).loc Cert.SattnRefIdeal.main_arg3) = m ((c.tc : Thread Cert.SattnIdeal.nD Cert.SattnIdeal.τ).loc Cert.SattnIdeal.main_arg3)
      ∧ m' ((c.tc : Thread Cert.SattnRefIdeal.nD Cert.SattnRefIdeal.τ).loc Cert.SattnRefIdeal.main_arg4) = m ((c.tc : Thread Cert.SattnIdeal.nD Cert.SattnIdeal.τ).loc Cert.SattnIdeal.main_arg4)
      ∧ m' ((c.tc : Thread Cert.SattnRefIdeal.nD Cert.SattnRefIdeal.τ).loc Cert.SattnRefIdeal.main_arg5) = m ((c.tc : Thread Cert.SattnIdeal.nD Cert.SattnIdeal.τ).loc Cert.SattnIdeal.main_arg5)
      ∧ m' ((c.tc : Thread Cert.SattnRefIdeal.nD Cert.SattnRefIdeal.τ).loc Cert.SattnRefIdeal.main_arg6) = m ((c.tc : Thread Cert.SattnIdeal.nD Cert.SattnIdeal.τ).loc Cert.SattnIdeal.main_arg6)) →
    ∃ (v0 : (c : Dev Cert.SattnIdeal.nD) → Buf (Elt Ideal) ((c.tc : Thread Cert.SattnIdeal.nD Cert.SattnIdeal.τ).loc Cert.SattnIdeal.main_v8)),
      θ_run (Cert.SattnIdeal.defs (F := Ideal)) (onTc (τ := Cert.SattnIdeal.τ) (Cert.SattnIdeal.main (F := Ideal))) ⟨m, fun _ => 0, g⟩ (fun r => ∀ c : Dev Cert.SattnIdeal.nD,
          r.2.mem ((c.tc : Thread Cert.SattnIdeal.nD Cert.SattnIdeal.τ).loc Cert.SattnIdeal.main_v8) = v0 c
          ∧ r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
          ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
          ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
          ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
          ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
          ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5)
          ∧ r.2.mem ((c.tc : Thread Cert.SattnIdeal.nD Cert.SattnIdeal.τ).loc Cert.SattnIdeal.main_arg6) = m ((c.tc : Thread Cert.SattnIdeal.nD Cert.SattnIdeal.τ).loc Cert.SattnIdeal.main_arg6))
      ∧ θ_run (Cert.SattnRefIdeal.defs (F := Ideal)) (onTc (τ := Cert.SattnRefIdeal.τ) (Cert.SattnRefIdeal.main (F := Ideal))) ⟨m', fun _ => 0, g'⟩ (fun r => ∀ c : Dev Cert.SattnRefIdeal.nD,
          r.2.mem ((c.tc : Thread Cert.SattnRefIdeal.nD Cert.SattnRefIdeal.τ).loc Cert.SattnRefIdeal.main_v46) = v0 c
          ∧ r.2.mem ((c.tc : Thread Cert.SattnRefIdeal.nD Cert.SattnRefIdeal.τ).loc Cert.SattnRefIdeal.main_arg0) = m' ((c.tc : Thread Cert.SattnRefIdeal.nD Cert.SattnRefIdeal.τ).loc Cert.SattnRefIdeal.main_arg0)
          ∧ r.2.mem ((c.tc : Thread Cert.SattnRefIdeal.nD Cert.SattnRefIdeal.τ).loc Cert.SattnRefIdeal.main_arg1) = m' ((c.tc : Thread Cert.SattnRefIdeal.nD Cert.SattnRefIdeal.τ).loc Cert.SattnRefIdeal.main_arg1)
          ∧ r.2.mem ((c.tc : Thread Cert.SattnRefIdeal.nD Cert.SattnRefIdeal.τ).loc Cert.SattnRefIdeal.main_arg2) = m' ((c.tc : Thread Cert.SattnRefIdeal.nD Cert.SattnRefIdeal.τ).loc Cert.SattnRefIdeal.main_arg2)
          ∧ r.2.mem ((c.tc : Thread Cert.SattnRefIdeal.nD Cert.SattnRefIdeal.τ).loc Cert.SattnRefIdeal.main_arg3) = m' ((c.tc : Thread Cert.SattnRefIdeal.nD Cert.SattnRefIdeal.τ).loc Cert.SattnRefIdeal.main_arg3)
          ∧ r.2.mem ((c.tc : Thread Cert.SattnRefIdeal.nD Cert.SattnRefIdeal.τ).loc Cert.SattnRefIdeal.main_arg4) = m' ((c.tc : Thread Cert.SattnRefIdeal.nD Cert.SattnRefIdeal.τ).loc Cert.SattnRefIdeal.main_arg4)
          ∧ r.2.mem ((c.tc : Thread Cert.SattnRefIdeal.nD Cert.SattnRefIdeal.τ).loc Cert.SattnRefIdeal.main_arg5) = m' ((c.tc : Thread Cert.SattnRefIdeal.nD Cert.SattnRefIdeal.τ).loc Cert.SattnRefIdeal.main_arg5)
          ∧ r.2.mem ((c.tc : Thread Cert.SattnRefIdeal.nD Cert.SattnRefIdeal.τ).loc Cert.SattnRefIdeal.main_arg6) = m' ((c.tc : Thread Cert.SattnRefIdeal.nD Cert.SattnRefIdeal.τ).loc Cert.SattnRefIdeal.main_arg6))

def Claim : Prop :=
  ∃ (hScores : Cert.Scores.Facts) (hScoresIdeal : Cert.ScoresIdeal.Facts) (hScoresRefIdeal : Cert.ScoresRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hMemKv : Cert.MemKv.Facts) (hMemKvIdeal : Cert.MemKvIdeal.Facts) (hMemKvRefIdeal : Cert.MemKvRefIdeal.Facts) (hFfnS : Cert.FfnS.Facts) (hFfnSIdeal : Cert.FfnSIdeal.Facts) (hFfnSRefIdeal : Cert.FfnSRefIdeal.Facts) (hMergeS : Cert.MergeS.Facts) (hMergeSIdeal : Cert.MergeSIdeal.Facts) (hMergeSRefIdeal : Cert.MergeSRefIdeal.Facts) (hGmlp : Cert.Gmlp.Facts) (hGmlpIdeal : Cert.GmlpIdeal.Facts) (hGmlpRefIdeal : Cert.GmlpRefIdeal.Facts) (hGmlpS : Cert.GmlpS.Facts) (hGmlpSIdeal : Cert.GmlpSIdeal.Facts) (hGmlpSRefIdeal : Cert.GmlpSRefIdeal.Facts) (hMemAttn : Cert.MemAttn.Facts) (hMemAttnIdeal : Cert.MemAttnIdeal.Facts) (hMemAttnRefIdeal : Cert.MemAttnRefIdeal.Facts) (hMemAttnS : Cert.MemAttnS.Facts) (hMemAttnSIdeal : Cert.MemAttnSIdeal.Facts) (hMemAttnSRefIdeal : Cert.MemAttnSRefIdeal.Facts) (hSattn : Cert.Sattn.Facts) (hSattnIdeal : Cert.SattnIdeal.Facts) (hSattnRefIdeal : Cert.SattnRefIdeal.Facts) (hPre_any_page : Cert.Pre_any_page.Facts) (hPre_some_chosen : Cert.Pre_some_chosen.Facts),
    quiescent_Scores (hScores := hScores) (hPre_any_page := hPre_any_page)
    ∧ quiescent_ScoresIdeal (hScoresIdeal := hScoresIdeal) (hPre_any_page := hPre_any_page)
    ∧ quiescent_ScoresRefIdeal (hScoresRefIdeal := hScoresRefIdeal) (hPre_any_page := hPre_any_page)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_GmlpS (hGmlpS := hGmlpS)
    ∧ quiescent_GmlpSIdeal (hGmlpSIdeal := hGmlpSIdeal)
    ∧ quiescent_GmlpSRefIdeal (hGmlpSRefIdeal := hGmlpSRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_MemAttnS (hMemAttnS := hMemAttnS)
    ∧ quiescent_MemAttnSIdeal (hMemAttnSIdeal := hMemAttnSIdeal)
    ∧ quiescent_MemAttnSRefIdeal (hMemAttnSRefIdeal := hMemAttnSRefIdeal)
    ∧ quiescent_Sattn (hSattn := hSattn) (hPre_some_chosen := hPre_some_chosen)
    ∧ quiescent_SattnIdeal (hSattnIdeal := hSattnIdeal) (hPre_some_chosen := hPre_some_chosen)
    ∧ quiescent_SattnRefIdeal (hSattnRefIdeal := hSattnRefIdeal) (hPre_some_chosen := hPre_some_chosen)
    ∧ preserves_Scores_ScoresIdeal
    ∧ algebraic_ScoresIdeal_ScoresRefIdeal (hScoresIdeal := hScoresIdeal) (hScoresRefIdeal := hScoresRefIdeal) (hPre_any_page := hPre_any_page)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_MemKv_MemKvIdeal
    ∧ algebraic_MemKvIdeal_MemKvRefIdeal (hMemKvIdeal := hMemKvIdeal) (hMemKvRefIdeal := hMemKvRefIdeal)
    ∧ preserves_FfnS_FfnSIdeal
    ∧ algebraic_FfnSIdeal_FfnSRefIdeal (hFfnSIdeal := hFfnSIdeal) (hFfnSRefIdeal := hFfnSRefIdeal)
    ∧ preserves_MergeS_MergeSIdeal
    ∧ algebraic_MergeSIdeal_MergeSRefIdeal (hMergeSIdeal := hMergeSIdeal) (hMergeSRefIdeal := hMergeSRefIdeal)
    ∧ preserves_Gmlp_GmlpIdeal
    ∧ algebraic_GmlpIdeal_GmlpRefIdeal (hGmlpIdeal := hGmlpIdeal) (hGmlpRefIdeal := hGmlpRefIdeal)
    ∧ preserves_GmlpS_GmlpSIdeal
    ∧ algebraic_GmlpSIdeal_GmlpSRefIdeal (hGmlpSIdeal := hGmlpSIdeal) (hGmlpSRefIdeal := hGmlpSRefIdeal)
    ∧ preserves_MemAttn_MemAttnIdeal
    ∧ algebraic_MemAttnIdeal_MemAttnRefIdeal (hMemAttnIdeal := hMemAttnIdeal) (hMemAttnRefIdeal := hMemAttnRefIdeal)
    ∧ preserves_MemAttnS_MemAttnSIdeal
    ∧ algebraic_MemAttnSIdeal_MemAttnSRefIdeal (hMemAttnSIdeal := hMemAttnSIdeal) (hMemAttnSRefIdeal := hMemAttnSRefIdeal)
    ∧ preserves_Sattn_SattnIdeal
    ∧ algebraic_SattnIdeal_SattnRefIdeal (hSattnIdeal := hSattnIdeal) (hSattnRefIdeal := hSattnRefIdeal) (hPre_some_chosen := hPre_some_chosen)
-- ==== Pre_any_page.lean ====
abbrev S8x2048 : Shape := ⟨2, ![8, 2048]⟩
abbrev S8x16 : Shape := ⟨2, ![8, 16]⟩
abbrev S8x128 : Shape := ⟨2, ![8, 128]⟩
abbrev S1x1280x128x128 : Shape := ⟨4, ![1, 1280, 128, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S8x2048 .bf16) (main_arg1 : FVec F S8x16 .f32) (main_arg2 : FVec F S8x128 .f32) (main_arg3 : FVec F S1x1280x128x128 .f32) (main_arg4 : IVec S8x128 32) : IVec S_ 1 :=
  let main_c : IVec S_ 32 := constantI S_ 32 0#32
  let main_v0 : IVec S8x128 32 := broadcastInDim S8x128 ![] bcast_S_S8x128 main_c
  let main_v1 : IVec S8x128 1 := cmpi .sge main_arg4 main_v0
  let main_c_0 : IVec S_ 32 := constantI S_ 32 1280#32
  let main_v2 : IVec S8x128 32 := broadcastInDim S8x128 ![] bcast_S_S8x128 main_c_0
  let main_v3 : IVec S8x128 1 := cmpi .slt main_arg4 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Pre_some_chosen.lean ====
abbrev S8x1024 : Shape := ⟨2, ![8, 1024]⟩
abbrev S8x129x128 : Shape := ⟨3, ![8, 129, 128]⟩
abbrev S1x1280x128x8x128 : Shape := ⟨5, ![1, 1280, 128, 8, 128]⟩
abbrev S8x128 : Shape := ⟨2, ![8, 128]⟩
abbrev S8x16512 : Shape := ⟨2, ![8, 16512]⟩
abbrev S8x16385 : Shape := ⟨2, ![8, 16385]⟩
abbrev S_ : Shape := ⟨0, ![]⟩
abbrev S8 : Shape := ⟨1, ![8]⟩

class Facts : Prop where
  shapeCasts_S8x129x128_S8x16512 : S8x129x128.ShapeCasts S8x16512
  slices_S8x16512_S8x16385_0_0 : S8x16512.Slices ![0, 0] S8x16385
  bcast_S_S8x16385 : S_.BroadcastsInDim S8x16385 (![] : Fin 0 → Fin S8x16385.rank)
  reducesTo_S8x16385_S8_d1 : S8x16385.ReducesTo [1] S8
  h_S_ : 0 < S_.numel
  bcast_S_S8x128 : S_.BroadcastsInDim S8x128 (![] : Fin 0 → Fin S8x128.rank)
  reducesTo_S8x128_S_d0_1 : S8x128.ReducesTo [0, 1] S_
  reducesTo_S8_S_d0 : S8.ReducesTo [0] S_
  bcast_S_S8x1024 : S_.BroadcastsInDim S8x1024 (![] : Fin 0 → Fin S8x1024.rank)
  reducesTo_S8x1024_S_d0_1 : S8x1024.ReducesTo [0, 1] S_
  bcast_S_S1x1280x128x8x128 : S_.BroadcastsInDim S1x1280x128x8x128 (![] : Fin 0 → Fin S1x1280x128x8x128.rank)
  reducesTo_S1x1280x128x8x128_S_d0_1_2_3_4 : S1x1280x128x8x128.ReducesTo [0, 1, 2, 3, 4] S_

variable [Facts]

def fn_part1 {F : FTy → Type} [FloatOps F] (main_arg1 : FVec F S8x1024 .f32) (main_arg4 : FVec F S1x1280x128x8x128 .f32) (main_v12 : IVec S_ 1) (main_v15 : IVec S8x1024 1) (main_c_5 : IVec S_ 1) : IVec S_ 1 :=
  let main_v16 : IVec S_ 1 := (fun x v => Host.reduce IntOp.andi x v reducesTo_S8x1024_S_d0_1 h_S_) main_v15 main_c_5
  let main_v17 : IVec S_ 1 := andi main_v12 main_v16
  let main_v18 : FVec F S8x1024 .f32 := Host.absf main_arg1
  let main_cst_6 : FVec F S_ .f32 := constant S_ .f32 0x7F800000#32
  let main_v19 : FVec F S8x1024 .f32 := broadcastInDim S8x1024 ![] bcast_S_S8x1024 main_cst_6
  let main_v20 : IVec S8x1024 1 := cmpf .olt main_v18 main_v19
  let main_c_7 : IVec S_ 1 := constantI S_ 1 1#1
  let main_v21 : IVec S_ 1 := (fun x v => Host.reduce IntOp.andi x v reducesTo_S8x1024_S_d0_1 h_S_) main_v20 main_c_7
  let main_v22 : IVec S_ 1 := andi main_v17 main_v21
  let main_v23 : FVec F S1x1280x128x8x128 .f32 := Host.absf main_arg4
  let main_cst_8 : FVec F S_ .f32 := constant S_ .f32 0x7F800000#32
  let main_v24 : FVec F S1x1280x128x8x128 .f32 := broadcastInDim S1x1280x128x8x128 ![] bcast_S_S1x1280x128x8x128 main_cst_8
  let main_v25 : IVec S1x1280x128x8x128 1 := cmpf .olt main_v23 main_v24
  let main_c_9 : IVec S_ 1 := constantI S_ 1 1#1
  let main_v26 : IVec S_ 1 := (fun x v => Host.reduce IntOp.andi x v reducesTo_S1x1280x128x8x128_S_d0_1_2_3_4 h_S_) main_v25 main_c_9
  let main_v27 : IVec S_ 1 := andi main_v22 main_v26
  main_v27

def fn {F : FTy → Type} [FloatOps F] (main_arg0 : FVec F S8x1024 .bf16) (main_arg1 : FVec F S8x1024 .f32) (main_arg2 : FVec F S8x1024 .f32) (main_arg3 : FVec F S8x129x128 .f32) (main_arg4 : FVec F S1x1280x128x8x128 .f32) (main_arg5 : FVec F S1x1280x128x8x128 .f32) (main_arg6 : IVec S8x128 32) : IVec S_ 1 :=
  let main_v0 : FVec F S8x16512 .f32 := shapeCast S8x16512 main_arg3 shapeCasts_S8x129x128_S8x16512
  let main_v1 : FVec F S8x16385 .f32 := (extractStridedSlice S8x16385 ![0, 0] · slices_S8x16512_S8x16385_0_0) main_v0
  let main_cst : FVec F S_ .f32 := constant S_ .f32 0x3F000000#32
  let main_v2 : FVec F S8x16385 .f32 := broadcastInDim S8x16385 ![] bcast_S_S8x16385 main_cst
  let main_v3 : IVec S8x16385 1 := cmpf .ogt main_v1 main_v2
  let main_c : IVec S_ 1 := constantI S_ 1 0#1
  let main_v4 : IVec S8 1 := (fun x v => Host.reduce IntOp.ori x v reducesTo_S8x16385_S8_d1 h_S_) main_v3 main_c
  let main_c_0 : IVec S_ 32 := constantI S_ 32 0#32
  let main_v5 : IVec S8x128 32 := broadcastInDim S8x128 ![] bcast_S_S8x128 main_c_0
  let main_v6 : IVec S8x128 1 := cmpi .sge main_arg6 main_v5
  let main_c_1 : IVec S_ 32 := constantI S_ 32 1280#32
  let main_v7 : IVec S8x128 32 := broadcastInDim S8x128 ![] bcast_S_S8x128 main_c_1
  let main_v8 : IVec S8x128 1 := cmpi .slt main_arg6 main_v7
  let main_v9 : IVec S8x128 1 := andi main_v6 main_v8
  let main_c_2 : IVec S_ 1 := constantI S_ 1 1#1
  let main_v10 : IVec S_ 1 := (fun x v => Host.reduce IntOp.andi x v reducesTo_S8x128_S_d0_1 h_S_) main_v9 main_c_2
  let main_c_3 : IVec S_ 1 := constantI S_ 1 1#1
  let main_v11 : IVec S_ 1 := (fun x v => Host.reduce IntOp.andi x v reducesTo_S8_S_d0 h_S_) main_v4 main_c_3
  let main_v12 : IVec S_ 1 := andi main_v10 main_v11
  let main_v13 : FVec F S8x1024 .bf16 := Host.absf main_arg0
  let main_cst_4 : FVec F S_ .bf16 := constant S_ .bf16 0x7F80#16
  let main_v14 : FVec F S8x1024 .bf16 := broadcastInDim S8x1024 ![] bcast_S_S8x1024 main_cst_4
  let main_v15 : IVec S8x1024 1 := cmpf .olt main_v13 main_v14
  let main_c_5 : IVec S_ 1 := constantI S_ 1 1#1
  fn_part1 (F := F) main_arg1 main_arg4 main_v12 main_v15 main_c_5
-- ==== Scores.lean ====
abbrev S8x2048 : Shape := ⟨2, ![8, 2048]⟩
abbrev S8x16 : Shape := ⟨2, ![8, 16]⟩
abbrev S8x128 : Shape := ⟨2, ![8, 128]⟩
abbrev S1x1280x128x128 : Shape := ⟨4, ![1, 1280, 128, 128]⟩
abbrev S1280x128x128 : Shape := ⟨3, ![1280, 128, 128]⟩
abbrev S8x16x128 : Shape := ⟨3, ![8, 16, 128]⟩
abbrev S8x16x1 : Shape := ⟨3, ![8, 16, 1]⟩
abbrev S8x1x128 : Shape := ⟨3, ![8, 1, 128]⟩
abbrev S8x129x1x128 : Shape := ⟨4, ![8, 129, 1, 128]⟩
abbrev S1x16x128 : Shape := ⟨3, ![1, 16, 128]⟩
abbrev S1x16x1 : Shape := ⟨3, ![1, 16, 1]⟩
abbrev S1x1x128x128 : Shape := ⟨4, ![1, 1, 128, 128]⟩
abbrev S1x1 : Shape := ⟨2, ![1, 1]⟩
abbrev S1x1x128 : Shape := ⟨3, ![1, 1, 128]⟩
abbrev S1x1x1x128 : Shape := ⟨4, ![1, 1, 1, 128]⟩
abbrev S128x128 : Shape := ⟨2, ![128, 128]⟩
abbrev S1x128 : Shape := ⟨2, ![1, 128]⟩
abbrev S16x128 : Shape := ⟨2, ![16, 128]⟩
abbrev S16x1 : Shape := ⟨2, ![16, 1]⟩
abbrev S128 : Shape := ⟨1, ![128]⟩
abbrev S8x129x128 : Shape := ⟨3, ![8, 129, 128]⟩
abbrev S8x16512 : Shape := ⟨2, ![8, 16512]⟩
abbrev S8x16385 : Shape := ⟨2, ![8, 16385]⟩

abbrev nBuf : Space → Nat
  | .hbm => 13
  | .vmem => 10
  | .smem => 1
  | _ => 0

abbrev bufTy : (tb : Table) → Fin (tcTables nBuf tb) → BufTy
  | .hbm, ⟨0, _⟩ => ⟨S8x2048, .bf16⟩
  | .hbm, ⟨1, _⟩ => ⟨S8x16, .f32⟩
  | .hbm, ⟨2, _⟩ => ⟨S8x128, .f32⟩
  | .hbm, ⟨3, _⟩ => ⟨S1x1280x128x128, .f32⟩
  | .hbm, ⟨4, _⟩ => ⟨S1280x128x128, .f32⟩
  | .hbm, ⟨5, _⟩ => ⟨S8x16x128, .bf16⟩
  | .hbm, ⟨6, _⟩ => ⟨S8x16x1, .f32⟩
  | .hbm, ⟨7, _⟩ => ⟨S1x1280x128x128, .f32⟩
  | .hbm, ⟨8, _⟩ => ⟨S8x1x128, .f32⟩
  | .hbm, ⟨9, _⟩ => ⟨S8x129x1x128, .f32⟩
  | .hbm, ⟨10, _⟩ => ⟨S8x129x128, .f32⟩
  | .hbm, ⟨11, _⟩ => ⟨S8x16512, .f32⟩
  | .hbm, ⟨12, _⟩ => ⟨S8x16385, .f32⟩
  | .local _ .vmem, ⟨0, _⟩ => ⟨S1x16x128, .bf16⟩
  | .local _ .vmem, ⟨1, _⟩ => ⟨S1x16x128, .bf16⟩
  | .local _ .vmem, ⟨2, _⟩ => ⟨S1x16x1, .f32⟩
  | .local _ .vmem, ⟨3, _⟩ => ⟨S1x16x1, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x1x1x128, .f32⟩
  | .local _ .vmem, ⟨9, _⟩ => ⟨S1x1x1x128, .f32⟩
  | .local _ .smem, ⟨0, _⟩ => ⟨S8x128, .i32⟩
  | _, _ => ⟨S8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 129], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v1 : Index := Scalar.indexCast arg0
  let arg1 : BitVec 32 := BitVec.ofNat 32 (i 1).val
  let c127_i32 : BitVec 32 := 127#32
  let v0 : BitVec 32 := Scalar.minsi arg1 c127_i32
  let v2 : Index := Scalar.indexCast v0
  ![v1.toNat, v2.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let v1 : Index := Scalar.indexCast arg0
  let v2 : Index := Scalar.indexCast v0
  let v3 : BitVec 32 := pf.at 0 (Rect.unit (s := S8x128) ![v1.toNat, v2.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScoresRefIdeal.lean ====
abbrev S8x2048 : Shape := ⟨2, ![8, 2048]⟩
abbrev S8x16 : Shape := ⟨2, ![8, 16]⟩
abbrev S8x128 : Shape := ⟨2, ![8, 128]⟩
abbrev S1x1280x128x128 : Shape := ⟨4, ![1, 1280, 128, 128]⟩
abbrev S1280x128x128 : Shape := ⟨3, ![1280, 128, 128]⟩
abbrev S_ : Shape := ⟨0, ![]⟩
abbrev S8x128x1 : Shape := ⟨3, ![8, 128, 1]⟩
abbrev S8x128x128x128 : Shape := ⟨4, ![8, 128, 128, 128]⟩
abbrev S8x16384x128 : Shape := ⟨3, ![8, 16384, 128]⟩
abbrev S8x1x128 : Shape := ⟨3, ![8, 1, 128]⟩
abbrev S8x16385x128 : Shape := ⟨3, ![8, 16385, 128]⟩
abbrev S8x16x128 : Shape := ⟨3, ![8, 16, 128]⟩
abbrev S8x16x16385 : Shape := ⟨3, ![8, 16, 16385]⟩
abbrev S8x16385 : Shape := ⟨2, ![8, 16385]⟩

abbrev nBuf : Space → Nat
  | .hbm => 28
  | .vmem => 0
  | .smem => 0
  | _ => 0

abbrev bufTy : (tb : Table) → Fin (tcTables nBuf tb) → BufTy
  | .hbm, ⟨0, _⟩ => ⟨S8x2048, .bf16⟩
  | .hbm, ⟨1, _⟩ => ⟨S8x16, .f32⟩
  | .hbm, ⟨2, _⟩ => ⟨S8x128, .f32⟩
  | .hbm, ⟨3, _⟩ => ⟨S1x1280x128x128, .f32⟩
  | .hbm, ⟨4, _⟩ => ⟨S8x128, .i32⟩
  | .hbm, ⟨5, _⟩ => ⟨S1280x128x128, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x128x128, .f32⟩
  | .hbm, ⟨15, _⟩ => ⟨S8x16384x128, .f32⟩
  | .hbm, ⟨16, _⟩ => ⟨S8x1x128, .f32⟩
  | .hbm, ⟨17, _⟩ => ⟨S8x16385x128, .f32⟩
  | .hbm, ⟨18, _⟩ => ⟨S_, .f32⟩
  | .hbm, ⟨19, _⟩ => ⟨S8x16, .f32⟩
  | .hbm, ⟨20, _⟩ => ⟨S8x16, .f32⟩
  | .hbm, ⟨21, _⟩ => ⟨S8x2048, .f32⟩
  | .hbm, ⟨22, _⟩ => ⟨S8x16x128, .f32⟩
  | .hbm, ⟨23, _⟩ => ⟨S8x16x16385, .f32⟩
  | .hbm, ⟨24, _⟩ => ⟨S_, .f32⟩
  | .hbm, ⟨25, _⟩ => ⟨S8x16x16385, .f32⟩
  | .hbm, ⟨26, _⟩ => ⟨S8x16x16385, .f32⟩
  | .hbm, ⟨27, _⟩ => ⟨S8x16385, .f32⟩
  | _, _ => ⟨S8x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Ffn.lean ====
abbrev S8192x2048 : Shape := ⟨2, ![8192, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S8192x2048 : Shape := ⟨2, ![8192, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S5632x2048 : Shape := ⟨2, ![5632, 2048]⟩
abbrev S2048 : Shape := ⟨1, ![2048]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S8192x2048, .f32⟩
  | .hbm, ⟨6, _⟩ => ⟨S2048x11264, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Merge.lean ====
abbrev S8192x2048 : Shape := ⟨2, ![8192, 2048]⟩
abbrev S8192x6144 : Shape := ⟨2, ![8192, 6144]⟩
abbrev S8192x1024 : Shape := ⟨2, ![8192, 1024]⟩
abbrev S8192x512 : Shape := ⟨2, ![8192, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S256x2048 : Shape := ⟨2, ![256, 2048]⟩
abbrev S256x6144 : Shape := ⟨2, ![256, 6144]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x6144, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S512x2048, .f32⟩
  | .hbm, ⟨16, _⟩ => ⟨S512x2048, .bf16⟩
  | .hbm, ⟨17, _⟩ => ⟨S2048x2048, .f32⟩
  | .hbm, ⟨18, _⟩ => ⟨S2048x2048, .bf16⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x6144, .bf16⟩
  | .local _ .vmem, ⟨3, _⟩ => ⟨S256x6144, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S2048x2048, .bf16⟩
  | .local _ .vmem, ⟨14, _⟩ => ⟨S1x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeIdeal.lean ====
abbrev S8192x2048 : Shape := ⟨2, ![8192, 2048]⟩
abbrev S8192x6144 : Shape := ⟨2, ![8192, 6144]⟩
abbrev S8192x1024 : Shape := ⟨2, ![8192, 1024]⟩
abbrev S8192x512 : Shape := ⟨2, ![8192, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S256x2048 : Shape := ⟨2, ![256, 2048]⟩
abbrev S256x6144 : Shape := ⟨2, ![256, 6144]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x6144, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S512x2048, .f32⟩
  | .hbm, ⟨16, _⟩ => ⟨S512x2048, .bf16⟩
  | .hbm, ⟨17, _⟩ => ⟨S2048x2048, .f32⟩
  | .hbm, ⟨18, _⟩ => ⟨S2048x2048, .bf16⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x6144, .bf16⟩
  | .local _ .vmem, ⟨3, _⟩ => ⟨S256x6144, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S2048x2048, .bf16⟩
  | .local _ .vmem, ⟨14, _⟩ => ⟨S1x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S8192x2048 : Shape := ⟨2, ![8192, 2048]⟩
abbrev S8192x6144 : Shape := ⟨2, ![8192, 6144]⟩
abbrev S8192x1024 : Shape := ⟨2, ![8192, 1024]⟩
abbrev S8192x512 : Shape := ⟨2, ![8192, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8192x3x2048 : Shape := ⟨3, ![8192, 3, 2048]⟩
abbrev S8192x1x2048 : Shape := ⟨3, ![8192, 1, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S8192x6144, .f32⟩
  | .hbm, ⟨12, _⟩ => ⟨S8192x3x2048, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x1x2048, .f32⟩
  | .hbm, ⟨17, _⟩ => ⟨S8192x2048, .f32⟩
  | .hbm, ⟨18, _⟩ => ⟨S1024x2048, .f32⟩
  | .hbm, ⟨19, _⟩ => ⟨S8192x2048, .f32⟩
  | .hbm, ⟨20, _⟩ => ⟨S8192x2048, .f32⟩
  | .hbm, ⟨21, _⟩ => ⟨S8192x1x2048, .f32⟩
  | .hbm, ⟨22, _⟩ => ⟨S8192x2048, .f32⟩
  | .hbm, ⟨23, _⟩ => ⟨S1024x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x1x2048, .f32⟩
  | .hbm, ⟨28, _⟩ => ⟨S8192x2048, .f32⟩
  | .hbm, ⟨29, _⟩ => ⟨S512x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S2048x2048, .f32⟩
  | .hbm, ⟨34, _⟩ => ⟨S8192x2048, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proj.lean ====
abbrev S2x4096x2048 : Shape := ⟨3, ![2, 4096, 2048]⟩
abbrev S1x2048 : Shape := ⟨2, ![1, 2048]⟩
abbrev S1x2048x13968 : Shape := ⟨3, ![1, 2048, 13968]⟩
abbrev S1x1024 : Shape := ⟨2, ![1, 1024]⟩
abbrev S2048x13968 : Shape := ⟨2, ![2048, 13968]⟩
abbrev S2048x2048 : Shape := ⟨2, ![2048, 2048]⟩
abbrev S2048x1024 : Shape := ⟨2, ![2048, 1024]⟩
abbrev S2048x144 : Shape := ⟨2, ![2048, 144]⟩
abbrev S2048x512 : Shape := ⟨2, ![2048, 512]⟩
abbrev S2048x6144 : Shape := ⟨2, ![2048, 6144]⟩
abbrev S_ : Shape := ⟨0, ![]⟩
abbrev S2048x256 : Shape := ⟨2, ![2048, 256]⟩
abbrev S8192x2048 : Shape := ⟨2, ![8192, 2048]⟩
abbrev S2048 : Shape := ⟨1, ![2048]⟩
abbrev S1024 : Shape := ⟨1, ![1024]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩
abbrev S8192x1024 : Shape := ⟨2, ![8192, 1024]⟩
abbrev S1024x2048 : Shape := ⟨2, ![1024, 2048]⟩
abbrev S1024x512 : Shape := ⟨2, ![1024, 512]⟩
abbrev S8192x256 : Shape := ⟨2, ![8192, 256]⟩
abbrev S1024x256 : Shape := ⟨2, ![1024, 256]⟩
abbrev S8192x512 : Shape := ⟨2, ![8192, 512]⟩
abbrev S8192x6144 : Shape := ⟨2, ![8192, 6144]⟩
abbrev S8192x128 : Shape := ⟨2, ![8192, 128]⟩
abbrev S8192x16 : Shape := ⟨2, ![8192, 16]⟩

abbrev nBuf : Space → Nat
  | .hbm => 45
  | .vmem => 57
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x13968, .f32⟩
  | .hbm, ⟨3, _⟩ => ⟨S1x1024, .f32⟩
  | .hbm, ⟨4, _⟩ => ⟨S1x1024, .f32⟩
  | .hbm, ⟨5, _⟩ => ⟨S2048x13968, .f32⟩
  | .hbm, ⟨6, _⟩ => ⟨S2048x2048, .f32⟩
  | .hbm, ⟨7, _⟩ => ⟨S2048x2048, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S2048x2048, .f32⟩
  | .hbm, ⟨15, _⟩ => ⟨S2048x2048, .bf16⟩
  | .hbm, ⟨16, _⟩ => ⟨S2048x144, .f32⟩
  | .hbm, ⟨17, _⟩ => ⟨S2048x144, .bf16⟩
  | .hbm, ⟨18, _⟩ => ⟨S2048x512, .f32⟩
  | .hbm, ⟨19, _⟩ => ⟨S2048x512, .bf16⟩
  | .hbm, ⟨20, _⟩ => ⟨S2048x6144, .f32⟩
  | .hbm, ⟨21, _⟩ => ⟨S2048x6144, .bf16⟩
  | .hbm, ⟨22, _⟩ => ⟨S_, .i32⟩
  | .hbm, ⟨23, _⟩ => ⟨S_, .bf16⟩
  | .hbm, ⟨24, _⟩ => ⟨S2048x256, .bf16⟩
  | .hbm, ⟨25, _⟩ => ⟨S8192x2048, .f32⟩
  | .hbm, ⟨26, _⟩ => ⟨S2048, .f32⟩
  | .hbm, ⟨27, _⟩ => ⟨S1024, .f32⟩
  | .hbm, ⟨28, _⟩ => ⟨S1024, .f32⟩
  | .hbm, ⟨29, _⟩ => ⟨S1x2048, .f32⟩
  | .hbm, ⟨30, _⟩ => ⟨S8192x2048, .bf16⟩
  | .hbm, ⟨31, _⟩ => ⟨S1x1024, .f32⟩
  | .hbm, ⟨32, _⟩ => ⟨S1x1024, .f32⟩
  | .hbm, ⟨33, _⟩ => ⟨S8192x2048, .bf16⟩
  | .hbm, ⟨34, _⟩ => ⟨S8192x1024, .bf16⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S8192x1024, .bf16⟩
  | .hbm, ⟨39, _⟩ => ⟨S8192x2048, .bf16⟩
  | .hbm, ⟨40, _⟩ => ⟨S8192x256, .f32⟩
  | .hbm, ⟨41, _⟩ => ⟨S8192x512, .bf16⟩
  | .hbm, ⟨42, _⟩ => ⟨S8192x6144, .bf16⟩
  | .hbm, ⟨43, _⟩ => ⟨S8192x128, .f32⟩
  | .hbm, ⟨44, _⟩ => ⟨S8192x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x2048, .bf16⟩
  | .local _ .vmem, ⟨14, _⟩ => ⟨S1024x2048, .bf16⟩
  | .local _ .vmem, ⟨15, _⟩ => ⟨S2048x512, .bf16⟩
  | .local _ .vmem, ⟨16, _⟩ => ⟨S2048x512, .bf16⟩
  | .local _ .vmem, ⟨17, _⟩ => ⟨S1024x512, .bf16⟩
  | .local _ .vmem, ⟨18, _⟩ => ⟨S1024x512, .bf16⟩
  | .local _ .vmem, ⟨19, _⟩ => ⟨S1024x2048, .bf16⟩
  | .local _ .vmem, ⟨20, _⟩ => ⟨S1024x2048, .bf16⟩
  | .local _ .vmem, ⟨21, _⟩ => ⟨S2048x512, .bf16⟩
  | .local _ .vmem, ⟨22, _⟩ => ⟨S2048x512, .bf16⟩
  | .local _ .vmem, ⟨23, _⟩ => ⟨S1024x512, .f32⟩
  | .local _ .vmem, ⟨24, _⟩ => ⟨S1024x512, .f32⟩
  | .local _ .vmem, ⟨25, _⟩ => ⟨S1024x512, .bf16⟩
  | .local _ .vmem, ⟨26, _⟩ => ⟨S1024x512, .bf16⟩
  | .local _ .vmem, ⟨27, _⟩ => ⟨S1024x2048, .bf16⟩
  | .local _ .vmem, ⟨28, _⟩ => ⟨S1024x2048, .bf16⟩
  | .local _ .vmem, ⟨29, _⟩ => ⟨S2048x512, .bf16⟩
  | .local _ .vmem, ⟨30, _⟩ => ⟨S2048x512, .bf16⟩
  | .local _ .vmem, ⟨31, _⟩ => ⟨S1024x512, .f32⟩
  | .local _ .vmem, ⟨32, _⟩ => ⟨S1024x512, .f32⟩
  | .local _ .vmem, ⟨33, _⟩ => ⟨S1024x512, .bf16⟩
  | .local _ .vmem, ⟨34, _⟩ => ⟨S1024x512, .bf16⟩
  | .local _ .vmem, ⟨35, _⟩ => ⟨S1024x2048, .bf16⟩
  | .local _ .vmem, ⟨36, _⟩ => ⟨S1024x2048, .bf16⟩
  | .local _ .vmem, ⟨37, _⟩ => ⟨S2048x512, .bf16⟩
  | .local _ .vmem, ⟨38, _⟩ => ⟨S2048x512, .bf16⟩
  | .local _ .vmem, ⟨39, _⟩ => ⟨S1024x512, .bf16⟩
  | .local _ .vmem, ⟨40, _⟩ => ⟨S1024x512, .bf16⟩
  | .local _ .vmem, ⟨41, _⟩ => ⟨S1024x2048, .bf16⟩
  | .local _ .vmem, ⟨42, _⟩ => ⟨S1024x2048, .bf16⟩
  | .local _ .vmem, ⟨43, _⟩ => ⟨S2048x256, .bf16⟩
  | .local _ .vmem, ⟨44, _⟩ => ⟨S1024x256, .f32⟩
  | .local _ .vmem, ⟨45, _⟩ => ⟨S1024x256, .f32⟩
  | .local _ .vmem, ⟨46, _⟩ => ⟨S1024x2048, .bf16⟩
  | .local _ .vmem, ⟨47, _⟩ => ⟨S1024x2048, .bf16⟩
  | .local _ .vmem, ⟨48, _⟩ => ⟨S2048x512, .bf16⟩
  | .local _ .vmem, ⟨49, _⟩ => ⟨S1024x512, .bf16⟩
  | .local _ .vmem, ⟨50, _⟩ => ⟨S1024x512, .bf16⟩
  | .local _ .vmem, ⟨51, _⟩ => ⟨S1024x2048, .bf16⟩
  | .local _ .vmem, ⟨52, _⟩ => ⟨S1024x2048, .bf16⟩
  | .local _ .vmem, ⟨53, _⟩ => ⟨S2048x512, .bf16⟩
  | .local _ .vmem, ⟨54, _⟩ => ⟨S2048x512, .bf16⟩
  | .local _ .vmem, ⟨55, _⟩ => ⟨S1024x512, .bf16⟩
  | .local _ .vmem, ⟨56, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v29_0 : Ref sig .tc := ⟨.hbm, 37, rfl⟩
abbrev main_v29_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def k1_cond1 (i : grid1.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_7 : BitVec 32 := 0#32
  let v20 : BitVec 1 := Scalar.cmpi .ne v19 c0_i32_7
  v20

def k1_cond2 (i : grid1.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_8 : BitVec 32 := 0#32
  let v23 : BitVec 1 := Scalar.cmpi .ne v22 c0_i32_8
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S2048x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1024x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![8, 12], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== ProjRefIdeal.lean ====
abbrev S2x4096x2048 : Shape := ⟨3, ![2, 4096, 2048]⟩
abbrev S1x2048 : Shape := ⟨2, ![1, 2048]⟩
abbrev S1x2048x13968 : Shape := ⟨3, ![1, 2048, 13968]⟩
abbrev S1x1024 : Shape := ⟨2, ![1, 1024]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x13968 : Shape := ⟨2, ![2048, 13968]⟩
abbrev S8192x13968 : Shape := ⟨2, ![8192, 13968]⟩
abbrev S8192x1024 : Shape := ⟨2, ![8192, 1024]⟩
abbrev S8192x128 : Shape := ⟨2, ![8192, 128]⟩
abbrev S8192x16 : Shape := ⟨2, ![8192, 16]⟩
abbrev S8192x512 : Shape := ⟨2, ![8192, 512]⟩
abbrev S8192x6144 : Shape := ⟨2, ![8192, 6144]⟩
abbrev S1024 : Shape := ⟨1, ![1024]⟩

abbrev nBuf : Space → Nat
  | .hbm => 114
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x13968, .f32⟩
  | .hbm, ⟨3, _⟩ => ⟨S1x1024, .f32⟩
  | .hbm, ⟨4, _⟩ => ⟨S1x1024, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x13968, .f32⟩
  | .hbm, ⟨24, _⟩ => ⟨S8192x13968, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2048, .f32⟩
  | .hbm, ⟨31, _⟩ => ⟨S8192x128, .f32⟩
  | .hbm, ⟨32, _⟩ => ⟨S8192x16, .f32⟩
  | .hbm, ⟨33, _⟩ => ⟨S8192x512, .f32⟩
  | .hbm, ⟨34, _⟩ => ⟨S8192x6144, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x6144, .f32⟩
  | .hbm, ⟨99, _⟩ => ⟨S8192x6144, .f32⟩
  | .hbm, ⟨100, _⟩ => ⟨S_, .f32⟩
  | .hbm, ⟨101, _⟩ => ⟨S8192x6144, .f32⟩
  | .hbm, ⟨102, _⟩ => ⟨S8192x6144, .f32⟩
  | .hbm, ⟨103, _⟩ => ⟨S_, .f32⟩
  | .hbm, ⟨104, _⟩ => ⟨S8192x6144, .f32⟩
  | .hbm, ⟨105, _⟩ => ⟨S8192x6144, .f32⟩
  | .hbm, ⟨106, _⟩ => ⟨S8192x2048, .f32⟩
  | .hbm, ⟨107, _⟩ => ⟨S8192x1024, .bf16⟩
  | .hbm, ⟨108, _⟩ => ⟨S8192x1024, .bf16⟩
  | .hbm, ⟨109, _⟩ => ⟨S8192x1024, .bf16⟩
  | .hbm, ⟨110, _⟩ => ⟨S8192x2048, .bf16⟩
  | .hbm, ⟨111, _⟩ => ⟨S8192x512, .bf16⟩
  | .hbm, ⟨112, _⟩ => ⟨S8192x6144, .bf16⟩
  | .hbm, ⟨113, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_cst_16 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== ProjS.lean ====
abbrev S8x1x2048 : Shape := ⟨3, ![8, 1, 2048]⟩
abbrev S1x2048 : Shape := ⟨2, ![1, 2048]⟩
abbrev S1x2048x13968 : Shape := ⟨3, ![1, 2048, 13968]⟩
abbrev S1x1024 : Shape := ⟨2, ![1, 1024]⟩
abbrev S2048x13968 : Shape := ⟨2, ![2048, 13968]⟩
abbrev S2048x2048 : Shape := ⟨2, ![2048, 2048]⟩
abbrev S2048x1024 : Shape := ⟨2, ![2048, 1024]⟩
abbrev S2048x144 : Shape := ⟨2, ![2048, 144]⟩
abbrev S2048x512 : Shape := ⟨2, ![2048, 512]⟩
abbrev S2048x6144 : Shape := ⟨2, ![2048, 6144]⟩
abbrev S_ : Shape := ⟨0, ![]⟩
abbrev S2048x256 : Shape := ⟨2, ![2048, 256]⟩
abbrev S8x2048 : Shape := ⟨2, ![8, 2048]⟩
abbrev S2048 : Shape := ⟨1, ![2048]⟩
abbrev S1024 : Shape := ⟨1, ![1024]⟩
abbrev S8 : Shape := ⟨1, ![8]⟩
abbrev S8x1 : Shape := ⟨2, ![8, 1]⟩
abbrev S8x1024 : Shape := ⟨2, ![8, 1024]⟩
abbrev S8x512 : Shape := ⟨2, ![8, 512]⟩
abbrev S8x256 : Shape := ⟨2, ![8, 256]⟩
abbrev S8x6144 : Shape := ⟨2, ![8, 6144]⟩
abbrev S8x128 : Shape := ⟨2, ![8, 128]⟩
abbrev S8x16 : Shape := ⟨2, ![8, 16]⟩

abbrev nBuf : Space → Nat
  | .hbm => 45
  | .vmem => 45
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x13968, .f32⟩
  | .hbm, ⟨3, _⟩ => ⟨S1x1024, .f32⟩
  | .hbm, ⟨4, _⟩ => ⟨S1x1024, .f32⟩
  | .hbm, ⟨5, _⟩ => ⟨S2048x13968, .f32⟩
  | .hbm, ⟨6, _⟩ => ⟨S2048x2048, .f32⟩
  | .hbm, ⟨7, _⟩ => ⟨S2048x2048, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S2048x2048, .f32⟩
  | .hbm, ⟨15, _⟩ => ⟨S2048x2048, .bf16⟩
  | .hbm, ⟨16, _⟩ => ⟨S2048x144, .f32⟩
  | .hbm, ⟨17, _⟩ => ⟨S2048x144, .bf16⟩
  | .hbm, ⟨18, _⟩ => ⟨S2048x512, .f32⟩
  | .hbm, ⟨19, _⟩ => ⟨S2048x512, .bf16⟩
  | .hbm, ⟨20, _⟩ => ⟨S2048x6144, .f32⟩
  | .hbm, ⟨21, _⟩ => ⟨S2048x6144, .bf16⟩
  | .hbm, ⟨22, _⟩ => ⟨S_, .i32⟩
  | .hbm, ⟨23, _⟩ => ⟨S_, .bf16⟩
  | .hbm, ⟨24, _⟩ => ⟨S2048x256, .bf16⟩
  | .hbm, ⟨25, _⟩ => ⟨S8x2048, .f32⟩
  | .hbm, ⟨26, _⟩ => ⟨S2048, .f32⟩
  | .hbm, ⟨27, _⟩ => ⟨S1024, .f32⟩
  | .hbm, ⟨28, _⟩ => ⟨S1024, .f32⟩
  | .hbm, ⟨29, _⟩ => ⟨S1x2048, .f32⟩
  | .hbm, ⟨30, _⟩ => ⟨S8x2048, .bf16⟩
  | .hbm, ⟨31, _⟩ => ⟨S1x1024, .f32⟩
  | .hbm, ⟨32, _⟩ => ⟨S1x1024, .f32⟩
  | .hbm, ⟨33, _⟩ => ⟨S8x2048, .f32⟩
  | .hbm, ⟨34, _⟩ => ⟨S8x1024, .bf16⟩
  | .hbm, ⟨35, _⟩ => ⟨S8x1024, .f32⟩
  | .hbm, ⟨36, _⟩ => ⟨S8x1024, .bf16⟩
  | .hbm, ⟨37, _⟩ => ⟨S8x1024, .f32⟩
  | .hbm, ⟨38, _⟩ => ⟨S8x1024, .bf16⟩
  | .hbm, ⟨39, _⟩ => ⟨S8x2048, .bf16⟩
  | .hbm, ⟨40, _⟩ => ⟨S8x256, .f32⟩
  | .hbm, ⟨41, _⟩ => ⟨S8x512, .bf16⟩
  | .hbm, ⟨42, _⟩ => ⟨S8x6144, .bf16⟩
  | .hbm, ⟨43, _⟩ => ⟨S8x128, .f32⟩
  | .hbm, ⟨44, _⟩ => ⟨S8x16, .f32⟩
  | .local _ .vmem, ⟨0, _⟩ => ⟨S8x2048, .f32⟩
  | .local _ .vmem, ⟨1, _⟩ => ⟨S1x2048, .f32⟩
  | .local _ .vmem, ⟨2, _⟩ => ⟨S8x2048, .bf16⟩
  | .local _ .vmem, ⟨3, _⟩ => ⟨S8x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S8x1024, .f32⟩
  | .local _ .vmem, ⟨9, _⟩ => ⟨S8x1024, .f32⟩
  | .local _ .vmem, ⟨10, _⟩ => ⟨S8x2048, .bf16⟩
  | .local _ .vmem, ⟨11, _⟩ => ⟨S2048x512, .bf16⟩
  | .local _ .vmem, ⟨12, _⟩ => ⟨S2048x512, .bf16⟩
  | .local _ .vmem, ⟨13, _⟩ => ⟨S8x512, .bf16⟩
  | .local _ .vmem, ⟨14, _⟩ => ⟨S8x512, .bf16⟩
  | .local _ .vmem, ⟨15, _⟩ => ⟨S8x2048, .bf16⟩
  | .local _ .vmem, ⟨16, _⟩ => ⟨S2048x512, .bf16⟩
  | .local _ .vmem, ⟨17, _⟩ => ⟨S2048x512, .bf16⟩
  | .local _ .vmem, ⟨18, _⟩ => ⟨S8x512, .f32⟩
  | .local _ .vmem, ⟨19, _⟩ => ⟨S8x512, .f32⟩
  | .local _ .vmem, ⟨20, _⟩ => ⟨S8x512, .bf16⟩
  | .local _ .vmem, ⟨21, _⟩ => ⟨S8x512, .bf16⟩
  | .local _ .vmem, ⟨22, _⟩ => ⟨S8x2048, .bf16⟩
  | .local _ .vmem, ⟨23, _⟩ => ⟨S2048x512, .bf16⟩
  | .local _ .vmem, ⟨24, _⟩ => ⟨S2048x512, .bf16⟩
  | .local _ .vmem, ⟨25, _⟩ => ⟨S8x512, .f32⟩
  | .local _ .vmem, ⟨26, _⟩ => ⟨S8x512, .f32⟩
  | .local _ .vmem, ⟨27, _⟩ => ⟨S8x512, .bf16⟩
  | .local _ .vmem, ⟨28, _⟩ => ⟨S8x512, .bf16⟩
  | .local _ .vmem, ⟨29, _⟩ => ⟨S8x2048, .bf16⟩
  | .local _ .vmem, ⟨30, _⟩ => ⟨S2048x512, .bf16⟩
  | .local _ .vmem, ⟨31, _⟩ => ⟨S2048x512, .bf16⟩
  | .local _ .vmem, ⟨32, _⟩ => ⟨S8x512, .bf16⟩
  | .local _ .vmem, ⟨33, _⟩ => ⟨S8x512, .bf16⟩
  | .local _ .vmem, ⟨34, _⟩ => ⟨S8x2048, .bf16⟩
  | .local _ .vmem, ⟨35, _⟩ => ⟨S2048x256, .bf16⟩
  | .local _ .vmem, ⟨36, _⟩ => ⟨S8x256, .f32⟩
  | .local _ .vmem, ⟨37, _⟩ => ⟨S8x2048, .bf16⟩
  | .local _ .vmem, ⟨38, _⟩ => ⟨S2048x512, .bf16⟩
  | .local _ .vmem, ⟨39, _⟩ => ⟨S8x512, .bf16⟩
  | .local _ .vmem, ⟨40, _⟩ => ⟨S8x2048, .bf16⟩
  | .local _ .vmem, ⟨41, _⟩ => ⟨S2048x512, .bf16⟩
  | .local _ .vmem, ⟨42, _⟩ => ⟨S2048x512, .bf16⟩
  | .local _ .vmem, ⟨43, _⟩ => ⟨S8x512, .bf16⟩
  | .local _ .vmem, ⟨44, _⟩ => ⟨S8x512, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v29_0 : Ref sig .tc := ⟨.hbm, 37, rfl⟩
abbrev main_v29_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg2_0 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg1_1 : Ref sig .tc := ⟨.vmem, 42, rfl⟩
abbrev cc8_stg2_0 : Ref sig .tc := ⟨.vmem, 43, rfl⟩
abbrev cc8_stg2_1 : Ref sig .tc := ⟨.vmem, 44, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc4_sem3_0 : DmaSem sig := 27
abbrev cc4_sem3_1 : DmaSem sig := 28
abbrev cc5_sem0_0 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem1_0 : DmaSem sig := 35
abbrev cc6_sem2_0 : DmaSem sig := 36
abbrev cc7_sem0_0 : DmaSem sig := 37
abbrev cc7_sem1_0 : DmaSem sig := 38
abbrev cc7_sem2_0 : DmaSem sig := 39
abbrev cc8_sem0_0 : DmaSem sig := 40
abbrev cc8_sem1_0 : DmaSem sig := 41
abbrev cc8_sem1_1 : DmaSem sig := 42
abbrev cc8_sem2_0 : DmaSem sig := 43
abbrev cc8_sem2_1 : DmaSem sig := 44

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 2], ![false, false]⟩

def k1_cond1 (i : grid1.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_7 : BitVec 32 := 0#32
  let v20 : BitVec 1 := Scalar.cmpi .ne v19 c0_i32_7
  v20

def k1_cond2 (i : grid1.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_8 : BitVec 32 := 0#32
  let v23 : BitVec 1 := Scalar.cmpi .ne v22 c0_i32_8
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S8x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S8x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S8x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S8x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S8x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S8x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S8x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S8x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S8x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S2048x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S8x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S8x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S2048x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S8x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev grid8 : Pipeline.Grid := ⟨2, ![1, 12], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S8x2048 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S8x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== ProjSRefIdeal.lean ====
abbrev S8x1x2048 : Shape := ⟨3, ![8, 1, 2048]⟩
abbrev S1x2048 : Shape := ⟨2, ![1, 2048]⟩
abbrev S1x2048x13968 : Shape := ⟨3, ![1, 2048, 13968]⟩
abbrev S1x1024 : Shape := ⟨2, ![1, 1024]⟩
abbrev S8x2048 : Shape := ⟨2, ![8, 2048]⟩
abbrev S2048 : Shape := ⟨1, ![2048]⟩
abbrev S_ : Shape := ⟨0, ![]⟩
abbrev S8 : Shape := ⟨1, ![8]⟩
abbrev S8x1 : Shape := ⟨2, ![8, 1]⟩
abbrev S2048x13968 : Shape := ⟨2, ![2048, 13968]⟩
abbrev S8x13968 : Shape := ⟨2, ![8, 13968]⟩
abbrev S8x1024 : Shape := ⟨2, ![8, 1024]⟩
abbrev S8x128 : Shape := ⟨2, ![8, 128]⟩
abbrev S8x16 : Shape := ⟨2, ![8, 16]⟩
abbrev S8x512 : Shape := ⟨2, ![8, 512]⟩
abbrev S8x6144 : Shape := ⟨2, ![8, 6144]⟩
abbrev S1024 : Shape := ⟨1, ![1024]⟩

abbrev nBuf : Space → Nat
  | .hbm => 113
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x13968, .f32⟩
  | .hbm, ⟨3, _⟩ => ⟨S1x1024, .f32⟩
  | .hbm, ⟨4, _⟩ => ⟨S1x1024, .f32⟩
  | .hbm, ⟨5, _⟩ => ⟨S8x2048, .f32⟩
  | .hbm, ⟨6, _⟩ => ⟨S2048, .f32⟩
  | .hbm, ⟨7, _⟩ => ⟨S8x2048, .f32⟩
  | .hbm, ⟨8, _⟩ => ⟨S_, .f32⟩
  | .hbm, ⟨9, _⟩ => ⟨S8, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .f32⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S8x2048, .f32⟩
  | .hbm, ⟨19, _⟩ => ⟨S8x2048, .f32⟩
  | .hbm, ⟨20, _⟩ => ⟨S1x2048, .f32⟩
  | .hbm, ⟨21, _⟩ => ⟨S8x2048, .f32⟩
  | .hbm, ⟨22, _⟩ => ⟨S8x2048, .f32⟩
  | .hbm, ⟨23, _⟩ => ⟨S2048x13968, .f32⟩
  | .hbm, ⟨24, _⟩ => ⟨S8x13968, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x2048, .f32⟩
  | .hbm, ⟨31, _⟩ => ⟨S8x128, .f32⟩
  | .hbm, ⟨32, _⟩ => ⟨S8x16, .f32⟩
  | .hbm, ⟨33, _⟩ => ⟨S8x512, .f32⟩
  | .hbm, ⟨34, _⟩ => ⟨S8x6144, .f32⟩
  | .hbm, ⟨35, _⟩ => ⟨S8x1024, .f32⟩
  | .hbm, ⟨36, _⟩ => ⟨S8x1024, .f32⟩
  | .hbm, ⟨37, _⟩ => ⟨S_, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S8x1024, .f32⟩
  | .hbm, ⟨45, _⟩ => ⟨S_, .f32⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S8x1024, .f32⟩
  | .hbm, ⟨53, _⟩ => ⟨S8x1024, .f32⟩
  | .hbm, ⟨54, _⟩ => ⟨S_, .f32⟩
  | .hbm, ⟨55, _⟩ => ⟨S8x1024, .f32⟩
  | .hbm, ⟨56, _⟩ => ⟨S8x1024, .f32⟩
  | .hbm, ⟨57, _⟩ => ⟨S8x1024, .f32⟩
  | .hbm, ⟨58, _⟩ => ⟨S_, .f32⟩
  | .hbm, ⟨59, _⟩ => ⟨S8x1024, .f32⟩
  | .hbm, ⟨60, _⟩ => ⟨S8x1024, .f32⟩
  | .hbm, ⟨61, _⟩ => ⟨S8x1024, .f32⟩
  | .hbm, ⟨62, _⟩ => ⟨S_, .f32⟩
  | .hbm, ⟨63, _⟩ => ⟨S8x1024, .f32⟩
  | .hbm, ⟨64, _⟩ => ⟨S8x1024, .f32⟩
  | .hbm, ⟨65, _⟩ => ⟨S_, .f32⟩
  | .hbm, ⟨66, _⟩ => ⟨S8x1024, .f32⟩
  | .hbm, ⟨67, _⟩ => ⟨S8x1024, .f32⟩
  | .hbm, ⟨68, _⟩ => ⟨S8x1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S8, .f32⟩
  | .hbm, ⟨73, _⟩ => ⟨S8x1, .f32⟩
  | .hbm, ⟨74, _⟩ => ⟨S_, .f32⟩
  | .hbm, ⟨75, _⟩ => ⟨S8x1, .f32⟩
  | .hbm, ⟨76, _⟩ => ⟨S8x1, .f32⟩
  | .hbm, ⟨77, _⟩ => ⟨S8x1024, .f32⟩
  | .hbm, ⟨78, _⟩ => ⟨S8x1024, .f32⟩
  | .hbm, ⟨79, _⟩ => ⟨S8x1024, .f32⟩
  | .hbm, ⟨80, _⟩ => ⟨S_, .f32⟩
  | .hbm, ⟨81, _⟩ => ⟨S8, .f32⟩
  | .hbm, ⟨82, _⟩ => ⟨S8x1, .f32⟩
  | .hbm, ⟨83, _⟩ => ⟨S_, .f32⟩
  | .hbm, ⟨84, _⟩ => ⟨S8x1, .f32⟩
  | .hbm, ⟨85, _⟩ => ⟨S8x1, .f32⟩
  | .hbm, ⟨86, _⟩ => ⟨S_, .f32⟩
  | .hbm, ⟨87, _⟩ => ⟨S8x1, .f32⟩
  | .hbm, ⟨88, _⟩ => ⟨S8x1, .f32⟩
  | .hbm, ⟨89, _⟩ => ⟨S8x1, .f32⟩
  | .hbm, ⟨90, _⟩ => ⟨S8x1024, .f32⟩
  | .hbm, ⟨91, _⟩ => ⟨S8x1024, .f32⟩
  | .hbm, ⟨92, _⟩ => ⟨S1x1024, .f32⟩
  | .hbm, ⟨93, _⟩ => ⟨S8x1024, .f32⟩
  | .hbm, ⟨94, _⟩ => ⟨S8x1024, .f32⟩
  | .hbm, ⟨95, _⟩ => ⟨S1x1024, .f32⟩
  | .hbm, ⟨96, _⟩ => ⟨S8x1024, .f32⟩
  | .hbm, ⟨97, _⟩ => ⟨S8x1024, .f32⟩
  | .hbm, ⟨98, _⟩ => ⟨S8x6144, .f32⟩
  | .hbm, ⟨99, _⟩ => ⟨S8x6144, .f32⟩
  | .hbm, ⟨100, _⟩ => ⟨S_, .f32⟩
  | .hbm, ⟨101, _⟩ => ⟨S8x6144, .f32⟩
  | .hbm, ⟨102, _⟩ => ⟨S8x6144, .f32⟩
  | .hbm, ⟨103, _⟩ => ⟨S_, .f32⟩
  | .hbm, ⟨104, _⟩ => ⟨S8x6144, .f32⟩
  | .hbm, ⟨105, _⟩ => ⟨S8x6144, .f32⟩
  | .hbm, ⟨106, _⟩ => ⟨S8x2048, .f32⟩
  | .hbm, ⟨107, _⟩ => ⟨S8x1024, .bf16⟩
  | .hbm, ⟨108, _⟩ => ⟨S8x1024, .bf16⟩
  | .hbm, ⟨109, _⟩ => ⟨S8x1024, .bf16⟩
  | .hbm, ⟨110, _⟩ => ⟨S8x2048, .bf16⟩
  | .hbm, ⟨111, _⟩ => ⟨S8x512, .bf16⟩
  | .hbm, ⟨112, _⟩ => ⟨S8x6144, .bf16⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_cst_16 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== MemKv.lean ====
abbrev S2x256x2048 : Shape := ⟨3, ![2, 256, 2048]⟩
abbrev S1x2048 : Shape := ⟨2, ![1, 2048]⟩
abbrev S1x2048x1024 : Shape := ⟨3, ![1, 2048, 1024]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩
abbrev S2x256x512 : Shape := ⟨3, ![2, 256, 512]⟩

abbrev nBuf : Space → Nat
  | .hbm => 14
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x1024, .f32⟩
  | .hbm, ⟨3, _⟩ => ⟨S512x2048, .f32⟩
  | .hbm, ⟨4, _⟩ => ⟨S2048, .f32⟩
  | .hbm, ⟨5, _⟩ => ⟨S1x2048, .f32⟩
  | .hbm, ⟨6, _⟩ => ⟨S512x2048, .bf16⟩
  | .hbm, ⟨7, _⟩ => ⟨S2048x1024, .f32⟩
  | .hbm, ⟨8, _⟩ => ⟨S2048x1024, .bf16⟩
  | .hbm, ⟨9, _⟩ => ⟨S512x1024, .f32⟩
  | .hbm, ⟨10, _⟩ => ⟨S512x512, .f32⟩
  | .hbm, ⟨11, _⟩ => ⟨S2x256x512, .f32⟩
  | .hbm, ⟨12, _⟩ => ⟨S512x512, .f32⟩
  | .hbm, ⟨13, _⟩ => ⟨S2x256x512, .f32⟩
  | .local _ .vmem, ⟨0, _⟩ => ⟨S512x2048, .f32⟩
  | .local _ .vmem, ⟨1, _⟩ => ⟨S1x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== MemKvRefIdeal.lean ====
abbrev S2x256x2048 : Shape := ⟨3, ![2, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x1024 : Shape := ⟨2, ![2048, 1024]⟩
abbrev S2x256x1024 : Shape := ⟨3, ![2, 256, 1024]⟩
abbrev S2x256x512 : Shape := ⟨3, ![2, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2048x1024, .f32⟩
  | .hbm, ⟨21, _⟩ => ⟨S2x256x1024, .f32⟩
  | .hbm, ⟨22, _⟩ => ⟨S2x256x512, .f32⟩
  | .hbm, ⟨23, _⟩ => ⟨S2x256x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FfnS.lean ====
abbrev S8x2048 : Shape := ⟨2, ![8, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S2048x512 : Shape := ⟨2, ![2048, 512]⟩
abbrev S512x2048 : Shape := ⟨2, ![512, 2048]⟩
abbrev S8x512 : Shape := ⟨2, ![8, 512]⟩
abbrev S8 : Shape := ⟨1, ![8]⟩
abbrev S8x1 : Shape := ⟨2, ![8, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x2048, .bf16⟩
  | .hbm, ⟨1, _⟩ => ⟨S8x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S2048, .f32⟩
  | .hbm, ⟨10, _⟩ => ⟨S1x2048, .f32⟩
  | .hbm, ⟨11, _⟩ => ⟨S8x2048, .f32⟩
  | .local _ .vmem, ⟨0, _⟩ => ⟨S8x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S8x2048, .f32⟩
  | .local _ .vmem, ⟨8, _⟩ => ⟨S1x2048, .f32⟩
  | .local _ .vmem, ⟨9, _⟩ => ⟨S8x2048, .f32⟩
  | .local _ .vmem, ⟨10, _⟩ => ⟨S8x2048, .f32⟩
  | _, _ => ⟨S8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S8x2048 : Shape := ⟨2, ![8, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S2048x11264 : Shape := ⟨2, ![2048, 11264]⟩
abbrev S8x11264 : Shape := ⟨2, ![8, 11264]⟩
abbrev S8x5632 : Shape := ⟨2, ![8, 5632]⟩
abbrev S_ : Shape := ⟨0, ![]⟩
abbrev S5632x2048 : Shape := ⟨2, ![5632, 2048]⟩
abbrev S2048 : Shape := ⟨1, ![2048]⟩
abbrev S8 : Shape := ⟨1, ![8]⟩
abbrev S8x1 : Shape := ⟨2, ![8, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048, .bf16⟩
  | .hbm, ⟨1, _⟩ => ⟨S8x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S8x2048, .f32⟩
  | .hbm, ⟨6, _⟩ => ⟨S2048x11264, .f32⟩
  | .hbm, ⟨7, _⟩ => ⟨S8x11264, .f32⟩
  | .hbm, ⟨8, _⟩ => ⟨S8x5632, .f32⟩
  | .hbm, ⟨9, _⟩ => ⟨S8x5632, .f32⟩
  | .hbm, ⟨10, _⟩ => ⟨S8x5632, .f32⟩
  | .hbm, ⟨11, _⟩ => ⟨S8x5632, .f32⟩
  | .hbm, ⟨12, _⟩ => ⟨S_, .f32⟩
  | .hbm, ⟨13, _⟩ => ⟨S8x5632, .f32⟩
  | .hbm, ⟨14, _⟩ => ⟨S8x5632, .f32⟩
  | .hbm, ⟨15, _⟩ => ⟨S_, .f32⟩
  | .hbm, ⟨16, _⟩ => ⟨S8x5632, .f32⟩
  | .hbm, ⟨17, _⟩ => ⟨S8x5632, .f32⟩
  | .hbm, ⟨18, _⟩ => ⟨S8x5632, .f32⟩
  | .hbm, ⟨19, _⟩ => ⟨S8x5632, .f32⟩
  | .hbm, ⟨20, _⟩ => ⟨S5632x2048, .f32⟩
  | .hbm, ⟨21, _⟩ => ⟨S8x2048, .f32⟩
  | .hbm, ⟨22, _⟩ => ⟨S2048, .f32⟩
  | .hbm, ⟨23, _⟩ => ⟨S8x2048, .f32⟩
  | .hbm, ⟨24, _⟩ => ⟨S_, .f32⟩
  | .hbm, ⟨25, _⟩ => ⟨S8, .f32⟩
  | .hbm, ⟨26, _⟩ => ⟨S8x1, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S_, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S8x2048, .f32⟩
  | .hbm, ⟨35, _⟩ => ⟨S8x2048, .f32⟩
  | .hbm, ⟨36, _⟩ => ⟨S1x2048, .f32⟩
  | .hbm, ⟨37, _⟩ => ⟨S8x2048, .f32⟩
  | .hbm, ⟨38, _⟩ => ⟨S8x2048, .f32⟩
  | .hbm, ⟨39, _⟩ => ⟨S8x2048, .f32⟩
  | _, _ => ⟨S8x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== MergeS.lean ====
abbrev S8x2048 : Shape := ⟨2, ![8, 2048]⟩
abbrev S8x6144 : Shape := ⟨2, ![8, 6144]⟩
abbrev S8x1024 : Shape := ⟨2, ![8, 1024]⟩
abbrev S8x512 : Shape := ⟨2, ![8, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S8 : Shape := ⟨1, ![8]⟩
abbrev S8x1 : Shape := ⟨2, ![8, 1]⟩

abbrev nBuf : Space → Nat
  | .hbm => 25
  | .vmem => 13
  | .smem => 0
  | _ => 0

abbrev bufTy : (tb : Table) → Fin (tcTables nBuf tb) → BufTy
  | .hbm, ⟨0, _⟩ => ⟨S8x2048, .f32⟩
  | .hbm, ⟨1, _⟩ => ⟨S8x6144, .bf16⟩
  | .hbm, ⟨2, _⟩ => ⟨S8x1024, .bf16⟩
  | .hbm, ⟨3, _⟩ => ⟨S8x1024, .bf16⟩
  | .hbm, ⟨4, _⟩ => ⟨S8x512, .bf16⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S512x2048, .f32⟩
  | .hbm, ⟨16, _⟩ => ⟨S512x2048, .bf16⟩
  | .hbm, ⟨17, _⟩ => ⟨S2048x2048, .f32⟩
  | .hbm, ⟨18, _⟩ => ⟨S2048x2048, .bf16⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S8x2048, .f32⟩
  | .hbm, ⟨24, _⟩ => ⟨S8x2048, .bf16⟩
  | .local _ .vmem, ⟨0, _⟩ => ⟨S8x2048, .f32⟩
  | .local _ .vmem, ⟨1, _⟩ => ⟨S8x6144, .bf16⟩
  | .local _ .vmem, ⟨2, _⟩ => ⟨S8x1024, .bf16⟩
  | .local _ .vmem, ⟨3, _⟩ => ⟨S8x1024, .bf16⟩
  | .local _ .vmem, ⟨4, _⟩ => ⟨S8x512, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S8x2048, .f32⟩
  | .local _ .vmem, ⟨12, _⟩ => ⟨S8x2048, .bf16⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== MergeSRefIdeal.lean ====
abbrev S8x2048 : Shape := ⟨2, ![8, 2048]⟩
abbrev S8x6144 : Shape := ⟨2, ![8, 6144]⟩
abbrev S8x1024 : Shape := ⟨2, ![8, 1024]⟩
abbrev S8x512 : Shape := ⟨2, ![8, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S8x3x2048 : Shape := ⟨3, ![8, 3, 2048]⟩
abbrev S8x1x2048 : Shape := ⟨3, ![8, 1, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S8 : Shape := ⟨1, ![8]⟩
abbrev S8x1 : Shape := ⟨2, ![8, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x6144, .bf16⟩
  | .hbm, ⟨2, _⟩ => ⟨S8x1024, .bf16⟩
  | .hbm, ⟨3, _⟩ => ⟨S8x1024, .bf16⟩
  | .hbm, ⟨4, _⟩ => ⟨S8x512, .bf16⟩
  | .hbm, ⟨5, _⟩ => ⟨S1x1024x2048, .f32⟩
  | .hbm, ⟨6, _⟩ => ⟨S1x1024x2048, .f32⟩
  | .hbm, ⟨7, _⟩ => ⟨S1x512x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S8x6144, .f32⟩
  | .hbm, ⟨12, _⟩ => ⟨S8x3x2048, .f32⟩
  | .hbm, ⟨13, _⟩ => ⟨S8x1024, .f32⟩
  | .hbm, ⟨14, _⟩ => ⟨S8x1024, .f32⟩
  | .hbm, ⟨15, _⟩ => ⟨S8x512, .f32⟩
  | .hbm, ⟨16, _⟩ => ⟨S8x1x2048, .f32⟩
  | .hbm, ⟨17, _⟩ => ⟨S8x2048, .f32⟩
  | .hbm, ⟨18, _⟩ => ⟨S1024x2048, .f32⟩
  | .hbm, ⟨19, _⟩ => ⟨S8x2048, .f32⟩
  | .hbm, ⟨20, _⟩ => ⟨S8x2048, .f32⟩
  | .hbm, ⟨21, _⟩ => ⟨S8x1x2048, .f32⟩
  | .hbm, ⟨22, _⟩ => ⟨S8x2048, .f32⟩
  | .hbm, ⟨23, _⟩ => ⟨S1024x2048, .f32⟩
  | .hbm, ⟨24, _⟩ => ⟨S8x2048, .f32⟩
  | .hbm, ⟨25, _⟩ => ⟨S8x2048, .f32⟩
  | .hbm, ⟨26, _⟩ => ⟨S8x2048, .f32⟩
  | .hbm, ⟨27, _⟩ => ⟨S8x1x2048, .f32⟩
  | .hbm, ⟨28, _⟩ => ⟨S8x2048, .f32⟩
  | .hbm, ⟨29, _⟩ => ⟨S512x2048, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S2048x2048, .f32⟩
  | .hbm, ⟨34, _⟩ => ⟨S8x2048, .f32⟩
  | .hbm, ⟨35, _⟩ => ⟨S2048, .f32⟩
  | .hbm, ⟨36, _⟩ => ⟨S8x2048, .f32⟩
  | .hbm, ⟨37, _⟩ => ⟨S_, .f32⟩
  | .hbm, ⟨38, _⟩ => ⟨S8, .f32⟩
  | .hbm, ⟨39, _⟩ => ⟨S8x1, .f32⟩
  | .hbm, ⟨40, _⟩ => ⟨S_, .f32⟩
  | .hbm, ⟨41, _⟩ => ⟨S8x1, .f32⟩
  | .hbm, ⟨42, _⟩ => ⟨S8x1, .f32⟩
  | .hbm, ⟨43, _⟩ => ⟨S_, .f32⟩
  | .hbm, ⟨44, _⟩ => ⟨S8x1, .f32⟩
  | .hbm, ⟨45, _⟩ => ⟨S8x1, .f32⟩
  | .hbm, ⟨46, _⟩ => ⟨S8x1, .f32⟩
  | .hbm, ⟨47, _⟩ => ⟨S8x2048, .f32⟩
  | .hbm, ⟨48, _⟩ => ⟨S8x2048, .f32⟩
  | .hbm, ⟨49, _⟩ => ⟨S1x2048, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S2048, .f32⟩
  | .hbm, ⟨54, _⟩ => ⟨S8x2048, .f32⟩
  | .hbm, ⟨55, _⟩ => ⟨S_, .f32⟩
  | .hbm, ⟨56, _⟩ => ⟨S8, .f32⟩
  | .hbm, ⟨57, _⟩ => ⟨S8x1, .f32⟩
  | .hbm, ⟨58, _⟩ => ⟨S_, .f32⟩
  | .hbm, ⟨59, _⟩ => ⟨S8x1, .f32⟩
  | .hbm, ⟨60, _⟩ => ⟨S8x1, .f32⟩
  | .hbm, ⟨61, _⟩ => ⟨S_, .f32⟩
  | .hbm, ⟨62, _⟩ => ⟨S8x1, .f32⟩
  | .hbm, ⟨63, _⟩ => ⟨S8x1, .f32⟩
  | .hbm, ⟨64, _⟩ => ⟨S8x1, .f32⟩
  | .hbm, ⟨65, _⟩ => ⟨S8x2048, .f32⟩
  | .hbm, ⟨66, _⟩ => ⟨S8x2048, .f32⟩
  | .hbm, ⟨67, _⟩ => ⟨S1x2048, .f32⟩
  | .hbm, ⟨68, _⟩ => ⟨S8x2048, .f32⟩
  | .hbm, ⟨69, _⟩ => ⟨S8x2048, .f32⟩
  | .hbm, ⟨70, _⟩ => ⟨S8x2048, .bf16⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Gmlp.lean ====
abbrev S8192x2048 : Shape := ⟨2, ![8192, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S8192x1024 : Shape := ⟨2, ![8192, 1024]⟩
abbrev S512x1024 : Shape := ⟨2, ![512, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x8x128x128, .f32⟩
  | .hbm, ⟨2, _⟩ => ⟨S1x8x128, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S8x128x128, .f32⟩
  | .local _ .vmem, ⟨5, _⟩ => ⟨S128x8, .f32⟩
  | .local _ .vmem, ⟨6, _⟩ => ⟨S512x1024, .bf16⟩
  | .local _ .vmem, ⟨7, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpRefIdeal.lean ====
abbrev S8192x2048 : Shape := ⟨2, ![8192, 2048]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S64x128x8x128 : Shape := ⟨4, ![64, 128, 8, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8x128x128, .f32⟩
  | .hbm, ⟨2, _⟩ => ⟨S1x8x128, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S8x128x128, .f32⟩
  | .hbm, ⟨19, _⟩ => ⟨S_, .i32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S64x128x8x128, .f32⟩
  | .hbm, ⟨25, _⟩ => ⟨S8x64x128x128, .f32⟩
  | .hbm, ⟨26, _⟩ => ⟨S64x128x8x128, .f32⟩
  | .hbm, ⟨27, _⟩ => ⟨S8x128, .f32⟩
  | .hbm, ⟨28, _⟩ => ⟨S128x8, .f32⟩
  | .hbm, ⟨29, _⟩ => ⟨S1x128x8x1, .f32⟩
  | .hbm, ⟨30, _⟩ => ⟨S64x128x8x128, .f32⟩
  | .hbm, ⟨31, _⟩ => ⟨S64x128x8x128, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== GmlpS.lean ====
abbrev S8x2048 : Shape := ⟨2, ![8, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x1x1 : Shape := ⟨3, ![8, 1, 1]⟩
abbrev S8 : Shape := ⟨1, ![8]⟩
abbrev S1024 : Shape := ⟨1, ![1024]⟩
abbrev S1x1024 : Shape := ⟨2, ![1, 1024]⟩
abbrev S8x1 : Shape := ⟨2, ![8, 1]⟩
abbrev S8x1024 : Shape := ⟨2, ![8, 1024]⟩

abbrev nBuf : Space → Nat
  | .hbm => 16
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S1x8x128x128, .f32⟩
  | .hbm, ⟨2, _⟩ => ⟨S1x8x128, .f32⟩
  | .hbm, ⟨3, _⟩ => ⟨S8x128x128, .f32⟩
  | .hbm, ⟨4, _⟩ => ⟨S8x128, .f32⟩
  | .hbm, ⟨5, _⟩ => ⟨S8x1x1, .f32⟩
  | .hbm, ⟨6, _⟩ => ⟨S8, .f32⟩
  | .hbm, ⟨7, _⟩ => ⟨S8x128, .f32⟩
  | .hbm, ⟨8, _⟩ => ⟨S1024, .f32⟩
  | .hbm, ⟨9, _⟩ => ⟨S1x1024, .f32⟩
  | .hbm, ⟨10, _⟩ => ⟨S8x1, .f32⟩
  | .hbm, ⟨11, _⟩ => ⟨S8, .f32⟩
  | .hbm, ⟨12, _⟩ => ⟨S8x128, .f32⟩
  | .hbm, ⟨13, _⟩ => ⟨S1024, .f32⟩
  | .hbm, ⟨14, _⟩ => ⟨S1x1024, .f32⟩
  | .hbm, ⟨15, _⟩ => ⟨S8x1024, .bf16⟩
  | .local _ .vmem, ⟨0, _⟩ => ⟨S8x1024, .f32⟩
  | .local _ .vmem, ⟨1, _⟩ => ⟨S8x1024, .f32⟩
  | .local _ .vmem, ⟨2, _⟩ => ⟨S1x1024, .f32⟩
  | .local _ .vmem, ⟨3, _⟩ => ⟨S1x1024, .f32⟩
  | .local _ .vmem, ⟨4, _⟩ => ⟨S8x1024, .bf16⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GmlpSRefIdeal.lean ====
abbrev S8x2048 : Shape := ⟨2, ![8, 2048]⟩
abbrev S1x8x128x128 : Shape := ⟨4, ![1, 8, 128, 128]⟩
abbrev S1x8x128 : Shape := ⟨3, ![1, 8, 128]⟩
abbrev S8x1024 : Shape := ⟨2, ![8, 1024]⟩
abbrev S_ : Shape := ⟨0, ![]⟩
abbrev S1x1 : Shape := ⟨2, ![1, 1]⟩
abbrev S1x1x1 : Shape := ⟨3, ![1, 1, 1]⟩
abbrev S1x8x1x1 : Shape := ⟨4, ![1, 8, 1, 1]⟩
abbrev S8x1x1 : Shape := ⟨3, ![8, 1, 1]⟩
abbrev S8x1x8x128 : Shape := ⟨4, ![8, 1, 8, 128]⟩
abbrev S8x8x128x1 : Shape := ⟨4, ![8, 8, 128, 1]⟩
abbrev S1x8x1 : Shape := ⟨3, ![1, 8, 1]⟩
abbrev S8x1 : Shape := ⟨2, ![8, 1]⟩
abbrev S1x8 : Shape := ⟨2, ![1, 8]⟩
abbrev S1x1x8x1 : Shape := ⟨4, ![1, 1, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x8x128x128, .f32⟩
  | .hbm, ⟨2, _⟩ => ⟨S1x8x128, .f32⟩
  | .hbm, ⟨3, _⟩ => ⟨S8x1024, .f32⟩
  | .hbm, ⟨4, _⟩ => ⟨S8x1024, .f32⟩
  | .hbm, ⟨5, _⟩ => ⟨S_, .i1⟩
  | .hbm, ⟨6, _⟩ => ⟨S1x1, .i1⟩
  | .hbm, ⟨7, _⟩ => ⟨S1x1, .i32⟩
  | .hbm, ⟨8, _⟩ => ⟨S_, .i32⟩
  | .hbm, ⟨9, _⟩ => ⟨S1x1, .i32⟩
  | .hbm, ⟨10, _⟩ => ⟨S1x1, .i32⟩
  | .hbm, ⟨11, _⟩ => ⟨S1x1, .i32⟩
  | .hbm, ⟨12, _⟩ => ⟨S1x1, .i1⟩
  | .hbm, ⟨13, _⟩ => ⟨S_, .i1⟩
  | .hbm, ⟨14, _⟩ => ⟨S1x1, .i1⟩
  | .hbm, ⟨15, _⟩ => ⟨S1x1, .i1⟩
  | .hbm, ⟨16, _⟩ => ⟨S1x1x1, .i1⟩
  | .hbm, ⟨17, _⟩ => ⟨S1x8x1x1, .f32⟩
  | .hbm, ⟨18, _⟩ => ⟨S8x1x1, .f32⟩
  | .hbm, ⟨19, _⟩ => ⟨S_, .i32⟩
  | .hbm, ⟨20, _⟩ => ⟨S_, .f32⟩
  | .hbm, ⟨21, _⟩ => ⟨S8x1x1, .i1⟩
  | .hbm, ⟨22, _⟩ => ⟨S8x1x1, .f32⟩
  | .hbm, ⟨23, _⟩ => ⟨S8x1x1, .f32⟩
  | .hbm, ⟨24, _⟩ => ⟨S8x1x8x128, .f32⟩
  | .hbm, ⟨25, _⟩ => ⟨S8x8x128x1, .f32⟩
  | .hbm, ⟨26, _⟩ => ⟨S8x1x8x128, .f32⟩
  | .hbm, ⟨27, _⟩ => ⟨S1x8x1, .f32⟩
  | .hbm, ⟨28, _⟩ => ⟨S8x1, .f32⟩
  | .hbm, ⟨29, _⟩ => ⟨S1x8, .f32⟩
  | .hbm, ⟨30, _⟩ => ⟨S1x1x8x1, .f32⟩
  | .hbm, ⟨31, _⟩ => ⟨S8x1x8x128, .f32⟩
  | .hbm, ⟨32, _⟩ => ⟨S8x1x8x128, .f32⟩
  | .hbm, ⟨33, _⟩ => ⟨S8x1024, .f32⟩
  | .hbm, ⟨34, _⟩ => ⟨S8x1024, .f32⟩
  | .hbm, ⟨35, _⟩ => ⟨S8x1024, .bf16⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== MemAttn.lean ====
abbrev S8192x512 : Shape := ⟨2, ![8192, 512]⟩
abbrev S2x256x512 : Shape := ⟨3, ![2, 256, 512]⟩
abbrev S2x4096x512 : Shape := ⟨3, ![2, 4096, 512]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S2x256x512, .f32⟩
  | .hbm, ⟨2, _⟩ => ⟨S2x256x512, .f32⟩
  | .hbm, ⟨3, _⟩ => ⟨S2x4096x512, .bf16⟩
  | .hbm, ⟨4, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnIdeal.lean ====
abbrev S8192x512 : Shape := ⟨2, ![8192, 512]⟩
abbrev S2x256x512 : Shape := ⟨3, ![2, 256, 512]⟩
abbrev S2x4096x512 : Shape := ⟨3, ![2, 4096, 512]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S2x256x512, .f32⟩
  | .hbm, ⟨2, _⟩ => ⟨S2x256x512, .f32⟩
  | .hbm, ⟨3, _⟩ => ⟨S2x4096x512, .bf16⟩
  | .hbm, ⟨4, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S8192x512 : Shape := ⟨2, ![8192, 512]⟩
abbrev S2x256x512 : Shape := ⟨3, ![2, 256, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x4096x512 : Shape := ⟨3, ![2, 4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x256x512, .f32⟩
  | .hbm, ⟨2, _⟩ => ⟨S2x256x512, .f32⟩
  | .hbm, ⟨3, _⟩ => ⟨S8192x512, .f32⟩
  | .hbm, ⟨4, _⟩ => ⟨S2x4096x4x128, .f32⟩
  | .hbm, ⟨5, _⟩ => ⟨S2x256x4x128, .f32⟩
  | .hbm, ⟨6, _⟩ => ⟨S2x256x4x128, .f32⟩
  | .hbm, ⟨7, _⟩ => ⟨S2x4x4096x256, .f32⟩
  | .hbm, ⟨8, _⟩ => ⟨S_, .f32⟩
  | .hbm, ⟨9, _⟩ => ⟨S2x4x4096x256, .f32⟩
  | .hbm, ⟨10, _⟩ => ⟨S2x4x4096x256, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .f32⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x128x4096, .f32⟩
  | .hbm, ⟨26, _⟩ => ⟨S2x4096x4x128, .f32⟩
  | .hbm, ⟨27, _⟩ => ⟨S2x4096x512, .f32⟩
  | .hbm, ⟨28, _⟩ => ⟨S2x4096x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MemAttnS.lean ====
abbrev S128x512 : Shape := ⟨2, ![128, 512]⟩
abbrev S8x256x512 : Shape := ⟨3, ![8, 256, 512]⟩
abbrev S8x16x512 : Shape := ⟨3, ![8, 16, 512]⟩
abbrev S1x16x512 : Shape := ⟨3, ![1, 16, 512]⟩
abbrev S1x256x512 : Shape := ⟨3, ![1, 256, 512]⟩
abbrev S1x16x128 : Shape := ⟨3, ![1, 16, 128]⟩
abbrev S16x128 : Shape := ⟨2, ![16, 128]⟩
abbrev S1x256x128 : Shape := ⟨3, ![1, 256, 128]⟩
abbrev S256x128 : Shape := ⟨2, ![256, 128]⟩
abbrev S16x256 : Shape := ⟨2, ![16, 256]⟩
abbrev S16 : Shape := ⟨1, ![16]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S128x512, .bf16⟩
  | .hbm, ⟨1, _⟩ => ⟨S8x256x512, .f32⟩
  | .hbm, ⟨2, _⟩ => ⟨S8x256x512, .f32⟩
  | .hbm, ⟨3, _⟩ => ⟨S8x16x512, .bf16⟩
  | .hbm, ⟨4, _⟩ => ⟨S8x16x512, .bf16⟩
  | .local _ .vmem, ⟨0, _⟩ => ⟨S1x16x512, .bf16⟩
  | .local _ .vmem, ⟨1, _⟩ => ⟨S1x16x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x16x512, .bf16⟩
  | .local _ .vmem, ⟨7, _⟩ => ⟨S1x16x512, .bf16⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnSRefIdeal.lean ====
abbrev S128x512 : Shape := ⟨2, ![128, 512]⟩
abbrev S8x256x512 : Shape := ⟨3, ![8, 256, 512]⟩
abbrev S8x16x4x128 : Shape := ⟨4, ![8, 16, 4, 128]⟩
abbrev S8x256x4x128 : Shape := ⟨4, ![8, 256, 4, 128]⟩
abbrev S8x4x16x256 : Shape := ⟨4, ![8, 4, 16, 256]⟩
abbrev S_ : Shape := ⟨0, ![]⟩
abbrev S8x4x16 : Shape := ⟨3, ![8, 4, 16]⟩
abbrev S8x4x16x1 : Shape := ⟨4, ![8, 4, 16, 1]⟩
abbrev S8x4x128x16 : Shape := ⟨4, ![8, 4, 128, 16]⟩
abbrev S8x16x512 : Shape := ⟨3, ![8, 16, 512]⟩

abbrev nBuf : Space → Nat
  | .hbm => 29
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S8x256x512, .f32⟩
  | .hbm, ⟨2, _⟩ => ⟨S8x256x512, .f32⟩
  | .hbm, ⟨3, _⟩ => ⟨S128x512, .f32⟩
  | .hbm, ⟨4, _⟩ => ⟨S8x16x4x128, .f32⟩
  | .hbm, ⟨5, _⟩ => ⟨S8x256x4x128, .f32⟩
  | .hbm, ⟨6, _⟩ => ⟨S8x256x4x128, .f32⟩
  | .hbm, ⟨7, _⟩ => ⟨S8x4x16x256, .f32⟩
  | .hbm, ⟨8, _⟩ => ⟨S_, .f32⟩
  | .hbm, ⟨9, _⟩ => ⟨S8x4x16x256, .f32⟩
  | .hbm, ⟨10, _⟩ => ⟨S8x4x16x256, .f32⟩
  | .hbm, ⟨11, _⟩ => ⟨S_, .f32⟩
  | .hbm, ⟨12, _⟩ => ⟨S8x4x16, .f32⟩
  | .hbm, ⟨13, _⟩ => ⟨S_, .f32⟩
  | .hbm, ⟨14, _⟩ => ⟨S8x4x16, .f32⟩
  | .hbm, ⟨15, _⟩ => ⟨S8x4x16, .f32⟩
  | .hbm, ⟨16, _⟩ => ⟨S8x4x16x1, .f32⟩
  | .hbm, ⟨17, _⟩ => ⟨S8x4x16x256, .f32⟩
  | .hbm, ⟨18, _⟩ => ⟨S8x4x16x256, .f32⟩
  | .hbm, ⟨19, _⟩ => ⟨S8x4x16x256, .f32⟩
  | .hbm, ⟨20, _⟩ => ⟨S_, .f32⟩
  | .hbm, ⟨21, _⟩ => ⟨S8x4x16, .f32⟩
  | .hbm, ⟨22, _⟩ => ⟨S8x4x16x1, .f32⟩
  | .hbm, ⟨23, _⟩ => ⟨S8x4x16x256, .f32⟩
  | .hbm, ⟨24, _⟩ => ⟨S8x4x16x256, .f32⟩
  | .hbm, ⟨25, _⟩ => ⟨S8x4x128x16, .f32⟩
  | .hbm, ⟨26, _⟩ => ⟨S8x16x4x128, .f32⟩
  | .hbm, ⟨27, _⟩ => ⟨S8x16x512, .f32⟩
  | .hbm, ⟨28, _⟩ => ⟨S8x16x512, .bf16⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Sattn.lean ====
abbrev S8x1024 : Shape := ⟨2, ![8, 1024]⟩
abbrev S8x129x128 : Shape := ⟨3, ![8, 129, 128]⟩
abbrev S1x1280x128x8x128 : Shape := ⟨5, ![1, 1280, 128, 8, 128]⟩
abbrev S8x128 : Shape := ⟨2, ![8, 128]⟩
abbrev S1280x128x8x128 : Shape := ⟨4, ![1280, 128, 8, 128]⟩
abbrev S8x129x1x128 : Shape := ⟨4, ![8, 129, 1, 128]⟩
abbrev S8x1x1024 : Shape := ⟨3, ![8, 1, 1024]⟩
abbrev S1x1280x128x1024 : Shape := ⟨4, ![1, 1280, 128, 1024]⟩
abbrev S1x1x1024 : Shape := ⟨3, ![1, 1, 1024]⟩
abbrev S1x1x128x1024 : Shape := ⟨4, ![1, 1, 128, 1024]⟩
abbrev S1x1 : Shape := ⟨2, ![1, 1]⟩
abbrev S1x1x1x128 : Shape := ⟨4, ![1, 1, 1, 128]⟩
abbrev S8x1 : Shape := ⟨2, ![8, 1]⟩
abbrev S1x1024 : Shape := ⟨2, ![1, 1024]⟩
abbrev S128x1024 : Shape := ⟨2, ![128, 1024]⟩
abbrev S1x128 : Shape := ⟨2, ![1, 128]⟩
abbrev S8 : Shape := ⟨1, ![8]⟩
abbrev S1024 : Shape := ⟨1, ![1024]⟩

abbrev nBuf : Space → Nat
  | .hbm => 15
  | .vmem => 19
  | .smem => 1
  | _ => 0

abbrev bufTy : (tb : Table) → Fin (tcTables nBuf tb) → BufTy
  | .hbm, ⟨0, _⟩ => ⟨S8x1024, .bf16⟩
  | .hbm, ⟨1, _⟩ => ⟨S8x1024, .f32⟩
  | .hbm, ⟨2, _⟩ => ⟨S8x1024, .f32⟩
  | .hbm, ⟨3, _⟩ => ⟨S8x129x128, .f32⟩
  | .hbm, ⟨4, _⟩ => ⟨S1x1280x128x8x128, .f32⟩
  | .hbm, ⟨5, _⟩ => ⟨S1x1280x128x8x128, .f32⟩
  | .hbm, ⟨6, _⟩ => ⟨S1280x128x8x128, .f32⟩
  | .hbm, ⟨7, _⟩ => ⟨S1280x128x8x128, .f32⟩
  | .hbm, ⟨8, _⟩ => ⟨S8x129x1x128, .f32⟩
  | .hbm, ⟨9, _⟩ => ⟨S8x1x1024, .bf16⟩
  | .hbm, ⟨10, _⟩ => ⟨S1x1280x128x1024, .f32⟩
  | .hbm, ⟨11, _⟩ => ⟨S1x1280x128x1024, .f32⟩
  | .hbm, ⟨12, _⟩ => ⟨S8x1x1024, .f32⟩
  | .hbm, ⟨13, _⟩ => ⟨S8x1x1024, .f32⟩
  | .hbm, ⟨14, _⟩ => ⟨S8x1x1024, .bf16⟩
  | .local _ .vmem, ⟨0, _⟩ => ⟨S1x1x1024, .bf16⟩
  | .local _ .vmem, ⟨1, _⟩ => ⟨S1x1x1024, .bf16⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x1x128, .f32⟩
  | .local _ .vmem, ⟨9, _⟩ => ⟨S1x1x1x128, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .bf16⟩
  | .local _ .vmem, ⟨15, _⟩ => ⟨S1x1x1024, .bf16⟩
  | .local _ .vmem, ⟨16, _⟩ => ⟨S8x1, .f32⟩
  | .local _ .vmem, ⟨17, _⟩ => ⟨S8x1, .f32⟩
  | .local _ .vmem, ⟨18, _⟩ => ⟨S8x1024, .f32⟩
  | .local _ .smem, ⟨0, _⟩ => ⟨S8x128, .i32⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 128], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_cond2 (i : grid0.Coords) : BitVec 1 :=
  let arg1 : BitVec 32 := BitVec.ofNat 32 (i 1).val
  let c127_i32 : BitVec 32 := 127#32
  let v88 : BitVec 1 := Scalar.cmpi .eq arg1 c127_i32
  let v89 : BitVec 32 := Scalar.extui v88
  let c0_i32_40 : BitVec 32 := 0#32
  let v90 : BitVec 1 := Scalar.cmpi .ne v89 c0_i32_40
  v90

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S8x128) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_2 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S8x128) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c128_i32 : BitVec 32 := 128#32
  let c0_i32 : BitVec 32 := 0#32
  let c0_i32_0 : BitVec 32 := 0#32
  let c0_i32_1 : BitVec 32 := 0#32
  ![arg0.toNat, c128_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SattnRefIdeal.lean ====
abbrev S8x1024 : Shape := ⟨2, ![8, 1024]⟩
abbrev S8x129x128 : Shape := ⟨3, ![8, 129, 128]⟩
abbrev S1x1280x128x8x128 : Shape := ⟨5, ![1, 1280, 128, 8, 128]⟩
abbrev S8x128 : Shape := ⟨2, ![8, 128]⟩
abbrev S8x8x128 : Shape := ⟨3, ![8, 8, 128]⟩
abbrev S1280x128x8x128 : Shape := ⟨4, ![1280, 128, 8, 128]⟩
abbrev S_ : Shape := ⟨0, ![]⟩
abbrev S8x128x1 : Shape := ⟨3, ![8, 128, 1]⟩
abbrev S8x128x128x8x128 : Shape := ⟨5, ![8, 128, 128, 8, 128]⟩
abbrev S8x16384x8x128 : Shape := ⟨4, ![8, 16384, 8, 128]⟩
abbrev S8x1x8x128 : Shape := ⟨4, ![8, 1, 8, 128]⟩
abbrev S8x16385x8x128 : Shape := ⟨4, ![8, 16385, 8, 128]⟩
abbrev S8x16512 : Shape := ⟨2, ![8, 16512]⟩
abbrev S8x16385 : Shape := ⟨2, ![8, 16385]⟩
abbrev S8x8x16385 : Shape := ⟨3, ![8, 8, 16385]⟩
abbrev S8x1x16385 : Shape := ⟨3, ![8, 1, 16385]⟩
abbrev S8x8 : Shape := ⟨2, ![8, 8]⟩
abbrev S8x8x1 : Shape := ⟨3, ![8, 8, 1]⟩
abbrev S8x1x1024 : Shape := ⟨3, ![8, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S8x1024, .f32⟩
  | .hbm, ⟨2, _⟩ => ⟨S8x1024, .f32⟩
  | .hbm, ⟨3, _⟩ => ⟨S8x129x128, .f32⟩
  | .hbm, ⟨4, _⟩ => ⟨S1x1280x128x8x128, .f32⟩
  | .hbm, ⟨5, _⟩ => ⟨S1x1280x128x8x128, .f32⟩
  | .hbm, ⟨6, _⟩ => ⟨S8x128, .i32⟩
  | .hbm, ⟨7, _⟩ => ⟨S8x1024, .f32⟩
  | .hbm, ⟨8, _⟩ => ⟨S8x8x128, .f32⟩
  | .hbm, ⟨9, _⟩ => ⟨S1280x128x8x128, .f32⟩
  | .hbm, ⟨10, _⟩ => ⟨S_, .i32⟩
  | .hbm, ⟨11, _⟩ => ⟨S8x128, .i32⟩
  | .hbm, ⟨12, _⟩ => ⟨S8x128, .i1⟩
  | .hbm, ⟨13, _⟩ => ⟨S_, .i32⟩
  | .hbm, ⟨14, _⟩ => ⟨S8x128, .i32⟩
  | .hbm, ⟨15, _⟩ => ⟨S8x128, .i32⟩
  | .hbm, ⟨16, _⟩ => ⟨S8x128, .i32⟩
  | .hbm, ⟨17, _⟩ => ⟨S8x128x1, .i32⟩
  | .hbm, ⟨18, _⟩ => ⟨S8x128x128x8x128, .f32⟩
  | .hbm, ⟨19, _⟩ => ⟨S8x16384x8x128, .f32⟩
  | .hbm, ⟨20, _⟩ => ⟨S8x1x8x128, .f32⟩
  | .hbm, ⟨21, _⟩ => ⟨S8x16385x8x128, .f32⟩
  | .hbm, ⟨22, _⟩ => ⟨S1280x128x8x128, .f32⟩
  | .hbm, ⟨23, _⟩ => ⟨S_, .i32⟩
  | .hbm, ⟨24, _⟩ => ⟨S8x128, .i32⟩
  | .hbm, ⟨25, _⟩ => ⟨S8x128, .i1⟩
  | .hbm, ⟨26, _⟩ => ⟨S_, .i32⟩
  | .hbm, ⟨27, _⟩ => ⟨S8x128, .i32⟩
  | .hbm, ⟨28, _⟩ => ⟨S8x128, .i32⟩
  | .hbm, ⟨29, _⟩ => ⟨S8x128, .i32⟩
  | .hbm, ⟨30, _⟩ => ⟨S8x128x1, .i32⟩
  | .hbm, ⟨31, _⟩ => ⟨S8x128x128x8x128, .f32⟩
  | .hbm, ⟨32, _⟩ => ⟨S8x16384x8x128, .f32⟩
  | .hbm, ⟨33, _⟩ => ⟨S8x1x8x128, .f32⟩
  | .hbm, ⟨34, _⟩ => ⟨S8x16385x8x128, .f32⟩
  | .hbm, ⟨35, _⟩ => ⟨S8x16512, .f32⟩
  | .hbm, ⟨36, _⟩ => ⟨S8x16385, .f32⟩
  | .hbm, ⟨37, _⟩ => ⟨S_, .f32⟩
  | .hbm, ⟨38, _⟩ => ⟨S8x16385, .f32⟩
  | .hbm, ⟨39, _⟩ => ⟨S8x16385, .i1⟩
  | .hbm, ⟨40, _⟩ => ⟨S8x8x16385, .f32⟩
  | .hbm, ⟨41, _⟩ => ⟨S_, .f32⟩
  | .hbm, ⟨42, _⟩ => ⟨S8x8x16385, .f32⟩
  | .hbm, ⟨43, _⟩ => ⟨S8x8x16385, .f32⟩
  | .hbm, ⟨44, _⟩ => ⟨S8x1x16385, .i1⟩
  | .hbm, ⟨45, _⟩ => ⟨S_, .f32⟩
  | .hbm, ⟨46, _⟩ => ⟨S_, .f32⟩
  | .hbm, ⟨47, _⟩ => ⟨S8x8x16385, .i1⟩
  | .hbm, ⟨48, _⟩ => ⟨S8x8x16385, .f32⟩
  | .hbm, ⟨49, _⟩ => ⟨S8x8x16385, .f32⟩
  | .hbm, ⟨50, _⟩ => ⟨S_, .f32⟩
  | .hbm, ⟨51, _⟩ => ⟨S8x8, .f32⟩
  | .hbm, ⟨52, _⟩ => ⟨S_, .f32⟩
  | .hbm, ⟨53, _⟩ => ⟨S8x8, .f32⟩
  | .hbm, ⟨54, _⟩ => ⟨S8x8, .f32⟩
  | .hbm, ⟨55, _⟩ => ⟨S8x8x1, .f32⟩
  | .hbm, ⟨56, _⟩ => ⟨S8x8x16385, .f32⟩
  | .hbm, ⟨57, _⟩ => ⟨S8x8x16385, .f32⟩
  | .hbm, ⟨58, _⟩ => ⟨S8x8x16385, .f32⟩
  | .hbm, ⟨59, _⟩ => ⟨S_, .f32⟩
  | .hbm, ⟨60, _⟩ => ⟨S8x8, .f32⟩
  | .hbm, ⟨61, _⟩ => ⟨S8x8x1, .f32⟩
  | .hbm, ⟨62, _⟩ => ⟨S8x8x16385, .f32⟩
  | .hbm, ⟨63, _⟩ => ⟨S8x8x16385, .f32⟩
  | .hbm, ⟨64, _⟩ => ⟨S8x8x128, .f32⟩
  | .hbm, ⟨65, _⟩ => ⟨S8x1x1024, .f32⟩
  | .hbm, ⟨66, _⟩ => ⟨S8x1x1024, .bf16⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proof.ScoresValue.lean ====
module

public import proofs.«01_k».proof.Defs
public import proofs.«01_k».proof.Proof.Gen.ScoresIdeal.Frame
public import proofs.«01_k».proof.Proof.Gen.ScoresRefIdeal.Run
public import proofs.«01_k».proof.Proof.Gen.Pre_any_page
public import Idealize.ShloMosaic.Lib.Pipeline.ValueKit
public import Idealize.ShloMosaic.Lib.Pointwise
public import Idealize.ShloMosaic.Lib.ReduceAll

@[expose] public section

set_option maxRecDepth 16384

noncomputable section

namespace Cert.ScoresIdeal.Hand

open Cert.ScoresIdeal Cert.ScoresIdeal.Gen Idealize.ShloMosaic Idealize.ShloMosaic.TcCoe Idealize.SL.Sem Idealize.ShloMosaic.StableHlo

/-! ## The precondition -/

/-- Every entry of a page table that the precondition admits names one of the 1280 pages. -/
theorem page_lt {F : FTy → Type} [FloatOps F] (x0 : FVec F Pre_any_page.S8x2048 .bf16) (x1 : FVec F Pre_any_page.S8x16 .f32)
    (x2 : FVec F Pre_any_page.S8x128 .f32) (x3 : FVec F Pre_any_page.S1x1280x128x128 .f32) (x4 : IVec Pre_any_page.S8x128 32)
    (h : Pre_any_page.fn x0 x1 x2 x3 x4 = fun _ => 1#1) (y) : (x4 y).toNat < 1280 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  haveI : Subsingleton Pre_any_page.S_.Idx := ⟨fun a b => funext fun i => i.elim0⟩
  have e := Host.reduce_andi_all _ _ _ _ (fun i => i.elim0) (congrFun h _) y
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- The page a grid point fetches: the table's entry at the point's row and the point's column, the last column twice. -/
theorem transform2 {F : FTy → Type} [FloatOps F] (pf : pre0.Contents (Elt F)) (i : grid0.Coords) :
    cc0_transform_2 Gen.facts.k0_off1_inb Gen.facts.numel1_S1x1 pf i
      = ![0, BitVec.toNat (w := 32) (pf 0 (ix2 (i 0) ⟨min (i 1).val 127, by omega⟩)), 0, 0] := by
  unfold cc0_transform_2
  have h0 : (i 0).val < 8 := (i 0).isLt
  have h1 : (i 1).val < 129 := (i 1).isLt
  have e0 : (BitVec.ofNat 32 (i 0).val).toNat = (i 0).val := by simp; omega
  have e1 : (Scalar.minsi (BitVec.ofNat 32 (i 1).val) 127#32).toNat = min (i 1).val 127 := by
    generalize (i 1).val = k at h1
    interval_cases k <;> rfl
  have key : ∀ (y : S8x128.Idx), y = ix2 (i 0) ⟨min (i 1).val 127, by omega⟩ →
      ![0, BitVec.toNat (w := 32) (pf 0 y), 0, 0] = ![0, BitVec.toNat (w := 32) (pf 0 (ix2 (i 0) ⟨min (i 1).val 127, by omega⟩)), 0, 0] := by
    rintro y rfl; rfl
  refine key _ ?_
  funext a
  refine Fin.ext ?_
  match a with
  | ⟨0, _⟩ => exact (Nat.add_zero _).trans e0
  | ⟨1, _⟩ => exact (Nat.add_zero _).trans e1

theorem ok_of_lt {F : FTy → Type} [FloatOps F] (pf : pre0.Contents (Elt F)) (h : ∀ y, BitVec.toNat (w := 32) (pf 0 y) < 1280) :
    ok0 pf := by
  intro i
  refine ⟨fun a => ?_, Or.inl rfl⟩
  rw [transform2]
  have := h (ix2 (i 0) ⟨min (i 1).val 127, by omega⟩)
  match a with
  | ⟨0, _⟩ => exact Nat.le_refl 1
  | ⟨1, _⟩ => exact (Nat.mul_one _).le.trans this
  | ⟨2, _⟩ => exact Nat.le_refl 128
  | ⟨3, _⟩ => exact Nat.le_refl 128

/-! ## The reference's term -/

/-- The gathered pages, `ik[page_table]`. -/
def refG (K : FVec Ideal Cert.ScoresRefIdeal.S1x1280x128x128 .f32) (T : IVec Cert.ScoresRefIdeal.S8x128 32) :
    FVec Ideal Cert.ScoresRefIdeal.S8x128x128x128 .f32 :=
  Host.gather Cert.ScoresRefIdeal.gather_S1280x128x128_S8x128x1_S8x128x128x128_23_0_n_n_0_2_1128128
    (shapeCast _ K Cert.ScoresRefIdeal.Gen.shapeCasts_S1x1280x128x128_S1280x128x128)
    (broadcastInDim Cert.ScoresRefIdeal.S8x128x1 ![0, 1] Cert.ScoresRefIdeal.Gen.bcast_S8x128_S8x128x1_0_1
      (select (cmpi .slt T (broadcastInDim Cert.ScoresRefIdeal.S8x128 ![] Cert.ScoresRefIdeal.Gen.bcast_S_S8x128 (constantI Cert.ScoresRefIdeal.S_ 32 0#32)))
        (addi T (broadcastInDim Cert.ScoresRefIdeal.S8x128 ![] Cert.ScoresRefIdeal.Gen.bcast_S_S8x128 (constantI Cert.ScoresRefIdeal.S_ 32 1280#32))) T))

/-- The scores of the gathered pages and the new key. -/
def refY (Q : FVec Ideal Cert.ScoresRefIdeal.S8x2048 .bf16) (W : FVec Ideal Cert.ScoresRefIdeal.S8x16 .f32)
    (N : FVec Ideal Cert.ScoresRefIdeal.S8x128 .f32) (G : FVec Ideal Cert.ScoresRefIdeal.S8x128x128x128 .f32) :
    FVec Ideal Cert.ScoresRefIdeal.S8x16385 .f32 :=
  Host.dotGeneral Cert.ScoresRefIdeal.dot_S8x16x16385_S8x16_S8x16385_1_1_2_n_0_0 none
    (maximumf (Host.dotGeneral Cert.ScoresRefIdeal.dot_S8x16x128_S8x16385x128_S8x16x16385_2_2_1_1_0_0 none
      (shapeCast _ (extf .f32 Q Cert.ScoresRefIdeal.Gen.bitsLt_bf16_f32) Cert.ScoresRefIdeal.Gen.shapeCasts_S8x2048_S8x16x128)
      (concatenate Cert.ScoresRefIdeal.S8x16385x128 1 [⟨Cert.ScoresRefIdeal.S8x16384x128, shapeCast _ G Cert.ScoresRefIdeal.Gen.shapeCasts_S8x128x128x128_S8x16384x128⟩,
        ⟨Cert.ScoresRefIdeal.S8x1x128, shapeCast _ N Cert.ScoresRefIdeal.Gen.shapeCasts_S8x128_S8x1x128⟩] Cert.ScoresRefIdeal.Gen.concatenates_S8x16384x128_S8x1x128_S8x16385x128_d1))
      (broadcastInDim Cert.ScoresRefIdeal.S8x16x16385 ![] Cert.ScoresRefIdeal.Gen.bcast_S_S8x16x16385 (constant Cert.ScoresRefIdeal.S_ .f32 0x00000000#32)))
    (mulf W (broadcastInDim Cert.ScoresRefIdeal.S8x16 ![] Cert.ScoresRefIdeal.Gen.bcast_S_S8x16 (constant Cert.ScoresRefIdeal.S_ .f32 0x3CB504F3#32)))

/-- The gather at an index, for start indices that name pages. -/
theorem gather_at (X : FVec Ideal Cert.ScoresRefIdeal.S1280x128x128 .f32) (I : IVec Cert.ScoresRefIdeal.S8x128x1 32)
    (b : Fin 8) (p r l : Fin 128) (n : Fin 1280) (hI : I (ix3 b p 0) = BitVec.ofNat 32 n.val) :
    Host.gather Cert.ScoresRefIdeal.gather_S1280x128x128_S8x128x1_S8x128x128x128_23_0_n_n_0_2_1128128 X I (ix4 b p r l) = X (ix3 n r l) := by
  unfold Host.gather
  congr 1
  funext a
  refine Fin.ext ?_
  show Cert.ScoresRefIdeal.gather_S1280x128x128_S8x128x1_S8x128x128x128_23_0_n_n_0_2_1128128.start _ I a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ Cert.ScoresRefIdeal.gather_S1280x128x128_S8x128x1_S8x128x128x128_23_0_n_n_0_2_1128128.startIndexMap from List.mem_singleton.mpr rfl)]
    have hsi : Cert.ScoresRefIdeal.gather_S1280x128x128_S8x128x1_S8x128x128x128_23_0_n_n_0_2_1128128.siIdx (ix4 b p r l)
        ⟨List.idxOf (0 : Fin 3) Cert.ScoresRefIdeal.gather_S1280x128x128_S8x128x1_S8x128x128x128_23_0_n_n_0_2_1128128.startIndexMap,
          List.idxOf_lt_length_iff.2 (List.mem_singleton.mpr rfl)⟩ = ix3 b p 0 := by
      funext e; refine Fin.ext ?_
      match e with
      | ⟨0, _⟩ => rfl
      | ⟨1, _⟩ => rfl
      | ⟨2, _⟩ => rfl
    have hn : (BitVec.ofNat 32 n.val).toInt.toNat = n.val := by
      have := n.isLt
      rw [BitVec.toInt_eq_toNat_of_lt (by simp; omega)]
      simp; omega
    show min (I (Cert.ScoresRefIdeal.gather_S1280x128x128_S8x128x1_S8x128x128x128_23_0_n_n_0_2_1128128.siIdx (ix4 b p r l) ⟨List.idxOf (0 : Fin 3) Cert.ScoresRefIdeal.gather_S1280x128x128_S8x128x1_S8x128x128x128_23_0_n_n_0_2_1128128.startIndexMap,
          List.idxOf_lt_length_iff.2 (List.mem_singleton.mpr rfl)⟩)).toInt.toNat (1280 - 1) + 0 + 0 = n.val
    rw [hsi, hI, hn]
    have := n.isLt
    omega
  | ⟨1, _⟩ =>
    have h0 : Cert.ScoresRefIdeal.gather_S1280x128x128_S8x128x1_S8x128x128x128_23_0_n_n_0_2_1128128.start (ix4 b p r l) I 1 = 0 := by
      unfold GatherDims.start
      rw [dif_neg (by decide)]
    exact (congrArg (· + 0 + _) h0).trans (by simp; rfl)
  | ⟨2, _⟩ =>
    have h0 : Cert.ScoresRefIdeal.gather_S1280x128x128_S8x128x1_S8x128x128x128_23_0_n_n_0_2_1128128.start (ix4 b p r l) I 2 = 0 := by
      unfold GatherDims.start
      rw [dif_neg (by decide)]
    exact (congrArg (· + 0 + _) h0).trans (by simp; rfl)

/-- A gathered page at an index. -/
theorem refG_at (K : FVec Ideal Cert.ScoresRefIdeal.S1x1280x128x128 .f32) (T : IVec Cert.ScoresRefIdeal.S8x128 32)
    (h : ∀ y, (T y).toNat < 1280) (b : Fin 8) (p r l : Fin 128) :
    refG K T (ix4 b p r l) = K (ix4 0 ⟨(T (ix2 b p)).toNat, h _⟩ r l) := by
  unfold refG
  have hT := h (ix2 b p)
  rw [gather_at _ _ b p r l ⟨(T (ix2 b p)).toNat, hT⟩]
  · pointwise
  · pointwise
    have hc : IntOp.cmpi CmpIPredicate.slt (T (ix2 b p)) 0#32 = 0#1 := by
      simp only [IntOp.cmpi, BitVec.slt, BitVec.toInt, BitVec.toNat_ofNat]
      rw [if_pos (by omega)]
      have : ¬ ((T (ix2 b p)).toNat : ℤ) < 0 := by omega
      simp [this]
    rw [hc]
    simp [Scalar.select]

theorem refY_at (Q : FVec Ideal Cert.ScoresRefIdeal.S8x2048 .bf16) (W : FVec Ideal Cert.ScoresRefIdeal.S8x16 .f32)
    (N : FVec Ideal Cert.ScoresRefIdeal.S8x128 .f32) (G : FVec Ideal Cert.ScoresRefIdeal.S8x128x128x128 .f32) (b : Fin 8) (j : Fin 16385) :
    refY Q W N G (ix2 b j) = ∑ h : Fin 16, max (∑ d : Fin 128, Q (ix2 b ⟨h.val * 128 + d.val, by omega⟩) *
        if hj : j.val < 16384 then G (ix4 b ⟨j.val / 128, by omega⟩ ⟨j.val % 128, by omega⟩ d) else N (ix2 b d)) 0
      * (W (ix2 b h) * Ideal.ofBits FTy.f32 0x3CB504F3#32) := by
  pointwise [refY]

theorem pay_at (i : grid0.Coords) (v1 : Vec Ideal S1x1x128x128 .f32) (v3 : Vec Ideal S1x1x128 .f32) (v9 : Vec Ideal S1x16x128 .bf16) (v14 : Vec Ideal S1x16x1 .f32) (y : S1x1x1x128.Idx) :
    k0_pay1 i v1 v3 v9 v14 y = ∑ h : Fin 16, max (∑ d : Fin 128, v9 (ix3 0 h d) *
        Scalar.select (Scalar.cmpi CmpIPredicate.eq (BitVec.ofNat 32 (i 1).val) 128#32) (v3 (ix3 0 0 d)) (v1 (ix4 0 0 (y 3) d))) 0
      * (v14 (ix3 0 h 0) * Ideal.ofBits FTy.f32 0x3CB504F3#32) := by
  pointwise [k0_pay1]

/-! ## The kernel's result -/

variable (m : (ℓ : Loc nD τ sig) → Buf (Elt Ideal) ℓ) (hO : Ok m)

theorem idx (t : Fin (cfgM m hO).N) : ((cfgM m hO).win 0).index t = ![t.val / 129, 0, 0] ∧ ((cfgM m hO).win 1).index t = ![t.val / 129, 0, 0]
    ∧ ((cfgM m hO).win 3).index t = ![t.val / 129, 0, 0] ∧ ((cfgM m hO).win 4).index t = ![t.val / 129, t.val % 129, 0, 0]
    ∧ ((grid0.coords t) 0).val = t.val / 129 ∧ ((grid0.coords t) 1).val = t.val % 129 ∧ t.val / 129 < 8 :=
  (by decide +kernel : ∀ t : Fin grid0.N, cc0_transform_0 (grid0.coords t) = ![t.val / 129, 0, 0] ∧ cc0_transform_1 (grid0.coords t) = ![t.val / 129, 0, 0]
    ∧ cc0_transform_3 (grid0.coords t) = ![t.val / 129, 0, 0] ∧ cc0_transform_4 (grid0.coords t) = ![t.val / 129, t.val % 129, 0, 0]
    ∧ ((grid0.coords t) 0).val = t.val / 129 ∧ ((grid0.coords t) 1).val = t.val % 129 ∧ t.val / 129 < 8) t

/-- The output of the region: the scores of a page's 128 keys, or of the new key in the last page's place. -/
def G4 (Q : FVec Ideal S8x2048 .bf16) (W : FVec Ideal S8x16 .f32) (N : FVec Ideal S8x128 .f32) (K : FVec Ideal S1x1280x128x128 .f32)
    (T : IVec S8x128 32) (h : ∀ y, (T y).toNat < 1280) : FVec Ideal S8x129x1x128 .f32 := fun z =>
  ∑ h' : Fin 16, max (∑ d : Fin 128, Q (ix2 (z 0) ⟨h'.val * 128 + d.val, by omega⟩) *
      Scalar.select (Scalar.cmpi CmpIPredicate.eq (BitVec.ofNat 32 (z 1).val) 128#32) (N (ix2 (z 0) d))
        (K (ix4 0 ⟨(T (ix2 (z 0) ⟨min (z 1).val 127, by omega⟩)).toNat, h _⟩ (z 3) d))) 0
    * (W (ix2 (z 0) h') * Ideal.ofBits FTy.f32 0x3CB504F3#32)

/-- What a point stores is the payload at its blocks. -/
theorem out_eq (c : Dev nD) (i : grid0.Coords) (arg3 : Memref sig .tc .vmem S1x16x128 .bf16) (harg3 : arg3.IsWhole) (arg4 : Memref sig .tc .vmem S1x16x1 .f32) (harg4 : arg4.IsWhole)
    (arg5 : Memref sig .tc .vmem S1x1x128x128 .f32) (harg5 : arg5.IsWhole) (arg6 : Memref sig .tc .vmem S1x1x128 .f32) (harg6 : arg6.IsWhole)
    (arg7 : Memref sig .tc .vmem S1x1x1x128 .f32) (harg7 : arg7.IsWhole)
    (x0 : Vec Ideal S1x16x128 .bf16) (x1 : Vec Ideal S1x16x1 .f32) (x2 : Vec Ideal S1x1x128x128 .f32) (x3 : Vec Ideal S1x1x128 .f32) (xt0 : TbBuf0 (F := Ideal) c tbM0_0) :
    out0_A_4 c i arg3 harg3 arg4 harg4 arg5 harg5 arg6 harg6 arg7 harg7 x0 x1 x2 x3 xt0 = k0_pay1 i x2 x3 x0 x1 := by
  unfold out0_A_4
  frame_out

/-- What the region finds in the arrays the host lines before it write. -/
theorem V1 (c : Dev nD) : V m c main_v1 = shapeCast _ (m ((c : Thread nD τ).loc main_arg0)) Gen.facts.shapeCasts_S8x2048_S8x16x128 := by
  unfold V V0
  simp only [hostOps0, List.flatten_cons, List.flatten_nil, List.append_nil]
  after_results <;> rfl
theorem V2 (c : Dev nD) : V m c main_v2 = shapeCast _ (m ((c : Thread nD τ).loc main_arg1)) Gen.facts.shapeCasts_S8x16_S8x16x1 := by
  unfold V V0
  simp only [hostOps0, List.flatten_cons, List.flatten_nil, List.append_nil]
  after_results <;> rfl
theorem V3 (c : Dev nD) : V m c main_v3 = shapeCast _ (shapeCast S1280x128x128 (m ((c : Thread nD τ).loc main_arg3)) Gen.facts.shapeCasts_S1x1280x128x128_S1280x128x128) Gen.facts.shapeCasts_S1280x128x128_S1x1280x128x128 := by
  unfold V V0
  simp only [hostOps0, List.flatten_cons, List.flatten_nil, List.append_nil]
  after_results <;> rfl
theorem V4 (c : Dev nD) : V m c main_v4 = shapeCast _ (m ((c : Thread nD τ).loc main_arg2)) Gen.facts.shapeCasts_S8x128_S8x1x128 := by
  unfold V V0
  simp only [hostOps0, List.flatten_cons, List.flatten_nil, List.append_nil]
  after_results <;> rfl

/-- The staged query rows at an index. -/
theorem blk0 (c : Dev nD) (t : Fin (cfgM m hO).N) (h : Fin 16) (d : Fin 128) (q : Fin 8) (hq : q.val = t.val / 129) :
    (iblk m hO c 0 t : Vec Ideal S1x16x128 .bf16) (ix3 0 h d) = (m ((c : Thread nD τ).loc main_arg0) : FVec Ideal S8x2048 .bf16) (ix2 q ⟨h.val * 128 + d.val, by omega⟩) := by
  have e : ((((cfgM m hO).win 0).blk t).view.emb (ix3 0 h d) : S8x16x128.Idx) = ix3 q h d := by
    funext a
    refine Fin.ext ((Pipeline.Window.rect_emb_val ((cfgM m hO).win 0) t _ a).trans ?_)
    rw [(idx m hO t).1]
    match a with
    | ⟨0, _⟩ => exact (show t.val / 129 * 1 + 0 = q.val by omega)
    | ⟨1, _⟩ => exact (show 0 * 16 + h.val = h.val by omega)
    | ⟨2, _⟩ => exact (show 0 * 128 + d.val = d.val by omega)
  refine (congrArg (V m c main_v1 : FVec Ideal S8x16x128 .bf16) e).trans ?_
  rw [V1]; pointwise

/-- The staged head weights at an index. -/
theorem blk1 (c : Dev nD) (t : Fin (cfgM m hO).N) (h : Fin 16) (q : Fin 8) (hq : q.val = t.val / 129) :
    (iblk m hO c 1 t : Vec Ideal S1x16x1 .f32) (ix3 0 h 0) = (m ((c : Thread nD τ).loc main_arg1) : FVec Ideal S8x16 .f32) (ix2 q h) := by
  have e : ((((cfgM m hO).win 1).blk t).view.emb (ix3 0 h 0) : S8x16x1.Idx) = ix3 q h 0 := by
    funext a
    refine Fin.ext ((Pipeline.Window.rect_emb_val ((cfgM m hO).win 1) t _ a).trans ?_)
    rw [(idx m hO t).2.1]
    match a with
    | ⟨0, _⟩ => exact (show t.val / 129 * 1 + 0 = q.val by omega)
    | ⟨1, _⟩ => exact (show 0 * 16 + h.val = h.val by omega)
    | ⟨2, _⟩ => exact (show 0 * 1 + 0 = 0 by omega)
  refine (congrArg (V m c main_v2 : FVec Ideal S8x16x1 .f32) e).trans ?_
  rw [V2]; pointwise

/-- The staged page at an index. -/
theorem blk2 (c : Dev nD) (t : Fin (cfgM m hO).N) (l d : Fin 128) (n : Fin 1280)
    (hn : n.val = BitVec.toNat (w := 32) (tbl m 0 (ix2 (grid0.coords t 0) ⟨min (grid0.coords t 1).val 127, by omega⟩))) :
    (iblk m hO c 2 t : Vec Ideal S1x1x128x128 .f32) (ix4 0 0 l d) = (m ((c : Thread nD τ).loc main_arg3) : FVec Ideal S1x1280x128x128 .f32) (ix4 0 n l d) := by
  have i2 : ((cfgM m hO).win 2).index t = ![0, n.val, 0, 0] := by
    rw [hn]; exact transform2 _ _
  have e : ((((cfgM m hO).win 2).blk t).view.emb (ix4 0 0 l d) : S1x1280x128x128.Idx) = ix4 0 n l d := by
    funext a
    refine Fin.ext ((Pipeline.Window.rect_emb_val ((cfgM m hO).win 2) t _ a).trans ?_)
    rw [i2]
    match a with
    | ⟨0, _⟩ => exact (show 0 * 1 + 0 = 0 by omega)
    | ⟨1, _⟩ => exact (show n.val * 1 + 0 = n.val by omega)
    | ⟨2, _⟩ => exact (show 0 * 128 + l.val = l.val by omega)
    | ⟨3, _⟩ => exact (show 0 * 128 + d.val = d.val by omega)
  refine (congrArg (V m c main_v3 : FVec Ideal S1x1280x128x128 .f32) e).trans ?_
  rw [V3]; pointwise

/-- The staged new key at an index. -/
theorem blk3 (c : Dev nD) (t : Fin (cfgM m hO).N) (d : Fin 128) (q : Fin 8) (hq : q.val = t.val / 129) :
    (iblk m hO c 3 t : Vec Ideal S1x1x128 .f32) (ix3 0 0 d) = (m ((c : Thread nD τ).loc main_arg2) : FVec Ideal S8x128 .f32) (ix2 q d) := by
  have e : ((((cfgM m hO).win 3).blk t).view.emb (ix3 0 0 d) : S8x1x128.Idx) = ix3 q 0 d := by
    funext a
    refine Fin.ext ((Pipeline.Window.rect_emb_val ((cfgM m hO).win 3) t _ a).trans ?_)
    rw [(idx m hO t).2.2.1]
    match a with
    | ⟨0, _⟩ => exact (show t.val / 129 * 1 + 0 = q.val by omega)
    | ⟨1, _⟩ => exact (show 0 * 1 + 0 = 0 by omega)
    | ⟨2, _⟩ => exact (show 0 * 128 + d.val = d.val by omega)
  refine (congrArg (V m c main_v4 : FVec Ideal S8x1x128 .f32) e).trans ?_
  rw [V4]; pointwise

/-- Where the output's block sits. -/
theorem emb4 (t : Fin (cfgM m hO).N) (y : S1x1x1x128.Idx) (q : Fin 8) (p : Fin 129) (hq : q.val = t.val / 129) (hp : p.val = t.val % 129) :
    ((((cfgM m hO).win 4).blk t).view.emb y : S8x129x1x128.Idx) = ix4 q p 0 (y 3) := by
  funext a
  refine Fin.ext ((Pipeline.Window.rect_emb_val ((cfgM m hO).win 4) t y a).trans ?_)
  rw [(idx m hO t).2.2.2.1]
  have y0 : (y 0).val < 1 := (y 0).isLt
  have y1 : (y 1).val < 1 := (y 1).isLt
  have y2 : (y 2).val < 1 := (y 2).isLt
  match a with
  | ⟨0, _⟩ => exact (show t.val / 129 * 1 + (y 0).val = q.val by omega)
  | ⟨1, _⟩ => exact (show t.val % 129 * 1 + (y 1).val = p.val by omega)
  | ⟨2, _⟩ => exact (show 0 * 1 + (y 2).val = 0 by omega)
  | ⟨3, _⟩ => exact ((Nat.zero_mul 128).symm ▸ Nat.zero_add _ : 0 * 128 + (y 3).val = (y 3).val)

/-- What a point leaves in the output's buffer. -/
theorem out_at (t : Fin (cfgM m hO).N) (y : S1x1x1x128.Idx) (q : Fin 8) (p : Fin 129) (hq : q.val = t.val / 129) (hp' : p.val = t.val % 129)
    (hp : ∀ y, BitVec.toNat (w := 32) (m (((0 : Dev nD) : Thread nD τ).loc main_arg4) y) < 1280) :
    outsAt0 m hO 0 t y = G4 (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) hp (ix4 q p 0 (y 3)) := by
  obtain ⟨i0, i1, i3, i4, c0, c1, hlt⟩ := idx m hO t
  have ht : tbl m 0 = m (((0 : Dev nD) : Thread nD τ).loc main_arg4) := V_main_arg4 m 0
  refine (congrFun (out_eq 0 (grid0.coords t) _ _ _ _ _ _ _ _ _ _ (iblk m hO 0 0 t) (iblk m hO 0 1 t) (iblk m hO 0 2 t) (iblk m hO 0 3 t) (tbl m 0)) y).trans ((pay_at ..).trans ?_)
  unfold G4
  refine Finset.sum_congr rfl fun h _ => ?_
  refine congrArg₂ (· * ·) (congrArg (max · 0) (Finset.sum_congr rfl fun d _ => ?_)) ?_
  · refine congrArg₂ (· * ·) (blk0 m hO 0 t h d q hq) ?_
    refine congrArg₂ (Scalar.select _) (blk3 m hO 0 t d q hq) (blk2 m hO 0 t _ d
      ⟨BitVec.toNat (w := 32) (m (((0 : Dev nD) : Thread nD τ).loc main_arg4) (ix2 q ⟨min p.val 127, by omega⟩)), hp _⟩ ?_) |>.trans ?_
    · rw [ht]
      refine congrArg (fun z => BitVec.toNat (w := 32) (m (((0 : Dev nD) : Thread nD τ).loc main_arg4) z)) ?_
      exact (ix2_inj ..).2 ⟨Fin.ext (hq.trans c0.symm), Fin.ext (by show min _ _ = min _ _; rw [c1, hp'])⟩
    · rw [c1, ← hp']; rfl
  · exact congrArg (· * _) (blk1 m hO 0 t h q hq)

/-- The region's output array after the run. -/
theorem final (hp : ∀ y, BitVec.toNat (w := 32) (m (((0 : Dev nD) : Thread nD τ).loc main_arg4) y) < 1280) :
    (dats m hO 0 0).arrAt 4 (cfgM m hO).N = G4 (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) hp := by
  refine (dats m hO 0 0).arrAt_eq_of_emb 4 _ (fun t hf y => ?_) (fun i => ?_)
  · have hlt := (idx m hO t).2.2.2.2.2.2
    refine (cast_eq _ _).trans ((congrFun (after0_4 m hO 0 t) y).trans ?_)
    exact (out_at m hO t y ⟨t.val / 129, hlt⟩ ⟨t.val % 129, Nat.mod_lt _ (by omega)⟩ rfl rfl hp).trans
      (congrArg (G4 (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) hp) (emb4 m hO t y ⟨t.val / 129, hlt⟩ ⟨t.val % 129, Nat.mod_lt _ (by omega)⟩ rfl rfl).symm)
  · revert i
    refine fun (i : S8x129x1x128.Idx) => ?_
    idx_vars i
    refine ⟨⟨i0.val * 129 + i1.val, by show _ < 1032; omega⟩, flush0_4 _ _, ?_⟩
    have e := emb4 m hO ⟨i0.val * 129 + i1.val, by show _ < 1032; omega⟩ (ix4 0 0 0 i3) i0 i1 (by show _ = (_ * _ + _) / _; omega) (by show _ = (_ * _ + _) % _; omega)
    obtain rfl : i2 = 0 := Subsingleton.elim _ _
    exact e ▸ View.emb_mem_set _ _

/-- The lines after the region lay the scores of a row's pages side by side and keep the first 16385. -/
theorem result_eq (Q : FVec Ideal S8x2048 .bf16) (W : FVec Ideal S8x16 .f32) (N : FVec Ideal S8x128 .f32) (K : FVec Ideal S1x1280x128x128 .f32)
    (T : IVec S8x128 32) (h : ∀ y, (T y).toNat < 1280) :
    extractStridedSlice S8x16385 ![0, 0] (shapeCast S8x16512 (shapeCast S8x129x128 (G4 Q W N K T h) Gen.facts.shapeCasts_S8x129x1x128_S8x129x128)
      Gen.facts.shapeCasts_S8x129x128_S8x16512) Gen.facts.slices_S8x16512_S8x16385_0_0 = refY Q W N (refG K T) := by
  funext i
  idx_vars i
  refine Eq.trans ?_ (refY_at Q W N (refG K T) i0 i1).symm
  have e : extractStridedSlice S8x16385 ![0, 0] (shapeCast S8x16512 (shapeCast S8x129x128 (G4 Q W N K T h) Gen.facts.shapeCasts_S8x129x1x128_S8x129x128)
      Gen.facts.shapeCasts_S8x129x128_S8x16512) Gen.facts.slices_S8x16512_S8x16385_0_0 (ix2 i0 i1)
      = G4 Q W N K T h (ix4 i0 ⟨i1.val / 128, by omega⟩ 0 ⟨i1.val % 128, by omega⟩) := by
    generalize G4 Q W N K T h = G
    pointwise
  refine e.trans ?_
  unfold G4
  refine Finset.sum_congr rfl fun h' _ => ?_
  refine congrArg₂ (· * ·) (congrArg (max · 0) (Finset.sum_congr rfl fun d _ => ?_)) rfl
  refine congrArg₂ (· * ·) rfl ?_
  by_cases hj : i1.val < 16384
  · rw [dif_pos hj, refG_at K T h]
    have hc : Scalar.cmpi CmpIPredicate.eq (BitVec.ofNat 32 (i1.val / 128)) 128#32 = 0#1 := by
      generalize hk : i1.val / 128 = k
      have : k < 128 := by omega
      interval_cases k <;> rfl
    refine (congrArg (fun z => Scalar.select z _ _) hc).trans ?_
    have hm : min (i1.val / 128) 127 = i1.val / 128 := by omega
    have h8 : i1.val / 128 < 128 := by omega
    have hr : i1.val % 128 < 128 := by omega
    have key : ∀ (a : Fin 128), a.val = i1.val / 128 → ∀ b : Fin 1280, b.val = (T (ix2 i0 a)).toNat →
        K (ix4 0 b ⟨i1.val % 128, hr⟩ d) = K (ix4 0 ⟨(T (ix2 i0 ⟨i1.val / 128, h8⟩)).toNat, h _⟩ ⟨i1.val % 128, hr⟩ d) := by
      intro a ha b hb
      obtain rfl : a = ⟨i1.val / 128, h8⟩ := Fin.ext ha
      obtain rfl : b = ⟨(T (ix2 i0 ⟨i1.val / 128, h8⟩)).toNat, h _⟩ := Fin.ext hb
      rfl
    exact key ⟨min (i1.val / 128) 127, by omega⟩ hm _ rfl
  · rw [dif_neg hj]
    have hc : Scalar.cmpi CmpIPredicate.eq (BitVec.ofNat 32 (i1.val / 128)) 128#32 = 1#1 := by
      rw [show i1.val / 128 = 128 by omega]; rfl
    exact (congrArg (fun z => Scalar.select z _ _) hc).trans rfl

/-- The result array after the run. -/
theorem tail_eq (hp : ∀ y, BitVec.toNat (w := 32) (m (((0 : Dev nD) : Thread nD τ).loc main_arg4) y) < 1280) :
    Pipeline.afterTail pcfgs (fun _ => adm m hO) (dats m hO) 0 (V0 m) [hostOps1] 0 main_v8
      = refY (m (((0 : Dev nD) : Thread nD τ).loc main_arg0)) (m (((0 : Dev nD) : Thread nD τ).loc main_arg1)) (m (((0 : Dev nD) : Thread nD τ).loc main_arg2)) (refG (m (((0 : Dev nD) : Thread nD τ).loc main_arg3)) (m (((0 : Dev nD) : Thread nD τ).loc main_arg4))) := by
  refine Eq.trans ?_ (result_eq (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) hp)
  rw [← final m hO hp]
  have hw : Pipeline.withArrays (Pipeline.pin pcfgs (fun _ => adm m hO) 0).spec 0 (V0 m 0) (fun w => (dats m hO 0 0).arrAt w (Pipeline.pin pcfgs (fun _ => adm m hO) 0).N)
      (Proc.devRef .tc main_v5) = (dats m hO 0 0).arrAt 4 (cfgM m hO).N :=
    Pipeline.withArrays_arr spec0 (by decide) 0 (V0 m 0) (fun w => (dats m hO 0 0).arrAt w (cfgM m hO).N) 4
  rw [← hw]
  unfold Pipeline.afterTail
  generalize Pipeline.withArrays (Pipeline.pin pcfgs (fun _ => adm m hO) 0).spec 0 (V0 m 0) (fun w => (dats m hO 0 0).arrAt w (Pipeline.pin pcfgs (fun _ => adm m hO) 0).N) = U
  simp only [hostOps1, List.flatten_cons, List.flatten_nil, List.append_nil]
  after_results <;> rfl

include hO in
/-- The kernel's run: its result is the reference's term, its arguments end unchanged. -/
theorem run (ρ : Dev nD → PrngReg) (hp : ∀ y, BitVec.toNat (w := 32) (m (((0 : Dev nD) : Thread nD τ).loc main_arg4) y) < 1280) :
    θ_run defs (onTc (τ := τ) (main (F := Ideal))) ⟨m, fun _ => 0, ρ⟩ (fun r => ∀ c : Dev nD,
      r.2.mem ((c.tc : Thread nD τ).loc main_v8) = refY (m ((c.tc : Thread nD τ).loc main_arg0)) (m ((c.tc : Thread nD τ).loc main_arg1)) (m ((c.tc : Thread nD τ).loc main_arg2))
        (refG (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    obtain rfl : c = 0 := Subsingleton.elim _ _
    exact ⟨((h 0).2 main_v8 (by decide : main_v8 ∈ Pipeline.restRefs sig spec0)).trans (tail_eq m hO hp),
      ((h 0).2 main_arg0 (by decide : main_arg0 ∈ Pipeline.restRefs sig spec0)).trans (W_main_arg0 m hO (dats m hO) 0),
      ((h 0).2 main_arg1 (by decide : main_arg1 ∈ Pipeline.restRefs sig spec0)).trans (W_main_arg1 m hO (dats m hO) 0),
      ((h 0).2 main_arg2 (by decide : main_arg2 ∈ Pipeline.restRefs sig spec0)).trans (W_main_arg2 m hO (dats m hO) 0),
      ((h 0).2 main_arg3 (by decide : main_arg3 ∈ Pipeline.restRefs sig spec0)).trans (W_main_arg3 m hO (dats m hO) 0),
      ((h 0).2 main_arg4 (by decide : main_arg4 ∈ Pipeline.restRefs sig spec0)).trans (W_main_arg4 m hO (dats m hO) 0)⟩) (run_main m ρ hO)

end Cert.ScoresIdeal.Hand
end
end
-- ==== Proof.FfnValue.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.FfnIdeal.Hand

open Cert.FfnIdeal Cert.FfnIdeal.Gen Idealize.ShloMosaic Idealize.ShloMosaic.TcCoe Idealize.SL.Sem Idealize.ShloMosaic.StableHlo

/-! ## The reference's term in three parts -/

/-- The two hidden projections `h @ w_gu` side by side. -/
def refA (H : FVec Ideal Cert.FfnRefIdeal.S8192x2048 .bf16) (W : FVec Ideal Cert.FfnRefIdeal.S1x2048x11264 .f32) :
    FVec Ideal Cert.FfnRefIdeal.S8192x11264 .f32 :=
  Host.dotGeneral Cert.FfnRefIdeal.dot_S8192x2048_S2048x11264_S8192x11264_1_0_0_1_n_n none (extf .f32 H Cert.FfnRefIdeal.Gen.bitsLt_bf16_f32)
    (shapeCast _ W Cert.FfnRefIdeal.Gen.shapeCasts_S1x2048x11264_S2048x11264)

/-- `(silu(a) * c) @ w_down`. -/
def refD (P : FVec Ideal Cert.FfnRefIdeal.S8192x11264 .f32) (W : FVec Ideal Cert.FfnRefIdeal.S1x5632x2048 .f32) :
    FVec Ideal Cert.FfnRefIdeal.S8192x2048 .f32 :=
  Host.dotGeneral Cert.FfnRefIdeal.dot_S8192x5632_S5632x2048_S8192x2048_1_0_0_1_n_n none
    (mulf (mulf (extractStridedSlice Cert.FfnRefIdeal.S8192x5632 ![0, 0] P Cert.FfnRefIdeal.Gen.slices_S8192x11264_S8192x5632_0_0)
      (Host.divf (broadcastInDim Cert.FfnRefIdeal.S8192x5632 ![] Cert.FfnRefIdeal.Gen.bcast_S_S8192x5632 (constant Cert.FfnRefIdeal.S_ .f32 0x3F800000#32))
        (addf (broadcastInDim Cert.FfnRefIdeal.S8192x5632 ![] Cert.FfnRefIdeal.Gen.bcast_S_S8192x5632 (constant Cert.FfnRefIdeal.S_ .f32 0x3F800000#32))
          (Host.exp (Host.negf (extractStridedSlice Cert.FfnRefIdeal.S8192x5632 ![0, 0] P Cert.FfnRefIdeal.Gen.slices_S8192x11264_S8192x5632_0_0))))))
      (extractStridedSlice Cert.FfnRefIdeal.S8192x5632 ![0, 5632] P Cert.FfnRefIdeal.Gen.slices_S8192x11264_S8192x5632_0_5632))
    (shapeCast _ W Cert.FfnRefIdeal.Gen.shapeCasts_S1x5632x2048_S5632x2048)

/-- `x1 + rms_norm(d) * g`. -/
def refY (X : FVec Ideal Cert.FfnRefIdeal.S8192x2048 .f32) (D : FVec Ideal Cert.FfnRefIdeal.S8192x2048 .f32)
    (G : FVec Ideal Cert.FfnRefIdeal.S1x2048 .f32) : FVec Ideal Cert.FfnRefIdeal.S8192x2048 .f32 :=
  addf X (mulf (mulf D (broadcastInDim Cert.FfnRefIdeal.S8192x2048 ![0, 1] Cert.FfnRefIdeal.Gen.bcast_S8192x1_S8192x2048_0_1 (Host.rsqrt (addf (Host.divf
    (broadcastInDim Cert.FfnRefIdeal.S8192x1 ![0] Cert.FfnRefIdeal.Gen.bcast_S8192_S8192x1_0 (Host.reduceAdd (mulf D D) (constant Cert.FfnRefIdeal.S_ .f32 0x00000000#32)
      Cert.FfnRefIdeal.Gen.reducesTo_S8192x2048_S8192_d1 Cert.FfnRefIdeal.Gen.h_S_))
    (broadcastInDim Cert.FfnRefIdeal.S8192x1 ![] Cert.FfnRefIdeal.Gen.bcast_S_S8192x1 (constant Cert.FfnRefIdeal.S_ .f32 0x45000000#32)))
    (broadcastInDim Cert.FfnRefIdeal.S8192x1 ![] Cert.FfnRefIdeal.Gen.bcast_S_S8192x1 (constant Cert.FfnRefIdeal.S_ .f32 0x358637BD#32))))))
    (broadcastInDim Cert.FfnRefIdeal.S8192x2048 ![0, 1] Cert.FfnRefIdeal.Gen.bcast_S1x2048_S8192x2048_0_1
      (broadcastInDim Cert.FfnRefIdeal.S1x2048 ![1] Cert.FfnRefIdeal.Gen.bcast_S2048_S1x2048_1 (shapeCast _ G Cert.FfnRefIdeal.Gen.shapeCasts_S1x2048_S2048))))

/-- The reference's result is the three parts composed. -/
theorem res_eq (m : (ℓ : Loc Cert.FfnRefIdeal.nD Cert.FfnRefIdeal.τ Cert.FfnRefIdeal.sig) → Buf (Elt Ideal) ℓ) (c : Dev Cert.FfnRefIdeal.nD) :
    Cert.FfnRefIdeal.Value.res_main_v23 m c
      = refY (m ((c.tc : Thread Cert.FfnRefIdeal.nD Cert.FfnRefIdeal.τ).loc Cert.FfnRefIdeal.main_arg1))
          (refD (refA (m ((c.tc : Thread Cert.FfnRefIdeal.nD Cert.FfnRefIdeal.τ).loc Cert.FfnRefIdeal.main_arg0))
            (m ((c.tc : Thread Cert.FfnRefIdeal.nD Cert.FfnRefIdeal.τ).loc Cert.FfnRefIdeal.main_arg2)))
            (m ((c.tc : Thread Cert.FfnRefIdeal.nD Cert.FfnRefIdeal.τ).loc Cert.FfnRefIdeal.main_arg3)))
          (m ((c.tc : Thread Cert.FfnRefIdeal.nD Cert.FfnRefIdeal.τ).loc Cert.FfnRefIdeal.main_arg4)) := by
  unfold Cert.FfnRefIdeal.Value.res_main_v23 refY refD refA; rfl

/-- `silu a * c` at extended reals. -/
abbrev gate (a c : EReal) : EReal := a * Ideal.div 1 (1 + Ideal.exp (-a)) * c

theorem refD_at (H : FVec Ideal Cert.FfnRefIdeal.S8192x2048 .bf16) (W : FVec Ideal Cert.FfnRefIdeal.S1x2048x11264 .f32)
    (Wd : FVec Ideal Cert.FfnRefIdeal.S1x5632x2048 .f32) (j) : refD (refA H W) Wd j
      = ∑ k : Fin 5632, gate (∑ l : Fin 2048, H (ix2 (j 0) l) * W (ix3 0 l ⟨k.val, by omega⟩))
          (∑ l : Fin 2048, H (ix2 (j 0) l) * W (ix3 0 l ⟨5632 + k.val, by omega⟩)) * Wd (ix3 0 k (j 1)) := by
  pointwise [refD, refA]

/-! ## The kernel's payloads at an index -/

theorem hzero (j) : k0_pay1 (F := Ideal) j = 0 := by pointwise [k0_pay1]

theorem hpay (h : FVec Ideal S512x2048 .bf16) (wg wu : FVec Ideal S2048x512 .bf16) (acc : FVec Ideal S512x2048 .f32)
    (wd : FVec Ideal S512x2048 .bf16) (j) : k0_pay2 (F := Ideal) h wg wu acc wd j
      = acc j + ∑ k : Fin 512, gate (∑ l : Fin 2048, h (ix2 (j 0) l) * wg (ix2 l k)) (∑ l : Fin 2048, h (ix2 (j 0) l) * wu (ix2 l k))
          * wd (ix2 k (j 1)) := by
  pointwise [k0_pay2, Ideal.logistic]

theorem idx : ∀ t : Fin cfg0.N, win0_0.index t = ![t.val / 11, 0] ∧ win0_1.index t = ![0, t.val % 11] ∧ win0_2.index t = ![0, t.val % 11 + 11]
    ∧ win0_3.index t = ![t.val % 11, 0] ∧ win0_4.index t = ![t.val / 11, 0] ∧ win0_5.index t = ![0, 0] ∧ win0_6.index t = ![t.val / 11, 0]
    ∧ t.val / 11 < 16 :=
  (by decide +kernel : ∀ t : Fin grid0.N, _)

variable (m : (ℓ : Loc nD τ sig) → Buf (Elt Ideal) ℓ)

/-- What the last point of a row block writes is the normalised sum of the accumulator after that point. -/
theorem out_last (c : Dev nD) (t : Fin cfg0.N) (h : t.val % 11 = 10) :
    (outsAt0 m c t.val t.isLt).1 = k0_pay3 (iblk m c 4 t) (outsAt0 m c t.val t.isLt).2 (iblk m c 5 t) := by
  rw [outsAt0_C m c t (by omega) h]
  frame_out

/-- The accumulator after the last point of a row block: the reference's `(silu(a) * c) @ w_down` at the block's rows. -/
theorem acc_last (c : Dev nD) (t : Fin cfg0.N) (h : t.val % 11 = 10) (x : S512x2048.Idx) (i : Cert.FfnRefIdeal.S8192x2048.Idx)
    (hi0 : (i 0 : ℕ) = t.val / 11 * 512 + x 0) (hi1 : (i 1 : ℕ) = x 1) :
    (outsAt0 m c t.val t.isLt).2 x = refD (refA (m ((c : Thread nD τ).loc main_arg0)) (m ((c : Thread nD τ).loc main_arg2)))
      (m ((c : Thread nD τ).loc main_arg3)) i := by
  rw [Pipeline.eq_sum_fin_of_reset_step_apply_of_flush (fun n h => (outsAt0 m c n h).2) 11 (fun _ => 0) _
    (fun t h j => by rw [outsAt0_A m c t h (by omega)]; frame_out; rw [hpay, hzero])
    (fun t h j => by
      by_cases h1 : t.val % 11 = 10
      · rw [outsAt0_C m c t h h1]; frame_out; rw [read_unread_whole, hpay]
      · rw [outsAt0_B m c t h h1]; frame_out; rw [read_unread_whole, hpay])
    t h x, zero_add, refD_at]
  refine Fin.sum_mul_add_congr fun s k hl => ?_
  blk_point [iblk, V, idx ⟨_, Pipeline.run_point_lt_of_flush t h s⟩, hi0, hi1]

theorem final (c : Dev nD) : (dats m 0 c).arrAt 6 cfg0.N = refY (m ((c : Thread nD τ).loc main_arg1))
    (refD (refA (m ((c : Thread nD τ).loc main_arg0)) (m ((c : Thread nD τ).loc main_arg2))) (m ((c : Thread nD τ).loc main_arg3)))
    (m ((c : Thread nD τ).loc main_arg4)) := by
  refine (dats m 0 c).arrAt_eq_of_covers 6 _ (by decide +kernel) fun t hf y => ?_
  blk_simp
  rw [after0_6, out_last m c t ((flush0_6 t).mp hf)]
  have hacc := acc_last m c t ((flush0_6 t).mp hf)
  generalize (outsAt0 m c t.val t.isLt).2 = acc at hacc ⊢
  generalize refD (refA (m ((c : Thread nD τ).loc main_arg0)) (m ((c : Thread nD τ).loc main_arg2))) (m ((c : Thread nD τ).loc main_arg3)) = D at hacc ⊢
  have hacc' : acc = fun x => D (ix2 ⟨t.val / 11 * 512 + (x 0).val, by have := idx t; idx_bounds; omega⟩ ⟨(x 1).val, by idx_bounds; omega⟩) :=
    funext fun x => hacc x _ rfl rfl
  subst hacc'
  pointwise [k0_pay3, refY]
  blk_point [iblk, V, idx t]

end Cert.FfnIdeal.Hand
end
end
-- ==== Proof.MergeValue.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeIdeal.Hand

open Cert.MergeIdeal Cert.MergeIdeal.Gen Idealize.ShloMosaic Idealize.ShloMosaic.TcCoe Idealize.SL.Sem Idealize.ShloMosaic.StableHlo

/-! ## The reference's terms in parts -/

/-- The three branches, each projected to the model's width and gated. -/
def refS (Gt : FVec Ideal Cert.MergeRefIdeal.S8192x6144 .bf16) (Ya Yb : FVec Ideal Cert.MergeRefIdeal.S8192x1024 .bf16) (Ym : FVec Ideal Cert.MergeRefIdeal.S8192x512 .bf16)
    (Wa Wb : FVec Ideal Cert.MergeRefIdeal.S1x1024x2048 .f32) (Wm : FVec Ideal Cert.MergeRefIdeal.S1x512x2048 .f32) : FVec Ideal Cert.MergeRefIdeal.S8192x2048 .f32 :=
  addf (addf (mulf (shapeCast _ (extractStridedSlice Cert.MergeRefIdeal.S8192x1x2048 ![0, 0, 0] (shapeCast _ (extf .f32 Gt Cert.MergeRefIdeal.Gen.bitsLt_bf16_f32) Cert.MergeRefIdeal.Gen.shapeCasts_S8192x6144_S8192x3x2048) Cert.MergeRefIdeal.Gen.slices_S8192x3x2048_S8192x1x2048_0_0_0) Cert.MergeRefIdeal.Gen.shapeCasts_S8192x1x2048_S8192x2048)
      (Host.dotGeneral Cert.MergeRefIdeal.dot_S8192x1024_S1024x2048_S8192x2048_1_0_0_1_n_n none (extf .f32 Ya Cert.MergeRefIdeal.Gen.bitsLt_bf16_f32) (shapeCast _ Wa Cert.MergeRefIdeal.Gen.shapeCasts_S1x1024x2048_S1024x2048)))
    (mulf (shapeCast _ (extractStridedSlice Cert.MergeRefIdeal.S8192x1x2048 ![0, 1, 0] (shapeCast _ (extf .f32 Gt Cert.MergeRefIdeal.Gen.bitsLt_bf16_f32) Cert.MergeRefIdeal.Gen.shapeCasts_S8192x6144_S8192x3x2048) Cert.MergeRefIdeal.Gen.slices_S8192x3x2048_S8192x1x2048_0_1_0) Cert.MergeRefIdeal.Gen.shapeCasts_S8192x1x2048_S8192x2048)
      (Host.dotGeneral Cert.MergeRefIdeal.dot_S8192x1024_S1024x2048_S8192x2048_1_0_0_1_n_n none (extf .f32 Yb Cert.MergeRefIdeal.Gen.bitsLt_bf16_f32) (shapeCast _ Wb Cert.MergeRefIdeal.Gen.shapeCasts_S1x1024x2048_S1024x2048))))
    (mulf (shapeCast _ (extractStridedSlice Cert.MergeRefIdeal.S8192x1x2048 ![0, 2, 0] (shapeCast _ (extf .f32 Gt Cert.MergeRefIdeal.Gen.bitsLt_bf16_f32) Cert.MergeRefIdeal.Gen.shapeCasts_S8192x6144_S8192x3x2048) Cert.MergeRefIdeal.Gen.slices_S8192x3x2048_S8192x1x2048_0_2_0) Cert.MergeRefIdeal.Gen.shapeCasts_S8192x1x2048_S8192x2048)
      (Host.dotGeneral Cert.MergeRefIdeal.dot_S8192x512_S512x2048_S8192x2048_1_0_0_1_n_n none (extf .f32 Ym Cert.MergeRefIdeal.Gen.bitsLt_bf16_f32) (shapeCast _ Wm Cert.MergeRefIdeal.Gen.shapeCasts_S1x512x2048_S512x2048)))

/-- The output projection `merged @ w_out`. -/
def refM (S : FVec Ideal Cert.MergeRefIdeal.S8192x2048 .f32) (W : FVec Ideal Cert.MergeRefIdeal.S1x2048x2048 .f32) : FVec Ideal Cert.MergeRefIdeal.S8192x2048 .f32 :=
  Host.dotGeneral Cert.MergeRefIdeal.dot_S8192x2048_S2048x2048_S8192x2048_1_0_0_1_n_n none S (shapeCast _ W Cert.MergeRefIdeal.Gen.shapeCasts_S1x2048x2048_S2048x2048)

/-- `x + rms_norm(d) * g`. -/
def refX (X D : FVec Ideal Cert.MergeRefIdeal.S8192x2048 .f32) (g : FVec Ideal Cert.MergeRefIdeal.S1x2048 .f32) : FVec Ideal Cert.MergeRefIdeal.S8192x2048 .f32 :=
  addf X (mulf (mulf D (broadcastInDim Cert.MergeRefIdeal.S8192x2048 ![0, 1] Cert.MergeRefIdeal.Gen.bcast_S8192x1_S8192x2048_0_1 (Host.rsqrt (addf (Host.divf
    (broadcastInDim Cert.MergeRefIdeal.S8192x1 ![0] Cert.MergeRefIdeal.Gen.bcast_S8192_S8192x1_0 (Host.reduceAdd (mulf D D) (constant Cert.MergeRefIdeal.S_ .f32 0x00000000#32)
      Cert.MergeRefIdeal.Gen.reducesTo_S8192x2048_S8192_d1 Cert.MergeRefIdeal.Gen.h_S_))
    (broadcastInDim Cert.MergeRefIdeal.S8192x1 ![] Cert.MergeRefIdeal.Gen.bcast_S_S8192x1 (constant Cert.MergeRefIdeal.S_ .f32 0x45000000#32)))
    (broadcastInDim Cert.MergeRefIdeal.S8192x1 ![] Cert.MergeRefIdeal.Gen.bcast_S_S8192x1 (constant Cert.MergeRefIdeal.S_ .f32 0x358637BD#32))))))
    (broadcastInDim Cert.MergeRefIdeal.S8192x2048 ![0, 1] Cert.MergeRefIdeal.Gen.bcast_S1x2048_S8192x2048_0_1
      (broadcastInDim Cert.MergeRefIdeal.S1x2048 ![1] Cert.MergeRefIdeal.Gen.bcast_S2048_S1x2048_1 (shapeCast _ g Cert.MergeRefIdeal.Gen.shapeCasts_S1x2048_S2048))))

/-- `rms_norm(x) * g`, rounded. -/
def refH (D : FVec Ideal Cert.MergeRefIdeal.S8192x2048 .f32) (g : FVec Ideal Cert.MergeRefIdeal.S1x2048 .f32) : FVec Ideal Cert.MergeRefIdeal.S8192x2048 .bf16 :=
  truncf .bf16 (mulf (mulf D (broadcastInDim Cert.MergeRefIdeal.S8192x2048 ![0, 1] Cert.MergeRefIdeal.Gen.bcast_S8192x1_S8192x2048_0_1 (Host.rsqrt (addf (Host.divf
    (broadcastInDim Cert.MergeRefIdeal.S8192x1 ![0] Cert.MergeRefIdeal.Gen.bcast_S8192_S8192x1_0 (Host.reduceAdd (mulf D D) (constant Cert.MergeRefIdeal.S_ .f32 0x00000000#32)
      Cert.MergeRefIdeal.Gen.reducesTo_S8192x2048_S8192_d1 Cert.MergeRefIdeal.Gen.h_S_))
    (broadcastInDim Cert.MergeRefIdeal.S8192x1 ![] Cert.MergeRefIdeal.Gen.bcast_S_S8192x1 (constant Cert.MergeRefIdeal.S_ .f32 0x45000000#32)))
    (broadcastInDim Cert.MergeRefIdeal.S8192x1 ![] Cert.MergeRefIdeal.Gen.bcast_S_S8192x1 (constant Cert.MergeRefIdeal.S_ .f32 0x358637BD#32))))))
    (broadcastInDim Cert.MergeRefIdeal.S8192x2048 ![0, 1] Cert.MergeRefIdeal.Gen.bcast_S1x2048_S8192x2048_0_1
      (broadcastInDim Cert.MergeRefIdeal.S1x2048 ![1] Cert.MergeRefIdeal.Gen.bcast_S2048_S1x2048_1 (shapeCast _ g Cert.MergeRefIdeal.Gen.shapeCasts_S1x2048_S2048)))) Cert.MergeRefIdeal.Gen.bitsLt_bf16_f32

/-- The reference's first result is these parts composed. -/
theorem res_eq0 (m : (ℓ : Loc Cert.MergeRefIdeal.nD Cert.MergeRefIdeal.τ Cert.MergeRefIdeal.sig) → Buf (Elt Ideal) ℓ) (c : Dev Cert.MergeRefIdeal.nD) :
    Cert.MergeRefIdeal.Value.res_main_v38 m c
      = (refX (m ((c.tc : Thread Cert.MergeRefIdeal.nD Cert.MergeRefIdeal.τ).loc Cert.MergeRefIdeal.main_arg0)) (refM (refS (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) (m ((c.tc : Thread Cert.MergeRefIdeal.nD Cert.MergeRefIdeal.τ).loc Cert.MergeRefIdeal.main_arg8))) (m ((c.tc : Thread Cert.MergeRefIdeal.nD Cert.MergeRefIdeal.τ).loc Cert.MergeRefIdeal.main_arg9))) := by
  unfold Cert.MergeRefIdeal.Value.res_main_v38 refX refM refS; rfl

/-- Likewise its second result. -/
theorem res_eq1 (m : (ℓ : Loc Cert.MergeRefIdeal.nD Cert.MergeRefIdeal.τ Cert.MergeRefIdeal.sig) → Buf (Elt Ideal) ℓ) (c : Dev Cert.MergeRefIdeal.nD) :
    Cert.MergeRefIdeal.Value.res_main_v53 m c
      = refH (refX (m ((c.tc : Thread Cert.MergeRefIdeal.nD Cert.MergeRefIdeal.τ).loc Cert.MergeRefIdeal.main_arg0)) (refM (refS (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) (m ((c.tc : Thread Cert.MergeRefIdeal.nD Cert.MergeRefIdeal.τ).loc Cert.MergeRefIdeal.main_arg8))) (m ((c.tc : Thread Cert.MergeRefIdeal.nD Cert.MergeRefIdeal.τ).loc Cert.MergeRefIdeal.main_arg9))) (m ((c.tc : Thread Cert.MergeRefIdeal.nD Cert.MergeRefIdeal.τ).loc Cert.MergeRefIdeal.main_arg10)) := by
  unfold Cert.MergeRefIdeal.Value.res_main_v53 refH refX refM refS; rfl

/-! ## The kernel's block against the reference's rows -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ t.val < 32 :=
  (by decide +kernel : ∀ t : Fin grid0.N, _)

variable (m : (ℓ : Loc nD τ sig) → Buf (Elt Ideal) ℓ)

/-- Row `y` of the block of rows `t`. -/
abbrev row (t : Fin cfg0.N) (x : S256x2048.Idx) : Cert.MergeRefIdeal.S8192x2048.Idx :=
  ix2 ⟨t.val * 256 + (x 0).val, by have := idx t; idx_bounds; omega⟩ ⟨(x 1).val, by idx_bounds; omega⟩

/-- The merged branches after the output projection, at a block of rows. -/
theorem proj_at (c : Dev nD) (t : Fin cfg0.N) (x : S256x2048.Idx) :
    k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t) x
      = refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (row t x) := by
  pointwise [k0_pay6, k0_pay3, refM, refS]
  blk_point [iblk, V, row, idx t]

/-- The residual stream after the mixing sub-layer, at a block of rows. -/
theorem x1_at (c : Dev nD) (t : Fin cfg0.N) (x : S256x2048.Idx) :
    k0_pay1 (k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) (iblk m c 0 t)
        (k0_pay7 (iblk m c 0 t) (iblk m c 1 t) (iblk m c 2 t) (iblk m c 3 t) (iblk m c 4 t) (iblk m c 5 t) (iblk m c 6 t) (iblk m c 7 t)
        (iblk m c 8 t) (iblk m c 9 t) (iblk m c 10 t))
        (k0_pay8 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) x
      = (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) (row t x) := by
  rw [show k0_pay8 (iblk m c 0 t) (iblk m c 1 t) (iblk m c 2 t) (iblk m c 3 t) (iblk m c 4 t) (iblk m c 5 t) (iblk m c 6 t) (iblk m c 7 t)
        (iblk m c 8 t) (iblk m c 9 t) (iblk m c 10 t) = mulf (k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) (k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) from rfl, funext (proj_at m c t)]
  generalize refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) = D
  pointwise [k0_pay1, k0_pay7, k0_pay4, refX]
  blk_point [iblk, V, row, idx t]

/-- The kernel's first result. -/
theorem final0 (c : Dev nD) : (dats m 0 c).arrAt 11 cfg0.N = (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) := by
  refine (dats m 0 c).arrAt_eq_of_covers 11 _ (by decide +kernel) fun t hf y => ?_
  blk_simp
  rw [after0_11]; unfold out0_11; frame_out
  rw [x1_at]
  generalize (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) = D
  blk_point [row, idx t]

/-- The kernel's second result. -/
theorem final1 (c : Dev nD) : (dats m 0 c).arrAt 12 cfg0.N = refH (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) (m ((c : Thread nD τ).loc main_arg10)) := by
  refine (dats m 0 c).arrAt_eq_of_covers 12 _ (by decide +kernel) fun t hf y => ?_
  blk_simp
  rw [after0_12]; unfold out0_12; frame_out
  unfold k0_pay2
  rw [funext (x1_at m c t)]
  generalize (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) = D
  pointwise [refH]
  blk_point [iblk, V, row, idx t]

end Cert.MergeIdeal.Hand
end
end
-- ==== Proof.ProjValue.lean ====
module

public import proofs.«01_k».proof.Proof.Gen.ProjIdeal.Frame
public import proofs.«01_k».proof.Proof.Gen.ProjRefIdeal.Run
public import Idealize.ShloMosaic.Lib.Pipeline.ValueKit
public import Idealize.ShloMosaic.Lib.Pointwise

@[expose] public section

set_option maxRecDepth 16384

noncomputable section

namespace Cert.ProjRefIdeal.Hand

open Cert.ProjRefIdeal Cert.ProjRefIdeal.Gen Idealize.ShloMosaic Idealize.ShloMosaic.TcCoe Idealize.SL.Sem Idealize.ShloMosaic.StableHlo

/-! ## The reference's terms in parts -/

/-- The normed rows. -/
def refH (X : FVec Ideal S8192x2048 .f32) (G : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The input projection of the rows `H`: all 13968 columns of the product. -/
def refP (H : FVec Ideal S8192x2048 .f32) (W : FVec Ideal S2048x13968 .f32) : FVec Ideal S8192x13968 .f32 :=
  Host.dotGeneral dot_S8192x2048_S2048x13968_S8192x13968_1_0_0_1_n_n none H W

/-- The gelu of the columns `D`. -/
def refGelu (D : FVec Ideal S8192x1024 .f32) : FVec Ideal S8192x1024 .f32 :=
  mulf D (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf D (mulf (broadcastInDim S8192x1024 ![] bcast_S_S8192x1024 (constant S_ .f32 0x3D372713#32)) (mulf (mulf D D) D)))))))

/-- The rows `E` less their means. -/
def refC (E : FVec Ideal S8192x1024 .f32) : FVec Ideal S8192x1024 .f32 :=
  subf E (broadcastInDim S8192x1024 ![0, 1] bcast_S8192x1_S8192x1024_0_1 (Host.divf (broadcastInDim S8192x1 ![0] bcast_S8192_S8192x1_0 (Host.reduceAdd E (constant S_ .f32 0x00000000#32) reducesTo_S8192x1024_S8192_d1 h_S_)) (broadcastInDim S8192x1 ![] bcast_S_S8192x1 (constant S_ .f32 0x44800000#32))))

/-- The centred rows `C` by their deviations, scaled and shifted. -/
def refN (C : FVec Ideal S8192x1024 .f32) (g b : FVec Ideal S1024 .f32) : FVec Ideal S8192x1024 .f32 :=
  addf (mulf (mulf C (broadcastInDim S8192x1024 ![0, 1] bcast_S8192x1_S8192x1024_0_1 (Host.rsqrt (addf (Host.divf (broadcastInDim S8192x1 ![0] bcast_S8192_S8192x1_0 (Host.reduceAdd (mulf C C) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))

/-- The first 1024 columns. -/
def refD0 (H : FVec Ideal S8192x2048 .f32) (W : FVec Ideal S2048x13968 .f32) : FVec Ideal S8192x1024 .f32 :=
  extractStridedSlice S8192x1024 ![0, 0] (refP H W) slices_S8192x13968_S8192x1024_0_0

/-- The second 1024 columns. -/
def refD1 (H : FVec Ideal S8192x2048 .f32) (W : FVec Ideal S2048x13968 .f32) : FVec Ideal S8192x1024 .f32 :=
  extractStridedSlice S8192x1024 ![0, 1024] (refP H W) slices_S8192x13968_S8192x1024_0_1024

/-- The two halves of the gated unit's input, beside each other. -/
def refUV (H : FVec Ideal S8192x2048 .f32) (W : FVec Ideal S2048x13968 .f32) (g b : FVec Ideal S1024 .f32) : FVec Ideal S8192x2048 .bf16 :=
  truncf .bf16 (concatenate S8192x2048 1 [⟨S8192x1024, (refGelu (refD0 H W))⟩, ⟨S8192x1024, (refN (refC (refGelu (refD1 H W))) g b)⟩] concatenates_S8192x1024_S8192x1024_S8192x2048_d1) bitsLt_bf16_f32

/-- The queries. -/
def refQ (H : FVec Ideal S8192x2048 .f32) (W : FVec Ideal S2048x13968 .f32) : FVec Ideal S8192x1024 .bf16 :=
  truncf .bf16 (extractStridedSlice S8192x1024 ![0, 2048] (refP H W) slices_S8192x13968_S8192x1024_0_2048) bitsLt_bf16_f32

/-- The keys. -/
def refK (H : FVec Ideal S8192x2048 .f32) (W : FVec Ideal S2048x13968 .f32) : FVec Ideal S8192x1024 .f32 :=
  extractStridedSlice S8192x1024 ![0, 3072] (refP H W) slices_S8192x13968_S8192x1024_0_3072

/-- The keys, rounded. -/
def refKb (H : FVec Ideal S8192x2048 .f32) (W : FVec Ideal S2048x13968 .f32) : FVec Ideal S8192x1024 .bf16 :=
  truncf .bf16 (extractStridedSlice S8192x1024 ![0, 3072] (refP H W) slices_S8192x13968_S8192x1024_0_3072) bitsLt_bf16_f32

/-- The values. -/
def refV (H : FVec Ideal S8192x2048 .f32) (W : FVec Ideal S2048x13968 .f32) : FVec Ideal S8192x1024 .f32 :=
  extractStridedSlice S8192x1024 ![0, 4096] (refP H W) slices_S8192x13968_S8192x1024_0_4096

/-- The values, rounded. -/
def refVb (H : FVec Ideal S8192x2048 .f32) (W : FVec Ideal S2048x13968 .f32) : FVec Ideal S8192x1024 .bf16 :=
  truncf .bf16 (extractStridedSlice S8192x1024 ![0, 4096] (refP H W) slices_S8192x13968_S8192x1024_0_4096) bitsLt_bf16_f32

/-- The indexer's queries. -/
def refQi (H : FVec Ideal S8192x2048 .f32) (W : FVec Ideal S2048x13968 .f32) : FVec Ideal S8192x2048 .bf16 :=
  truncf .bf16 (extractStridedSlice S8192x2048 ![0, 5120] (refP H W) slices_S8192x13968_S8192x2048_0_5120) bitsLt_bf16_f32

/-- The memory queries. -/
def refQm (H : FVec Ideal S8192x2048 .f32) (W : FVec Ideal S2048x13968 .f32) : FVec Ideal S8192x512 .bf16 :=
  truncf .bf16 (extractStridedSlice S8192x512 ![0, 7312] (refP H W) slices_S8192x13968_S8192x512_0_7312) bitsLt_bf16_f32

/-- The gates: the logistic function of their columns. -/
def refGates (H : FVec Ideal S8192x2048 .f32) (W : FVec Ideal S2048x13968 .f32) : FVec Ideal S8192x6144 .bf16 :=
  truncf .bf16 (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 7824] (refP H W) slices_S8192x13968_S8192x6144_0_7824))))) bitsLt_bf16_f32

/-- The indexer's keys. -/
def refKidx (H : FVec Ideal S8192x2048 .f32) (W : FVec Ideal S2048x13968 .f32) : FVec Ideal S8192x128 .f32 :=
  extractStridedSlice S8192x128 ![0, 7168] (refP H W) slices_S8192x13968_S8192x128_0_7168

/-- The indexer's head weights. -/
def refWi (H : FVec Ideal S8192x2048 .f32) (W : FVec Ideal S2048x13968 .f32) : FVec Ideal S8192x16 .f32 :=
  extractStridedSlice S8192x16 ![0, 7296] (refP H W) slices_S8192x13968_S8192x16_0_7296

/-- The reference run to its end: each result is its named term of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = refUV (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) (shapeCast _ (m ((c.tc : Thread nD τ).loc main_arg3)) shapeCasts_S1x1024_S1024) (shapeCast _ (m ((c.tc : Thread nD τ).loc main_arg4)) shapeCasts_S1x1024_S1024) ∧
      r.2.mem ((c.tc : Thread nD τ).loc main_v84) = refQ (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v20) = refK (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v85) = refKb (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v21) = refV (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v86) = refVb (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v87) = refQi (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v23) = refKidx (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v24) = refWi (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v88) = refQm (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v89) = refGates (refH (shapeCast _ (m ((c.tc : Thread nD τ).loc main_arg0)) shapeCasts_S2x4096x2048_S8192x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  (θ_run defs _ _).mono (fun r h => h) (Cert.ProjRefIdeal.Value.run (F := Ideal) m ρ)

end Cert.ProjRefIdeal.Hand

namespace Cert.ProjIdeal.Hand

open Cert.ProjIdeal Cert.ProjIdeal.Gen Cert.ProjRefIdeal.Hand Idealize.ShloMosaic Idealize.ShloMosaic.TcCoe Idealize.SL.Sem Idealize.ShloMosaic.StableHlo

/-! ## The blocks of the grids' points -/

theorem idx0 : ∀ t : Fin cfg0.N, win0_0.index t = ![t.val, 0] ∧ win0_1.index t = ![0, 0] ∧ win0_2.index t = ![t.val, 0] ∧ t.val < 16 :=
  (by decide +kernel : ∀ t : Fin grid0.N, _)

/-- Row `x` of the block of rows `t`. -/
abbrev row0 (t : Fin cfg0.N) (x : S512x2048.Idx) : Cert.ProjRefIdeal.S8192x2048.Idx :=
  ix2 ⟨t.val * 512 + (x 0).val, by have := idx0 t; idx_bounds; omega⟩ ⟨(x 1).val, by idx_bounds; omega⟩

theorem idx1 : ∀ t : Fin cfg1.N, win1_0.index t = ![t.val / 2, 0] ∧ win1_1.index t = ![0, t.val % 2] ∧ win1_2.index t = ![0, 0] ∧ win1_3.index t = ![0, 0] ∧ win1_4.index t = ![t.val / 2, t.val % 2] ∧ t.val < 32 :=
  (by decide +kernel : ∀ t : Fin grid1.N, _)

/-- Row `x` of the block of rows of point `t`. -/
abbrev row1 (t : Fin cfg1.N) (x : S512x1024.Idx) : Cert.ProjRefIdeal.S8192x1024.Idx :=
  ix2 ⟨t.val / 2 * 512 + (x 0).val, by have := idx1 t; idx_bounds; omega⟩ ⟨(x 1).val, by idx_bounds; omega⟩

theorem idx2 : ∀ t : Fin cfg2.N, win2_0.index t = ![t.val / 2, 0] ∧ win2_1.index t = ![0, t.val % 2] ∧ win2_2.index t = ![t.val / 2, t.val % 2] ∧ t.val < 16 :=
  (by decide +kernel : ∀ t : Fin grid2.N, _)

/-- Place `x` of the block of point `t`. -/
abbrev row2 (t : Fin cfg2.N) (x : S1024x512.Idx) : Cert.ProjRefIdeal.S8192x1024.Idx :=
  ix2 ⟨t.val / 2 * 1024 + (x 0).val, by have := idx2 t; idx_bounds; omega⟩ ⟨(t.val % 2 * 512 + (x 1).val), by idx_bounds; omega⟩

theorem idx3 : ∀ t : Fin cfg3.N, win3_0.index t = ![t.val / 2, 0] ∧ win3_1.index t = ![0, t.val % 2] ∧ win3_2.index t = ![t.val / 2, t.val % 2] ∧ win3_3.index t = ![t.val / 2, t.val % 2] ∧ t.val < 16 :=
  (by decide +kernel : ∀ t : Fin grid3.N, _)

/-- Place `x` of the block of point `t`. -/
abbrev row3 (t : Fin cfg3.N) (x : S1024x512.Idx) : Cert.ProjRefIdeal.S8192x1024.Idx :=
  ix2 ⟨t.val / 2 * 1024 + (x 0).val, by have := idx3 t; idx_bounds; omega⟩ ⟨(t.val % 2 * 512 + (x 1).val), by idx_bounds; omega⟩

theorem idx4 : ∀ t : Fin cfg4.N, win4_0.index t = ![t.val / 2, 0] ∧ win4_1.index t = ![0, t.val % 2] ∧ win4_2.index t = ![t.val / 2, t.val % 2] ∧ win4_3.index t = ![t.val / 2, t.val % 2] ∧ t.val < 16 :=
  (by decide +kernel : ∀ t : Fin grid4.N, _)

/-- Place `x` of the block of point `t`. -/
abbrev row4 (t : Fin cfg4.N) (x : S1024x512.Idx) : Cert.ProjRefIdeal.S8192x1024.Idx :=
  ix2 ⟨t.val / 2 * 1024 + (x 0).val, by have := idx4 t; idx_bounds; omega⟩ ⟨(t.val % 2 * 512 + (x 1).val), by idx_bounds; omega⟩

theorem idx5 : ∀ t : Fin cfg5.N, win5_0.index t = ![t.val / 4, 0] ∧ win5_1.index t = ![0, t.val % 4] ∧ win5_2.index t = ![t.val / 4, t.val % 4] ∧ t.val < 32 :=
  (by decide +kernel : ∀ t : Fin grid5.N, _)

/-- Place `x` of the block of point `t`. -/
abbrev row5 (t : Fin cfg5.N) (x : S1024x512.Idx) : Cert.ProjRefIdeal.S8192x2048.Idx :=
  ix2 ⟨t.val / 4 * 1024 + (x 0).val, by have := idx5 t; idx_bounds; omega⟩ ⟨(t.val % 4 * 512 + (x 1).val), by idx_bounds; omega⟩

theorem idx7 : ∀ t : Fin cfg7.N, win7_0.index t = ![t.val, 0] ∧ win7_1.index t = ![0, 0] ∧ win7_2.index t = ![t.val, 0] ∧ t.val < 8 :=
  (by decide +kernel : ∀ t : Fin grid7.N, _)

/-- Place `x` of the block of point `t`. -/
abbrev row7 (t : Fin cfg7.N) (x : S1024x512.Idx) : Cert.ProjRefIdeal.S8192x512.Idx :=
  ix2 ⟨t.val * 1024 + (x 0).val, by have := idx7 t; idx_bounds; omega⟩ ⟨(0 * 512 + (x 1).val), by idx_bounds; omega⟩

theorem idx8 : ∀ t : Fin cfg8.N, win8_0.index t = ![t.val / 12, 0] ∧ win8_1.index t = ![0, t.val % 12] ∧ win8_2.index t = ![t.val / 12, t.val % 12] ∧ t.val < 96 :=
  (by decide +kernel : ∀ t : Fin grid8.N, _)

/-- Place `x` of the block of point `t`. -/
abbrev row8 (t : Fin cfg8.N) (x : S1024x512.Idx) : Cert.ProjRefIdeal.S8192x6144.Idx :=
  ix2 ⟨t.val / 12 * 1024 + (x 0).val, by have := idx8 t; idx_bounds; omega⟩ ⟨(t.val % 12 * 512 + (x 1).val), by idx_bounds; omega⟩

theorem idx6 : ∀ t : Fin cfg6.N, win6_0.index t = ![t.val, 0] ∧ win6_1.index t = ![0, 0] ∧ win6_2.index t = ![t.val, 0] ∧ t.val < 8 :=
  (by decide +kernel : ∀ t : Fin grid6.N, _)

abbrev row6 (t : Fin cfg6.N) (x : S1024x256.Idx) : S8192x256.Idx :=
  ix2 ⟨t.val * 1024 + (x 0).val, by have := idx6 t; idx_bounds; omega⟩ ⟨(x 1).val, by idx_bounds; omega⟩

section Regions

variable (V : (c : Dev nD) → (b : Ref sig .tc) → Buf (Elt Ideal) ((c : Thread nD τ).loc b)) (c : Dev nD)

/-! ## The normed rows -/

/-- The normed rows, a block at a time. -/
theorem at0 (X : FVec Ideal Cert.ProjRefIdeal.S8192x2048 .f32) (G : FVec Ideal Cert.ProjRefIdeal.S2048 .f32) (hX : V c main_v18 = X)
    (hG : ∀ b : Fin 2048, (V c main_v22 : FVec Ideal S1x2048 .f32) (ix2 0 b) = G (ix1 b)) (t : Fin cfg0.N) (x : S512x2048.Idx) :
    k0_pay1 (F := Ideal) (iblk0 V c 0 t) (iblk0 V c 1 t) x = refH X G (row0 t x) := by
  have h0 : ∀ y, iblk0 V c 0 t y = X (row0 t y) := fun y => by
    subst hX; blk_point [iblk0, row0, idx0 t]
  have h1 : ∀ y, iblk0 V c 1 t y = G (ix1 ⟨(y 1).val, by idx_bounds; omega⟩) := fun y => by
    refine Eq.trans ?_ (hG ⟨(y 1).val, by idx_bounds; omega⟩)
    blk_point [iblk0, idx0 t]
  rw [show iblk0 V c 0 t = _ from funext h0, show iblk0 V c 1 t = _ from funext h1]
  pointwise [k0_pay1, refH, row0]

/-- The normed rows. -/
theorem final0 (X : FVec Ideal Cert.ProjRefIdeal.S8192x2048 .f32) (G : FVec Ideal Cert.ProjRefIdeal.S2048 .f32) (hX : V c main_v18 = X)
    (hG : ∀ b : Fin 2048, (V c main_v22 : FVec Ideal S1x2048 .f32) (ix2 0 b) = G (ix1 b)) :
    (dat0 V c).arrAt 2 cfg0.N = refH X G := by
  refine (dat0 V c).arrAt_eq_of_covers 2 _ (by decide +kernel) fun t hf y => ?_
  blk_simp
  rw [after0_2]; unfold out0_2; frame_out
  rw [at0 V c X G hX hG]
  generalize refH X G = Z
  blk_point [row0, idx0 t]

/-! ## The gated unit's two halves -/

theorem blk1_0 (H : FVec Ideal Cert.ProjRefIdeal.S8192x2048 .f32) (hH : V c main_v23 = H) (t : Fin cfg1.N) :
    iblk1 V c 0 t = fun y => H (ix2 ⟨t.val / 2 * 512 + (y 0).val, by have := idx1 t; idx_bounds; omega⟩ ⟨(y 1).val, by idx_bounds; omega⟩) := by
  subst hH; funext y; blk_point [iblk1, idx1 t]

theorem blk1_1 (W : FVec Ideal Cert.ProjRefIdeal.S2048x13968 .f32)
    (hW : ∀ (a : Fin 2048) (b : Fin 2048), (V c main_v2 : FVec Ideal S2048x2048 .bf16) (ix2 a b) = W (ix2 a ⟨0 + b.val, by omega⟩)) (t : Fin cfg1.N) :
    iblk1 V c 1 t = fun y => W (ix2 ⟨(y 0).val, by idx_bounds; omega⟩ ⟨0 + (t.val % 2 * 1024 + (y 1).val), by idx_bounds; omega⟩) := by
  funext y
  refine Eq.trans ?_ (hW ⟨(y 0).val, by idx_bounds; omega⟩ ⟨t.val % 2 * 1024 + (y 1).val, by idx_bounds; omega⟩)
  blk_point [iblk1, idx1 t]

theorem blk1_2 (g : FVec Ideal Cert.ProjRefIdeal.S1024 .f32) (hg : ∀ j : Fin 1024, (V c main_v24 : FVec Ideal S1x1024 .f32) (ix2 0 j) = g (ix1 j)) (t : Fin cfg1.N) :
    iblk1 V c 2 t = fun y => g (ix1 ⟨(y 1).val, by idx_bounds; omega⟩) := by
  funext y
  refine Eq.trans ?_ (hg ⟨(y 1).val, by idx_bounds; omega⟩)
  blk_point [iblk1, idx1 t]

theorem blk1_3 (b : FVec Ideal Cert.ProjRefIdeal.S1024 .f32) (hb : ∀ j : Fin 1024, (V c main_v25 : FVec Ideal S1x1024 .f32) (ix2 0 j) = b (ix1 j)) (t : Fin cfg1.N) :
    iblk1 V c 3 t = fun y => b (ix1 ⟨(y 1).val, by idx_bounds; omega⟩) := by
  funext y
  refine Eq.trans ?_ (hb ⟨(y 1).val, by idx_bounds; omega⟩)
  blk_point [iblk1, idx1 t]

/-- The gelu of a block of the first 1024 columns. -/
theorem gelu0_at (H : FVec Ideal Cert.ProjRefIdeal.S8192x2048 .f32) (W : FVec Ideal Cert.ProjRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (t : Fin cfg1.N) (ht : t.val % 2 = 0) (x : S512x1024.Idx) :
    k1_pay1 (F := Ideal) (iblk1 V c 0 t) (iblk1 V c 1 t) x = refGelu (refD0 H W) (row1 t x) := by
  rw [blk1_0 V c H hH t, blk1_1 V c W hW t]
  simp only [ht]
  pointwise [k1_pay1, refGelu, refD0, refP, row1]
  try simp only [mul_assoc]

/-- The gelu of a block of the second 1024 columns. -/
theorem gelu1_at (H : FVec Ideal Cert.ProjRefIdeal.S8192x2048 .f32) (W : FVec Ideal Cert.ProjRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (t : Fin cfg1.N) (ht : t.val % 2 = 1) (x : S512x1024.Idx) :
    k1_pay1 (F := Ideal) (iblk1 V c 0 t) (iblk1 V c 1 t) x = refGelu (refD1 H W) (row1 t x) := by
  rw [blk1_0 V c H hH t, blk1_1 V c W hW t]
  simp only [ht]
  pointwise [k1_pay1, refGelu, refD1, refP, row1]
  try simp only [mul_assoc]

/-- The normalised second half at a block. -/
theorem norm_at (H : FVec Ideal Cert.ProjRefIdeal.S8192x2048 .f32) (W : FVec Ideal Cert.ProjRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (g b : FVec Ideal Cert.ProjRefIdeal.S1024 .f32)
    (hg : ∀ j : Fin 1024, (V c main_v24 : FVec Ideal S1x1024 .f32) (ix2 0 j) = g (ix1 j)) (hb : ∀ j : Fin 1024, (V c main_v25 : FVec Ideal S1x1024 .f32) (ix2 0 j) = b (ix1 j)) (t : Fin cfg1.N) (ht : t.val % 2 = 1) (x : S512x1024.Idx) :
    k1_pay3 (F := Ideal) (iblk1 V c 0 t) (iblk1 V c 1 t) (iblk1 V c 2 t) (iblk1 V c 3 t) x = refN (refC (refGelu (refD1 H W))) g b (row1 t x) := by
  have hE := funext (gelu1_at V c H W hH hW t ht)
  rw [blk1_2 V c g hg t, blk1_3 V c b hb t]
  unfold k1_pay3
  rw [hE]
  generalize refGelu (refD1 H W) = E
  pointwise [refN, refC, row1]

/-- The two halves beside each other, read in the first. -/
theorem uv_lo (H : FVec Ideal Cert.ProjRefIdeal.S8192x2048 .f32) (W : FVec Ideal Cert.ProjRefIdeal.S2048x13968 .f32) (g b : FVec Ideal Cert.ProjRefIdeal.S1024 .f32) (i : Fin 8192) (j : Fin 2048) (hj : j.val < 1024) :
    refUV H W g b (ix2 i j) = refGelu (refD0 H W) (ix2 i ⟨j.val, hj⟩) := by
  unfold refUV
  generalize refGelu (refD0 H W) = Z
  generalize refN (refC (refGelu (refD1 H W))) g b = Z'
  pointwise []
  simp [hj]

/-- The two halves beside each other, read in the second. -/
theorem uv_hi (H : FVec Ideal Cert.ProjRefIdeal.S8192x2048 .f32) (W : FVec Ideal Cert.ProjRefIdeal.S2048x13968 .f32) (g b : FVec Ideal Cert.ProjRefIdeal.S1024 .f32) (i : Fin 8192) (j : Fin 2048) (hj : ¬ j.val < 1024) :
    refUV H W g b (ix2 i j) = refN (refC (refGelu (refD1 H W))) g b (ix2 i ⟨j.val - 1024, by omega⟩) := by
  unfold refUV
  generalize refGelu (refD0 H W) = Z
  generalize refN (refC (refGelu (refD1 H W))) g b = Z'
  pointwise []
  simp [hj]

/-- The gated unit's two halves. -/
theorem final1 (H : FVec Ideal Cert.ProjRefIdeal.S8192x2048 .f32) (W : FVec Ideal Cert.ProjRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (g b : FVec Ideal Cert.ProjRefIdeal.S1024 .f32)
    (hg : ∀ j : Fin 1024, (V c main_v24 : FVec Ideal S1x1024 .f32) (ix2 0 j) = g (ix1 j)) (hb : ∀ j : Fin 1024, (V c main_v25 : FVec Ideal S1x1024 .f32) (ix2 0 j) = b (ix1 j)) :
    (dat1 V c).arrAt 4 cfg1.N = refUV H W g b := by
  refine (dat1 V c).arrAt_eq_of_covers 4 _ (by decide +kernel) fun t hf y => ?_
  blk_simp
  rw [after1_4]
  rcases Nat.mod_two_eq_zero_or_one t.val with ht | ht
  · have hlo := uv_lo H W g b ⟨t.val / 2 * 512 + (y 0).val, by have := idx1 t; idx_bounds; omega⟩ ⟨t.val % 2 * 1024 + (y 1).val, by idx_bounds; omega⟩ (by idx_bounds; simp only; omega)
    rw [outsAt1_A V c t ht (by omega)]; frame_out
    unfold k1_pay2
    rw [show k1_pay1 (F := Ideal) (iblk1 V c 0 t) (iblk1 V c 1 t) = _ from funext (gelu0_at V c H W hH hW t ht)]
    generalize refGelu (refD0 H W) = Z at hlo ⊢
    generalize refUV H W g b = U at hlo ⊢
    refine Eq.trans (Eq.trans ?_ hlo.symm) ?_
    · refine congrArg Z (congrArg₂ ix2 (Fin.ext ?_) (Fin.ext ?_))
      · rfl
      · show (y 1).val = t.val % 2 * 1024 + (y 1).val
        omega
    · blk_point [idx1 t]
  · have hhi := uv_hi H W g b ⟨t.val / 2 * 512 + (y 0).val, by have := idx1 t; idx_bounds; omega⟩ ⟨t.val % 2 * 1024 + (y 1).val, by idx_bounds; omega⟩ (by idx_bounds; simp only; omega)
    rw [outsAt1_B V c t (by omega) ht]; frame_out
    rw [norm_at V c H W hH hW g b hg hb t ht]
    generalize refN (refC (refGelu (refD1 H W))) g b = Z at hhi ⊢
    generalize refUV H W g b = U at hhi ⊢
    refine Eq.trans (Eq.trans ?_ hhi.symm) ?_
    · refine congrArg Z (congrArg₂ ix2 (Fin.ext ?_) (Fin.ext ?_))
      · rfl
      · show (y 1).val = t.val % 2 * 1024 + (y 1).val - 1024
        omega
    · blk_point [idx1 t]

/-! ## Columns 2048 to 3072 -/

/-- The queries. A block at a time. -/
theorem at2_2 (H : FVec Ideal Cert.ProjRefIdeal.S8192x2048 .f32) (W : FVec Ideal Cert.ProjRefIdeal.S2048x13968 .f32) (hH : V c main_v23 = H)
    (hW : ∀ (a : Fin 2048) (b : Fin 1024), (V c main_v4 : FVec Ideal S2048x1024 .bf16) (ix2 a b) = W (ix2 a ⟨2048 + b.val, by omega⟩)) (t : Fin cfg2.N) (x : S1024x512.Idx) :
    k2_pay1 (F := Ideal) (iblk2 V c 0 t) (iblk2 V c 1 t) x = refQ H W (row2 t x) := by
  have h0 : ∀ y, iblk2 V c 0 t y = H (ix2 ⟨t.val / 2 * 1024 + (y 0).val, by have := idx2 t; idx_bounds; omega⟩ ⟨(y 1).val, by idx_bounds; omega⟩) := fun y => by
    subst hH; blk_point [iblk2, idx2 t]
  have h1 : ∀ y, iblk2 V c 1 t y = W (ix2 ⟨(y 0).val, by idx_bounds; omega⟩ ⟨2048 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk2, idx2 t]
  rw [show iblk2 V c 0 t = _ from funext h0, show iblk2 V c 1 t = _ from funext h1]
  pointwise [k2_pay1, refQ, refP, row2]

/-- The queries. -/
theorem final2_2 (H : FVec Ideal Cert.ProjRefIdeal.S8192x2048 .f32) (W : FVec Ideal Cert.ProjRefIdeal.S2048x13968 .f32) (hH : V c main_v23 = H)
    (hW : ∀ (a : Fin 2048) (b : Fin 1024), (V c main_v4 : FVec Ideal S2048x1024 .bf16) (ix2 a b) = W (ix2 a ⟨2048 + b.val, by omega⟩)) :
    (dat2 V c).arrAt 2 cfg2.N = refQ H W := by
  refine (dat2 V c).arrAt_eq_of_covers 2 _ (by decide +kernel) fun t hf y => ?_
  blk_simp
  rw [after2_2]; unfold out2_2; frame_out
  rw [at2_2 V c H W hH hW]
  generalize refQ H W = Z
  blk_point [row2, idx2 t]

/-! ## Columns 3072 to 4096 -/

/-- The keys. A block at a time. -/
theorem at3_2 (H : FVec Ideal Cert.ProjRefIdeal.S8192x2048 .f32) (W : FVec Ideal Cert.ProjRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) (t : Fin cfg3.N) (x : S1024x512.Idx) :
    k3_pay1 (F := Ideal) (iblk3 V c 0 t) (iblk3 V c 1 t) x = refK H W (row3 t x) := by
  have h0 : ∀ y, iblk3 V c 0 t y = H (ix2 ⟨t.val / 2 * 1024 + (y 0).val, by have := idx3 t; idx_bounds; omega⟩ ⟨(y 1).val, by idx_bounds; omega⟩) := fun y => by
    subst hH; blk_point [iblk3, idx3 t]
  have h1 : ∀ y, iblk3 V c 1 t y = W (ix2 ⟨(y 0).val, by idx_bounds; omega⟩ ⟨3072 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk3, idx3 t]
  rw [show iblk3 V c 0 t = _ from funext h0, show iblk3 V c 1 t = _ from funext h1]
  pointwise [k3_pay1, refK, refP, row3]

/-- The keys. -/
theorem final3_2 (H : FVec Ideal Cert.ProjRefIdeal.S8192x2048 .f32) (W : FVec Ideal Cert.ProjRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) :
    (dat3 V c).arrAt 2 cfg3.N = refK H W := by
  refine (dat3 V c).arrAt_eq_of_covers 2 _ (by decide +kernel) fun t hf y => ?_
  blk_simp
  rw [after3_2]; unfold out3_2; frame_out
  rw [at3_2 V c H W hH hW]
  generalize refK H W = Z
  blk_point [row3, idx3 t]

/-- The keys, rounded. A block at a time. -/
theorem at3_3 (H : FVec Ideal Cert.ProjRefIdeal.S8192x2048 .f32) (W : FVec Ideal Cert.ProjRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) (t : Fin cfg3.N) (x : S1024x512.Idx) :
    k3_pay2 (F := Ideal) (iblk3 V c 0 t) (iblk3 V c 1 t) x = refKb H W (row3 t x) := by
  have h0 : ∀ y, iblk3 V c 0 t y = H (ix2 ⟨t.val / 2 * 1024 + (y 0).val, by have := idx3 t; idx_bounds; omega⟩ ⟨(y 1).val, by idx_bounds; omega⟩) := fun y => by
    subst hH; blk_point [iblk3, idx3 t]
  have h1 : ∀ y, iblk3 V c 1 t y = W (ix2 ⟨(y 0).val, by idx_bounds; omega⟩ ⟨3072 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk3, idx3 t]
  rw [show iblk3 V c 0 t = _ from funext h0, show iblk3 V c 1 t = _ from funext h1]
  pointwise [k3_pay2, k3_pay1, refKb, refP, row3]

/-- The keys, rounded. -/
theorem final3_3 (H : FVec Ideal Cert.ProjRefIdeal.S8192x2048 .f32) (W : FVec Ideal Cert.ProjRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) :
    (dat3 V c).arrAt 3 cfg3.N = refKb H W := by
  refine (dat3 V c).arrAt_eq_of_covers 3 _ (by decide +kernel) fun t hf y => ?_
  blk_simp
  rw [after3_3]; unfold out3_3; frame_out
  rw [at3_3 V c H W hH hW]
  generalize refKb H W = Z
  blk_point [row3, idx3 t]

/-! ## Columns 4096 to 5120 -/

/-- The values. A block at a time. -/
theorem at4_2 (H : FVec Ideal Cert.ProjRefIdeal.S8192x2048 .f32) (W : FVec Ideal Cert.ProjRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) (t : Fin cfg4.N) (x : S1024x512.Idx) :
    k4_pay1 (F := Ideal) (iblk4 V c 0 t) (iblk4 V c 1 t) x = refV H W (row4 t x) := by
  have h0 : ∀ y, iblk4 V c 0 t y = H (ix2 ⟨t.val / 2 * 1024 + (y 0).val, by have := idx4 t; idx_bounds; omega⟩ ⟨(y 1).val, by idx_bounds; omega⟩) := fun y => by
    subst hH; blk_point [iblk4, idx4 t]
  have h1 : ∀ y, iblk4 V c 1 t y = W (ix2 ⟨(y 0).val, by idx_bounds; omega⟩ ⟨4096 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk4, idx4 t]
  rw [show iblk4 V c 0 t = _ from funext h0, show iblk4 V c 1 t = _ from funext h1]
  pointwise [k4_pay1, refV, refP, row4]

/-- The values. -/
theorem final4_2 (H : FVec Ideal Cert.ProjRefIdeal.S8192x2048 .f32) (W : FVec Ideal Cert.ProjRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) :
    (dat4 V c).arrAt 2 cfg4.N = refV H W := by
  refine (dat4 V c).arrAt_eq_of_covers 2 _ (by decide +kernel) fun t hf y => ?_
  blk_simp
  rw [after4_2]; unfold out4_2; frame_out
  rw [at4_2 V c H W hH hW]
  generalize refV H W = Z
  blk_point [row4, idx4 t]

/-- The values, rounded. A block at a time. -/
theorem at4_3 (H : FVec Ideal Cert.ProjRefIdeal.S8192x2048 .f32) (W : FVec Ideal Cert.ProjRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) (t : Fin cfg4.N) (x : S1024x512.Idx) :
    k4_pay2 (F := Ideal) (iblk4 V c 0 t) (iblk4 V c 1 t) x = refVb H W (row4 t x) := by
  have h0 : ∀ y, iblk4 V c 0 t y = H (ix2 ⟨t.val / 2 * 1024 + (y 0).val, by have := idx4 t; idx_bounds; omega⟩ ⟨(y 1).val, by idx_bounds; omega⟩) := fun y => by
    subst hH; blk_point [iblk4, idx4 t]
  have h1 : ∀ y, iblk4 V c 1 t y = W (ix2 ⟨(y 0).val, by idx_bounds; omega⟩ ⟨4096 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk4, idx4 t]
  rw [show iblk4 V c 0 t = _ from funext h0, show iblk4 V c 1 t = _ from funext h1]
  pointwise [k4_pay2, k4_pay1, refVb, refP, row4]

/-- The values, rounded. -/
theorem final4_3 (H : FVec Ideal Cert.ProjRefIdeal.S8192x2048 .f32) (W : FVec Ideal Cert.ProjRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) :
    (dat4 V c).arrAt 3 cfg4.N = refVb H W := by
  refine (dat4 V c).arrAt_eq_of_covers 3 _ (by decide +kernel) fun t hf y => ?_
  blk_simp
  rw [after4_3]; unfold out4_3; frame_out
  rw [at4_3 V c H W hH hW]
  generalize refVb H W = Z
  blk_point [row4, idx4 t]

/-! ## Columns 5120 to 7168 -/

/-- The indexer's queries. A block at a time. -/
theorem at5_2 (H : FVec Ideal Cert.ProjRefIdeal.S8192x2048 .f32) (W : FVec Ideal Cert.ProjRefIdeal.S2048x13968 .f32) (hH : V c main_v23 = H)
    (hW : ∀ (a : Fin 2048) (b : Fin 2048), (V c main_v10 : FVec Ideal S2048x2048 .bf16) (ix2 a b) = W (ix2 a ⟨5120 + b.val, by omega⟩)) (t : Fin cfg5.N) (x : S1024x512.Idx) :
    k5_pay1 (F := Ideal) (iblk5 V c 0 t) (iblk5 V c 1 t) x = refQi H W (row5 t x) := by
  have h0 : ∀ y, iblk5 V c 0 t y = H (ix2 ⟨t.val / 4 * 1024 + (y 0).val, by have := idx5 t; idx_bounds; omega⟩ ⟨(y 1).val, by idx_bounds; omega⟩) := fun y => by
    subst hH; blk_point [iblk5, idx5 t]
  have h1 : ∀ y, iblk5 V c 1 t y = W (ix2 ⟨(y 0).val, by idx_bounds; omega⟩ ⟨5120 + (t.val % 4 * 512 + (y 1).val), by idx_bounds; omega⟩) := fun y => by
    refine Eq.trans ?_ (hW ⟨(y 0).val, by idx_bounds; omega⟩ ⟨(t.val % 4 * 512 + (y 1).val), by idx_bounds; omega⟩)
    blk_point [iblk5, idx5 t]
  rw [show iblk5 V c 0 t = _ from funext h0, show iblk5 V c 1 t = _ from funext h1]
  pointwise [k5_pay1, refQi, refP, row5]

/-- The indexer's queries. -/
theorem final5_2 (H : FVec Ideal Cert.ProjRefIdeal.S8192x2048 .f32) (W : FVec Ideal Cert.ProjRefIdeal.S2048x13968 .f32) (hH : V c main_v23 = H)
    (hW : ∀ (a : Fin 2048) (b : Fin 2048), (V c main_v10 : FVec Ideal S2048x2048 .bf16) (ix2 a b) = W (ix2 a ⟨5120 + b.val, by omega⟩)) :
    (dat5 V c).arrAt 2 cfg5.N = refQi H W := by
  refine (dat5 V c).arrAt_eq_of_covers 2 _ (by decide +kernel) fun t hf y => ?_
  blk_simp
  rw [after5_2]; unfold out5_2; frame_out
  rw [at5_2 V c H W hH hW]
  generalize refQi H W = Z
  blk_point [row5, idx5 t]

/-! ## Columns 7312 to 7824 -/

/-- The memory queries. A block at a time. -/
theorem at7_2 (H : FVec Ideal Cert.ProjRefIdeal.S8192x2048 .f32) (W : FVec Ideal Cert.ProjRefIdeal.S2048x13968 .f32) (hH : V c main_v23 = H)
    (hW : ∀ (a : Fin 2048) (b : Fin 512), (V c main_v14 : FVec Ideal S2048x512 .bf16) (ix2 a b) = W (ix2 a ⟨7312 + b.val, by omega⟩)) (t : Fin cfg7.N) (x : S1024x512.Idx) :
    k7_pay1 (F := Ideal) (iblk7 V c 0 t) (iblk7 V c 1 t) x = refQm H W (row7 t x) := by
  have h0 : ∀ y, iblk7 V c 0 t y = H (ix2 ⟨t.val * 1024 + (y 0).val, by have := idx7 t; idx_bounds; omega⟩ ⟨(y 1).val, by idx_bounds; omega⟩) := fun y => by
    subst hH; blk_point [iblk7, idx7 t]
  have h1 : ∀ y, iblk7 V c 1 t y = W (ix2 ⟨(y 0).val, by idx_bounds; omega⟩ ⟨7312 + (0 * 512 + (y 1).val), by idx_bounds; omega⟩) := fun y => by
    refine Eq.trans ?_ (hW ⟨(y 0).val, by idx_bounds; omega⟩ ⟨(0 * 512 + (y 1).val), by idx_bounds; omega⟩)
    blk_point [iblk7, idx7 t]
  rw [show iblk7 V c 0 t = _ from funext h0, show iblk7 V c 1 t = _ from funext h1]
  pointwise [k7_pay1, refQm, refP, row7]

/-- The memory queries. -/
theorem final7_2 (H : FVec Ideal Cert.ProjRefIdeal.S8192x2048 .f32) (W : FVec Ideal Cert.ProjRefIdeal.S2048x13968 .f32) (hH : V c main_v23 = H)
    (hW : ∀ (a : Fin 2048) (b : Fin 512), (V c main_v14 : FVec Ideal S2048x512 .bf16) (ix2 a b) = W (ix2 a ⟨7312 + b.val, by omega⟩)) :
    (dat7 V c).arrAt 2 cfg7.N = refQm H W := by
  refine (dat7 V c).arrAt_eq_of_covers 2 _ (by decide +kernel) fun t hf y => ?_
  blk_simp
  rw [after7_2]; unfold out7_2; frame_out
  rw [at7_2 V c H W hH hW]
  generalize refQm H W = Z
  blk_point [row7, idx7 t]

/-! ## Columns 7824 to 13968 -/

/-- The gates: the logistic function of their columns. A block at a time. -/
theorem at8_2 (H : FVec Ideal Cert.ProjRefIdeal.S8192x2048 .f32) (W : FVec Ideal Cert.ProjRefIdeal.S2048x13968 .f32) (hH : V c main_v23 = H)
    (hW : ∀ (a : Fin 2048) (b : Fin 6144), (V c main_v16 : FVec Ideal S2048x6144 .bf16) (ix2 a b) = W (ix2 a ⟨7824 + b.val, by omega⟩)) (t : Fin cfg8.N) (x : S1024x512.Idx) :
    k8_pay1 (F := Ideal) (iblk8 V c 0 t) (iblk8 V c 1 t) x = refGates H W (row8 t x) := by
  have h0 : ∀ y, iblk8 V c 0 t y = H (ix2 ⟨t.val / 12 * 1024 + (y 0).val, by have := idx8 t; idx_bounds; omega⟩ ⟨(y 1).val, by idx_bounds; omega⟩) := fun y => by
    subst hH; blk_point [iblk8, idx8 t]
  have h1 : ∀ y, iblk8 V c 1 t y = W (ix2 ⟨(y 0).val, by idx_bounds; omega⟩ ⟨7824 + (t.val % 12 * 512 + (y 1).val), by idx_bounds; omega⟩) := fun y => by
    refine Eq.trans ?_ (hW ⟨(y 0).val, by idx_bounds; omega⟩ ⟨(t.val % 12 * 512 + (y 1).val), by idx_bounds; omega⟩)
    blk_point [iblk8, idx8 t]
  rw [show iblk8 V c 0 t = _ from funext h0, show iblk8 V c 1 t = _ from funext h1]
  pointwise [k8_pay1, refGates, refP, row8]
  rfl

/-- The gates: the logistic function of their columns. -/
theorem final8_2 (H : FVec Ideal Cert.ProjRefIdeal.S8192x2048 .f32) (W : FVec Ideal Cert.ProjRefIdeal.S2048x13968 .f32) (hH : V c main_v23 = H)
    (hW : ∀ (a : Fin 2048) (b : Fin 6144), (V c main_v16 : FVec Ideal S2048x6144 .bf16) (ix2 a b) = W (ix2 a ⟨7824 + b.val, by omega⟩)) :
    (dat8 V c).arrAt 2 cfg8.N = refGates H W := by
  refine (dat8 V c).arrAt_eq_of_covers 2 _ (by decide +kernel) fun t hf y => ?_
  blk_simp
  rw [after8_2]; unfold out8_2; frame_out
  rw [at8_2 V c H W hH hW]
  generalize refGates H W = Z
  blk_point [row8, idx8 t]

/-! ## Columns 7168 to 7312, padded to 256 -/

/-- The rows `H` times the padded columns `Wp`. -/
def mm6 (H : FVec Ideal Cert.ProjRefIdeal.S8192x2048 .f32) (Wp : FVec Ideal S2048x256 .bf16) : FVec Ideal S8192x256 .f32 :=
  fun i => ∑ k : Fin 2048, (H (ix2 (i 0) k) : EReal) * Wp (ix2 k (i 1))

theorem at6 (H : FVec Ideal Cert.ProjRefIdeal.S8192x2048 .f32) (Wp : FVec Ideal S2048x256 .bf16) (hH : V c main_v23 = H) (hW : V c main_v17 = Wp) (t : Fin cfg6.N) (x : S1024x256.Idx) :
    k6_pay1 (F := Ideal) (iblk6 V c 0 t) (iblk6 V c 1 t) x = mm6 H Wp (row6 t x) := by
  have h0 : ∀ y, iblk6 V c 0 t y = H (ix2 ⟨t.val * 1024 + (y 0).val, by have := idx6 t; idx_bounds; omega⟩ ⟨(y 1).val, by idx_bounds; omega⟩) := fun y => by
    subst hH; blk_point [iblk6, idx6 t]
  have h1 : ∀ y, iblk6 V c 1 t y = Wp (ix2 ⟨(y 0).val, by idx_bounds; omega⟩ ⟨(y 1).val, by idx_bounds; omega⟩) := fun y => by
    subst hW; blk_point [iblk6, idx6 t]
  rw [show iblk6 V c 0 t = _ from funext h0, show iblk6 V c 1 t = _ from funext h1]
  pointwise [k6_pay1, mm6, row6]

/-- The padded columns of the projection. -/
theorem final6 (H : FVec Ideal Cert.ProjRefIdeal.S8192x2048 .f32) (Wp : FVec Ideal S2048x256 .bf16) (hH : V c main_v23 = H) (hW : V c main_v17 = Wp) :
    (dat6 V c).arrAt 2 cfg6.N = mm6 H Wp := by
  refine (dat6 V c).arrAt_eq_of_covers 2 _ (by decide +kernel) fun t hf y => ?_
  blk_simp
  rw [after6_2]; unfold out6_2; frame_out
  rw [at6 V c H Wp hH hW]
  generalize mm6 H Wp = Z
  blk_point [row6, idx6 t]

end Regions

/-- A padded array, read inside. -/
theorem pad_read (A : FVec Ideal S2048x144 .bf16) (v : FVec Ideal S_ .bf16) (a : Fin 2048) (b : Fin 144) :
    pad S2048x256 ![0, 0] ![0, 112] ![0, 0] A v pads_S2048x144_S2048x256_000_01120 h_S_ (ix2 a ⟨b.val, by omega⟩) = A (ix2 a b) := by
  pointwise []

/-- The padded product's columns from 0 are the projection's. -/
theorem col0 (H : FVec Ideal Cert.ProjRefIdeal.S8192x2048 .f32) (W : FVec Ideal Cert.ProjRefIdeal.S2048x13968 .f32) (Wp : FVec Ideal S2048x256 .bf16)
    (hW : ∀ (a : Fin 2048) (b : Fin 144), Wp (ix2 a ⟨b.val, by omega⟩) = W (ix2 a ⟨7168 + b.val, by omega⟩)) :
    extractStridedSlice S8192x128 ![0, 0] (mm6 H Wp) slices_S8192x256_S8192x128_0_0 = refKidx H W := by
  funext i
  have h : ∀ (a : Fin 2048), Wp (ix2 a ⟨0 + (i 1).val, by idx_bounds; omega⟩) = W (ix2 a ⟨7168 + (0 + (i 1).val), by idx_bounds; omega⟩) :=
    fun a => hW a ⟨0 + (i 1).val, by idx_bounds; omega⟩
  pointwise [refKidx, refP, mm6]
  refine Finset.sum_congr rfl fun k _ => ?_
  have hk := h k
  try simp only [Nat.zero_add, Nat.add_zero, ← Nat.add_assoc, Nat.reduceAdd] at hk
  rw [hk]

/-- The padded product's columns from 128 are the projection's. -/
theorem col128 (H : FVec Ideal Cert.ProjRefIdeal.S8192x2048 .f32) (W : FVec Ideal Cert.ProjRefIdeal.S2048x13968 .f32) (Wp : FVec Ideal S2048x256 .bf16)
    (hW : ∀ (a : Fin 2048) (b : Fin 144), Wp (ix2 a ⟨b.val, by omega⟩) = W (ix2 a ⟨7168 + b.val, by omega⟩)) :
    extractStridedSlice S8192x16 ![0, 128] (mm6 H Wp) slices_S8192x256_S8192x16_0_128 = refWi H W := by
  funext i
  have h : ∀ (a : Fin 2048), Wp (ix2 a ⟨128 + (i 1).val, by idx_bounds; omega⟩) = W (ix2 a ⟨7168 + (128 + (i 1).val), by idx_bounds; omega⟩) :=
    fun a => hW a ⟨128 + (i 1).val, by idx_bounds; omega⟩
  pointwise [refWi, refP, mm6]
  refine Finset.sum_congr rfl fun k _ => ?_
  have hk := h k
  try simp only [Nat.zero_add, Nat.add_zero, ← Nat.add_assoc, Nat.reduceAdd] at hk
  rw [hk]

/-! ## The run -/

section Launch

open Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The kernel run to its end: every buffer holds what the last boundary's valuation says. -/
theorem runW : θ_run defs (onTc (τ := τ) (main (F := Ideal))) ⟨m, fun _ => 0, ρ⟩ (fun r =>
    ∀ c : Dev nD, ∀ b ∈ Pipeline.ucRefs τ sig, r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz c b hb => h c b hb)

end Launch

section Run

variable (m : (ℓ : Loc nD τ sig) → Buf (Elt Ideal) ℓ) (ρ : Dev nD → PrngReg) (c : Dev nD)

/-! ## What the host prepares -/

theorem val18 : V3 m ρ c main_v18 = (shapeCast Cert.ProjRefIdeal.S8192x2048 (m ((c : Thread nD τ).loc main_arg0)) Cert.ProjRefIdeal.Gen.shapeCasts_S2x4096x2048_S8192x2048) := by
  unfold_abbrev_sides
  after_results <;> rfl

theorem val22 (b : Fin 2048) : (V3 m ρ c main_v22 : FVec Ideal S1x2048 .f32) (ix2 0 b) = (shapeCast Cert.ProjRefIdeal.S2048 (m ((c : Thread nD τ).loc main_arg1)) Cert.ProjRefIdeal.Gen.shapeCasts_S1x2048_S2048) (ix1 b) := by
  have h : V3 m ρ c main_v22 = shapeCast S1x2048 (shapeCast Cert.ProjRefIdeal.S2048 (m ((c : Thread nD τ).loc main_arg1)) Cert.ProjRefIdeal.Gen.shapeCasts_S1x2048_S2048) shapeCasts_S2048_S1x2048 := by
    unfold_abbrev_sides
    after_results <;> rfl
  rw [h]
  generalize (shapeCast Cert.ProjRefIdeal.S2048 (m ((c : Thread nD τ).loc main_arg1)) Cert.ProjRefIdeal.Gen.shapeCasts_S1x2048_S2048) = G
  pointwise []

theorem val24 (j : Fin 1024) : (V5 m ρ c main_v24 : FVec Ideal S1x1024 .f32) (ix2 0 j) = (shapeCast Cert.ProjRefIdeal.S1024 (m ((c : Thread nD τ).loc main_arg3)) Cert.ProjRefIdeal.Gen.shapeCasts_S1x1024_S1024) (ix1 j) := by
  have h0 : W3 m ρ c (Proc.devRef .tc main_v20) = (shapeCast Cert.ProjRefIdeal.S1024 (m ((c : Thread nD τ).loc main_arg3)) Cert.ProjRefIdeal.Gen.shapeCasts_S1x1024_S1024) := by
    unfold_abbrev_sides
    after_results <;> rfl
  have h : V5 m ρ c main_v24 = shapeCast S1x1024 (W4 m ρ c (Proc.devRef .tc main_v20) : FVec Ideal S1024 .f32) shapeCasts_S1024_S1x1024 := by
    unfold_abbrev_sides
    after_results <;> rfl
  rw [h, show W4 m ρ c (Proc.devRef .tc main_v20) = _ from (W4_of m ρ c main_v20 (by decide)), h0]
  generalize (shapeCast Cert.ProjRefIdeal.S1024 (m ((c : Thread nD τ).loc main_arg3)) Cert.ProjRefIdeal.Gen.shapeCasts_S1x1024_S1024) = G
  pointwise []

theorem val25 (j : Fin 1024) : (V5 m ρ c main_v25 : FVec Ideal S1x1024 .f32) (ix2 0 j) = (shapeCast Cert.ProjRefIdeal.S1024 (m ((c : Thread nD τ).loc main_arg4)) Cert.ProjRefIdeal.Gen.shapeCasts_S1x1024_S1024) (ix1 j) := by
  have h0 : W3 m ρ c (Proc.devRef .tc main_v21) = (shapeCast Cert.ProjRefIdeal.S1024 (m ((c : Thread nD τ).loc main_arg4)) Cert.ProjRefIdeal.Gen.shapeCasts_S1x1024_S1024) := by
    unfold_abbrev_sides
    after_results <;> rfl
  have h : V5 m ρ c main_v25 = shapeCast S1x1024 (W4 m ρ c (Proc.devRef .tc main_v21) : FVec Ideal S1024 .f32) shapeCasts_S1024_S1x1024 := by
    unfold_abbrev_sides
    after_results <;> rfl
  rw [h, show W4 m ρ c (Proc.devRef .tc main_v21) = _ from (W4_of m ρ c main_v21 (by decide)), h0]
  generalize (shapeCast Cert.ProjRefIdeal.S1024 (m ((c : Thread nD τ).loc main_arg4)) Cert.ProjRefIdeal.Gen.shapeCasts_S1x1024_S1024) = G
  pointwise []

theorem w1 (a : Fin 2048) (b : Fin 2048) : (V5 m ρ c main_v2 : FVec Ideal S2048x2048 .bf16) (ix2 a b) = (shapeCast Cert.ProjRefIdeal.S2048x13968 (m ((c : Thread nD τ).loc main_arg2)) Cert.ProjRefIdeal.Gen.shapeCasts_S1x2048x13968_S2048x13968) (ix2 a ⟨0 + b.val, by omega⟩) := by
  have h0 : W1 m ρ c (Proc.devRef .tc main_v2) = (truncf .bf16 (extractStridedSlice S2048x2048 ![0, 0] (shapeCast Cert.ProjRefIdeal.S2048x13968 (m ((c : Thread nD τ).loc main_arg2)) Cert.ProjRefIdeal.Gen.shapeCasts_S1x2048x13968_S2048x13968) slices_S2048x13968_S2048x2048_0_0) bitsLt_bf16_f32 : FVec Ideal S2048x2048 .bf16) := by
    unfold_abbrev_sides
    after_results <;> rfl
  rw [show V5 m ρ c main_v2 = _ from ((W5_of m ρ c main_v2 (by decide)).trans ((W4_of m ρ c main_v2 (by decide)).trans ((W3_of m ρ c main_v2 (by decide)).trans (W2_of m ρ c main_v2 (by decide))))), h0]
  generalize (shapeCast Cert.ProjRefIdeal.S2048x13968 (m ((c : Thread nD τ).loc main_arg2)) Cert.ProjRefIdeal.Gen.shapeCasts_S1x2048x13968_S2048x13968) = G
  pointwise []

theorem w2 (a : Fin 2048) (b : Fin 1024) : (V6 m ρ c main_v4 : FVec Ideal S2048x1024 .bf16) (ix2 a b) = (shapeCast Cert.ProjRefIdeal.S2048x13968 (m ((c : Thread nD τ).loc main_arg2)) Cert.ProjRefIdeal.Gen.shapeCasts_S1x2048x13968_S2048x13968) (ix2 a ⟨2048 + b.val, by omega⟩) := by
  have h0 : W1 m ρ c (Proc.devRef .tc main_v4) = (truncf .bf16 (extractStridedSlice S2048x1024 ![0, 2048] (shapeCast Cert.ProjRefIdeal.S2048x13968 (m ((c : Thread nD τ).loc main_arg2)) Cert.ProjRefIdeal.Gen.shapeCasts_S1x2048x13968_S2048x13968) slices_S2048x13968_S2048x1024_0_2048) bitsLt_bf16_f32 : FVec Ideal S2048x1024 .bf16) := by
    unfold_abbrev_sides
    after_results <;> rfl
  rw [show V6 m ρ c main_v4 = _ from ((W6_of m ρ c main_v4 (by decide)).trans ((W5_of m ρ c main_v4 (by decide)).trans ((W4_of m ρ c main_v4 (by decide)).trans ((W3_of m ρ c main_v4 (by decide)).trans (W2_of m ρ c main_v4 (by decide)))))), h0]
  generalize (shapeCast Cert.ProjRefIdeal.S2048x13968 (m ((c : Thread nD τ).loc main_arg2)) Cert.ProjRefIdeal.Gen.shapeCasts_S1x2048x13968_S2048x13968) = G
  pointwise []

theorem w3 (a : Fin 2048) (b : Fin 1024) : (V7 m ρ c main_v6 : FVec Ideal S2048x1024 .bf16) (ix2 a b) = (shapeCast Cert.ProjRefIdeal.S2048x13968 (m ((c : Thread nD τ).loc main_arg2)) Cert.ProjRefIdeal.Gen.shapeCasts_S1x2048x13968_S2048x13968) (ix2 a ⟨3072 + b.val, by omega⟩) := by
  have h0 : W1 m ρ c (Proc.devRef .tc main_v6) = (truncf .bf16 (extractStridedSlice S2048x1024 ![0, 3072] (shapeCast Cert.ProjRefIdeal.S2048x13968 (m ((c : Thread nD τ).loc main_arg2)) Cert.ProjRefIdeal.Gen.shapeCasts_S1x2048x13968_S2048x13968) slices_S2048x13968_S2048x1024_0_3072) bitsLt_bf16_f32 : FVec Ideal S2048x1024 .bf16) := by
    unfold_abbrev_sides
    after_results <;> rfl
  rw [show V7 m ρ c main_v6 = _ from ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide))))))), h0]
  generalize (shapeCast Cert.ProjRefIdeal.S2048x13968 (m ((c : Thread nD τ).loc main_arg2)) Cert.ProjRefIdeal.Gen.shapeCasts_S1x2048x13968_S2048x13968) = G
  pointwise []

theorem w4 (a : Fin 2048) (b : Fin 1024) : (V8 m ρ c main_v8 : FVec Ideal S2048x1024 .bf16) (ix2 a b) = (shapeCast Cert.ProjRefIdeal.S2048x13968 (m ((c : Thread nD τ).loc main_arg2)) Cert.ProjRefIdeal.Gen.shapeCasts_S1x2048x13968_S2048x13968) (ix2 a ⟨4096 + b.val, by omega⟩) := by
  have h0 : W1 m ρ c (Proc.devRef .tc main_v8) = (truncf .bf16 (extractStridedSlice S2048x1024 ![0, 4096] (shapeCast Cert.ProjRefIdeal.S2048x13968 (m ((c : Thread nD τ).loc main_arg2)) Cert.ProjRefIdeal.Gen.shapeCasts_S1x2048x13968_S2048x13968) slices_S2048x13968_S2048x1024_0_4096) bitsLt_bf16_f32 : FVec Ideal S2048x1024 .bf16) := by
    unfold_abbrev_sides
    after_results <;> rfl
  rw [show V8 m ρ c main_v8 = _ from ((W8_of m ρ c main_v8 (by decide)).trans ((W7_of m ρ c main_v8 (by decide)).trans ((W6_of m ρ c main_v8 (by decide)).trans ((W5_of m ρ c main_v8 (by decide)).trans ((W4_of m ρ c main_v8 (by decide)).trans ((W3_of m ρ c main_v8 (by decide)).trans (W2_of m ρ c main_v8 (by decide)))))))), h0]
  generalize (shapeCast Cert.ProjRefIdeal.S2048x13968 (m ((c : Thread nD τ).loc main_arg2)) Cert.ProjRefIdeal.Gen.shapeCasts_S1x2048x13968_S2048x13968) = G
  pointwise []

theorem w5 (a : Fin 2048) (b : Fin 2048) : (V9 m ρ c main_v10 : FVec Ideal S2048x2048 .bf16) (ix2 a b) = (shapeCast Cert.ProjRefIdeal.S2048x13968 (m ((c : Thread nD τ).loc main_arg2)) Cert.ProjRefIdeal.Gen.shapeCasts_S1x2048x13968_S2048x13968) (ix2 a ⟨5120 + b.val, by omega⟩) := by
  have h0 : W1 m ρ c (Proc.devRef .tc main_v10) = (truncf .bf16 (extractStridedSlice S2048x2048 ![0, 5120] (shapeCast Cert.ProjRefIdeal.S2048x13968 (m ((c : Thread nD τ).loc main_arg2)) Cert.ProjRefIdeal.Gen.shapeCasts_S1x2048x13968_S2048x13968) slices_S2048x13968_S2048x2048_0_5120) bitsLt_bf16_f32 : FVec Ideal S2048x2048 .bf16) := by
    unfold_abbrev_sides
    after_results <;> rfl
  rw [show V9 m ρ c main_v10 = _ from ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans (W2_of m ρ c main_v10 (by decide))))))))), h0]
  generalize (shapeCast Cert.ProjRefIdeal.S2048x13968 (m ((c : Thread nD τ).loc main_arg2)) Cert.ProjRefIdeal.Gen.shapeCasts_S1x2048x13968_S2048x13968) = G
  pointwise []

theorem w7 (a : Fin 2048) (b : Fin 512) : (V11 m ρ c main_v14 : FVec Ideal S2048x512 .bf16) (ix2 a b) = (shapeCast Cert.ProjRefIdeal.S2048x13968 (m ((c : Thread nD τ).loc main_arg2)) Cert.ProjRefIdeal.Gen.shapeCasts_S1x2048x13968_S2048x13968) (ix2 a ⟨7312 + b.val, by omega⟩) := by
  have h0 : W1 m ρ c (Proc.devRef .tc main_v14) = (truncf .bf16 (extractStridedSlice S2048x512 ![0, 7312] (shapeCast Cert.ProjRefIdeal.S2048x13968 (m ((c : Thread nD τ).loc main_arg2)) Cert.ProjRefIdeal.Gen.shapeCasts_S1x2048x13968_S2048x13968) slices_S2048x13968_S2048x512_0_7312) bitsLt_bf16_f32 : FVec Ideal S2048x512 .bf16) := by
    unfold_abbrev_sides
    after_results <;> rfl
  rw [show V11 m ρ c main_v14 = _ from ((W11_of m ρ c main_v14 (by decide)).trans ((W10_of m ρ c main_v14 (by decide)).trans ((W9_of m ρ c main_v14 (by decide)).trans ((W8_of m ρ c main_v14 (by decide)).trans ((W7_of m ρ c main_v14 (by decide)).trans ((W6_of m ρ c main_v14 (by decide)).trans ((W5_of m ρ c main_v14 (by decide)).trans ((W4_of m ρ c main_v14 (by decide)).trans ((W3_of m ρ c main_v14 (by decide)).trans (W2_of m ρ c main_v14 (by decide))))))))))), h0]
  generalize (shapeCast Cert.ProjRefIdeal.S2048x13968 (m ((c : Thread nD τ).loc main_arg2)) Cert.ProjRefIdeal.Gen.shapeCasts_S1x2048x13968_S2048x13968) = G
  pointwise []

theorem w8 (a : Fin 2048) (b : Fin 6144) : (V12 m ρ c main_v16 : FVec Ideal S2048x6144 .bf16) (ix2 a b) = (shapeCast Cert.ProjRefIdeal.S2048x13968 (m ((c : Thread nD τ).loc main_arg2)) Cert.ProjRefIdeal.Gen.shapeCasts_S1x2048x13968_S2048x13968) (ix2 a ⟨7824 + b.val, by omega⟩) := by
  have h0 : W1 m ρ c (Proc.devRef .tc main_v16) = (truncf .bf16 (extractStridedSlice S2048x6144 ![0, 7824] (shapeCast Cert.ProjRefIdeal.S2048x13968 (m ((c : Thread nD τ).loc main_arg2)) Cert.ProjRefIdeal.Gen.shapeCasts_S1x2048x13968_S2048x13968) slices_S2048x13968_S2048x6144_0_7824) bitsLt_bf16_f32 : FVec Ideal S2048x6144 .bf16) := by
    unfold_abbrev_sides
    after_results <;> rfl
  rw [show V12 m ρ c main_v16 = _ from ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (W2_of m ρ c main_v16 (by decide)))))))))))), h0]
  generalize (shapeCast Cert.ProjRefIdeal.S2048x13968 (m ((c : Thread nD τ).loc main_arg2)) Cert.ProjRefIdeal.Gen.shapeCasts_S1x2048x13968_S2048x13968) = G
  pointwise []

theorem w6 (a : Fin 2048) (b : Fin 144) : (V10 m ρ c main_v17 : FVec Ideal S2048x256 .bf16) (ix2 a ⟨b.val, by omega⟩) = (shapeCast Cert.ProjRefIdeal.S2048x13968 (m ((c : Thread nD τ).loc main_arg2)) Cert.ProjRefIdeal.Gen.shapeCasts_S1x2048x13968_S2048x13968) (ix2 a ⟨7168 + b.val, by omega⟩) := by
  have h0 : W1 m ρ c (Proc.devRef .tc main_v12) = (truncf .bf16 (extractStridedSlice S2048x144 ![0, 7168] (shapeCast Cert.ProjRefIdeal.S2048x13968 (m ((c : Thread nD τ).loc main_arg2)) Cert.ProjRefIdeal.Gen.shapeCasts_S1x2048x13968_S2048x13968) slices_S2048x13968_S2048x144_0_7168) bitsLt_bf16_f32 : FVec Ideal S2048x144 .bf16) := by
    unfold_abbrev_sides
    after_results <;> rfl
  have h1 : W2 m ρ c (Proc.devRef .tc main_v17) = pad S2048x256 ![0, 0] ![0, 112] ![0, 0] (W1 m ρ c (Proc.devRef .tc main_v12) : FVec Ideal S2048x144 .bf16) (W2 m ρ c (Proc.devRef .tc main_call0_v0) : FVec Ideal S_ .bf16) pads_S2048x144_S2048x256_000_01120 h_S_ := by
    unfold_abbrev_sides
    after_results <;> rfl
  generalize (W2 m ρ c (Proc.devRef .tc main_call0_v0) : FVec Ideal S_ .bf16) = v at h1
  rw [show V10 m ρ c main_v17 = _ from ((W10_of m ρ c main_v17 (by decide)).trans ((W9_of m ρ c main_v17 (by decide)).trans ((W8_of m ρ c main_v17 (by decide)).trans ((W7_of m ρ c main_v17 (by decide)).trans ((W6_of m ρ c main_v17 (by decide)).trans ((W5_of m ρ c main_v17 (by decide)).trans ((W4_of m ρ c main_v17 (by decide)).trans (W3_of m ρ c main_v17 (by decide))))))))), h1, h0]
  refine (pad_read _ _ a b).trans ?_
  generalize (shapeCast Cert.ProjRefIdeal.S2048x13968 (m ((c : Thread nD τ).loc main_arg2)) Cert.ProjRefIdeal.Gen.shapeCasts_S1x2048x13968_S2048x13968) = G
  pointwise []

/-! ## The regions' results -/

theorem norm4 : W4 m ρ c (Proc.devRef .tc main_v23) = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W4_arr m ρ c 2).trans (final0 (V3 m ρ) c _ _ (val18 m ρ c) (val22 m ρ c))

theorem norm5 : V5 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W5_of m ρ c main_v23 (by decide)).trans (norm4 m ρ c)

theorem norm6 : V6 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W6_of m ρ c main_v23 (by decide)).trans (norm5 m ρ c)

theorem norm7 : V7 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W7_of m ρ c main_v23 (by decide)).trans (norm6 m ρ c)

theorem norm8 : V8 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W8_of m ρ c main_v23 (by decide)).trans (norm7 m ρ c)

theorem norm9 : V9 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W9_of m ρ c main_v23 (by decide)).trans (norm8 m ρ c)

theorem norm10 : V10 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W10_of m ρ c main_v23 (by decide)).trans (norm9 m ρ c)

theorem norm11 : V11 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W11_of m ρ c main_v23 (by decide)).trans (norm10 m ρ c)

theorem norm12 : V12 m ρ c main_v23 = refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048) :=
  (W12_of m ρ c main_v23 (by decide)).trans (norm11 m ρ c)

theorem end0 : W14 m ρ c (Proc.devRef .tc main_v26) = refUV (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) (shapeCast Cert.ProjRefIdeal.S1024 (m ((c : Thread nD τ).loc main_arg3)) Cert.ProjRefIdeal.Gen.shapeCasts_S1x1024_S1024) (shapeCast Cert.ProjRefIdeal.S1024 (m ((c : Thread nD τ).loc main_arg4)) Cert.ProjRefIdeal.Gen.shapeCasts_S1x1024_S1024) :=
  ((W14_of m ρ c main_v26 (by decide)).trans ((W13_of m ρ c main_v26 (by decide)).trans ((W12_of m ρ c main_v26 (by decide)).trans ((W11_of m ρ c main_v26 (by decide)).trans ((W10_of m ρ c main_v26 (by decide)).trans ((W9_of m ρ c main_v26 (by decide)).trans ((W8_of m ρ c main_v26 (by decide)).trans ((W7_of m ρ c main_v26 (by decide)).trans ((W6_arr m ρ c 4).trans (final1 (V5 m ρ) c _ _ (norm5 m ρ c) (w1 m ρ c) _ _ (val24 m ρ c) (val25 m ρ c)))))))))))

theorem pad13 : W13 m ρ c (Proc.devRef .tc main_v31) = mm6 (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (V10 m ρ c main_v17) :=
  ((W13_of m ρ c main_v31 (by decide)).trans ((W12_of m ρ c main_v31 (by decide)).trans ((W11_arr m ρ c 2).trans (final6 (V10 m ρ) c _ _ (norm10 m ρ c) rfl))))

theorem end1 : W14 m ρ c (Proc.devRef .tc main_v27) = refQ (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v27 (by decide)).trans ((W13_of m ρ c main_v27 (by decide)).trans ((W12_of m ρ c main_v27 (by decide)).trans ((W11_of m ρ c main_v27 (by decide)).trans ((W10_of m ρ c main_v27 (by decide)).trans ((W9_of m ρ c main_v27 (by decide)).trans ((W8_of m ρ c main_v27 (by decide)).trans ((W7_arr m ρ c 2).trans (final2_2 (V6 m ρ) c _ _ (norm6 m ρ c) (w2 m ρ c))))))))))

theorem end2 : W14 m ρ c (Proc.devRef .tc main_v28_0) = refK (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v28_0 (by decide)).trans ((W13_of m ρ c main_v28_0 (by decide)).trans ((W12_of m ρ c main_v28_0 (by decide)).trans ((W11_of m ρ c main_v28_0 (by decide)).trans ((W10_of m ρ c main_v28_0 (by decide)).trans ((W9_of m ρ c main_v28_0 (by decide)).trans ((W8_arr m ρ c 2).trans (final3_2 (V7 m ρ) c _ _ (norm7 m ρ c) (w3 m ρ c)))))))))

theorem end3 : W14 m ρ c (Proc.devRef .tc main_v28_1) = refKb (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v28_1 (by decide)).trans ((W13_of m ρ c main_v28_1 (by decide)).trans ((W12_of m ρ c main_v28_1 (by decide)).trans ((W11_of m ρ c main_v28_1 (by decide)).trans ((W10_of m ρ c main_v28_1 (by decide)).trans ((W9_of m ρ c main_v28_1 (by decide)).trans ((W8_arr m ρ c 3).trans (final3_3 (V7 m ρ) c _ _ (norm7 m ρ c) (w3 m ρ c)))))))))

theorem end4 : W14 m ρ c (Proc.devRef .tc main_v29_0) = refV (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v29_0 (by decide)).trans ((W13_of m ρ c main_v29_0 (by decide)).trans ((W12_of m ρ c main_v29_0 (by decide)).trans ((W11_of m ρ c main_v29_0 (by decide)).trans ((W10_of m ρ c main_v29_0 (by decide)).trans ((W9_arr m ρ c 2).trans (final4_2 (V8 m ρ) c _ _ (norm8 m ρ c) (w4 m ρ c))))))))

theorem end5 : W14 m ρ c (Proc.devRef .tc main_v29_1) = refVb (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v29_1 (by decide)).trans ((W13_of m ρ c main_v29_1 (by decide)).trans ((W12_of m ρ c main_v29_1 (by decide)).trans ((W11_of m ρ c main_v29_1 (by decide)).trans ((W10_of m ρ c main_v29_1 (by decide)).trans ((W9_arr m ρ c 3).trans (final4_3 (V8 m ρ) c _ _ (norm8 m ρ c) (w4 m ρ c))))))))

theorem end6 : W14 m ρ c (Proc.devRef .tc main_v30) = refQi (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v30 (by decide)).trans ((W13_of m ρ c main_v30 (by decide)).trans ((W12_of m ρ c main_v30 (by decide)).trans ((W11_of m ρ c main_v30 (by decide)).trans ((W10_arr m ρ c 2).trans (final5_2 (V9 m ρ) c _ _ (norm9 m ρ c) (w5 m ρ c)))))))

theorem end7 : W14 m ρ c (Proc.devRef .tc main_v34) = refKidx (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) := by
  have h : W14 m ρ c (Proc.devRef .tc main_v34) = extractStridedSlice S8192x128 ![0, 0] (W13 m ρ c (Proc.devRef .tc main_v31) : FVec Ideal S8192x256 .f32) slices_S8192x256_S8192x128_0_0 := by
    unfold_abbrev_sides
    after_results <;> rfl
  rw [h, pad13]
  exact col0 _ _ _ (w6 m ρ c)

theorem end8 : W14 m ρ c (Proc.devRef .tc main_v35) = refWi (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) := by
  have h : W14 m ρ c (Proc.devRef .tc main_v35) = extractStridedSlice S8192x16 ![0, 128] (W13 m ρ c (Proc.devRef .tc main_v31) : FVec Ideal S8192x256 .f32) slices_S8192x256_S8192x16_0_128 := by
    unfold_abbrev_sides
    after_results <;> rfl
  rw [h, pad13]
  exact col128 _ _ _ (w6 m ρ c)

theorem end9 : W14 m ρ c (Proc.devRef .tc main_v32) = refQm (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v32 (by decide)).trans ((W13_of m ρ c main_v32 (by decide)).trans ((W12_arr m ρ c 2).trans (final7_2 (V11 m ρ) c _ _ (norm11 m ρ c) (w7 m ρ c)))))

theorem end10 : W14 m ρ c (Proc.devRef .tc main_v33) = refGates (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) :=
  ((W14_of m ρ c main_v33 (by decide)).trans ((W13_arr m ρ c 2).trans (final8_2 (V12 m ρ) c _ _ (norm12 m ρ c) (w8 m ρ c))))

/-- The kernel run to its end: each result is the reference's term of the arguments. -/
theorem run : θ_run defs (onTc (τ := τ) (main (F := Ideal))) ⟨m, fun _ => 0, ρ⟩ fun r => ∀ c : Dev nD,
      r.2.mem ((c.tc : Thread nD τ).loc main_v26) = refUV (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) (shapeCast Cert.ProjRefIdeal.S1024 (m ((c : Thread nD τ).loc main_arg3)) Cert.ProjRefIdeal.Gen.shapeCasts_S1x1024_S1024) (shapeCast Cert.ProjRefIdeal.S1024 (m ((c : Thread nD τ).loc main_arg4)) Cert.ProjRefIdeal.Gen.shapeCasts_S1x1024_S1024) ∧
      r.2.mem ((c.tc : Thread nD τ).loc main_v27) = refQ (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v28_0) = refK (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v28_1) = refKb (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v29_0) = refV (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v29_1) = refVb (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v30) = refQi (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v34) = refKidx (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v35) = refWi (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v32) = refQm (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_v33) = refGates (refH (shapeCast Cert.ProjRefIdeal.S8192x2048 (m ((c : Thread nD τ).loc main_arg0)) Cert.ProjRefIdeal.Gen.shapeCasts_S2x4096x2048_S8192x2048) (shapeCast Cert.ProjRefIdeal.S2048 (m ((c : Thread nD τ).loc main_arg1)) Cert.ProjRefIdeal.Gen.shapeCasts_S1x2048_S2048)) (shapeCast Cert.ProjRefIdeal.S2048x13968 (m ((c : Thread nD τ).loc main_arg2)) Cert.ProjRefIdeal.Gen.shapeCasts_S1x2048x13968_S2048x13968) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  (θ_run defs _ _).mono (fun r h c =>
    ⟨(h c _ (mem_uc main_v26 (by decide))).trans (end0 m ρ c),
      (h c _ (mem_uc main_v27 (by decide))).trans (end1 m ρ c),
      (h c _ (mem_uc main_v28_0 (by decide))).trans (end2 m ρ c),
      (h c _ (mem_uc main_v28_1 (by decide))).trans (end3 m ρ c),
      (h c _ (mem_uc main_v29_0 (by decide))).trans (end4 m ρ c),
      (h c _ (mem_uc main_v29_1 (by decide))).trans (end5 m ρ c),
      (h c _ (mem_uc main_v30 (by decide))).trans (end6 m ρ c),
      (h c _ (mem_uc main_v34 (by decide))).trans (end7 m ρ c),
      (h c _ (mem_uc main_v35 (by decide))).trans (end8 m ρ c),
      (h c _ (mem_uc main_v32 (by decide))).trans (end9 m ρ c),
      (h c _ (mem_uc main_v33 (by decide))).trans (end10 m ρ c),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c)⟩) (runW m ρ)

end Run

end Cert.ProjIdeal.Hand
-- ==== Proof.ProjSValue.lean ====
module

public import proofs.«01_k».proof.Proof.Gen.ProjSIdeal.Frame
public import proofs.«01_k».proof.Proof.Gen.ProjSRefIdeal.Run
public import Idealize.ShloMosaic.Lib.Pipeline.ValueKit
public import Idealize.ShloMosaic.Lib.Pointwise

@[expose] public section

set_option maxRecDepth 16384

noncomputable section

namespace Cert.ProjSRefIdeal.Hand

open Cert.ProjSRefIdeal Cert.ProjSRefIdeal.Gen Idealize.ShloMosaic Idealize.ShloMosaic.TcCoe Idealize.SL.Sem Idealize.ShloMosaic.StableHlo

/-! ## The reference's terms in parts -/

/-- The normed rows. -/
def refH (X : FVec Ideal S8x2048 .f32) (G : FVec Ideal S2048 .f32) : FVec Ideal S8x2048 .f32 :=
  mulf (mulf X (broadcastInDim S8x2048 ![0, 1] bcast_S8x1_S8x2048_0_1 (Host.rsqrt (addf (Host.divf (broadcastInDim S8x1 ![0] bcast_S8_S8x1_0 (Host.reduceAdd (mulf X X) (constant S_ .f32 0x00000000#32) reducesTo_S8x2048_S8_d1 h_S_)) (broadcastInDim S8x1 ![] bcast_S_S8x1 (constant S_ .f32 0x45000000#32))) (broadcastInDim S8x1 ![] bcast_S_S8x1 (constant S_ .f32 0x358637BD#32)))))) (broadcastInDim S8x2048 ![0, 1] bcast_S1x2048_S8x2048_0_1 (broadcastInDim S1x2048 ![1] bcast_S2048_S1x2048_1 G))

/-- The input projection of the rows `H`: all 13968 columns of the product. -/
def refP (H : FVec Ideal S8x2048 .f32) (W : FVec Ideal S2048x13968 .f32) : FVec Ideal S8x13968 .f32 :=
  Host.dotGeneral dot_S8x2048_S2048x13968_S8x13968_1_0_0_1_n_n none H W

/-- The gelu of the columns `D`. -/
def refGelu (D : FVec Ideal S8x1024 .f32) : FVec Ideal S8x1024 .f32 :=
  mulf D (mulf (broadcastInDim S8x1024 ![] bcast_S_S8x1024 (constant S_ .f32 0x3F000000#32)) (addf (broadcastInDim S8x1024 ![] bcast_S_S8x1024 (constant S_ .f32 0x3F800000#32)) (Host.tanh (mulf (broadcastInDim S8x1024 ![] bcast_S_S8x1024 (constant S_ .f32 0x3F4C422A#32)) (addf D (mulf (broadcastInDim S8x1024 ![] bcast_S_S8x1024 (constant S_ .f32 0x3D372713#32)) (mulf (mulf D D) D)))))))

/-- The rows `E` less their means. -/
def refC (E : FVec Ideal S8x1024 .f32) : FVec Ideal S8x1024 .f32 :=
  subf E (broadcastInDim S8x1024 ![0, 1] bcast_S8x1_S8x1024_0_1 (Host.divf (broadcastInDim S8x1 ![0] bcast_S8_S8x1_0 (Host.reduceAdd E (constant S_ .f32 0x00000000#32) reducesTo_S8x1024_S8_d1 h_S_)) (broadcastInDim S8x1 ![] bcast_S_S8x1 (constant S_ .f32 0x44800000#32))))

/-- The centred rows `C` by their deviations, scaled and shifted. -/
def refN (C : FVec Ideal S8x1024 .f32) (g b : FVec Ideal S1024 .f32) : FVec Ideal S8x1024 .f32 :=
  addf (mulf (mulf C (broadcastInDim S8x1024 ![0, 1] bcast_S8x1_S8x1024_0_1 (Host.rsqrt (addf (Host.divf (broadcastInDim S8x1 ![0] bcast_S8_S8x1_0 (Host.reduceAdd (mulf C C) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 g))) (broadcastInDim S8x1024 ![0, 1] bcast_S1x1024_S8x1024_0_1 (broadcastInDim S1x1024 ![1] bcast_S1024_S1x1024_1 b))

/-- The first 1024 columns. -/
def refD0 (H : FVec Ideal S8x2048 .f32) (W : FVec Ideal S2048x13968 .f32) : FVec Ideal S8x1024 .f32 :=
  extractStridedSlice S8x1024 ![0, 0] (refP H W) slices_S8x13968_S8x1024_0_0

/-- The second 1024 columns. -/
def refD1 (H : FVec Ideal S8x2048 .f32) (W : FVec Ideal S2048x13968 .f32) : FVec Ideal S8x1024 .f32 :=
  extractStridedSlice S8x1024 ![0, 1024] (refP H W) slices_S8x13968_S8x1024_0_1024

/-- The two halves of the gated unit's input, beside each other. -/
def refUV (H : FVec Ideal S8x2048 .f32) (W : FVec Ideal S2048x13968 .f32) (g b : FVec Ideal S1024 .f32) : FVec Ideal S8x2048 .f32 :=
  concatenate S8x2048 1 [⟨S8x1024, (refGelu (refD0 H W))⟩, ⟨S8x1024, (refN (refC (refGelu (refD1 H W))) g b)⟩] concatenates_S8x1024_S8x1024_S8x2048_d1

/-- The queries. -/
def refQ (H : FVec Ideal S8x2048 .f32) (W : FVec Ideal S2048x13968 .f32) : FVec Ideal S8x1024 .bf16 :=
  truncf .bf16 (extractStridedSlice S8x1024 ![0, 2048] (refP H W) slices_S8x13968_S8x1024_0_2048) bitsLt_bf16_f32

/-- The keys. -/
def refK (H : FVec Ideal S8x2048 .f32) (W : FVec Ideal S2048x13968 .f32) : FVec Ideal S8x1024 .f32 :=
  extractStridedSlice S8x1024 ![0, 3072] (refP H W) slices_S8x13968_S8x1024_0_3072

/-- The keys, rounded. -/
def refKb (H : FVec Ideal S8x2048 .f32) (W : FVec Ideal S2048x13968 .f32) : FVec Ideal S8x1024 .bf16 :=
  truncf .bf16 (extractStridedSlice S8x1024 ![0, 3072] (refP H W) slices_S8x13968_S8x1024_0_3072) bitsLt_bf16_f32

/-- The values. -/
def refV (H : FVec Ideal S8x2048 .f32) (W : FVec Ideal S2048x13968 .f32) : FVec Ideal S8x1024 .f32 :=
  extractStridedSlice S8x1024 ![0, 4096] (refP H W) slices_S8x13968_S8x1024_0_4096

/-- The values, rounded. -/
def refVb (H : FVec Ideal S8x2048 .f32) (W : FVec Ideal S2048x13968 .f32) : FVec Ideal S8x1024 .bf16 :=
  truncf .bf16 (extractStridedSlice S8x1024 ![0, 4096] (refP H W) slices_S8x13968_S8x1024_0_4096) bitsLt_bf16_f32

/-- The indexer's queries. -/
def refQi (H : FVec Ideal S8x2048 .f32) (W : FVec Ideal S2048x13968 .f32) : FVec Ideal S8x2048 .bf16 :=
  truncf .bf16 (extractStridedSlice S8x2048 ![0, 5120] (refP H W) slices_S8x13968_S8x2048_0_5120) bitsLt_bf16_f32

/-- The memory queries. -/
def refQm (H : FVec Ideal S8x2048 .f32) (W : FVec Ideal S2048x13968 .f32) : FVec Ideal S8x512 .bf16 :=
  truncf .bf16 (extractStridedSlice S8x512 ![0, 7312] (refP H W) slices_S8x13968_S8x512_0_7312) bitsLt_bf16_f32

/-- The gates: the logistic function of their columns. -/
def refGates (H : FVec Ideal S8x2048 .f32) (W : FVec Ideal S2048x13968 .f32) : FVec Ideal S8x6144 .bf16 :=
  truncf .bf16 (Host.divf (broadcastInDim S8x6144 ![] bcast_S_S8x6144 (constant S_ .f32 0x3F800000#32)) (addf (broadcastInDim S8x6144 ![] bcast_S_S8x6144 (constant S_ .f32 0x3F800000#32)) (Host.exp (Host.negf (extractStridedSlice S8x6144 ![0, 7824] (refP H W) slices_S8x13968_S8x6144_0_7824))))) bitsLt_bf16_f32

/-- The indexer's keys. -/
def refKidx (H : FVec Ideal S8x2048 .f32) (W : FVec Ideal S2048x13968 .f32) : FVec Ideal S8x128 .f32 :=
  extractStridedSlice S8x128 ![0, 7168] (refP H W) slices_S8x13968_S8x128_0_7168

/-- The indexer's head weights. -/
def refWi (H : FVec Ideal S8x2048 .f32) (W : FVec Ideal S2048x13968 .f32) : FVec Ideal S8x16 .f32 :=
  extractStridedSlice S8x16 ![0, 7296] (refP H W) slices_S8x13968_S8x16_0_7296

/-- The reference run to its end: each result is its named term of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = refUV (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) (shapeCast _ (m ((c.tc : Thread nD τ).loc main_arg3)) shapeCasts_S1x1024_S1024) (shapeCast _ (m ((c.tc : Thread nD τ).loc main_arg4)) shapeCasts_S1x1024_S1024) ∧
      r.2.mem ((c.tc : Thread nD τ).loc main_v84) = refQ (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v20) = refK (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v85) = refKb (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v21) = refV (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v86) = refVb (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v87) = refQi (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v23) = refKidx (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v24) = refWi (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v88) = refQm (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_v89) = refGates (refH (shapeCast _ (m ((c.tc : Thread nD τ).loc main_arg0)) shapeCasts_S8x1x2048_S8x2048) (shapeCast _ (m ((c.tc : Thread nD τ).loc main_arg1)) shapeCasts_S1x2048_S2048)) (shapeCast _ (m ((c.tc : Thread nD τ).loc main_arg2)) shapeCasts_S1x2048x13968_S2048x13968) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  (θ_run defs _ _).mono (fun r h => h) (Cert.ProjSRefIdeal.Value.run (F := Ideal) m ρ)

end Cert.ProjSRefIdeal.Hand

namespace Cert.ProjSIdeal.Hand

open Cert.ProjSIdeal Cert.ProjSIdeal.Gen Cert.ProjSRefIdeal.Hand Idealize.ShloMosaic Idealize.ShloMosaic.TcCoe Idealize.SL.Sem Idealize.ShloMosaic.StableHlo

/-! ## The blocks of the grids' points -/

theorem idx0 : ∀ t : Fin cfg0.N, win0_0.index t = ![t.val, 0] ∧ win0_1.index t = ![0, 0] ∧ win0_2.index t = ![t.val, 0] ∧ t.val < 1 :=
  (by decide +kernel : ∀ t : Fin grid0.N, _)

/-- Row `x` of the block of rows `t`. -/
abbrev row0 (t : Fin cfg0.N) (x : S8x2048.Idx) : Cert.ProjSRefIdeal.S8x2048.Idx :=
  ix2 ⟨t.val * 8 + (x 0).val, by have := idx0 t; idx_bounds; omega⟩ ⟨(x 1).val, by idx_bounds; omega⟩

theorem idx1 : ∀ t : Fin cfg1.N, win1_0.index t = ![t.val / 2, 0] ∧ win1_1.index t = ![0, t.val % 2] ∧ win1_2.index t = ![0, 0] ∧ win1_3.index t = ![0, 0] ∧ win1_4.index t = ![t.val / 2, t.val % 2] ∧ t.val < 2 :=
  (by decide +kernel : ∀ t : Fin grid1.N, _)

/-- Row `x` of the block of rows of point `t`. -/
abbrev row1 (t : Fin cfg1.N) (x : S8x1024.Idx) : Cert.ProjSRefIdeal.S8x1024.Idx :=
  ix2 ⟨t.val / 2 * 8 + (x 0).val, by have := idx1 t; idx_bounds; omega⟩ ⟨(x 1).val, by idx_bounds; omega⟩

theorem idx2 : ∀ t : Fin cfg2.N, win2_0.index t = ![t.val / 2, 0] ∧ win2_1.index t = ![0, t.val % 2] ∧ win2_2.index t = ![t.val / 2, t.val % 2] ∧ t.val < 2 :=
  (by decide +kernel : ∀ t : Fin grid2.N, _)

/-- Place `x` of the block of point `t`. -/
abbrev row2 (t : Fin cfg2.N) (x : S8x512.Idx) : Cert.ProjSRefIdeal.S8x1024.Idx :=
  ix2 ⟨t.val / 2 * 8 + (x 0).val, by have := idx2 t; idx_bounds; omega⟩ ⟨(t.val % 2 * 512 + (x 1).val), by idx_bounds; omega⟩

theorem idx3 : ∀ t : Fin cfg3.N, win3_0.index t = ![t.val / 2, 0] ∧ win3_1.index t = ![0, t.val % 2] ∧ win3_2.index t = ![t.val / 2, t.val % 2] ∧ win3_3.index t = ![t.val / 2, t.val % 2] ∧ t.val < 2 :=
  (by decide +kernel : ∀ t : Fin grid3.N, _)

/-- Place `x` of the block of point `t`. -/
abbrev row3 (t : Fin cfg3.N) (x : S8x512.Idx) : Cert.ProjSRefIdeal.S8x1024.Idx :=
  ix2 ⟨t.val / 2 * 8 + (x 0).val, by have := idx3 t; idx_bounds; omega⟩ ⟨(t.val % 2 * 512 + (x 1).val), by idx_bounds; omega⟩

theorem idx4 : ∀ t : Fin cfg4.N, win4_0.index t = ![t.val / 2, 0] ∧ win4_1.index t = ![0, t.val % 2] ∧ win4_2.index t = ![t.val / 2, t.val % 2] ∧ win4_3.index t = ![t.val / 2, t.val % 2] ∧ t.val < 2 :=
  (by decide +kernel : ∀ t : Fin grid4.N, _)

/-- Place `x` of the block of point `t`. -/
abbrev row4 (t : Fin cfg4.N) (x : S8x512.Idx) : Cert.ProjSRefIdeal.S8x1024.Idx :=
  ix2 ⟨t.val / 2 * 8 + (x 0).val, by have := idx4 t; idx_bounds; omega⟩ ⟨(t.val % 2 * 512 + (x 1).val), by idx_bounds; omega⟩

theorem idx5 : ∀ t : Fin cfg5.N, win5_0.index t = ![t.val / 4, 0] ∧ win5_1.index t = ![0, t.val % 4] ∧ win5_2.index t = ![t.val / 4, t.val % 4] ∧ t.val < 4 :=
  (by decide +kernel : ∀ t : Fin grid5.N, _)

/-- Place `x` of the block of point `t`. -/
abbrev row5 (t : Fin cfg5.N) (x : S8x512.Idx) : Cert.ProjSRefIdeal.S8x2048.Idx :=
  ix2 ⟨t.val / 4 * 8 + (x 0).val, by have := idx5 t; idx_bounds; omega⟩ ⟨(t.val % 4 * 512 + (x 1).val), by idx_bounds; omega⟩

theorem idx7 : ∀ t : Fin cfg7.N, win7_0.index t = ![t.val, 0] ∧ win7_1.index t = ![0, 0] ∧ win7_2.index t = ![t.val, 0] ∧ t.val < 1 :=
  (by decide +kernel : ∀ t : Fin grid7.N, _)

/-- Place `x` of the block of point `t`. -/
abbrev row7 (t : Fin cfg7.N) (x : S8x512.Idx) : Cert.ProjSRefIdeal.S8x512.Idx :=
  ix2 ⟨t.val * 8 + (x 0).val, by have := idx7 t; idx_bounds; omega⟩ ⟨(0 * 512 + (x 1).val), by idx_bounds; omega⟩

theorem idx8 : ∀ t : Fin cfg8.N, win8_0.index t = ![t.val / 12, 0] ∧ win8_1.index t = ![0, t.val % 12] ∧ win8_2.index t = ![t.val / 12, t.val % 12] ∧ t.val < 12 :=
  (by decide +kernel : ∀ t : Fin grid8.N, _)

/-- Place `x` of the block of point `t`. -/
abbrev row8 (t : Fin cfg8.N) (x : S8x512.Idx) : Cert.ProjSRefIdeal.S8x6144.Idx :=
  ix2 ⟨t.val / 12 * 8 + (x 0).val, by have := idx8 t; idx_bounds; omega⟩ ⟨(t.val % 12 * 512 + (x 1).val), by idx_bounds; omega⟩

theorem idx6 : ∀ t : Fin cfg6.N, win6_0.index t = ![t.val, 0] ∧ win6_1.index t = ![0, 0] ∧ win6_2.index t = ![t.val, 0] ∧ t.val < 1 :=
  (by decide +kernel : ∀ t : Fin grid6.N, _)

abbrev row6 (t : Fin cfg6.N) (x : S8x256.Idx) : S8x256.Idx :=
  ix2 ⟨t.val * 8 + (x 0).val, by have := idx6 t; idx_bounds; omega⟩ ⟨(x 1).val, by idx_bounds; omega⟩

section Regions

variable (V : (c : Dev nD) → (b : Ref sig .tc) → Buf (Elt Ideal) ((c : Thread nD τ).loc b)) (c : Dev nD)

/-! ## The normed rows -/

/-- The normed rows, a block at a time. -/
theorem at0 (X : FVec Ideal Cert.ProjSRefIdeal.S8x2048 .f32) (G : FVec Ideal Cert.ProjSRefIdeal.S2048 .f32) (hX : V c main_v18 = X)
    (hG : ∀ b : Fin 2048, (V c main_v22 : FVec Ideal S1x2048 .f32) (ix2 0 b) = G (ix1 b)) (t : Fin cfg0.N) (x : S8x2048.Idx) :
    k0_pay1 (F := Ideal) (iblk0 V c 0 t) (iblk0 V c 1 t) x = refH X G (row0 t x) := by
  have h0 : ∀ y, iblk0 V c 0 t y = X (row0 t y) := fun y => by
    subst hX; blk_point [iblk0, row0, idx0 t]
  have h1 : ∀ y, iblk0 V c 1 t y = G (ix1 ⟨(y 1).val, by idx_bounds; omega⟩) := fun y => by
    refine Eq.trans ?_ (hG ⟨(y 1).val, by idx_bounds; omega⟩)
    blk_point [iblk0, idx0 t]
  rw [show iblk0 V c 0 t = _ from funext h0, show iblk0 V c 1 t = _ from funext h1]
  pointwise [k0_pay1, refH, row0]

/-- The normed rows. -/
theorem final0 (X : FVec Ideal Cert.ProjSRefIdeal.S8x2048 .f32) (G : FVec Ideal Cert.ProjSRefIdeal.S2048 .f32) (hX : V c main_v18 = X)
    (hG : ∀ b : Fin 2048, (V c main_v22 : FVec Ideal S1x2048 .f32) (ix2 0 b) = G (ix1 b)) :
    (dat0 V c).arrAt 2 cfg0.N = refH X G := by
  refine (dat0 V c).arrAt_eq_of_covers 2 _ (by decide +kernel) fun t hf y => ?_
  blk_simp
  rw [after0_2]; unfold out0_2; frame_out
  rw [at0 V c X G hX hG]
  generalize refH X G = Z
  blk_point [row0, idx0 t]

/-! ## The gated unit's two halves -/

theorem blk1_0 (H : FVec Ideal Cert.ProjSRefIdeal.S8x2048 .f32) (hH : V c main_v23 = H) (t : Fin cfg1.N) :
    iblk1 V c 0 t = fun y => H (ix2 ⟨t.val / 2 * 8 + (y 0).val, by have := idx1 t; idx_bounds; omega⟩ ⟨(y 1).val, by idx_bounds; omega⟩) := by
  subst hH; funext y; blk_point [iblk1, idx1 t]

theorem blk1_1 (W : FVec Ideal Cert.ProjSRefIdeal.S2048x13968 .f32)
    (hW : ∀ (a : Fin 2048) (b : Fin 2048), (V c main_v2 : FVec Ideal S2048x2048 .bf16) (ix2 a b) = W (ix2 a ⟨0 + b.val, by omega⟩)) (t : Fin cfg1.N) :
    iblk1 V c 1 t = fun y => W (ix2 ⟨(y 0).val, by idx_bounds; omega⟩ ⟨0 + (t.val % 2 * 1024 + (y 1).val), by idx_bounds; omega⟩) := by
  funext y
  refine Eq.trans ?_ (hW ⟨(y 0).val, by idx_bounds; omega⟩ ⟨t.val % 2 * 1024 + (y 1).val, by idx_bounds; omega⟩)
  blk_point [iblk1, idx1 t]

theorem blk1_2 (g : FVec Ideal Cert.ProjSRefIdeal.S1024 .f32) (hg : ∀ j : Fin 1024, (V c main_v24 : FVec Ideal S1x1024 .f32) (ix2 0 j) = g (ix1 j)) (t : Fin cfg1.N) :
    iblk1 V c 2 t = fun y => g (ix1 ⟨(y 1).val, by idx_bounds; omega⟩) := by
  funext y
  refine Eq.trans ?_ (hg ⟨(y 1).val, by idx_bounds; omega⟩)
  blk_point [iblk1, idx1 t]

theorem blk1_3 (b : FVec Ideal Cert.ProjSRefIdeal.S1024 .f32) (hb : ∀ j : Fin 1024, (V c main_v25 : FVec Ideal S1x1024 .f32) (ix2 0 j) = b (ix1 j)) (t : Fin cfg1.N) :
    iblk1 V c 3 t = fun y => b (ix1 ⟨(y 1).val, by idx_bounds; omega⟩) := by
  funext y
  refine Eq.trans ?_ (hb ⟨(y 1).val, by idx_bounds; omega⟩)
  blk_point [iblk1, idx1 t]

/-- The gelu of a block of the first 1024 columns. -/
theorem gelu0_at (H : FVec Ideal Cert.ProjSRefIdeal.S8x2048 .f32) (W : FVec Ideal Cert.ProjSRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (t : Fin cfg1.N) (ht : t.val % 2 = 0) (x : S8x1024.Idx) :
    k1_pay1 (F := Ideal) (iblk1 V c 0 t) (iblk1 V c 1 t) x = refGelu (refD0 H W) (row1 t x) := by
  rw [blk1_0 V c H hH t, blk1_1 V c W hW t]
  simp only [ht]
  pointwise [k1_pay1, refGelu, refD0, refP, row1]
  try simp only [mul_assoc]

/-- The gelu of a block of the second 1024 columns. -/
theorem gelu1_at (H : FVec Ideal Cert.ProjSRefIdeal.S8x2048 .f32) (W : FVec Ideal Cert.ProjSRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (t : Fin cfg1.N) (ht : t.val % 2 = 1) (x : S8x1024.Idx) :
    k1_pay1 (F := Ideal) (iblk1 V c 0 t) (iblk1 V c 1 t) x = refGelu (refD1 H W) (row1 t x) := by
  rw [blk1_0 V c H hH t, blk1_1 V c W hW t]
  simp only [ht]
  pointwise [k1_pay1, refGelu, refD1, refP, row1]
  try simp only [mul_assoc]

/-- The normalised second half at a block. -/
theorem norm_at (H : FVec Ideal Cert.ProjSRefIdeal.S8x2048 .f32) (W : FVec Ideal Cert.ProjSRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (g b : FVec Ideal Cert.ProjSRefIdeal.S1024 .f32)
    (hg : ∀ j : Fin 1024, (V c main_v24 : FVec Ideal S1x1024 .f32) (ix2 0 j) = g (ix1 j)) (hb : ∀ j : Fin 1024, (V c main_v25 : FVec Ideal S1x1024 .f32) (ix2 0 j) = b (ix1 j)) (t : Fin cfg1.N) (ht : t.val % 2 = 1) (x : S8x1024.Idx) :
    k1_pay2 (F := Ideal) (iblk1 V c 0 t) (iblk1 V c 1 t) (iblk1 V c 2 t) (iblk1 V c 3 t) x = refN (refC (refGelu (refD1 H W))) g b (row1 t x) := by
  have hE := funext (gelu1_at V c H W hH hW t ht)
  rw [blk1_2 V c g hg t, blk1_3 V c b hb t]
  unfold k1_pay2
  rw [hE]
  generalize refGelu (refD1 H W) = E
  pointwise [refN, refC, row1]

/-- The two halves beside each other, read in the first. -/
theorem uv_lo (H : FVec Ideal Cert.ProjSRefIdeal.S8x2048 .f32) (W : FVec Ideal Cert.ProjSRefIdeal.S2048x13968 .f32) (g b : FVec Ideal Cert.ProjSRefIdeal.S1024 .f32) (i : Fin 8) (j : Fin 2048) (hj : j.val < 1024) :
    refUV H W g b (ix2 i j) = refGelu (refD0 H W) (ix2 i ⟨j.val, hj⟩) := by
  unfold refUV
  generalize refGelu (refD0 H W) = Z
  generalize refN (refC (refGelu (refD1 H W))) g b = Z'
  pointwise []
  simp [hj]

/-- The two halves beside each other, read in the second. -/
theorem uv_hi (H : FVec Ideal Cert.ProjSRefIdeal.S8x2048 .f32) (W : FVec Ideal Cert.ProjSRefIdeal.S2048x13968 .f32) (g b : FVec Ideal Cert.ProjSRefIdeal.S1024 .f32) (i : Fin 8) (j : Fin 2048) (hj : ¬ j.val < 1024) :
    refUV H W g b (ix2 i j) = refN (refC (refGelu (refD1 H W))) g b (ix2 i ⟨j.val - 1024, by omega⟩) := by
  unfold refUV
  generalize refGelu (refD0 H W) = Z
  generalize refN (refC (refGelu (refD1 H W))) g b = Z'
  pointwise []
  simp [hj]

/-- The gated unit's two halves. -/
theorem final1 (H : FVec Ideal Cert.ProjSRefIdeal.S8x2048 .f32) (W : FVec Ideal Cert.ProjSRefIdeal.S2048x13968 .f32) (hH : V c main_v23 = H)
    (hW : ∀ (a : Fin 2048) (b : Fin 2048), (V c main_v2 : FVec Ideal S2048x2048 .bf16) (ix2 a b) = W (ix2 a ⟨0 + b.val, by omega⟩)) (g b : FVec Ideal Cert.ProjSRefIdeal.S1024 .f32)
    (hg : ∀ j : Fin 1024, (V c main_v24 : FVec Ideal S1x1024 .f32) (ix2 0 j) = g (ix1 j)) (hb : ∀ j : Fin 1024, (V c main_v25 : FVec Ideal S1x1024 .f32) (ix2 0 j) = b (ix1 j)) :
    (dat1 V c).arrAt 4 cfg1.N = refUV H W g b := by
  refine (dat1 V c).arrAt_eq_of_covers 4 _ (by decide +kernel) fun t hf y => ?_
  blk_simp
  rw [after1_4]
  rcases Nat.mod_two_eq_zero_or_one t.val with ht | ht
  · have hlo := uv_lo H W g b ⟨t.val / 2 * 8 + (y 0).val, by have := idx1 t; idx_bounds; omega⟩ ⟨t.val % 2 * 1024 + (y 1).val, by idx_bounds; omega⟩ (by idx_bounds; simp only; omega)
    rw [outsAt1_A V c t ht (by omega)]; frame_out

    rw [show k1_pay1 (F := Ideal) (iblk1 V c 0 t) (iblk1 V c 1 t) = _ from funext (gelu0_at V c H W hH hW t ht)]
    generalize refGelu (refD0 H W) = Z at hlo ⊢
    generalize refUV H W g b = U at hlo ⊢
    refine Eq.trans (Eq.trans ?_ hlo.symm) ?_
    · refine congrArg Z (congrArg₂ ix2 (Fin.ext ?_) (Fin.ext ?_))
      · rfl
      · show (y 1).val = t.val % 2 * 1024 + (y 1).val
        omega
    · blk_point [idx1 t]
  · have hhi := uv_hi H W g b ⟨t.val / 2 * 8 + (y 0).val, by have := idx1 t; idx_bounds; omega⟩ ⟨t.val % 2 * 1024 + (y 1).val, by idx_bounds; omega⟩ (by idx_bounds; simp only; omega)
    rw [outsAt1_B V c t (by omega) ht]; frame_out
    rw [norm_at V c H W hH hW g b hg hb t ht]
    generalize refN (refC (refGelu (refD1 H W))) g b = Z at hhi ⊢
    generalize refUV H W g b = U at hhi ⊢
    refine Eq.trans (Eq.trans ?_ hhi.symm) ?_
    · refine congrArg Z (congrArg₂ ix2 (Fin.ext ?_) (Fin.ext ?_))
      · rfl
      · show (y 1).val = t.val % 2 * 1024 + (y 1).val - 1024
        omega
    · blk_point [idx1 t]

/-! ## Columns 2048 to 3072 -/

/-- The queries. A block at a time. -/
theorem at2_2 (H : FVec Ideal Cert.ProjSRefIdeal.S8x2048 .f32) (W : FVec Ideal Cert.ProjSRefIdeal.S2048x13968 .f32) (hH : V c main_v23 = H)
    (hW : ∀ (a : Fin 2048) (b : Fin 1024), (V c main_v4 : FVec Ideal S2048x1024 .bf16) (ix2 a b) = W (ix2 a ⟨2048 + b.val, by omega⟩)) (t : Fin cfg2.N) (x : S8x512.Idx) :
    k2_pay1 (F := Ideal) (iblk2 V c 0 t) (iblk2 V c 1 t) x = refQ H W (row2 t x) := by
  have h0 : ∀ y, iblk2 V c 0 t y = H (ix2 ⟨t.val / 2 * 8 + (y 0).val, by have := idx2 t; idx_bounds; omega⟩ ⟨(y 1).val, by idx_bounds; omega⟩) := fun y => by
    subst hH; blk_point [iblk2, idx2 t]
  have h1 : ∀ y, iblk2 V c 1 t y = W (ix2 ⟨(y 0).val, by idx_bounds; omega⟩ ⟨2048 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk2, idx2 t]
  rw [show iblk2 V c 0 t = _ from funext h0, show iblk2 V c 1 t = _ from funext h1]
  pointwise [k2_pay1, refQ, refP, row2]

/-- The queries. -/
theorem final2_2 (H : FVec Ideal Cert.ProjSRefIdeal.S8x2048 .f32) (W : FVec Ideal Cert.ProjSRefIdeal.S2048x13968 .f32) (hH : V c main_v23 = H)
    (hW : ∀ (a : Fin 2048) (b : Fin 1024), (V c main_v4 : FVec Ideal S2048x1024 .bf16) (ix2 a b) = W (ix2 a ⟨2048 + b.val, by omega⟩)) :
    (dat2 V c).arrAt 2 cfg2.N = refQ H W := by
  refine (dat2 V c).arrAt_eq_of_covers 2 _ (by decide +kernel) fun t hf y => ?_
  blk_simp
  rw [after2_2]; unfold out2_2; frame_out
  rw [at2_2 V c H W hH hW]
  generalize refQ H W = Z
  blk_point [row2, idx2 t]

/-! ## Columns 3072 to 4096 -/

/-- The keys. A block at a time. -/
theorem at3_2 (H : FVec Ideal Cert.ProjSRefIdeal.S8x2048 .f32) (W : FVec Ideal Cert.ProjSRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) (t : Fin cfg3.N) (x : S8x512.Idx) :
    k3_pay1 (F := Ideal) (iblk3 V c 0 t) (iblk3 V c 1 t) x = refK H W (row3 t x) := by
  have h0 : ∀ y, iblk3 V c 0 t y = H (ix2 ⟨t.val / 2 * 8 + (y 0).val, by have := idx3 t; idx_bounds; omega⟩ ⟨(y 1).val, by idx_bounds; omega⟩) := fun y => by
    subst hH; blk_point [iblk3, idx3 t]
  have h1 : ∀ y, iblk3 V c 1 t y = W (ix2 ⟨(y 0).val, by idx_bounds; omega⟩ ⟨3072 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk3, idx3 t]
  rw [show iblk3 V c 0 t = _ from funext h0, show iblk3 V c 1 t = _ from funext h1]
  pointwise [k3_pay1, refK, refP, row3]

/-- The keys. -/
theorem final3_2 (H : FVec Ideal Cert.ProjSRefIdeal.S8x2048 .f32) (W : FVec Ideal Cert.ProjSRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) :
    (dat3 V c).arrAt 2 cfg3.N = refK H W := by
  refine (dat3 V c).arrAt_eq_of_covers 2 _ (by decide +kernel) fun t hf y => ?_
  blk_simp
  rw [after3_2]; unfold out3_2; frame_out
  rw [at3_2 V c H W hH hW]
  generalize refK H W = Z
  blk_point [row3, idx3 t]

/-- The keys, rounded. A block at a time. -/
theorem at3_3 (H : FVec Ideal Cert.ProjSRefIdeal.S8x2048 .f32) (W : FVec Ideal Cert.ProjSRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) (t : Fin cfg3.N) (x : S8x512.Idx) :
    k3_pay2 (F := Ideal) (iblk3 V c 0 t) (iblk3 V c 1 t) x = refKb H W (row3 t x) := by
  have h0 : ∀ y, iblk3 V c 0 t y = H (ix2 ⟨t.val / 2 * 8 + (y 0).val, by have := idx3 t; idx_bounds; omega⟩ ⟨(y 1).val, by idx_bounds; omega⟩) := fun y => by
    subst hH; blk_point [iblk3, idx3 t]
  have h1 : ∀ y, iblk3 V c 1 t y = W (ix2 ⟨(y 0).val, by idx_bounds; omega⟩ ⟨3072 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk3, idx3 t]
  rw [show iblk3 V c 0 t = _ from funext h0, show iblk3 V c 1 t = _ from funext h1]
  pointwise [k3_pay2, k3_pay1, refKb, refP, row3]

/-- The keys, rounded. -/
theorem final3_3 (H : FVec Ideal Cert.ProjSRefIdeal.S8x2048 .f32) (W : FVec Ideal Cert.ProjSRefIdeal.S2048x13968 .f32) (hH : V c main_v23 = H)
    (hW : ∀ (a : Fin 2048) (b : Fin 1024), (V c main_v6 : FVec Ideal S2048x1024 .bf16) (ix2 a b) = W (ix2 a ⟨3072 + b.val, by omega⟩)) :
    (dat3 V c).arrAt 3 cfg3.N = refKb H W := by
  refine (dat3 V c).arrAt_eq_of_covers 3 _ (by decide +kernel) fun t hf y => ?_
  blk_simp
  rw [after3_3]; unfold out3_3; frame_out
  rw [at3_3 V c H W hH hW]
  generalize refKb H W = Z
  blk_point [row3, idx3 t]

/-! ## Columns 4096 to 5120 -/

/-- The values. A block at a time. -/
theorem at4_2 (H : FVec Ideal Cert.ProjSRefIdeal.S8x2048 .f32) (W : FVec Ideal Cert.ProjSRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) (t : Fin cfg4.N) (x : S8x512.Idx) :
    k4_pay1 (F := Ideal) (iblk4 V c 0 t) (iblk4 V c 1 t) x = refV H W (row4 t x) := by
  have h0 : ∀ y, iblk4 V c 0 t y = H (ix2 ⟨t.val / 2 * 8 + (y 0).val, by have := idx4 t; idx_bounds; omega⟩ ⟨(y 1).val, by idx_bounds; omega⟩) := fun y => by
    subst hH; blk_point [iblk4, idx4 t]
  have h1 : ∀ y, iblk4 V c 1 t y = W (ix2 ⟨(y 0).val, by idx_bounds; omega⟩ ⟨4096 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk4, idx4 t]
  rw [show iblk4 V c 0 t = _ from funext h0, show iblk4 V c 1 t = _ from funext h1]
  pointwise [k4_pay1, refV, refP, row4]

/-- The values. -/
theorem final4_2 (H : FVec Ideal Cert.ProjSRefIdeal.S8x2048 .f32) (W : FVec Ideal Cert.ProjSRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) :
    (dat4 V c).arrAt 2 cfg4.N = refV H W := by
  refine (dat4 V c).arrAt_eq_of_covers 2 _ (by decide +kernel) fun t hf y => ?_
  blk_simp
  rw [after4_2]; unfold out4_2; frame_out
  rw [at4_2 V c H W hH hW]
  generalize refV H W = Z
  blk_point [row4, idx4 t]

/-- The values, rounded. A block at a time. -/
theorem at4_3 (H : FVec Ideal Cert.ProjSRefIdeal.S8x2048 .f32) (W : FVec Ideal Cert.ProjSRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) (t : Fin cfg4.N) (x : S8x512.Idx) :
    k4_pay2 (F := Ideal) (iblk4 V c 0 t) (iblk4 V c 1 t) x = refVb H W (row4 t x) := by
  have h0 : ∀ y, iblk4 V c 0 t y = H (ix2 ⟨t.val / 2 * 8 + (y 0).val, by have := idx4 t; idx_bounds; omega⟩ ⟨(y 1).val, by idx_bounds; omega⟩) := fun y => by
    subst hH; blk_point [iblk4, idx4 t]
  have h1 : ∀ y, iblk4 V c 1 t y = W (ix2 ⟨(y 0).val, by idx_bounds; omega⟩ ⟨4096 + (t.val % 2 * 512 + (y 1).val), by idx_bounds; omega⟩) := fun y => by
    refine Eq.trans ?_ (hW ⟨(y 0).val, by idx_bounds; omega⟩ ⟨(t.val % 2 * 512 + (y 1).val), by idx_bounds; omega⟩)
    blk_point [iblk4, idx4 t]
  rw [show iblk4 V c 0 t = _ from funext h0, show iblk4 V c 1 t = _ from funext h1]
  pointwise [k4_pay2, k4_pay1, refVb, refP, row4]

/-- The values, rounded. -/
theorem final4_3 (H : FVec Ideal Cert.ProjSRefIdeal.S8x2048 .f32) (W : FVec Ideal Cert.ProjSRefIdeal.S2048x13968 .f32) (hH : V c main_v23 = H)
    (hW : ∀ (a : Fin 2048) (b : Fin 1024), (V c main_v8 : FVec Ideal S2048x1024 .bf16) (ix2 a b) = W (ix2 a ⟨4096 + b.val, by omega⟩)) :
    (dat4 V c).arrAt 3 cfg4.N = refVb H W := by
  refine (dat4 V c).arrAt_eq_of_covers 3 _ (by decide +kernel) fun t hf y => ?_
  blk_simp
  rw [after4_3]; unfold out4_3; frame_out
  rw [at4_3 V c H W hH hW]
  generalize refVb H W = Z
  blk_point [row4, idx4 t]

/-! ## Columns 5120 to 7168 -/

/-- The indexer's queries. A block at a time. -/
theorem at5_2 (H : FVec Ideal Cert.ProjSRefIdeal.S8x2048 .f32) (W : FVec Ideal Cert.ProjSRefIdeal.S2048x13968 .f32) (hH : V c main_v23 = H)
    (hW : ∀ (a : Fin 2048) (b : Fin 2048), (V c main_v10 : FVec Ideal S2048x2048 .bf16) (ix2 a b) = W (ix2 a ⟨5120 + b.val, by omega⟩)) (t : Fin cfg5.N) (x : S8x512.Idx) :
    k5_pay1 (F := Ideal) (iblk5 V c 0 t) (iblk5 V c 1 t) x = refQi H W (row5 t x) := by
  have h0 : ∀ y, iblk5 V c 0 t y = H (ix2 ⟨t.val / 4 * 8 + (y 0).val, by have := idx5 t; idx_bounds; omega⟩ ⟨(y 1).val, by idx_bounds; omega⟩) := fun y => by
    subst hH; blk_point [iblk5, idx5 t]
  have h1 : ∀ y, iblk5 V c 1 t y = W (ix2 ⟨(y 0).val, by idx_bounds; omega⟩ ⟨5120 + (t.val % 4 * 512 + (y 1).val), by idx_bounds; omega⟩) := fun y => by
    refine Eq.trans ?_ (hW ⟨(y 0).val, by idx_bounds; omega⟩ ⟨(t.val % 4 * 512 + (y 1).val), by idx_bounds; omega⟩)
    blk_point [iblk5, idx5 t]
  rw [show iblk5 V c 0 t = _ from funext h0, show iblk5 V c 1 t = _ from funext h1]
  pointwise [k5_pay1, refQi, refP, row5]

/-- The indexer's queries. -/
theorem final5_2 (H : FVec Ideal Cert.ProjSRefIdeal.S8x2048 .f32) (W : FVec Ideal Cert.ProjSRefIdeal.S2048x13968 .f32) (hH : V c main_v23 = H)
    (hW : ∀ (a : Fin 2048) (b : Fin 2048), (V c main_v10 : FVec Ideal S2048x2048 .bf16) (ix2 a b) = W (ix2 a ⟨5120 + b.val, by omega⟩)) :
    (dat5 V c).arrAt 2 cfg5.N = refQi H W := by
  refine (dat5 V c).arrAt_eq_of_covers 2 _ (by decide +kernel) fun t hf y => ?_
  blk_simp
  rw [after5_2]; unfold out5_2; frame_out
  rw [at5_2 V c H W hH hW]
  generalize refQi H W = Z
  blk_point [row5, idx5 t]

/-! ## Columns 7312 to 7824 -/

/-- The memory queries. A block at a time. -/
theorem at7_2 (H : FVec Ideal Cert.ProjSRefIdeal.S8x2048 .f32) (W : FVec Ideal Cert.ProjSRefIdeal.S2048x13968 .f32) (hH : V c main_v23 = H)
    (hW : ∀ (a : Fin 2048) (b : Fin 512), (V c main_v14 : FVec Ideal S2048x512 .bf16) (ix2 a b) = W (ix2 a ⟨7312 + b.val, by omega⟩)) (t : Fin cfg7.N) (x : S8x512.Idx) :
    k7_pay1 (F := Ideal) (iblk7 V c 0 t) (iblk7 V c 1 t) x = refQm H W (row7 t x) := by
  have h0 : ∀ y, iblk7 V c 0 t y = H (ix2 ⟨t.val * 8 + (y 0).val, by have := idx7 t; idx_bounds; omega⟩ ⟨(y 1).val, by idx_bounds; omega⟩) := fun y => by
    subst hH; blk_point [iblk7, idx7 t]
  have h1 : ∀ y, iblk7 V c 1 t y = W (ix2 ⟨(y 0).val, by idx_bounds; omega⟩ ⟨7312 + (0 * 512 + (y 1).val), by idx_bounds; omega⟩) := fun y => by
    refine Eq.trans ?_ (hW ⟨(y 0).val, by idx_bounds; omega⟩ ⟨(0 * 512 + (y 1).val), by idx_bounds; omega⟩)
    blk_point [iblk7, idx7 t]
  rw [show iblk7 V c 0 t = _ from funext h0, show iblk7 V c 1 t = _ from funext h1]
  pointwise [k7_pay1, refQm, refP, row7]

/-- The memory queries. -/
theorem final7_2 (H : FVec Ideal Cert.ProjSRefIdeal.S8x2048 .f32) (W : FVec Ideal Cert.ProjSRefIdeal.S2048x13968 .f32) (hH : V c main_v23 = H)
    (hW : ∀ (a : Fin 2048) (b : Fin 512), (V c main_v14 : FVec Ideal S2048x512 .bf16) (ix2 a b) = W (ix2 a ⟨7312 + b.val, by omega⟩)) :
    (dat7 V c).arrAt 2 cfg7.N = refQm H W := by
  refine (dat7 V c).arrAt_eq_of_covers 2 _ (by decide +kernel) fun t hf y => ?_
  blk_simp
  rw [after7_2]; unfold out7_2; frame_out
  rw [at7_2 V c H W hH hW]
  generalize refQm H W = Z
  blk_point [row7, idx7 t]

/-! ## Columns 7824 to 13968 -/

/-- The gates: the logistic function of their columns. A block at a time. -/
theorem at8_2 (H : FVec Ideal Cert.ProjSRefIdeal.S8x2048 .f32) (W : FVec Ideal Cert.ProjSRefIdeal.S2048x13968 .f32) (hH : V c main_v23 = H)
    (hW : ∀ (a : Fin 2048) (b : Fin 6144), (V c main_v16 : FVec Ideal S2048x6144 .bf16) (ix2 a b) = W (ix2 a ⟨7824 + b.val, by omega⟩)) (t : Fin cfg8.N) (x : S8x512.Idx) :
    k8_pay1 (F := Ideal) (iblk8 V c 0 t) (iblk8 V c 1 t) x = refGates H W (row8 t x) := by
  have h0 : ∀ y, iblk8 V c 0 t y = H (ix2 ⟨t.val / 12 * 8 + (y 0).val, by have := idx8 t; idx_bounds; omega⟩ ⟨(y 1).val, by idx_bounds; omega⟩) := fun y => by
    subst hH; blk_point [iblk8, idx8 t]
  have h1 : ∀ y, iblk8 V c 1 t y = W (ix2 ⟨(y 0).val, by idx_bounds; omega⟩ ⟨7824 + (t.val % 12 * 512 + (y 1).val), by idx_bounds; omega⟩) := fun y => by
    refine Eq.trans ?_ (hW ⟨(y 0).val, by idx_bounds; omega⟩ ⟨(t.val % 12 * 512 + (y 1).val), by idx_bounds; omega⟩)
    blk_point [iblk8, idx8 t]
  rw [show iblk8 V c 0 t = _ from funext h0, show iblk8 V c 1 t = _ from funext h1]
  pointwise [k8_pay1, refGates, refP, row8]
  rfl

/-- The gates: the logistic function of their columns. -/
theorem final8_2 (H : FVec Ideal Cert.ProjSRefIdeal.S8x2048 .f32) (W : FVec Ideal Cert.ProjSRefIdeal.S2048x13968 .f32) (hH : V c main_v23 = H)
    (hW : ∀ (a : Fin 2048) (b : Fin 6144), (V c main_v16 : FVec Ideal S2048x6144 .bf16) (ix2 a b) = W (ix2 a ⟨7824 + b.val, by omega⟩)) :
    (dat8 V c).arrAt 2 cfg8.N = refGates H W := by
  refine (dat8 V c).arrAt_eq_of_covers 2 _ (by decide +kernel) fun t hf y => ?_
  blk_simp
  rw [after8_2]; unfold out8_2; frame_out
  rw [at8_2 V c H W hH hW]
  generalize refGates H W = Z
  blk_point [row8, idx8 t]

/-! ## Columns 7168 to 7312, padded to 256 -/

/-- The rows `H` times the padded columns `Wp`. -/
def mm6 (H : FVec Ideal Cert.ProjSRefIdeal.S8x2048 .f32) (Wp : FVec Ideal S2048x256 .bf16) : FVec Ideal S8x256 .f32 :=
  fun i => ∑ k : Fin 2048, (H (ix2 (i 0) k) : EReal) * Wp (ix2 k (i 1))

theorem at6 (H : FVec Ideal Cert.ProjSRefIdeal.S8x2048 .f32) (Wp : FVec Ideal S2048x256 .bf16) (hH : V c main_v23 = H) (hW : V c main_v17 = Wp) (t : Fin cfg6.N) (x : S8x256.Idx) :
    k6_pay1 (F := Ideal) (iblk6 V c 0 t) (iblk6 V c 1 t) x = mm6 H Wp (row6 t x) := by
  have h0 : ∀ y, iblk6 V c 0 t y = H (ix2 ⟨t.val * 8 + (y 0).val, by have := idx6 t; idx_bounds; omega⟩ ⟨(y 1).val, by idx_bounds; omega⟩) := fun y => by
    subst hH; blk_point [iblk6, idx6 t]
  have h1 : ∀ y, iblk6 V c 1 t y = Wp (ix2 ⟨(y 0).val, by idx_bounds; omega⟩ ⟨(y 1).val, by idx_bounds; omega⟩) := fun y => by
    subst hW; blk_point [iblk6, idx6 t]
  rw [show iblk6 V c 0 t = _ from funext h0, show iblk6 V c 1 t = _ from funext h1]
  pointwise [k6_pay1, mm6, row6]

/-- The padded columns of the projection. -/
theorem final6 (H : FVec Ideal Cert.ProjSRefIdeal.S8x2048 .f32) (Wp : FVec Ideal S2048x256 .bf16) (hH : V c main_v23 = H) (hW : V c main_v17 = Wp) :
    (dat6 V c).arrAt 2 cfg6.N = mm6 H Wp := by
  refine (dat6 V c).arrAt_eq_of_covers 2 _ (by decide +kernel) fun t hf y => ?_
  blk_simp
  rw [after6_2]; unfold out6_2; frame_out
  rw [at6 V c H Wp hH hW]
  generalize mm6 H Wp = Z
  blk_point [row6, idx6 t]

end Regions

/-- A padded array, read inside. -/
theorem pad_read (A : FVec Ideal S2048x144 .bf16) (v : FVec Ideal S_ .bf16) (a : Fin 2048) (b : Fin 144) :
    pad S2048x256 ![0, 0] ![0, 112] ![0, 0] A v pads_S2048x144_S2048x256_000_01120 h_S_ (ix2 a ⟨b.val, by omega⟩) = A (ix2 a b) := by
  pointwise []

/-- The padded product's columns from 0 are the projection's. -/
theorem col0 (H : FVec Ideal Cert.ProjSRefIdeal.S8x2048 .f32) (W : FVec Ideal Cert.ProjSRefIdeal.S2048x13968 .f32) (Wp : FVec Ideal S2048x256 .bf16)
    (hW : ∀ (a : Fin 2048) (b : Fin 144), Wp (ix2 a ⟨b.val, by omega⟩) = W (ix2 a ⟨7168 + b.val, by omega⟩)) :
    extractStridedSlice S8x128 ![0, 0] (mm6 H Wp) slices_S8x256_S8x128_0_0 = refKidx H W := by
  funext i
  have h : ∀ (a : Fin 2048), Wp (ix2 a ⟨0 + (i 1).val, by idx_bounds; omega⟩) = W (ix2 a ⟨7168 + (0 + (i 1).val), by idx_bounds; omega⟩) :=
    fun a => hW a ⟨0 + (i 1).val, by idx_bounds; omega⟩
  pointwise [refKidx, refP, mm6]
  refine Finset.sum_congr rfl fun k _ => ?_
  have hk := h k
  try simp only [Nat.zero_add, Nat.add_zero, ← Nat.add_assoc, Nat.reduceAdd] at hk
  rw [hk]

/-- The padded product's columns from 128 are the projection's. -/
theorem col128 (H : FVec Ideal Cert.ProjSRefIdeal.S8x2048 .f32) (W : FVec Ideal Cert.ProjSRefIdeal.S2048x13968 .f32) (Wp : FVec Ideal S2048x256 .bf16)
    (hW : ∀ (a : Fin 2048) (b : Fin 144), Wp (ix2 a ⟨b.val, by omega⟩) = W (ix2 a ⟨7168 + b.val, by omega⟩)) :
    extractStridedSlice S8x16 ![0, 128] (mm6 H Wp) slices_S8x256_S8x16_0_128 = refWi H W := by
  funext i
  have h : ∀ (a : Fin 2048), Wp (ix2 a ⟨128 + (i 1).val, by idx_bounds; omega⟩) = W (ix2 a ⟨7168 + (128 + (i 1).val), by idx_bounds; omega⟩) :=
    fun a => hW a ⟨128 + (i 1).val, by idx_bounds; omega⟩
  pointwise [refWi, refP, mm6]
  refine Finset.sum_congr rfl fun k _ => ?_
  have hk := h k
  try simp only [Nat.zero_add, Nat.add_zero, ← Nat.add_assoc, Nat.reduceAdd] at hk
  rw [hk]

/-! ## The run -/

section Launch

open Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The kernel run to its end: every buffer holds what the last boundary's valuation says. -/
theorem runW : θ_run defs (onTc (τ := τ) (main (F := Ideal))) ⟨m, fun _ => 0, ρ⟩ (fun r =>
    ∀ c : Dev nD, ∀ b ∈ Pipeline.ucRefs τ sig, r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz c b hb => h c b hb)

end Launch

section Run

variable (m : (ℓ : Loc nD τ sig) → Buf (Elt Ideal) ℓ) (ρ : Dev nD → PrngReg) (c : Dev nD)

/-! ## What the host prepares -/

theorem val18 : V3 m ρ c main_v18 = (shapeCast Cert.ProjSRefIdeal.S8x2048 (m ((c : Thread nD τ).loc main_arg0)) Cert.ProjSRefIdeal.Gen.shapeCasts_S8x1x2048_S8x2048) := by
  unfold_abbrev_sides
  after_results <;> rfl

theorem val22 (b : Fin 2048) : (V3 m ρ c main_v22 : FVec Ideal S1x2048 .f32) (ix2 0 b) = (shapeCast Cert.ProjSRefIdeal.S2048 (m ((c : Thread nD τ).loc main_arg1)) Cert.ProjSRefIdeal.Gen.shapeCasts_S1x2048_S2048) (ix1 b) := by
  have h : V3 m ρ c main_v22 = shapeCast S1x2048 (shapeCast Cert.ProjSRefIdeal.S2048 (m ((c : Thread nD τ).loc main_arg1)) Cert.ProjSRefIdeal.Gen.shapeCasts_S1x2048_S2048) shapeCasts_S2048_S1x2048 := by
    unfold_abbrev_sides
    after_results <;> rfl
  rw [h]
  generalize (shapeCast Cert.ProjSRefIdeal.S2048 (m ((c : Thread nD τ).loc main_arg1)) Cert.ProjSRefIdeal.Gen.shapeCasts_S1x2048_S2048) = G
  pointwise []

theorem val24 (j : Fin 1024) : (V5 m ρ c main_v24 : FVec Ideal S1x1024 .f32) (ix2 0 j) = (shapeCast Cert.ProjSRefIdeal.S1024 (m ((c : Thread nD τ).loc main_arg3)) Cert.ProjSRefIdeal.Gen.shapeCasts_S1x1024_S1024) (ix1 j) := by
  have h0 : W3 m ρ c (Proc.devRef .tc main_v20) = (shapeCast Cert.ProjSRefIdeal.S1024 (m ((c : Thread nD τ).loc main_arg3)) Cert.ProjSRefIdeal.Gen.shapeCasts_S1x1024_S1024) := by
    unfold_abbrev_sides
    after_results <;> rfl
  have h : V5 m ρ c main_v24 = shapeCast S1x1024 (W4 m ρ c (Proc.devRef .tc main_v20) : FVec Ideal S1024 .f32) shapeCasts_S1024_S1x1024 := by
    unfold_abbrev_sides
    after_results <;> rfl
  rw [h, show W4 m ρ c (Proc.devRef .tc main_v20) = _ from (W4_of m ρ c main_v20 (by decide)), h0]
  generalize (shapeCast Cert.ProjSRefIdeal.S1024 (m ((c : Thread nD τ).loc main_arg3)) Cert.ProjSRefIdeal.Gen.shapeCasts_S1x1024_S1024) = G
  pointwise []

theorem val25 (j : Fin 1024) : (V5 m ρ c main_v25 : FVec Ideal S1x1024 .f32) (ix2 0 j) = (shapeCast Cert.ProjSRefIdeal.S1024 (m ((c : Thread nD τ).loc main_arg4)) Cert.ProjSRefIdeal.Gen.shapeCasts_S1x1024_S1024) (ix1 j) := by
  have h0 : W3 m ρ c (Proc.devRef .tc main_v21) = (shapeCast Cert.ProjSRefIdeal.S1024 (m ((c : Thread nD τ).loc main_arg4)) Cert.ProjSRefIdeal.Gen.shapeCasts_S1x1024_S1024) := by
    unfold_abbrev_sides
    after_results <;> rfl
  have h : V5 m ρ c main_v25 = shapeCast S1x1024 (W4 m ρ c (Proc.devRef .tc main_v21) : FVec Ideal S1024 .f32) shapeCasts_S1024_S1x1024 := by
    unfold_abbrev_sides
    after_results <;> rfl
  rw [h, show W4 m ρ c (Proc.devRef .tc main_v21) = _ from (W4_of m ρ c main_v21 (by decide)), h0]
  generalize (shapeCast Cert.ProjSRefIdeal.S1024 (m ((c : Thread nD τ).loc main_arg4)) Cert.ProjSRefIdeal.Gen.shapeCasts_S1x1024_S1024) = G
  pointwise []

theorem w1 (a : Fin 2048) (b : Fin 2048) : (V5 m ρ c main_v2 : FVec Ideal S2048x2048 .bf16) (ix2 a b) = (shapeCast Cert.ProjSRefIdeal.S2048x13968 (m ((c : Thread nD τ).loc main_arg2)) Cert.ProjSRefIdeal.Gen.shapeCasts_S1x2048x13968_S2048x13968) (ix2 a ⟨0 + b.val, by omega⟩) := by
  have h0 : W1 m ρ c (Proc.devRef .tc main_v2) = (truncf .bf16 (extractStridedSlice S2048x2048 ![0, 0] (shapeCast Cert.ProjSRefIdeal.S2048x13968 (m ((c : Thread nD τ).loc main_arg2)) Cert.ProjSRefIdeal.Gen.shapeCasts_S1x2048x13968_S2048x13968) slices_S2048x13968_S2048x2048_0_0) bitsLt_bf16_f32 : FVec Ideal S2048x2048 .bf16) := by
    unfold_abbrev_sides
    after_results <;> rfl
  rw [show V5 m ρ c main_v2 = _ from ((W5_of m ρ c main_v2 (by decide)).trans ((W4_of m ρ c main_v2 (by decide)).trans ((W3_of m ρ c main_v2 (by decide)).trans (W2_of m ρ c main_v2 (by decide))))), h0]
  generalize (shapeCast Cert.ProjSRefIdeal.S2048x13968 (m ((c : Thread nD τ).loc main_arg2)) Cert.ProjSRefIdeal.Gen.shapeCasts_S1x2048x13968_S2048x13968) = G
  pointwise []

theorem w2 (a : Fin 2048) (b : Fin 1024) : (V6 m ρ c main_v4 : FVec Ideal S2048x1024 .bf16) (ix2 a b) = (shapeCast Cert.ProjSRefIdeal.S2048x13968 (m ((c : Thread nD τ).loc main_arg2)) Cert.ProjSRefIdeal.Gen.shapeCasts_S1x2048x13968_S2048x13968) (ix2 a ⟨2048 + b.val, by omega⟩) := by
  have h0 : W1 m ρ c (Proc.devRef .tc main_v4) = (truncf .bf16 (extractStridedSlice S2048x1024 ![0, 2048] (shapeCast Cert.ProjSRefIdeal.S2048x13968 (m ((c : Thread nD τ).loc main_arg2)) Cert.ProjSRefIdeal.Gen.shapeCasts_S1x2048x13968_S2048x13968) slices_S2048x13968_S2048x1024_0_2048) bitsLt_bf16_f32 : FVec Ideal S2048x1024 .bf16) := by
    unfold_abbrev_sides
    after_results <;> rfl
  rw [show V6 m ρ c main_v4 = _ from ((W6_of m ρ c main_v4 (by decide)).trans ((W5_of m ρ c main_v4 (by decide)).trans ((W4_of m ρ c main_v4 (by decide)).trans ((W3_of m ρ c main_v4 (by decide)).trans (W2_of m ρ c main_v4 (by decide)))))), h0]
  generalize (shapeCast Cert.ProjSRefIdeal.S2048x13968 (m ((c : Thread nD τ).loc main_arg2)) Cert.ProjSRefIdeal.Gen.shapeCasts_S1x2048x13968_S2048x13968) = G
  pointwise []

theorem w3 (a : Fin 2048) (b : Fin 1024) : (V7 m ρ c main_v6 : FVec Ideal S2048x1024 .bf16) (ix2 a b) = (shapeCast Cert.ProjSRefIdeal.S2048x13968 (m ((c : Thread nD τ).loc main_arg2)) Cert.ProjSRefIdeal.Gen.shapeCasts_S1x2048x13968_S2048x13968) (ix2 a ⟨3072 + b.val, by omega⟩) := by
  have h0 : W1 m ρ c (Proc.devRef .tc main_v6) = (truncf .bf16 (extractStridedSlice S2048x1024 ![0, 3072] (shapeCast Cert.ProjSRefIdeal.S2048x13968 (m ((c : Thread nD τ).loc main_arg2)) Cert.ProjSRefIdeal.Gen.shapeCasts_S1x2048x13968_S2048x13968) slices_S2048x13968_S2048x1024_0_3072) bitsLt_bf16_f32 : FVec Ideal S2048x1024 .bf16) := by
    unfold_abbrev_sides
    after_results <;> rfl
  rw [show V7 m ρ c main_v6 = _ from ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide))))))), h0]
  generalize (shapeCast Cert.ProjSRefIdeal.S2048x13968 (m ((c : Thread nD τ).loc main_arg2)) Cert.ProjSRefIdeal.Gen.shapeCasts_S1x2048x13968_S2048x13968) = G
  pointwise []

theorem w4 (a : Fin 2048) (b : Fin 1024) : (V8 m ρ c main_v8 : FVec Ideal S2048x1024 .bf16) (ix2 a b) = (shapeCast Cert.ProjSRefIdeal.S2048x13968 (m ((c : Thread nD τ).loc main_arg2)) Cert.ProjSRefIdeal.Gen.shapeCasts_S1x2048x13968_S2048x13968) (ix2 a ⟨4096 + b.val, by omega⟩) := by
  have h0 : W1 m ρ c (Proc.devRef .tc main_v8) = (truncf .bf16 (extractStridedSlice S2048x1024 ![0, 4096] (shapeCast Cert.ProjSRefIdeal.S2048x13968 (m ((c : Thread nD τ).loc main_arg2)) Cert.ProjSRefIdeal.Gen.shapeCasts_S1x2048x13968_S2048x13968) slices_S2048x13968_S2048x1024_0_4096) bitsLt_bf16_f32 : FVec Ideal S2048x1024 .bf16) := by
    unfold_abbrev_sides
    after_results <;> rfl
  rw [show V8 m ρ c main_v8 = _ from ((W8_of m ρ c main_v8 (by decide)).trans ((W7_of m ρ c main_v8 (by decide)).trans ((W6_of m ρ c main_v8 (by decide)).trans ((W5_of m ρ c main_v8 (by decide)).trans ((W4_of m ρ c main_v8 (by decide)).trans ((W3_of m ρ c main_v8 (by decide)).trans (W2_of m ρ c main_v8 (by decide)))))))), h0]
  generalize (shapeCast Cert.ProjSRefIdeal.S2048x13968 (m ((c : Thread nD τ).loc main_arg2)) Cert.ProjSRefIdeal.Gen.shapeCasts_S1x2048x13968_S2048x13968) = G
  pointwise []

theorem w5 (a : Fin 2048) (b : Fin 2048) : (V9 m ρ c main_v10 : FVec Ideal S2048x2048 .bf16) (ix2 a b) = (shapeCast Cert.ProjSRefIdeal.S2048x13968 (m ((c : Thread nD τ).loc main_arg2)) Cert.ProjSRefIdeal.Gen.shapeCasts_S1x2048x13968_S2048x13968) (ix2 a ⟨5120 + b.val, by omega⟩) := by
  have h0 : W1 m ρ c (Proc.devRef .tc main_v10) = (truncf .bf16 (extractStridedSlice S2048x2048 ![0, 5120] (shapeCast Cert.ProjSRefIdeal.S2048x13968 (m ((c : Thread nD τ).loc main_arg2)) Cert.ProjSRefIdeal.Gen.shapeCasts_S1x2048x13968_S2048x13968) slices_S2048x13968_S2048x2048_0_5120) bitsLt_bf16_f32 : FVec Ideal S2048x2048 .bf16) := by
    unfold_abbrev_sides
    after_results <;> rfl
  rw [show V9 m ρ c main_v10 = _ from ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans (W2_of m ρ c main_v10 (by decide))))))))), h0]
  generalize (shapeCast Cert.ProjSRefIdeal.S2048x13968 (m ((c : Thread nD τ).loc main_arg2)) Cert.ProjSRefIdeal.Gen.shapeCasts_S1x2048x13968_S2048x13968) = G
  pointwise []

theorem w7 (a : Fin 2048) (b : Fin 512) : (V11 m ρ c main_v14 : FVec Ideal S2048x512 .bf16) (ix2 a b) = (shapeCast Cert.ProjSRefIdeal.S2048x13968 (m ((c : Thread nD τ).loc main_arg2)) Cert.ProjSRefIdeal.Gen.shapeCasts_S1x2048x13968_S2048x13968) (ix2 a ⟨7312 + b.val, by omega⟩) := by
  have h0 : W1 m ρ c (Proc.devRef .tc main_v14) = (truncf .bf16 (extractStridedSlice S2048x512 ![0, 7312] (shapeCast Cert.ProjSRefIdeal.S2048x13968 (m ((c : Thread nD τ).loc main_arg2)) Cert.ProjSRefIdeal.Gen.shapeCasts_S1x2048x13968_S2048x13968) slices_S2048x13968_S2048x512_0_7312) bitsLt_bf16_f32 : FVec Ideal S2048x512 .bf16) := by
    unfold_abbrev_sides
    after_results <;> rfl
  rw [show V11 m ρ c main_v14 = _ from ((W11_of m ρ c main_v14 (by decide)).trans ((W10_of m ρ c main_v14 (by decide)).trans ((W9_of m ρ c main_v14 (by decide)).trans ((W8_of m ρ c main_v14 (by decide)).trans ((W7_of m ρ c main_v14 (by decide)).trans ((W6_of m ρ c main_v14 (by decide)).trans ((W5_of m ρ c main_v14 (by decide)).trans ((W4_of m ρ c main_v14 (by decide)).trans ((W3_of m ρ c main_v14 (by decide)).trans (W2_of m ρ c main_v14 (by decide))))))))))), h0]
  generalize (shapeCast Cert.ProjSRefIdeal.S2048x13968 (m ((c : Thread nD τ).loc main_arg2)) Cert.ProjSRefIdeal.Gen.shapeCasts_S1x2048x13968_S2048x13968) = G
  pointwise []

theorem w8 (a : Fin 2048) (b : Fin 6144) : (V12 m ρ c main_v16 : FVec Ideal S2048x6144 .bf16) (ix2 a b) = (shapeCast Cert.ProjSRefIdeal.S2048x13968 (m ((c : Thread nD τ).loc main_arg2)) Cert.ProjSRefIdeal.Gen.shapeCasts_S1x2048x13968_S2048x13968) (ix2 a ⟨7824 + b.val, by omega⟩) := by
  have h0 : W1 m ρ c (Proc.devRef .tc main_v16) = (truncf .bf16 (extractStridedSlice S2048x6144 ![0, 7824] (shapeCast Cert.ProjSRefIdeal.S2048x13968 (m ((c : Thread nD τ).loc main_arg2)) Cert.ProjSRefIdeal.Gen.shapeCasts_S1x2048x13968_S2048x13968) slices_S2048x13968_S2048x6144_0_7824) bitsLt_bf16_f32 : FVec Ideal S2048x6144 .bf16) := by
    unfold_abbrev_sides
    after_results <;> rfl
  rw [show V12 m ρ c main_v16 = _ from ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (W2_of m ρ c main_v16 (by decide)))))))))))), h0]
  generalize (shapeCast Cert.ProjSRefIdeal.S2048x13968 (m ((c : Thread nD τ).loc main_arg2)) Cert.ProjSRefIdeal.Gen.shapeCasts_S1x2048x13968_S2048x13968) = G
  pointwise []

theorem w6 (a : Fin 2048) (b : Fin 144) : (V10 m ρ c main_v17 : FVec Ideal S2048x256 .bf16) (ix2 a ⟨b.val, by omega⟩) = (shapeCast Cert.ProjSRefIdeal.S2048x13968 (m ((c : Thread nD τ).loc main_arg2)) Cert.ProjSRefIdeal.Gen.shapeCasts_S1x2048x13968_S2048x13968) (ix2 a ⟨7168 + b.val, by omega⟩) := by
  have h0 : W1 m ρ c (Proc.devRef .tc main_v12) = (truncf .bf16 (extractStridedSlice S2048x144 ![0, 7168] (shapeCast Cert.ProjSRefIdeal.S2048x13968 (m ((c : Thread nD τ).loc main_arg2)) Cert.ProjSRefIdeal.Gen.shapeCasts_S1x2048x13968_S2048x13968) slices_S2048x13968_S2048x144_0_7168) bitsLt_bf16_f32 : FVec Ideal S2048x144 .bf16) := by
    unfold_abbrev_sides
    after_results <;> rfl
  have h1 : W2 m ρ c (Proc.devRef .tc main_v17) = pad S2048x256 ![0, 0] ![0, 112] ![0, 0] (W1 m ρ c (Proc.devRef .tc main_v12) : FVec Ideal S2048x144 .bf16) (W2 m ρ c (Proc.devRef .tc main_call0_v0) : FVec Ideal S_ .bf16) pads_S2048x144_S2048x256_000_01120 h_S_ := by
    unfold_abbrev_sides
    after_results <;> rfl
  generalize (W2 m ρ c (Proc.devRef .tc main_call0_v0) : FVec Ideal S_ .bf16) = v at h1
  rw [show V10 m ρ c main_v17 = _ from ((W10_of m ρ c main_v17 (by decide)).trans ((W9_of m ρ c main_v17 (by decide)).trans ((W8_of m ρ c main_v17 (by decide)).trans ((W7_of m ρ c main_v17 (by decide)).trans ((W6_of m ρ c main_v17 (by decide)).trans ((W5_of m ρ c main_v17 (by decide)).trans ((W4_of m ρ c main_v17 (by decide)).trans (W3_of m ρ c main_v17 (by decide))))))))), h1, h0]
  refine (pad_read _ _ a b).trans ?_
  generalize (shapeCast Cert.ProjSRefIdeal.S2048x13968 (m ((c : Thread nD τ).loc main_arg2)) Cert.ProjSRefIdeal.Gen.shapeCasts_S1x2048x13968_S2048x13968) = G
  pointwise []

/-! ## The regions' results -/

theorem norm4 : W4 m ρ c (Proc.devRef .tc main_v23) = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W4_arr m ρ c 2).trans (final0 (V3 m ρ) c _ _ (val18 m ρ c) (val22 m ρ c))

theorem norm5 : V5 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W5_of m ρ c main_v23 (by decide)).trans (norm4 m ρ c)

theorem norm6 : V6 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W6_of m ρ c main_v23 (by decide)).trans (norm5 m ρ c)

theorem norm7 : V7 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W7_of m ρ c main_v23 (by decide)).trans (norm6 m ρ c)

theorem norm8 : V8 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W8_of m ρ c main_v23 (by decide)).trans (norm7 m ρ c)

theorem norm9 : V9 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W9_of m ρ c main_v23 (by decide)).trans (norm8 m ρ c)

theorem norm10 : V10 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W10_of m ρ c main_v23 (by decide)).trans (norm9 m ρ c)

theorem norm11 : V11 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W11_of m ρ c main_v23 (by decide)).trans (norm10 m ρ c)

theorem norm12 : V12 m ρ c main_v23 = refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048) :=
  (W12_of m ρ c main_v23 (by decide)).trans (norm11 m ρ c)

theorem end0 : W14 m ρ c (Proc.devRef .tc main_v26) = refUV (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) (shapeCast Cert.ProjSRefIdeal.S1024 (m ((c : Thread nD τ).loc main_arg3)) Cert.ProjSRefIdeal.Gen.shapeCasts_S1x1024_S1024) (shapeCast Cert.ProjSRefIdeal.S1024 (m ((c : Thread nD τ).loc main_arg4)) Cert.ProjSRefIdeal.Gen.shapeCasts_S1x1024_S1024) :=
  ((W14_of m ρ c main_v26 (by decide)).trans ((W13_of m ρ c main_v26 (by decide)).trans ((W12_of m ρ c main_v26 (by decide)).trans ((W11_of m ρ c main_v26 (by decide)).trans ((W10_of m ρ c main_v26 (by decide)).trans ((W9_of m ρ c main_v26 (by decide)).trans ((W8_of m ρ c main_v26 (by decide)).trans ((W7_of m ρ c main_v26 (by decide)).trans ((W6_arr m ρ c 4).trans (final1 (V5 m ρ) c _ _ (norm5 m ρ c) (w1 m ρ c) _ _ (val24 m ρ c) (val25 m ρ c)))))))))))

theorem pad13 : W13 m ρ c (Proc.devRef .tc main_v31) = mm6 (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (V10 m ρ c main_v17) :=
  ((W13_of m ρ c main_v31 (by decide)).trans ((W12_of m ρ c main_v31 (by decide)).trans ((W11_arr m ρ c 2).trans (final6 (V10 m ρ) c _ _ (norm10 m ρ c) rfl))))

theorem end1 : W14 m ρ c (Proc.devRef .tc main_v27) = refQ (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v27 (by decide)).trans ((W13_of m ρ c main_v27 (by decide)).trans ((W12_of m ρ c main_v27 (by decide)).trans ((W11_of m ρ c main_v27 (by decide)).trans ((W10_of m ρ c main_v27 (by decide)).trans ((W9_of m ρ c main_v27 (by decide)).trans ((W8_of m ρ c main_v27 (by decide)).trans ((W7_arr m ρ c 2).trans (final2_2 (V6 m ρ) c _ _ (norm6 m ρ c) (w2 m ρ c))))))))))

theorem end2 : W14 m ρ c (Proc.devRef .tc main_v28_0) = refK (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v28_0 (by decide)).trans ((W13_of m ρ c main_v28_0 (by decide)).trans ((W12_of m ρ c main_v28_0 (by decide)).trans ((W11_of m ρ c main_v28_0 (by decide)).trans ((W10_of m ρ c main_v28_0 (by decide)).trans ((W9_of m ρ c main_v28_0 (by decide)).trans ((W8_arr m ρ c 2).trans (final3_2 (V7 m ρ) c _ _ (norm7 m ρ c) (w3 m ρ c)))))))))

theorem end3 : W14 m ρ c (Proc.devRef .tc main_v28_1) = refKb (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v28_1 (by decide)).trans ((W13_of m ρ c main_v28_1 (by decide)).trans ((W12_of m ρ c main_v28_1 (by decide)).trans ((W11_of m ρ c main_v28_1 (by decide)).trans ((W10_of m ρ c main_v28_1 (by decide)).trans ((W9_of m ρ c main_v28_1 (by decide)).trans ((W8_arr m ρ c 3).trans (final3_3 (V7 m ρ) c _ _ (norm7 m ρ c) (w3 m ρ c)))))))))

theorem end4 : W14 m ρ c (Proc.devRef .tc main_v29_0) = refV (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v29_0 (by decide)).trans ((W13_of m ρ c main_v29_0 (by decide)).trans ((W12_of m ρ c main_v29_0 (by decide)).trans ((W11_of m ρ c main_v29_0 (by decide)).trans ((W10_of m ρ c main_v29_0 (by decide)).trans ((W9_arr m ρ c 2).trans (final4_2 (V8 m ρ) c _ _ (norm8 m ρ c) (w4 m ρ c))))))))

theorem end5 : W14 m ρ c (Proc.devRef .tc main_v29_1) = refVb (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v29_1 (by decide)).trans ((W13_of m ρ c main_v29_1 (by decide)).trans ((W12_of m ρ c main_v29_1 (by decide)).trans ((W11_of m ρ c main_v29_1 (by decide)).trans ((W10_of m ρ c main_v29_1 (by decide)).trans ((W9_arr m ρ c 3).trans (final4_3 (V8 m ρ) c _ _ (norm8 m ρ c) (w4 m ρ c))))))))

theorem end6 : W14 m ρ c (Proc.devRef .tc main_v30) = refQi (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v30 (by decide)).trans ((W13_of m ρ c main_v30 (by decide)).trans ((W12_of m ρ c main_v30 (by decide)).trans ((W11_of m ρ c main_v30 (by decide)).trans ((W10_arr m ρ c 2).trans (final5_2 (V9 m ρ) c _ _ (norm9 m ρ c) (w5 m ρ c)))))))

theorem end7 : W14 m ρ c (Proc.devRef .tc main_v34) = refKidx (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) := by
  have h : W14 m ρ c (Proc.devRef .tc main_v34) = extractStridedSlice S8x128 ![0, 0] (W13 m ρ c (Proc.devRef .tc main_v31) : FVec Ideal S8x256 .f32) slices_S8x256_S8x128_0_0 := by
    unfold_abbrev_sides
    after_results <;> rfl
  rw [h, pad13]
  exact col0 _ _ _ (w6 m ρ c)

theorem end8 : W14 m ρ c (Proc.devRef .tc main_v35) = refWi (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) := by
  have h : W14 m ρ c (Proc.devRef .tc main_v35) = extractStridedSlice S8x16 ![0, 128] (W13 m ρ c (Proc.devRef .tc main_v31) : FVec Ideal S8x256 .f32) slices_S8x256_S8x16_0_128 := by
    unfold_abbrev_sides
    after_results <;> rfl
  rw [h, pad13]
  exact col128 _ _ _ (w6 m ρ c)

theorem end9 : W14 m ρ c (Proc.devRef .tc main_v32) = refQm (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v32 (by decide)).trans ((W13_of m ρ c main_v32 (by decide)).trans ((W12_arr m ρ c 2).trans (final7_2 (V11 m ρ) c _ _ (norm11 m ρ c) (w7 m ρ c)))))

theorem end10 : W14 m ρ c (Proc.devRef .tc main_v33) = refGates (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) :=
  ((W14_of m ρ c main_v33 (by decide)).trans ((W13_arr m ρ c 2).trans (final8_2 (V12 m ρ) c _ _ (norm12 m ρ c) (w8 m ρ c))))

/-- The kernel run to its end: each result is the reference's term of the arguments. -/
theorem run : θ_run defs (onTc (τ := τ) (main (F := Ideal))) ⟨m, fun _ => 0, ρ⟩ fun r => ∀ c : Dev nD,
      r.2.mem ((c.tc : Thread nD τ).loc main_v26) = refUV (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) (shapeCast Cert.ProjSRefIdeal.S1024 (m ((c : Thread nD τ).loc main_arg3)) Cert.ProjSRefIdeal.Gen.shapeCasts_S1x1024_S1024) (shapeCast Cert.ProjSRefIdeal.S1024 (m ((c : Thread nD τ).loc main_arg4)) Cert.ProjSRefIdeal.Gen.shapeCasts_S1x1024_S1024) ∧
      r.2.mem ((c.tc : Thread nD τ).loc main_v27) = refQ (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v28_0) = refK (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v28_1) = refKb (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v29_0) = refV (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v29_1) = refVb (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v30) = refQi (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v34) = refKidx (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v35) = refWi (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v32) = refQm (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_v33) = refGates (refH (shapeCast Cert.ProjSRefIdeal.S8x2048 (m ((c : Thread nD τ).loc main_arg0)) Cert.ProjSRefIdeal.Gen.shapeCasts_S8x1x2048_S8x2048) (shapeCast Cert.ProjSRefIdeal.S2048 (m ((c : Thread nD τ).loc main_arg1)) Cert.ProjSRefIdeal.Gen.shapeCasts_S1x2048_S2048)) (shapeCast Cert.ProjSRefIdeal.S2048x13968 (m ((c : Thread nD τ).loc main_arg2)) Cert.ProjSRefIdeal.Gen.shapeCasts_S1x2048x13968_S2048x13968) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  (θ_run defs _ _).mono (fun r h c =>
    ⟨(h c _ (mem_uc main_v26 (by decide))).trans (end0 m ρ c),
      (h c _ (mem_uc main_v27 (by decide))).trans (end1 m ρ c),
      (h c _ (mem_uc main_v28_0 (by decide))).trans (end2 m ρ c),
      (h c _ (mem_uc main_v28_1 (by decide))).trans (end3 m ρ c),
      (h c _ (mem_uc main_v29_0 (by decide))).trans (end4 m ρ c),
      (h c _ (mem_uc main_v29_1 (by decide))).trans (end5 m ρ c),
      (h c _ (mem_uc main_v30 (by decide))).trans (end6 m ρ c),
      (h c _ (mem_uc main_v34 (by decide))).trans (end7 m ρ c),
      (h c _ (mem_uc main_v35 (by decide))).trans (end8 m ρ c),
      (h c _ (mem_uc main_v32 (by decide))).trans (end9 m ρ c),
      (h c _ (mem_uc main_v33 (by decide))).trans (end10 m ρ c),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c)⟩) (runW m ρ)

end Run

end Cert.ProjSIdeal.Hand
-- ==== Proof.MemKvValue.lean ====
module

public import proofs.«01_k».proof.Proof.Gen.MemKvIdeal.Frame
public import proofs.«01_k».proof.Proof.Gen.MemKvRefIdeal.Run
public import Idealize.ShloMosaic.Lib.Pipeline.ValueKit
public import Idealize.ShloMosaic.Lib.Pointwise

@[expose] public section

set_option maxRecDepth 16384

noncomputable section

namespace Cert.MemKvRefIdeal.Hand

open Cert.MemKvRefIdeal Cert.MemKvRefIdeal.Gen Idealize.ShloMosaic Idealize.ShloMosaic.TcCoe Idealize.SL.Sem Idealize.ShloMosaic.StableHlo

/-! ## The reference's terms in parts -/

/-- The normed memory rows. -/
def refH (X : FVec Ideal S2x256x2048 .f32) (G : FVec Ideal S2048 .f32) : FVec Ideal S2x256x2048 .f32 :=
  mulf (mulf X (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf X X) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 G))

/-- Their projection to keys and values. -/
def refP (H : FVec Ideal S2x256x2048 .f32) (W : FVec Ideal S2048x1024 .f32) : FVec Ideal S2x256x1024 .f32 :=
  Host.dotGeneral dot_S2x256x2048_S2048x1024_S2x256x1024_2_0_01_1_n_n none H W

/-- The memory keys. -/
def refK (H : FVec Ideal S2x256x2048 .f32) (W : FVec Ideal S2048x1024 .f32) : FVec Ideal S2x256x512 .f32 :=
  extractStridedSlice S2x256x512 ![0, 0, 0] (refP H W) slices_S2x256x1024_S2x256x512_0_0_0

/-- The memory values. -/
def refV (H : FVec Ideal S2x256x2048 .f32) (W : FVec Ideal S2048x1024 .f32) : FVec Ideal S2x256x512 .f32 :=
  extractStridedSlice S2x256x512 ![0, 0, 512] (refP H W) slices_S2x256x1024_S2x256x512_0_0_512

/-- The reference run to its end: each result is its named term of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refK (refH (m ((c.tc : Thread nD τ).loc main_arg0)) (shapeCast _ (m ((c.tc : Thread nD τ).loc main_arg1)) shapeCasts_S1x2048_S2048)) (shapeCast _ (m ((c.tc : Thread nD τ).loc main_arg2)) shapeCasts_S1x2048x1024_S2048x1024) ∧
      r.2.mem ((c.tc : Thread nD τ).loc main_v17) = refV (refH (m ((c.tc : Thread nD τ).loc main_arg0)) (shapeCast _ (m ((c.tc : Thread nD τ).loc main_arg1)) shapeCasts_S1x2048_S2048)) (shapeCast _ (m ((c.tc : Thread nD τ).loc main_arg2)) shapeCasts_S1x2048x1024_S2048x1024) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) :=
  (θ_run defs _ _).mono (fun r h => h) (Cert.MemKvRefIdeal.Value.run (F := Ideal) m ρ)

end Cert.MemKvRefIdeal.Hand

namespace Cert.MemKvIdeal.Hand

open Cert.MemKvIdeal Cert.MemKvIdeal.Gen Cert.MemKvRefIdeal.Hand Idealize.ShloMosaic Idealize.ShloMosaic.TcCoe Idealize.SL.Sem Idealize.ShloMosaic.StableHlo

/-- Two batches of 256 rows as 512 rows. -/
def flat (A : FVec Ideal Cert.MemKvRefIdeal.S2x256x2048 .f32) : FVec Ideal S512x2048 .f32 :=
  fun i => A (ix3 ⟨(i 0).val / 256, by idx_bounds; omega⟩ ⟨(i 0).val % 256, by idx_bounds; omega⟩ (i 1))

/-- The same of the projected rows. -/
def flatP (A : FVec Ideal Cert.MemKvRefIdeal.S2x256x1024 .f32) : FVec Ideal S512x1024 .f32 :=
  fun i => A (ix3 ⟨(i 0).val / 256, by idx_bounds; omega⟩ ⟨(i 0).val % 256, by idx_bounds; omega⟩ (i 1))

/-- The reshaped rows are the flat rows. -/
theorem flat_eq (A : FVec Ideal Cert.MemKvRefIdeal.S2x256x2048 .f32) : shapeCast S512x2048 A shapeCasts_S2x256x2048_S512x2048 = flat A := by
  funext i
  pointwise [flat]

/-- Columns 0 to 512 of the flat rows, unflattened. -/
theorem col0 (H : FVec Ideal Cert.MemKvRefIdeal.S2x256x2048 .f32) (W : FVec Ideal Cert.MemKvRefIdeal.S2048x1024 .f32) : shapeCast S2x256x512 (extractStridedSlice S512x512 ![0, 0] (flatP (refP H W)) slices_S512x1024_S512x512_0_0) shapeCasts_S512x512_S2x256x512 = refK H W := by
  funext i
  unfold refK
  generalize refP H W = P
  pointwise [flatP]
  have hb : (i 1).val < 256 := (i 1).isLt
  refine congrArg P (congrArg₂ (fun a b => ix3 a b _) (Fin.ext ?_) (Fin.ext ?_))
  · show ((i 0).val * 256 + (i 1).val) / 256 = (i 0).val
    omega
  · show ((i 0).val * 256 + (i 1).val) % 256 = (i 1).val
    omega

/-- Columns 512 to 1024 likewise. -/
theorem col512 (H : FVec Ideal Cert.MemKvRefIdeal.S2x256x2048 .f32) (W : FVec Ideal Cert.MemKvRefIdeal.S2048x1024 .f32) : shapeCast S2x256x512 (extractStridedSlice S512x512 ![0, 512] (flatP (refP H W)) slices_S512x1024_S512x512_0_512) shapeCasts_S512x512_S2x256x512 = refV H W := by
  funext i
  unfold refV
  generalize refP H W = P
  pointwise [flatP]
  have hb : (i 1).val < 256 := (i 1).isLt
  refine congrArg P (congrArg₂ (fun a b => ix3 a b _) (Fin.ext ?_) (Fin.ext ?_))
  · show ((i 0).val * 256 + (i 1).val) / 256 = (i 0).val
    omega
  · show ((i 0).val * 256 + (i 1).val) % 256 = (i 1).val
    omega

/-! ## The blocks of the grids' points -/

theorem idx0 : ∀ t : Fin cfg0.N, win0_0.index t = ![0, 0] ∧ win0_1.index t = ![0, 0] ∧ win0_2.index t = ![0, 0] ∧ t.val < 1 :=
  (by decide +kernel : ∀ t : Fin grid0.N, _)

theorem idx1 : ∀ t : Fin cfg1.N, win1_0.index t = ![0, 0] ∧ win1_1.index t = ![0, t.val] ∧ win1_2.index t = ![0, t.val] ∧ t.val < 2 :=
  (by decide +kernel : ∀ t : Fin grid1.N, _)

/-- Place `x` of the block of columns `t`. -/
abbrev col (t : Fin cfg1.N) (x : S512x512.Idx) : S512x1024.Idx :=
  ix2 ⟨(x 0).val, by idx_bounds; omega⟩ ⟨t.val * 512 + (x 1).val, by have := idx1 t; idx_bounds; omega⟩

section Regions

variable (V : (c : Dev nD) → (b : Ref sig .tc) → Buf (Elt Ideal) ((c : Thread nD τ).loc b)) (c : Dev nD)

/-- The normed rows, as the kernel computes them. -/
theorem at0 (X : FVec Ideal Cert.MemKvRefIdeal.S2x256x2048 .f32) (G : FVec Ideal Cert.MemKvRefIdeal.S2048 .f32) (hX : V c main_v0 = flat X)
    (hG : ∀ b : Fin 2048, (V c main_v2 : FVec Ideal S1x2048 .f32) (ix2 0 b) = G (ix1 b)) (t : Fin cfg0.N) (x : S512x2048.Idx) :
    k0_pay1 (F := Ideal) (iblk0 V c 0 t) (iblk0 V c 1 t) x = flat (refH X G) x := by
  have h0 : ∀ y, iblk0 V c 0 t y = flat X y := fun y => by
    rw [← hX]; blk_point [iblk0, idx0 t]
  have h1 : ∀ y, iblk0 V c 1 t y = G (ix1 ⟨(y 1).val, by idx_bounds; omega⟩) := fun y => by
    refine Eq.trans ?_ (hG ⟨(y 1).val, by idx_bounds; omega⟩)
    blk_point [iblk0, idx0 t]
  rw [show iblk0 V c 0 t = _ from funext h0, show iblk0 V c 1 t = _ from funext h1]
  pointwise [k0_pay1, flat, refH]

/-- The normed rows. -/
theorem final0 (X : FVec Ideal Cert.MemKvRefIdeal.S2x256x2048 .f32) (G : FVec Ideal Cert.MemKvRefIdeal.S2048 .f32) (hX : V c main_v0 = flat X)
    (hG : ∀ b : Fin 2048, (V c main_v2 : FVec Ideal S1x2048 .f32) (ix2 0 b) = G (ix1 b)) :
    (dat0 V c).arrAt 2 cfg0.N = flat (refH X G) := by
  refine (dat0 V c).arrAt_eq_of_covers 2 _ (by decide +kernel) fun t hf y => ?_
  blk_simp
  rw [after0_2]; unfold out0_2; frame_out
  rw [at0 V c X G hX hG]
  generalize flat (refH X G) = Z
  blk_point [idx0 t]

/-- A block of columns of the projection. -/
theorem at1 (H : FVec Ideal Cert.MemKvRefIdeal.S2x256x2048 .f32) (W : FVec Ideal Cert.MemKvRefIdeal.S2048x1024 .f32) (hH : V c main_v3 = flat H) (hW : V c main_v5 = W) (t : Fin cfg1.N) (x : S512x512.Idx) :
    k1_pay1 (F := Ideal) (iblk1 V c 0 t) (iblk1 V c 1 t) x = flatP (refP H W) (col t x) := by
  have h0 : ∀ y, iblk1 V c 0 t y = flat H y := fun y => by
    rw [← hH]; blk_point [iblk1, idx1 t]
  have h1 : ∀ y, iblk1 V c 1 t y = W (ix2 ⟨(y 0).val, by idx_bounds; omega⟩ ⟨t.val * 512 + (y 1).val, by have := idx1 t; idx_bounds; omega⟩) := fun y => by
    subst hW; blk_point [iblk1, idx1 t]
  rw [show iblk1 V c 0 t = _ from funext h0, show iblk1 V c 1 t = _ from funext h1]
  pointwise [k1_pay1, flat, flatP, refP, col]

/-- The projection. -/
theorem final1 (H : FVec Ideal Cert.MemKvRefIdeal.S2x256x2048 .f32) (W : FVec Ideal Cert.MemKvRefIdeal.S2048x1024 .f32) (hH : V c main_v3 = flat H) (hW : V c main_v5 = W) :
    (dat1 V c).arrAt 2 cfg1.N = flatP (refP H W) := by
  refine (dat1 V c).arrAt_eq_of_covers 2 _ (by decide +kernel) fun t hf y => ?_
  blk_simp
  rw [after1_2]; unfold out1_2; frame_out
  rw [at1 V c H W hH hW]
  generalize flatP (refP H W) = Z
  blk_point [col, idx1 t]

end Regions

section Launch

open Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The kernel run to its end: every buffer holds what the last boundary's valuation says. -/
theorem runW : θ_run defs (onTc (τ := τ) (main (F := Ideal))) ⟨m, fun _ => 0, ρ⟩ (fun r =>
    ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c b hb => h c b hb)

end Launch

section Run

variable (m : (ℓ : Loc nD τ sig) → Buf (Elt Ideal) ℓ) (ρ : Dev nD → PrngReg) (c : Dev nD)

/-! ## What the host prepares -/

theorem val0 : V1 m ρ c main_v0 = flat (m ((c : Thread nD τ).loc main_arg0)) := by
  have h : V1 m ρ c main_v0 = shapeCast S512x2048 (m ((c : Thread nD τ).loc main_arg0)) shapeCasts_S2x256x2048_S512x2048 := by
    unfold_abbrev_sides
    after_results <;> rfl
  exact h.trans (flat_eq _)

theorem val2 (b : Fin 2048) : (V1 m ρ c main_v2 : FVec Ideal S1x2048 .f32) (ix2 0 b) = (shapeCast Cert.MemKvRefIdeal.S2048 (m ((c : Thread nD τ).loc main_arg1)) Cert.MemKvRefIdeal.Gen.shapeCasts_S1x2048_S2048) (ix1 b) := by
  have h : V1 m ρ c main_v2 = shapeCast S1x2048 (shapeCast Cert.MemKvRefIdeal.S2048 (m ((c : Thread nD τ).loc main_arg1)) Cert.MemKvRefIdeal.Gen.shapeCasts_S1x2048_S2048) shapeCasts_S2048_S1x2048 := by
    unfold_abbrev_sides
    after_results <;> rfl
  rw [h]
  generalize (shapeCast Cert.MemKvRefIdeal.S2048 (m ((c : Thread nD τ).loc main_arg1)) Cert.MemKvRefIdeal.Gen.shapeCasts_S1x2048_S2048) = G
  pointwise []

theorem norm2 : W2 m ρ c (Proc.devRef .tc main_v3) = flat (refH (m ((c : Thread nD τ).loc main_arg0)) (shapeCast Cert.MemKvRefIdeal.S2048 (m ((c : Thread nD τ).loc main_arg1)) Cert.MemKvRefIdeal.Gen.shapeCasts_S1x2048_S2048)) :=
  (W2_arr m ρ c 2).trans (final0 (V1 m ρ) c _ _ (val0 m ρ c) (val2 m ρ c))

theorem norm3 : V3 m ρ c main_v3 = flat (refH (m ((c : Thread nD τ).loc main_arg0)) (shapeCast Cert.MemKvRefIdeal.S2048 (m ((c : Thread nD τ).loc main_arg1)) Cert.MemKvRefIdeal.Gen.shapeCasts_S1x2048_S2048)) :=
  (W3_of m ρ c main_v3 (by decide)).trans (norm2 m ρ c)

theorem val5 : V3 m ρ c main_v5 = (shapeCast Cert.MemKvRefIdeal.S2048x1024 (m ((c : Thread nD τ).loc main_arg2)) Cert.MemKvRefIdeal.Gen.shapeCasts_S1x2048x1024_S2048x1024) := by
  have h : V3 m ρ c main_v5 = (truncf .bf16 (shapeCast S2048x1024 (W2 m ρ c (Proc.devRef .tc main_arg2) : FVec Ideal S1x2048x1024 .f32) shapeCasts_S1x2048x1024_S2048x1024) bitsLt_bf16_f32 : FVec Ideal S2048x1024 .bf16) := by
    unfold_abbrev_sides
    after_results <;> rfl
  rw [h, show W2 m ρ c (Proc.devRef .tc main_arg2) = _ from W2_args m ρ c main_arg2 (by decide)]
  rfl

theorem prod4 : W4 m ρ c (Proc.devRef .tc main_v6) = flatP (refP (refH (m ((c : Thread nD τ).loc main_arg0)) (shapeCast Cert.MemKvRefIdeal.S2048 (m ((c : Thread nD τ).loc main_arg1)) Cert.MemKvRefIdeal.Gen.shapeCasts_S1x2048_S2048)) (shapeCast Cert.MemKvRefIdeal.S2048x1024 (m ((c : Thread nD τ).loc main_arg2)) Cert.MemKvRefIdeal.Gen.shapeCasts_S1x2048x1024_S2048x1024)) :=
  (W4_arr m ρ c 2).trans (final1 (V3 m ρ) c _ _ (norm3 m ρ c) (val5 m ρ c))

theorem end0 : W5 m ρ c (Proc.devRef .tc main_v8) = refK (refH (m ((c : Thread nD τ).loc main_arg0)) (shapeCast Cert.MemKvRefIdeal.S2048 (m ((c : Thread nD τ).loc main_arg1)) Cert.MemKvRefIdeal.Gen.shapeCasts_S1x2048_S2048)) (shapeCast Cert.MemKvRefIdeal.S2048x1024 (m ((c : Thread nD τ).loc main_arg2)) Cert.MemKvRefIdeal.Gen.shapeCasts_S1x2048x1024_S2048x1024) := by
  have h : W5 m ρ c (Proc.devRef .tc main_v8) = shapeCast S2x256x512 (extractStridedSlice S512x512 ![0, 0] (W4 m ρ c (Proc.devRef .tc main_v6) : FVec Ideal S512x1024 .f32) slices_S512x1024_S512x512_0_0) shapeCasts_S512x512_S2x256x512 := by
    unfold_abbrev_sides
    after_results <;> rfl
  rw [h, prod4]
  exact col0 _ _

theorem end1 : W5 m ρ c (Proc.devRef .tc main_v10) = refV (refH (m ((c : Thread nD τ).loc main_arg0)) (shapeCast Cert.MemKvRefIdeal.S2048 (m ((c : Thread nD τ).loc main_arg1)) Cert.MemKvRefIdeal.Gen.shapeCasts_S1x2048_S2048)) (shapeCast Cert.MemKvRefIdeal.S2048x1024 (m ((c : Thread nD τ).loc main_arg2)) Cert.MemKvRefIdeal.Gen.shapeCasts_S1x2048x1024_S2048x1024) := by
  have h : W5 m ρ c (Proc.devRef .tc main_v10) = shapeCast S2x256x512 (extractStridedSlice S512x512 ![0, 512] (W4 m ρ c (Proc.devRef .tc main_v6) : FVec Ideal S512x1024 .f32) slices_S512x1024_S512x512_0_512) shapeCasts_S512x512_S2x256x512 := by
    unfold_abbrev_sides
    after_results <;> rfl
  rw [h, prod4]
  exact col512 _ _

/-- The kernel run to its end: each result is the reference's term of the arguments. -/
theorem run : θ_run defs (onTc (τ := τ) (main (F := Ideal))) ⟨m, fun _ => 0, ρ⟩ fun r => ∀ c : Dev nD,
      r.2.mem ((c.tc : Thread nD τ).loc main_v8) = refK (refH (m ((c : Thread nD τ).loc main_arg0)) (shapeCast Cert.MemKvRefIdeal.S2048 (m ((c : Thread nD τ).loc main_arg1)) Cert.MemKvRefIdeal.Gen.shapeCasts_S1x2048_S2048)) (shapeCast Cert.MemKvRefIdeal.S2048x1024 (m ((c : Thread nD τ).loc main_arg2)) Cert.MemKvRefIdeal.Gen.shapeCasts_S1x2048x1024_S2048x1024) ∧
      r.2.mem ((c.tc : Thread nD τ).loc main_v10) = refV (refH (m ((c : Thread nD τ).loc main_arg0)) (shapeCast Cert.MemKvRefIdeal.S2048 (m ((c : Thread nD τ).loc main_arg1)) Cert.MemKvRefIdeal.Gen.shapeCasts_S1x2048_S2048)) (shapeCast Cert.MemKvRefIdeal.S2048x1024 (m ((c : Thread nD τ).loc main_arg2)) Cert.MemKvRefIdeal.Gen.shapeCasts_S1x2048x1024_S2048x1024) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) :=
  (θ_run defs _ _).mono (fun r h c =>
    ⟨(h c _ (mem_uc main_v8 (by decide))).trans (end0 m ρ c),
      (h c _ (mem_uc main_v10 (by decide))).trans (end1 m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c)⟩) (runW m ρ)

end Run

end Cert.MemKvIdeal.Hand
-- ==== Proof.FfnSValue.lean ====
module

public import proofs.«01_k».proof.Proof.Gen.FfnSIdeal.Value
public import proofs.«01_k».proof.Proof.Gen.FfnSRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.FfnSIdeal.Hand

open Cert.FfnSIdeal Cert.FfnSIdeal.Gen Idealize.ShloMosaic Idealize.ShloMosaic.TcCoe Idealize.SL.Sem Idealize.ShloMosaic.StableHlo

/-! ## The reference's term in three parts -/

/-- The two hidden projections `h @ w_gu` side by side. -/
def refA (H : FVec Ideal Cert.FfnSRefIdeal.S8x2048 .bf16) (W : FVec Ideal Cert.FfnSRefIdeal.S1x2048x11264 .f32) :
    FVec Ideal Cert.FfnSRefIdeal.S8x11264 .f32 :=
  Host.dotGeneral Cert.FfnSRefIdeal.dot_S8x2048_S2048x11264_S8x11264_1_0_0_1_n_n none (extf .f32 H Cert.FfnSRefIdeal.Gen.bitsLt_bf16_f32)
    (shapeCast _ W Cert.FfnSRefIdeal.Gen.shapeCasts_S1x2048x11264_S2048x11264)

/-- `(silu(a) * c) @ w_down`. -/
def refD (P : FVec Ideal Cert.FfnSRefIdeal.S8x11264 .f32) (W : FVec Ideal Cert.FfnSRefIdeal.S1x5632x2048 .f32) :
    FVec Ideal Cert.FfnSRefIdeal.S8x2048 .f32 :=
  Host.dotGeneral Cert.FfnSRefIdeal.dot_S8x5632_S5632x2048_S8x2048_1_0_0_1_n_n none
    (mulf (mulf (extractStridedSlice Cert.FfnSRefIdeal.S8x5632 ![0, 0] P Cert.FfnSRefIdeal.Gen.slices_S8x11264_S8x5632_0_0)
      (Host.divf (broadcastInDim Cert.FfnSRefIdeal.S8x5632 ![] Cert.FfnSRefIdeal.Gen.bcast_S_S8x5632 (constant Cert.FfnSRefIdeal.S_ .f32 0x3F800000#32))
        (addf (broadcastInDim Cert.FfnSRefIdeal.S8x5632 ![] Cert.FfnSRefIdeal.Gen.bcast_S_S8x5632 (constant Cert.FfnSRefIdeal.S_ .f32 0x3F800000#32))
          (Host.exp (Host.negf (extractStridedSlice Cert.FfnSRefIdeal.S8x5632 ![0, 0] P Cert.FfnSRefIdeal.Gen.slices_S8x11264_S8x5632_0_0))))))
      (extractStridedSlice Cert.FfnSRefIdeal.S8x5632 ![0, 5632] P Cert.FfnSRefIdeal.Gen.slices_S8x11264_S8x5632_0_5632))
    (shapeCast _ W Cert.FfnSRefIdeal.Gen.shapeCasts_S1x5632x2048_S5632x2048)

/-- `x1 + rms_norm(d) * g`. -/
def refY (X : FVec Ideal Cert.FfnSRefIdeal.S8x2048 .f32) (D : FVec Ideal Cert.FfnSRefIdeal.S8x2048 .f32)
    (G : FVec Ideal Cert.FfnSRefIdeal.S1x2048 .f32) : FVec Ideal Cert.FfnSRefIdeal.S8x2048 .f32 :=
  addf X (mulf (mulf D (broadcastInDim Cert.FfnSRefIdeal.S8x2048 ![0, 1] Cert.FfnSRefIdeal.Gen.bcast_S8x1_S8x2048_0_1 (Host.rsqrt (addf (Host.divf
    (broadcastInDim Cert.FfnSRefIdeal.S8x1 ![0] Cert.FfnSRefIdeal.Gen.bcast_S8_S8x1_0 (Host.reduceAdd (mulf D D) (constant Cert.FfnSRefIdeal.S_ .f32 0x00000000#32)
      Cert.FfnSRefIdeal.Gen.reducesTo_S8x2048_S8_d1 Cert.FfnSRefIdeal.Gen.h_S_))
    (broadcastInDim Cert.FfnSRefIdeal.S8x1 ![] Cert.FfnSRefIdeal.Gen.bcast_S_S8x1 (constant Cert.FfnSRefIdeal.S_ .f32 0x45000000#32)))
    (broadcastInDim Cert.FfnSRefIdeal.S8x1 ![] Cert.FfnSRefIdeal.Gen.bcast_S_S8x1 (constant Cert.FfnSRefIdeal.S_ .f32 0x358637BD#32))))))
    (broadcastInDim Cert.FfnSRefIdeal.S8x2048 ![0, 1] Cert.FfnSRefIdeal.Gen.bcast_S1x2048_S8x2048_0_1
      (broadcastInDim Cert.FfnSRefIdeal.S1x2048 ![1] Cert.FfnSRefIdeal.Gen.bcast_S2048_S1x2048_1 (shapeCast _ G Cert.FfnSRefIdeal.Gen.shapeCasts_S1x2048_S2048))))

/-- The reference's result is the three parts composed. -/
theorem res_eq (m : (ℓ : Loc Cert.FfnSRefIdeal.nD Cert.FfnSRefIdeal.τ Cert.FfnSRefIdeal.sig) → Buf (Elt Ideal) ℓ) (c : Dev Cert.FfnSRefIdeal.nD) :
    Cert.FfnSRefIdeal.Value.res_main_v23 m c
      = refY (m ((c.tc : Thread Cert.FfnSRefIdeal.nD Cert.FfnSRefIdeal.τ).loc Cert.FfnSRefIdeal.main_arg1))
          (refD (refA (m ((c.tc : Thread Cert.FfnSRefIdeal.nD Cert.FfnSRefIdeal.τ).loc Cert.FfnSRefIdeal.main_arg0))
            (m ((c.tc : Thread Cert.FfnSRefIdeal.nD Cert.FfnSRefIdeal.τ).loc Cert.FfnSRefIdeal.main_arg2)))
            (m ((c.tc : Thread Cert.FfnSRefIdeal.nD Cert.FfnSRefIdeal.τ).loc Cert.FfnSRefIdeal.main_arg3)))
          (m ((c.tc : Thread Cert.FfnSRefIdeal.nD Cert.FfnSRefIdeal.τ).loc Cert.FfnSRefIdeal.main_arg4)) := by
  unfold Cert.FfnSRefIdeal.Value.res_main_v23 refY refD refA; rfl

/-- `silu a * c` at extended reals. -/
abbrev gate (a c : EReal) : EReal := a * Ideal.div 1 (1 + Ideal.exp (-a)) * c

theorem refD_at (H : FVec Ideal Cert.FfnSRefIdeal.S8x2048 .bf16) (W : FVec Ideal Cert.FfnSRefIdeal.S1x2048x11264 .f32)
    (Wd : FVec Ideal Cert.FfnSRefIdeal.S1x5632x2048 .f32) (j) : refD (refA H W) Wd j
      = ∑ k : Fin 5632, gate (∑ l : Fin 2048, H (ix2 (j 0) l) * W (ix3 0 l ⟨k.val, by omega⟩))
          (∑ l : Fin 2048, H (ix2 (j 0) l) * W (ix3 0 l ⟨5632 + k.val, by omega⟩)) * Wd (ix3 0 k (j 1)) := by
  pointwise [refD, refA]

/-! ## The kernel's payloads at an index -/

theorem hzero (j) : k0_pay1 (F := Ideal) j = 0 := by pointwise [k0_pay1]

theorem hpay (h : FVec Ideal S8x2048 .bf16) (wg wu : FVec Ideal S2048x512 .bf16) (acc : FVec Ideal S8x2048 .f32)
    (wd : FVec Ideal S512x2048 .bf16) (j) : k0_pay2 (F := Ideal) h wg wu acc wd j
      = acc j + ∑ k : Fin 512, gate (∑ l : Fin 2048, h (ix2 (j 0) l) * wg (ix2 l k)) (∑ l : Fin 2048, h (ix2 (j 0) l) * wu (ix2 l k))
          * wd (ix2 k (j 1)) := by
  pointwise [k0_pay2, Ideal.logistic]

theorem idx : ∀ t : Fin cfg0.N, win0_0.index t = ![t.val / 11, 0] ∧ win0_1.index t = ![0, t.val % 11] ∧ win0_2.index t = ![0, t.val % 11 + 11]
    ∧ win0_3.index t = ![t.val % 11, 0] ∧ win0_4.index t = ![t.val / 11, 0] ∧ win0_5.index t = ![0, 0] ∧ win0_6.index t = ![t.val / 11, 0]
    ∧ t.val / 11 < 1 :=
  (by decide +kernel : ∀ t : Fin grid0.N, _)

variable (m : (ℓ : Loc nD τ sig) → Buf (Elt Ideal) ℓ)

/-- What the last point of a row block writes is the normalised sum of the accumulator after that point. -/
theorem out_last (c : Dev nD) (t : Fin cfg0.N) (h : t.val % 11 = 10) :
    (outsAt0 m c t.val t.isLt).1 = k0_pay3 (iblk m c 4 t) (outsAt0 m c t.val t.isLt).2 (iblk m c 5 t) := by
  rw [outsAt0_C m c t (by omega) h]
  frame_out

/-- The accumulator after the last point of a row block: the reference's `(silu(a) * c) @ w_down` at the block's rows. -/
theorem acc_last (c : Dev nD) (t : Fin cfg0.N) (h : t.val % 11 = 10) (x : S8x2048.Idx) (i : Cert.FfnSRefIdeal.S8x2048.Idx)
    (hi0 : (i 0 : ℕ) = t.val / 11 * 8 + x 0) (hi1 : (i 1 : ℕ) = x 1) :
    (outsAt0 m c t.val t.isLt).2 x = refD (refA (m ((c : Thread nD τ).loc main_arg0)) (m ((c : Thread nD τ).loc main_arg2)))
      (m ((c : Thread nD τ).loc main_arg3)) i := by
  rw [Pipeline.eq_sum_fin_of_reset_step_apply_of_flush (fun n h => (outsAt0 m c n h).2) 11 (fun _ => 0) _
    (fun t h j => by rw [outsAt0_A m c t h (by omega)]; frame_out; rw [hpay, hzero])
    (fun t h j => by
      by_cases h1 : t.val % 11 = 10
      · rw [outsAt0_C m c t h h1]; frame_out; rw [read_unread_whole, hpay]
      · rw [outsAt0_B m c t h h1]; frame_out; rw [read_unread_whole, hpay])
    t h x, zero_add, refD_at]
  refine Fin.sum_mul_add_congr fun s k hl => ?_
  blk_point [iblk, V, idx ⟨_, Pipeline.run_point_lt_of_flush t h s⟩, hi0, hi1]

theorem final (c : Dev nD) : (dats m 0 c).arrAt 6 cfg0.N = refY (m ((c : Thread nD τ).loc main_arg1))
    (refD (refA (m ((c : Thread nD τ).loc main_arg0)) (m ((c : Thread nD τ).loc main_arg2))) (m ((c : Thread nD τ).loc main_arg3)))
    (m ((c : Thread nD τ).loc main_arg4)) := by
  refine (dats m 0 c).arrAt_eq_of_covers 6 _ (by decide +kernel) fun t hf y => ?_
  blk_simp
  rw [after0_6, out_last m c t ((flush0_6 t).mp hf)]
  have hacc := acc_last m c t ((flush0_6 t).mp hf)
  generalize (outsAt0 m c t.val t.isLt).2 = acc at hacc ⊢
  generalize refD (refA (m ((c : Thread nD τ).loc main_arg0)) (m ((c : Thread nD τ).loc main_arg2))) (m ((c : Thread nD τ).loc main_arg3)) = D at hacc ⊢
  have hacc' : acc = fun x => D (ix2 ⟨t.val / 11 * 8 + (x 0).val, by have := idx t; idx_bounds; omega⟩ ⟨(x 1).val, by idx_bounds; omega⟩) :=
    funext fun x => hacc x _ rfl rfl
  subst hacc'
  pointwise [k0_pay3, refY]
  blk_point [iblk, V, idx t]

end Cert.FfnSIdeal.Hand
end
end
-- ==== Proof.MergeSValue.lean ====
module

public import proofs.«01_k».proof.Proof.Gen.MergeSIdeal.Value
public import proofs.«01_k».proof.Proof.Gen.MergeSRefIdeal.Run
public import Idealize.ShloMosaic.Lib.Pipeline.ValueKit
public import Idealize.ShloMosaic.Lib.Pointwise

@[expose] public section

set_option maxRecDepth 16384

noncomputable section

namespace Cert.MergeSIdeal.Hand

open Cert.MergeSIdeal Cert.MergeSIdeal.Gen Idealize.ShloMosaic Idealize.ShloMosaic.TcCoe Idealize.SL.Sem Idealize.ShloMosaic.StableHlo

/-! ## The reference's terms in parts -/

/-- The three branches, each projected to the model's width and gated. -/
def refS (Gt : FVec Ideal Cert.MergeSRefIdeal.S8x6144 .bf16) (Ya Yb : FVec Ideal Cert.MergeSRefIdeal.S8x1024 .bf16) (Ym : FVec Ideal Cert.MergeSRefIdeal.S8x512 .bf16)
    (Wa Wb : FVec Ideal Cert.MergeSRefIdeal.S1x1024x2048 .f32) (Wm : FVec Ideal Cert.MergeSRefIdeal.S1x512x2048 .f32) : FVec Ideal Cert.MergeSRefIdeal.S8x2048 .f32 :=
  addf (addf (mulf (shapeCast _ (extractStridedSlice Cert.MergeSRefIdeal.S8x1x2048 ![0, 0, 0] (shapeCast _ (extf .f32 Gt Cert.MergeSRefIdeal.Gen.bitsLt_bf16_f32) Cert.MergeSRefIdeal.Gen.shapeCasts_S8x6144_S8x3x2048) Cert.MergeSRefIdeal.Gen.slices_S8x3x2048_S8x1x2048_0_0_0) Cert.MergeSRefIdeal.Gen.shapeCasts_S8x1x2048_S8x2048)
      (Host.dotGeneral Cert.MergeSRefIdeal.dot_S8x1024_S1024x2048_S8x2048_1_0_0_1_n_n none (extf .f32 Ya Cert.MergeSRefIdeal.Gen.bitsLt_bf16_f32) (shapeCast _ Wa Cert.MergeSRefIdeal.Gen.shapeCasts_S1x1024x2048_S1024x2048)))
    (mulf (shapeCast _ (extractStridedSlice Cert.MergeSRefIdeal.S8x1x2048 ![0, 1, 0] (shapeCast _ (extf .f32 Gt Cert.MergeSRefIdeal.Gen.bitsLt_bf16_f32) Cert.MergeSRefIdeal.Gen.shapeCasts_S8x6144_S8x3x2048) Cert.MergeSRefIdeal.Gen.slices_S8x3x2048_S8x1x2048_0_1_0) Cert.MergeSRefIdeal.Gen.shapeCasts_S8x1x2048_S8x2048)
      (Host.dotGeneral Cert.MergeSRefIdeal.dot_S8x1024_S1024x2048_S8x2048_1_0_0_1_n_n none (extf .f32 Yb Cert.MergeSRefIdeal.Gen.bitsLt_bf16_f32) (shapeCast _ Wb Cert.MergeSRefIdeal.Gen.shapeCasts_S1x1024x2048_S1024x2048))))
    (mulf (shapeCast _ (extractStridedSlice Cert.MergeSRefIdeal.S8x1x2048 ![0, 2, 0] (shapeCast _ (extf .f32 Gt Cert.MergeSRefIdeal.Gen.bitsLt_bf16_f32) Cert.MergeSRefIdeal.Gen.shapeCasts_S8x6144_S8x3x2048) Cert.MergeSRefIdeal.Gen.slices_S8x3x2048_S8x1x2048_0_2_0) Cert.MergeSRefIdeal.Gen.shapeCasts_S8x1x2048_S8x2048)
      (Host.dotGeneral Cert.MergeSRefIdeal.dot_S8x512_S512x2048_S8x2048_1_0_0_1_n_n none (extf .f32 Ym Cert.MergeSRefIdeal.Gen.bitsLt_bf16_f32) (shapeCast _ Wm Cert.MergeSRefIdeal.Gen.shapeCasts_S1x512x2048_S512x2048)))

/-- The output projection `merged @ w_out`. -/
def refM (S : FVec Ideal Cert.MergeSRefIdeal.S8x2048 .f32) (W : FVec Ideal Cert.MergeSRefIdeal.S1x2048x2048 .f32) : FVec Ideal Cert.MergeSRefIdeal.S8x2048 .f32 :=
  Host.dotGeneral Cert.MergeSRefIdeal.dot_S8x2048_S2048x2048_S8x2048_1_0_0_1_n_n none S (shapeCast _ W Cert.MergeSRefIdeal.Gen.shapeCasts_S1x2048x2048_S2048x2048)

/-- `x + rms_norm(d) * g`. -/
def refX (X D : FVec Ideal Cert.MergeSRefIdeal.S8x2048 .f32) (g : FVec Ideal Cert.MergeSRefIdeal.S1x2048 .f32) : FVec Ideal Cert.MergeSRefIdeal.S8x2048 .f32 :=
  addf X (mulf (mulf D (broadcastInDim Cert.MergeSRefIdeal.S8x2048 ![0, 1] Cert.MergeSRefIdeal.Gen.bcast_S8x1_S8x2048_0_1 (Host.rsqrt (addf (Host.divf
    (broadcastInDim Cert.MergeSRefIdeal.S8x1 ![0] Cert.MergeSRefIdeal.Gen.bcast_S8_S8x1_0 (Host.reduceAdd (mulf D D) (constant Cert.MergeSRefIdeal.S_ .f32 0x00000000#32)
      Cert.MergeSRefIdeal.Gen.reducesTo_S8x2048_S8_d1 Cert.MergeSRefIdeal.Gen.h_S_))
    (broadcastInDim Cert.MergeSRefIdeal.S8x1 ![] Cert.MergeSRefIdeal.Gen.bcast_S_S8x1 (constant Cert.MergeSRefIdeal.S_ .f32 0x45000000#32)))
    (broadcastInDim Cert.MergeSRefIdeal.S8x1 ![] Cert.MergeSRefIdeal.Gen.bcast_S_S8x1 (constant Cert.MergeSRefIdeal.S_ .f32 0x358637BD#32))))))
    (broadcastInDim Cert.MergeSRefIdeal.S8x2048 ![0, 1] Cert.MergeSRefIdeal.Gen.bcast_S1x2048_S8x2048_0_1
      (broadcastInDim Cert.MergeSRefIdeal.S1x2048 ![1] Cert.MergeSRefIdeal.Gen.bcast_S2048_S1x2048_1 (shapeCast _ g Cert.MergeSRefIdeal.Gen.shapeCasts_S1x2048_S2048))))

/-- `rms_norm(x) * g`, rounded. -/
def refH (D : FVec Ideal Cert.MergeSRefIdeal.S8x2048 .f32) (g : FVec Ideal Cert.MergeSRefIdeal.S1x2048 .f32) : FVec Ideal Cert.MergeSRefIdeal.S8x2048 .bf16 :=
  truncf .bf16 (mulf (mulf D (broadcastInDim Cert.MergeSRefIdeal.S8x2048 ![0, 1] Cert.MergeSRefIdeal.Gen.bcast_S8x1_S8x2048_0_1 (Host.rsqrt (addf (Host.divf
    (broadcastInDim Cert.MergeSRefIdeal.S8x1 ![0] Cert.MergeSRefIdeal.Gen.bcast_S8_S8x1_0 (Host.reduceAdd (mulf D D) (constant Cert.MergeSRefIdeal.S_ .f32 0x00000000#32)
      Cert.MergeSRefIdeal.Gen.reducesTo_S8x2048_S8_d1 Cert.MergeSRefIdeal.Gen.h_S_))
    (broadcastInDim Cert.MergeSRefIdeal.S8x1 ![] Cert.MergeSRefIdeal.Gen.bcast_S_S8x1 (constant Cert.MergeSRefIdeal.S_ .f32 0x45000000#32)))
    (broadcastInDim Cert.MergeSRefIdeal.S8x1 ![] Cert.MergeSRefIdeal.Gen.bcast_S_S8x1 (constant Cert.MergeSRefIdeal.S_ .f32 0x358637BD#32))))))
    (broadcastInDim Cert.MergeSRefIdeal.S8x2048 ![0, 1] Cert.MergeSRefIdeal.Gen.bcast_S1x2048_S8x2048_0_1
      (broadcastInDim Cert.MergeSRefIdeal.S1x2048 ![1] Cert.MergeSRefIdeal.Gen.bcast_S2048_S1x2048_1 (shapeCast _ g Cert.MergeSRefIdeal.Gen.shapeCasts_S1x2048_S2048)))) Cert.MergeSRefIdeal.Gen.bitsLt_bf16_f32

/-- The reference's first result is these parts composed. -/
theorem res_eq0 (m : (ℓ : Loc Cert.MergeSRefIdeal.nD Cert.MergeSRefIdeal.τ Cert.MergeSRefIdeal.sig) → Buf (Elt Ideal) ℓ) (c : Dev Cert.MergeSRefIdeal.nD) :
    Cert.MergeSRefIdeal.Value.res_main_v38 m c
      = (refX (m ((c.tc : Thread Cert.MergeSRefIdeal.nD Cert.MergeSRefIdeal.τ).loc Cert.MergeSRefIdeal.main_arg0)) (refM (refS (m ((c.tc : Thread Cert.MergeSRefIdeal.nD Cert.MergeSRefIdeal.τ).loc Cert.MergeSRefIdeal.main_arg1)) (m ((c.tc : Thread Cert.MergeSRefIdeal.nD Cert.MergeSRefIdeal.τ).loc Cert.MergeSRefIdeal.main_arg2)) (m ((c.tc : Thread Cert.MergeSRefIdeal.nD Cert.MergeSRefIdeal.τ).loc Cert.MergeSRefIdeal.main_arg3)) (m ((c.tc : Thread Cert.MergeSRefIdeal.nD Cert.MergeSRefIdeal.τ).loc Cert.MergeSRefIdeal.main_arg4)) (m ((c.tc : Thread Cert.MergeSRefIdeal.nD Cert.MergeSRefIdeal.τ).loc Cert.MergeSRefIdeal.main_arg5)) (m ((c.tc : Thread Cert.MergeSRefIdeal.nD Cert.MergeSRefIdeal.τ).loc Cert.MergeSRefIdeal.main_arg6)) (m ((c.tc : Thread Cert.MergeSRefIdeal.nD Cert.MergeSRefIdeal.τ).loc Cert.MergeSRefIdeal.main_arg7))) (m ((c.tc : Thread Cert.MergeSRefIdeal.nD Cert.MergeSRefIdeal.τ).loc Cert.MergeSRefIdeal.main_arg8))) (m ((c.tc : Thread Cert.MergeSRefIdeal.nD Cert.MergeSRefIdeal.τ).loc Cert.MergeSRefIdeal.main_arg9))) := by
  unfold Cert.MergeSRefIdeal.Value.res_main_v38 refX refM refS; rfl

/-- Likewise its second result. -/
theorem res_eq1 (m : (ℓ : Loc Cert.MergeSRefIdeal.nD Cert.MergeSRefIdeal.τ Cert.MergeSRefIdeal.sig) → Buf (Elt Ideal) ℓ) (c : Dev Cert.MergeSRefIdeal.nD) :
    Cert.MergeSRefIdeal.Value.res_main_v53 m c
      = refH (refX (m ((c.tc : Thread Cert.MergeSRefIdeal.nD Cert.MergeSRefIdeal.τ).loc Cert.MergeSRefIdeal.main_arg0)) (refM (refS (m ((c.tc : Thread Cert.MergeSRefIdeal.nD Cert.MergeSRefIdeal.τ).loc Cert.MergeSRefIdeal.main_arg1)) (m ((c.tc : Thread Cert.MergeSRefIdeal.nD Cert.MergeSRefIdeal.τ).loc Cert.MergeSRefIdeal.main_arg2)) (m ((c.tc : Thread Cert.MergeSRefIdeal.nD Cert.MergeSRefIdeal.τ).loc Cert.MergeSRefIdeal.main_arg3)) (m ((c.tc : Thread Cert.MergeSRefIdeal.nD Cert.MergeSRefIdeal.τ).loc Cert.MergeSRefIdeal.main_arg4)) (m ((c.tc : Thread Cert.MergeSRefIdeal.nD Cert.MergeSRefIdeal.τ).loc Cert.MergeSRefIdeal.main_arg5)) (m ((c.tc : Thread Cert.MergeSRefIdeal.nD Cert.MergeSRefIdeal.τ).loc Cert.MergeSRefIdeal.main_arg6)) (m ((c.tc : Thread Cert.MergeSRefIdeal.nD Cert.MergeSRefIdeal.τ).loc Cert.MergeSRefIdeal.main_arg7))) (m ((c.tc : Thread Cert.MergeSRefIdeal.nD Cert.MergeSRefIdeal.τ).loc Cert.MergeSRefIdeal.main_arg8))) (m ((c.tc : Thread Cert.MergeSRefIdeal.nD Cert.MergeSRefIdeal.τ).loc Cert.MergeSRefIdeal.main_arg9))) (m ((c.tc : Thread Cert.MergeSRefIdeal.nD Cert.MergeSRefIdeal.τ).loc Cert.MergeSRefIdeal.main_arg10)) := by
  unfold Cert.MergeSRefIdeal.Value.res_main_v53 refH refX refM refS; rfl

/-! ## The kernel's block against the reference's rows -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ t.val < 1 :=
  (by decide +kernel : ∀ t : Fin grid0.N, _)

variable (m : (ℓ : Loc nD τ sig) → Buf (Elt Ideal) ℓ)

/-- Row `y` of the block of rows `t`. -/
abbrev row (t : Fin cfg0.N) (x : S8x2048.Idx) : Cert.MergeSRefIdeal.S8x2048.Idx :=
  ix2 ⟨t.val * 8 + (x 0).val, by have := idx t; idx_bounds; omega⟩ ⟨(x 1).val, by idx_bounds; omega⟩

/-- The merged branches after the output projection, at a block of rows. -/
theorem proj_at (c : Dev nD) (t : Fin cfg0.N) (x : S8x2048.Idx) :
    k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t) x
      = refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (row t x) := by
  pointwise [k0_pay6, k0_pay3, refM, refS]
  blk_point [iblk, V, row, idx t]

/-- The residual stream after the mixing sub-layer, at a block of rows. -/
theorem x1_at (c : Dev nD) (t : Fin cfg0.N) (x : S8x2048.Idx) :
    k0_pay1 (k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) (iblk m c 0 t)
        (k0_pay7 (iblk m c 0 t) (iblk m c 1 t) (iblk m c 2 t) (iblk m c 3 t) (iblk m c 4 t) (iblk m c 5 t) (iblk m c 6 t) (iblk m c 7 t)
        (iblk m c 8 t) (iblk m c 9 t) (iblk m c 10 t))
        (k0_pay8 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) x
      = (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) (row t x) := by
  rw [show k0_pay8 (iblk m c 0 t) (iblk m c 1 t) (iblk m c 2 t) (iblk m c 3 t) (iblk m c 4 t) (iblk m c 5 t) (iblk m c 6 t) (iblk m c 7 t)
        (iblk m c 8 t) (iblk m c 9 t) (iblk m c 10 t) = mulf (k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) (k0_pay6 (iblk m c 0 t) (iblk m c 1 t) (iblk m c 2 t) (iblk m c 3 t) (iblk m c 4 t) (iblk m c 5 t) (iblk m c 6 t) (iblk m c 7 t)
        (iblk m c 8 t) (iblk m c 9 t) (iblk m c 10 t)) from rfl, funext (proj_at m c t)]
  generalize refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) = D
  pointwise [k0_pay1, k0_pay7, k0_pay4, refX]
  blk_point [iblk, V, row, idx t]

/-- The kernel's first result. -/
theorem final0 (c : Dev nD) : (dats m 0 c).arrAt 11 cfg0.N = (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) := by
  refine (dats m 0 c).arrAt_eq_of_covers 11 _ (by decide +kernel) fun t hf y => ?_
  blk_simp
  rw [after0_11]; unfold out0_11; frame_out
  rw [x1_at]
  generalize (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) = D
  blk_point [row, idx t]

/-- The kernel's second result. -/
theorem final1 (c : Dev nD) : (dats m 0 c).arrAt 12 cfg0.N = refH (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) (m ((c : Thread nD τ).loc main_arg10)) := by
  refine (dats m 0 c).arrAt_eq_of_covers 12 _ (by decide +kernel) fun t hf y => ?_
  blk_simp
  rw [after0_12]; unfold out0_12; frame_out
  unfold k0_pay2
  rw [funext (x1_at m c t)]
  generalize (refX (m ((c : Thread nD τ).loc main_arg0)) (refM (refS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg9))) = D
  pointwise [refH]
  blk_point [iblk, V, row, idx t]

end Cert.MergeSIdeal.Hand
end
end
-- ==== Proof.GmlpValue.lean ====
module

public import proofs.«01_k».proof.Proof.Gen.GmlpIdeal.Value
public import proofs.«01_k».proof.Proof.Gen.GmlpRefIdeal.Run
public import Idealize.ShloMosaic.Lib.Pipeline.ValueKit
public import Idealize.ShloMosaic.Lib.Pointwise

@[expose] public section

set_option maxRecDepth 16384

noncomputable section

namespace Cert.GmlpRefIdeal.Hand

open Cert.GmlpRefIdeal Cert.GmlpRefIdeal.Gen Idealize.ShloMosaic Idealize.ShloMosaic.TcCoe Idealize.SL.Sem Idealize.ShloMosaic.StableHlo

/-- The reference's result as a function of its three arguments: `u * (tril(w) v + b)` chunk by chunk and group by group. -/
def refY (A0 : FVec Ideal S8192x2048 .bf16) (A1 : FVec Ideal S1x8x128x128 .f32) (A2 : FVec Ideal S1x8x128 .f32) : FVec Ideal S8192x1024 .bf16 :=
  truncf .bf16 (mulf (extractStridedSlice S8192x1024 ![0, 0] (extf .f32 A0 bitsLt_bf16_f32) slices_S8192x2048_S8192x1024_0_0) (shapeCast _ (addf (transpose S64x128x8x128 [1, 3, 0, 2] (Host.dotGeneral dot_S64x128x8x128_S8x128x128_S8x64x128x128_1_2_03_1_2_0 none (shapeCast _ (extractStridedSlice S8192x1024 ![0, 1024] (extf .f32 A0 bitsLt_bf16_f32) slices_S8192x2048_S8192x1024_0_1024) shapeCasts_S8192x1024_S64x128x8x128) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ A1 shapeCasts_S1x8x128x128_S8x128x128) (broadcastInDim S8x128x128 ![] bcast_S_S8x128x128 (sitofp .f32 (constantI S_ 32 0#32))))) transposes_S8x64x128x128_S64x128x8x128_1_3_0_2) (broadcastInDim S64x128x8x128 ![0, 1, 2, 3] bcast_S1x128x8x1_S64x128x8x128_0_1_2_3 (broadcastInDim S1x128x8x1 ![1, 2] bcast_S128x8_S1x128x8x1_1_2 (transpose S128x8 [1, 0] (shapeCast _ A2 shapeCasts_S1x8x128_S8x128) transposes_S8x128_S128x8_1_0)))) shapeCasts_S64x128x8x128_S8192x1024)) bitsLt_bf16_f32

/-- Below the diagonal the mask keeps its operand; above it the value is zero. -/
theorem mask_ref (a : EReal) (r s : Fin 128) :
    Scalar.select (Scalar.select (IntOp.cmpi CmpIPredicate.sge (IntOp.addi (BitVec.ofNat 32 r.val) 0#32) (BitVec.ofNat 32 s.val)) 1#1 0#1) a
      (FloatOps.sitofp (F := Ideal) FTy.f32 0#32) = if s.val ≤ r.val then a else 0 := by
  rw [(by decide +kernel : ∀ r s : Fin 128, Scalar.select (IntOp.cmpi CmpIPredicate.sge (IntOp.addi (BitVec.ofNat 32 r.val) 0#32) (BitVec.ofNat 32 s.val)) 1#1 0#1
    = if s.val ≤ r.val then 1#1 else 0#1) r s]
  split
  · rfl
  · show ((((0#32).toInt : ℤ) : ℝ) : EReal) = 0
    simp

/-- The same, index by index. -/
theorem refY_at (A0 : FVec Ideal S8192x2048 .bf16) (A1 : FVec Ideal S1x8x128x128 .f32) (A2 : FVec Ideal S1x8x128 .f32) (n : Fin 64) (r : Fin 128) (g : Fin 8) (d : Fin 128) :
    refY A0 A1 A2 (ix2 ⟨n.val * 128 + r.val, by omega⟩ ⟨g.val * 128 + d.val, by omega⟩)
      = A0 (ix2 ⟨n.val * 128 + r.val, by omega⟩ ⟨g.val * 128 + d.val, by omega⟩) * ((∑ s : Fin 128, A0 (ix2 ⟨n.val * 128 + s.val, by omega⟩ ⟨1024 + (g.val * 128 + d.val), by omega⟩)
         * (if s.val ≤ r.val then A1 (ix4 0 g r s) else 0)) + A2 (ix3 0 g r)) := by
  pointwise [refY]
  simp only [mask_ref]

end Cert.GmlpRefIdeal.Hand

namespace Cert.GmlpIdeal.Hand

open Cert.GmlpIdeal Cert.GmlpIdeal.Gen Idealize.ShloMosaic Idealize.ShloMosaic.TcCoe Idealize.SL.Sem Idealize.ShloMosaic.StableHlo

/-- The kernel's mask likewise. -/
theorem mask_ker (a : EReal) (r s : Fin 128) :
    Scalar.select (IntOp.cmpi CmpIPredicate.sle (BitVec.ofNat 32 s.val) (BitVec.ofNat 32 r.val)) a 0 = if s.val ≤ r.val then a else 0 := by
  rw [(by decide +kernel : ∀ r s : Fin 128, IntOp.cmpi CmpIPredicate.sle (BitVec.ofNat 32 s.val) (BitVec.ofNat 32 r.val) = if s.val ≤ r.val then 1#1 else 0#1) r s]
  split <;> rfl

/-- A masked row against a column, with the product inside the mask or the mask on the row. -/
theorem row_sum (W X : Fin 128 → EReal) (r : Fin 128) :
    (∑ s : Fin 128, Scalar.select (IntOp.cmpi CmpIPredicate.sle (BitVec.ofNat 32 s.val) (BitVec.ofNat 32 r.val)) (W s * X s) 0)
      = ∑ s : Fin 128, X s * (if s.val ≤ r.val then W s else 0) := by
  refine Finset.sum_congr rfl fun s _ => ?_
  rw [mask_ker]
  split
  · exact mul_comm _ _
  · exact (mul_zero _).symm

/-- What the body leaves at an index of its block, from the blocks it reads. -/
def blockAt (x0 x1 : FVec Ideal S512x1024 .bf16) (x2 : FVec Ideal S8x128x128 .f32) (x3 : FVec Ideal S128x8 .f32) (n : Fin 4) (r : Fin 128) (g : Fin 8) (d : Fin 128) : EReal :=
  x0 (ix2 ⟨n.val * 128 + r.val, by omega⟩ ⟨g.val * 128 + d.val, by omega⟩)
    * ((∑ s : Fin 128, Scalar.select (IntOp.cmpi CmpIPredicate.sle (BitVec.ofNat 32 s.val) (BitVec.ofNat 32 r.val))
        (x2 (ix3 g r s) * x1 (ix2 ⟨n.val * 128 + s.val, by omega⟩ ⟨g.val * 128 + d.val, by omega⟩)) 0) + x3 (ix2 r g))

theorem blockAt_eq (x0 x1 : FVec Ideal S512x1024 .bf16) (x2 : FVec Ideal S8x128x128 .f32) (x3 : FVec Ideal S128x8 .f32) (n : Fin 4) (r : Fin 128) (g : Fin 8) (d : Fin 128) :
    blockAt x0 x1 x2 x3 n r g d = x0 (ix2 ⟨n.val * 128 + r.val, by omega⟩ ⟨g.val * 128 + d.val, by omega⟩)
    * ((∑ s : Fin 128, x1 (ix2 ⟨n.val * 128 + s.val, by omega⟩ ⟨g.val * 128 + d.val, by omega⟩) * (if s.val ≤ r.val then x2 (ix3 g r s) else 0)) + x3 (ix2 r g)) := by
  unfold blockAt
  rw [row_sum]

/-- The block that the body's 32 stores leave. -/
theorem out_at (x0 x1 : FVec Ideal S512x1024 .bf16) (x2 : FVec Ideal S8x128x128 .f32) (x3 : FVec Ideal S128x8 .f32) (y : S512x1024.Idx) :
    out0_4 (F := Ideal) x0 x1 x2 x3 y = blockAt x0 x1 x2 x3 ⟨(y 0).val / 128, by idx_bounds; omega⟩ ⟨(y 0).val % 128, by omega⟩ ⟨(y 1).val / 128, by idx_bounds; omega⟩ ⟨(y 1).val % 128, by omega⟩ := by
  unfold_out out0_4
  canon_tiles x h
  all_goals
    open_payloads
    have hr : (y 0).val % 128 = (x 0).val := by omega
    pointwise [blockAt]
    simp only [hr]
    blk_point []

/-- Which block each window is at. -/
theorem idx : ∀ t : Fin cfg0.N, win0_0.index t = ![t.val, 0] ∧ win0_1.index t = ![t.val, 1] ∧ win0_2.index t = ![0, 0, 0] ∧ win0_3.index t = ![0, 0] ∧ win0_4.index t = ![t.val, 0] ∧ t.val < 16 :=
  (by decide +kernel : ∀ t : Fin grid0.N, _)

variable (m : (ℓ : Loc nD τ sig) → Buf (Elt Ideal) ℓ)

/-- The kernel's result. -/
theorem final (c : Dev nD) : (dats m 0 c).arrAt 4 cfg0.N = Cert.GmlpRefIdeal.Hand.refY (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := idx t
  blk_simp
  rw [after0_4]
  refine (out_at _ _ _ _ y).trans ?_
  refine Eq.trans ?_ (Eq.trans (Cert.GmlpRefIdeal.Hand.refY_at (m ((c : Thread nD τ).loc main_arg0)) (m ((c : Thread nD τ).loc main_arg1)) (m ((c : Thread nD τ).loc main_arg2))
    ⟨t.val * 4 + (y 0).val / 128, by idx_bounds; omega⟩ ⟨(y 0).val % 128, by omega⟩ ⟨(y 1).val / 128, by idx_bounds; omega⟩ ⟨(y 1).val % 128, by omega⟩).symm ?_)
  · rw [blockAt_eq]
    blk_point [iblk, V, idx t]
  · generalize Cert.GmlpRefIdeal.Hand.refY (m ((c : Thread nD τ).loc main_arg0)) (m ((c : Thread nD τ).loc main_arg1)) (m ((c : Thread nD τ).loc main_arg2)) = Z
    blk_point [idx t]

end Cert.GmlpIdeal.Hand
end
end
-- ==== Proof.GmlpSValue.lean ====
module

public import proofs.«01_k».proof.Proof.Gen.GmlpSIdeal.Value
public import proofs.«01_k».proof.Proof.Gen.GmlpSRefIdeal.Run
public import Idealize.ShloMosaic.Lib.Pipeline.ValueKit
public import Idealize.ShloMosaic.Lib.Pointwise

@[expose] public section

set_option maxRecDepth 16384

noncomputable section

namespace Cert.GmlpSRefIdeal.Hand

open Cert.GmlpSRefIdeal Cert.GmlpSRefIdeal.Gen Idealize.ShloMosaic Idealize.ShloMosaic.TcCoe Idealize.SL.Sem Idealize.ShloMosaic.StableHlo

/-- The reference's result as a function of its three arguments: `u * (w v + b)` for the first row of a chunk. -/
def refY (A0 : FVec Ideal S8x2048 .f32) (A1 : FVec Ideal S1x8x128x128 .f32) (A2 : FVec Ideal S1x8x128 .f32) : FVec Ideal S8x1024 .bf16 :=
  truncf .bf16 (mulf (extractStridedSlice S8x1024 ![0, 0] A0 slices_S8x2048_S8x1024_0_0) (shapeCast _ (addf (transpose S8x1x8x128 [1, 3, 0, 2] (Host.dotGeneral dot_S8x1x8x128_S8x1x1_S8x8x128x1_1_2_03_1_2_0 none (shapeCast _ (extractStridedSlice S8x1024 ![0, 1024] A0 slices_S8x2048_S8x1024_0_1024) shapeCasts_S8x1024_S8x1x8x128) (select (broadcastInDim S8x1x1 ![0, 1, 2] bcast_S1x1x1_S8x1x1_0_1_2 (broadcastInDim S1x1x1 ![1, 2] bcast_S1x1_S1x1x1_1_2 (select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1))))) (shapeCast _ (extractStridedSlice S1x8x1x1 ![0, 0, 0, 0] A1 slices_S1x8x128x128_S1x8x1x1_0_0_0_0) shapeCasts_S1x8x1x1_S8x1x1) (broadcastInDim S8x1x1 ![] bcast_S_S8x1x1 (sitofp .f32 (constantI S_ 32 0#32))))) transposes_S8x8x128x1_S8x1x8x128_1_3_0_2) (broadcastInDim S8x1x8x128 ![0, 1, 2, 3] bcast_S1x1x8x1_S8x1x8x128_0_1_2_3 (broadcastInDim S1x1x8x1 ![1, 2] bcast_S1x8_S1x1x8x1_1_2 (transpose S1x8 [1, 0] (shapeCast _ (extractStridedSlice S1x8x1 ![0, 0, 0] A2 slices_S1x8x128_S1x8x1_0_0_0) shapeCasts_S1x8x1_S8x1) transposes_S8x1_S1x8_1_0)))) shapeCasts_S8x1x8x128_S8x1024)) bitsLt_bf16_f32

/-- The same, index by index. -/
theorem refY_at (A0 : FVec Ideal S8x2048 .f32) (A1 : FVec Ideal S1x8x128x128 .f32) (A2 : FVec Ideal S1x8x128 .f32) (b : Fin 8) (g : Fin 8) (d : Fin 128) :
    refY A0 A1 A2 (ix2 b ⟨g.val * 128 + d.val, by omega⟩)
      = A0 (ix2 b ⟨g.val * 128 + d.val, by omega⟩) * (A1 (ix4 0 g 0 0) * A0 (ix2 b ⟨1024 + (g.val * 128 + d.val), by omega⟩) + A2 (ix3 0 g 0)) := by
  pointwise [refY]
  rw [Fin.sum_univ_one, mul_comm (A1 _)]
  rfl

end Cert.GmlpSRefIdeal.Hand

namespace Cert.GmlpSIdeal.Hand

open Cert.GmlpSIdeal Cert.GmlpSIdeal.Gen Idealize.ShloMosaic Idealize.ShloMosaic.TcCoe Idealize.SL.Sem Idealize.ShloMosaic.StableHlo

/-- Which block each window is at. -/
theorem idx : ∀ t : Fin cfg0.N, win0_0.index t = ![0, 0] ∧ win0_1.index t = ![0, 1] ∧ win0_2.index t = ![0, 0] ∧ win0_3.index t = ![0, 0] ∧ win0_4.index t = ![0, 0] :=
  (by decide +kernel : ∀ t : Fin grid0.N, _)

variable (m : (ℓ : Loc nD τ sig) → Buf (Elt Ideal) ℓ)

/-- The kernel's result. -/
theorem final (c : Dev nD) : (dats m 0 c).arrAt 4 cfg0.N = Cert.GmlpSRefIdeal.Hand.refY (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; unfold out0_4; frame_out
  refine Eq.trans ?_ (Eq.trans (Cert.GmlpSRefIdeal.Hand.refY_at (m ((c : Thread nD τ).loc main_arg0)) (m ((c : Thread nD τ).loc main_arg1)) (m ((c : Thread nD τ).loc main_arg2)) (y 0) ⟨(y 1).val / 128, by idx_bounds; omega⟩ ⟨(y 1).val % 128, by omega⟩).symm ?_)
  · pointwise [k0_pay1]
    blk_point [iblk, V, idx t]
  · generalize Cert.GmlpSRefIdeal.Hand.refY (m ((c : Thread nD τ).loc main_arg0)) (m ((c : Thread nD τ).loc main_arg1)) (m ((c : Thread nD τ).loc main_arg2)) = Z
    blk_point [idx t]

end Cert.GmlpSIdeal.Hand
end
end
-- ==== Proof.MemAttnValue.lean ====
module

public import proofs.«01_k».proof.Proof.Gen.MemAttnIdeal.Value
public import proofs.«01_k».proof.Proof.Gen.MemAttnRefIdeal.Run
public import Idealize.ShloMosaic.Lib.Pipeline.ValueKit
public import Idealize.ShloMosaic.Lib.Pointwise

@[expose] public section

set_option maxRecDepth 16384

noncomputable section

namespace Cert.MemAttnRefIdeal.Hand

open Cert.MemAttnRefIdeal Cert.MemAttnRefIdeal.Gen Idealize.ShloMosaic Idealize.ShloMosaic.TcCoe Idealize.SL.Sem Idealize.ShloMosaic.StableHlo

/-- The scaled scores of every query against the memory's keys, head by head. -/
def refS (A0 : FVec Ideal S8192x512 .bf16) (A1 : FVec Ideal S2x256x512 .f32) : FVec Ideal S2x4x4096x256 .f32 :=
  (mulf (Host.dotGeneral dot_S2x4096x4x128_S2x256x4x128_S2x4x4096x256_3_3_1_1_02_02 none (shapeCast _ (extf .f32 A0 bitsLt_bf16_f32) shapeCasts_S8192x512_S2x4096x4x128) (shapeCast _ A1 shapeCasts_S2x256x512_S2x256x4x128)) (broadcastInDim S2x4x4096x256 ![] bcast_S_S2x4x4096x256 (constant S_ .f32 0x3DB504F3#32)))

/-- Each row's greatest score. -/
def refM (S : FVec Ideal S2x4x4096x256 .f32) : FVec Ideal S2x4x4096 .f32 :=
  Host.reduce FloatOps.maximumf S (constant S_ .f32 0xFF800000#32) reducesTo_S2x4x4096x256_S2x4x4096_d3 h_S_

/-- The exponentials, each row shifted by its greatest score. -/
def refE (S : FVec Ideal S2x4x4096x256 .f32) (M : FVec Ideal S2x4x4096 .f32) : FVec Ideal S2x4x4096x256 .f32 :=
  Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) M))))

/-- The weights: each row of exponentials divided by its sum. -/
def refW (E : FVec Ideal S2x4x4096x256 .f32) : FVec Ideal S2x4x4096x256 .f32 :=
  Host.divf E (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd E (constant S_ .f32 0x00000000#32) reducesTo_S2x4x4096x256_S2x4x4096_d3 h_S_)))

/-- The weights against the memory's values. -/
def refP (W : FVec Ideal S2x4x4096x256 .f32) (A2 : FVec Ideal S2x256x512 .f32) : FVec Ideal S2x4096x512 .bf16 :=
  truncf .bf16 (shapeCast _ (transpose S2x4096x4x128 [0, 3, 1, 2] (Host.dotGeneral dot_S2x256x4x128_S2x4x4096x256_S2x4x128x4096_1_3_3_2_02_01 none (shapeCast _ A2 shapeCasts_S2x256x512_S2x256x4x128) W) transposes_S2x4x128x4096_S2x4096x4x128_0_3_1_2) shapeCasts_S2x4096x4x128_S2x4096x512) bitsLt_bf16_f32

/-- The softmax of one row of scores. -/
def soft (S : Fin 256 → EReal) (j : Fin 256) : EReal :=
  Ideal.div (Ideal.exp (S j - Finset.fold max (Ideal.ofBits .f32 0xFF800000#32) S Finset.univ))
    (∑ x, Ideal.exp (S x - Finset.fold max (Ideal.ofBits .f32 0xFF800000#32) S Finset.univ))

/-- One query's head against the memory: the softmax of its scaled scores over the values. -/
def attn (q : Fin 128 → EReal) (k : Fin 256 → Fin 128 → EReal) (v : Fin 256 → EReal) : EReal :=
  ∑ j, v j * soft (fun j => (∑ x, q x * k j x) * Ideal.ofBits .f32 0x3DB504F3#32) j

theorem fold_max (S : Fin 256 → EReal) :
    max (Ideal.ofBits .f32 0xFF800000#32) (Finset.fold max (Ideal.ofBits .f32 0xFF800000#32) S Finset.univ)
      = Finset.fold max (Ideal.ofBits .f32 0xFF800000#32) S Finset.univ :=
  max_eq_right ((Finset.le_fold_max _).2 (Or.inl le_rfl))

theorem refS_at (A0 : FVec Ideal S8192x512 .bf16) (A1 : FVec Ideal S2x256x512 .f32) (b : Fin 2) (h : Fin 4) (t : Fin 4096) (j : Fin 256) :
    refS A0 A1 (ix4 b h t j) = (∑ x : Fin 128, A0 (ix2 ⟨b.val * 4096 + t.val, by omega⟩ ⟨h.val * 128 + x.val, by omega⟩) * A1 (ix3 b j ⟨h.val * 128 + x.val, by omega⟩)) * Ideal.ofBits .f32 0x3DB504F3#32 := by
  pointwise [refS]

theorem refM_at (S : FVec Ideal S2x4x4096x256 .f32) (b : Fin 2) (h : Fin 4) (t : Fin 4096) :
    refM S (ix3 b h t) = Finset.fold max (Ideal.ofBits .f32 0xFF800000#32) (fun x => S (ix4 b h t x)) Finset.univ := by
  unfold refM
  refine (Host.reduce_eq_fold_single (FloatOps.maximumf (F := Ideal) (φ := .f32)) S _ _ (by decide) _ _).trans ?_
  refine congrArg (fun f : Fin 256 → EReal => Finset.fold max (Ideal.ofBits .f32 0xFF800000#32) f Finset.univ) (funext fun x => congrArg S (funext fun a => ?_))
  fin_cases a <;> rfl

theorem refE_at (S : FVec Ideal S2x4x4096x256 .f32) (M : FVec Ideal S2x4x4096 .f32) (b : Fin 2) (h : Fin 4) (t : Fin 4096) (j : Fin 256) :
    refE S M (ix4 b h t j) = Ideal.exp (S (ix4 b h t j) - max (Ideal.ofBits .f32 0xFF800000#32) (M (ix3 b h t))) := by
  pointwise [refE]

theorem refW_at (S : FVec Ideal S2x4x4096x256 .f32) (b : Fin 2) (h : Fin 4) (t : Fin 4096) (j : Fin 256) :
    refW S (ix4 b h t j) = Ideal.div (S (ix4 b h t j)) (∑ x, S (ix4 b h t x)) := by
  pointwise [refW]

theorem refP_at (W : FVec Ideal S2x4x4096x256 .f32) (A2 : FVec Ideal S2x256x512 .f32) (b : Fin 2) (h : Fin 4) (t : Fin 4096) (d : Fin 128) :
    refP W A2 (ix3 b t ⟨h.val * 128 + d.val, by omega⟩) = ∑ x, A2 (ix3 b x ⟨h.val * 128 + d.val, by omega⟩) * W (ix4 b h t x) := by
  pointwise [refP]

theorem refY_at (A0 : FVec Ideal S8192x512 .bf16) (A1 A2 : FVec Ideal S2x256x512 .f32) (b : Fin 2) (h : Fin 4) (t : Fin 4096) (d : Fin 128) :
    refP (refW (refE (refS A0 A1) (refM (refS A0 A1)))) A2 (ix3 b t ⟨h.val * 128 + d.val, by omega⟩)
      = attn (fun x => A0 (ix2 ⟨b.val * 4096 + t.val, by omega⟩ ⟨h.val * 128 + x.val, by omega⟩))
          (fun j x => A1 (ix3 b j ⟨h.val * 128 + x.val, by omega⟩)) (fun j => A2 (ix3 b j ⟨h.val * 128 + d.val, by omega⟩)) := by
  rw [refP_at]
  unfold attn soft
  simp only [refW_at, refE_at, refM_at, fold_max, refS_at]

end Cert.MemAttnRefIdeal.Hand

namespace Cert.MemAttnIdeal.Hand

open Cert.MemAttnIdeal Cert.MemAttnIdeal.Gen Idealize.ShloMosaic Idealize.ShloMosaic.TcCoe Idealize.SL.Sem Idealize.ShloMosaic.StableHlo
open Cert.MemAttnRefIdeal.Hand (attn soft)

/-- One query's head with the products written the kernel's way round. -/
def attnK (q : Fin 128 → EReal) (k : Fin 256 → Fin 128 → EReal) (v : Fin 256 → EReal) : EReal :=
  ∑ j, soft (fun j => (∑ x, q x * k j x) * Ideal.ofBits .f32 0x3DB504F3#32) j * v j

theorem attnK_eq (q : Fin 128 → EReal) (k : Fin 256 → Fin 128 → EReal) (v : Fin 256 → EReal) : attnK q k v = attn q k v :=
  Finset.sum_congr rfl fun _ _ => mul_comm _ _

theorem pay1_at (q : FVec Ideal S1x512x128 .bf16) (k v : FVec Ideal S1x256x128 .f32) (x : S1x512x128.Idx) :
    k0_pay1 (F := Ideal) q k v x = attnK (fun i => q (ix3 0 (x 1) i)) (fun j i => k (ix3 0 j i)) (fun j => v (ix3 0 j (x 2))) := by
  pointwise [k0_pay1]
  rfl

theorem pay3_at (q : FVec Ideal S1x512x128 .bf16) (k v : FVec Ideal S1x256x128 .f32) (x : S1x512x128.Idx) :
    k0_pay3 (F := Ideal) (k0_pay2 q k) (Scalar.ofBits .f32 0x3DB504F3#32) v x = attnK (fun i => q (ix3 0 (x 1) i)) (fun j i => k (ix3 0 j i)) (fun j => v (ix3 0 j (x 2))) := by
  pointwise [k0_pay3, k0_pay2]
  rfl

theorem pay5_at (q : FVec Ideal S1x512x128 .bf16) (k v : FVec Ideal S1x256x128 .f32) (x : S1x512x128.Idx) :
    k0_pay5 (F := Ideal) (k0_pay4 q k) v x = attnK (fun i => q (ix3 0 (x 1) i)) (fun j i => k (ix3 0 j i)) (fun j => v (ix3 0 j (x 2))) := by
  pointwise [k0_pay5, k0_pay4]
  rfl

theorem pay6_at (q : FVec Ideal S1x512x128 .bf16) (k v : FVec Ideal S1x256x128 .f32) (x : S1x512x128.Idx) :
    k0_pay6 (F := Ideal) q k v x = attnK (fun i => q (ix3 0 (x 1) i)) (fun j i => k (ix3 0 j i)) (fun j => v (ix3 0 j (x 2))) := by
  pointwise [k0_pay6]
  rfl

theorem attnK_congr {q q' : Fin 128 → EReal} {k k' : Fin 256 → Fin 128 → EReal} {v v' : Fin 256 → EReal}
    (hq : ∀ i, q i = q' i) (hk : ∀ j i, k j i = k' j i) (hv : ∀ j, v j = v' j) : attnK q k v = attnK q' k' v' := by
  rw [show q = q' from funext hq, show k = k' from funext fun j => funext (hk j), show v = v' from funext hv]

theorem attn_congr {q q' : Fin 128 → EReal} {k k' : Fin 256 → Fin 128 → EReal} {v v' : Fin 256 → EReal}
    (hq : ∀ i, q i = q' i) (hk : ∀ j i, k j i = k' j i) (hv : ∀ j, v j = v' j) : attn q k v = attn q' k' v' := by
  rw [show q = q' from funext hq, show k = k' from funext fun j => funext (hk j), show v = v' from funext hv]

/-- The block that the body's four stores leave, one head each. -/
theorem out_at (x0 : FVec Ideal S1x512x512 .bf16) (x1 x2 : FVec Ideal S1x256x512 .f32) (y : S1x512x512.Idx) :
    out0_3 (F := Ideal) x0 x1 x2 y = attn (fun i => x0 (ix3 0 (y 1) ⟨(y 2).val / 128 * 128 + i.val, by idx_bounds; omega⟩))
      (fun j i => x1 (ix3 0 j ⟨(y 2).val / 128 * 128 + i.val, by idx_bounds; omega⟩)) (fun j => x2 (ix3 0 j (y 2))) := by
  refine Eq.trans ?_ (attnK_eq _ _ _)
  unfold out0_3
  canon_tiles x h
  case piece0 => refine (pay6_at _ _ _ x).trans (attnK_congr (fun i => ?_) (fun j i => ?_) fun j => ?_) <;> first | (open_payloads; blk_ext) | (pointwise []; blk_ext)
  case piece1 => refine (pay5_at _ _ _ x).trans (attnK_congr (fun i => ?_) (fun j i => ?_) fun j => ?_) <;> first | (open_payloads; blk_ext) | (pointwise []; blk_ext)
  case piece2 => refine (pay3_at _ _ _ x).trans (attnK_congr (fun i => ?_) (fun j i => ?_) fun j => ?_) <;> first | (open_payloads; blk_ext) | (pointwise []; blk_ext)
  case piece3 => refine (pay1_at _ _ _ x).trans (attnK_congr (fun i => ?_) (fun j i => ?_) fun j => ?_) <;> first | (open_payloads; blk_ext) | (pointwise []; blk_ext)

/-- Which block each window is at. -/
theorem idx : ∀ t : Fin cfg0.N, win0_0.index t = ![t.val / 8, t.val % 8, 0] ∧ win0_1.index t = ![t.val / 8, 0, 0] ∧ win0_2.index t = ![t.val / 8, 0, 0] ∧ win0_3.index t = ![t.val / 8, t.val % 8, 0] ∧ t.val < 16 :=
  (by decide +kernel : ∀ t : Fin grid0.N, _)

variable (m : (ℓ : Loc nD τ sig) → Buf (Elt Ideal) ℓ)

/-- The reference's result as a function of its three arguments. -/
def refY (A0 : FVec Ideal Cert.MemAttnRefIdeal.S8192x512 .bf16) (A1 A2 : FVec Ideal Cert.MemAttnRefIdeal.S2x256x512 .f32) : FVec Ideal Cert.MemAttnRefIdeal.S2x4096x512 .bf16 :=
  Cert.MemAttnRefIdeal.Hand.refP (Cert.MemAttnRefIdeal.Hand.refW (Cert.MemAttnRefIdeal.Hand.refE (Cert.MemAttnRefIdeal.Hand.refS A0 A1) (Cert.MemAttnRefIdeal.Hand.refM (Cert.MemAttnRefIdeal.Hand.refS A0 A1)))) A2

/-- The kernel's result. -/
theorem final (c : Dev nD) : (dats m 0 c).arrAt 3 cfg0.N = refY (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := idx t
  blk_simp
  rw [after0_3]
  refine (out_at _ _ _ y).trans ?_
  refine Eq.trans ?_ (Eq.trans (Cert.MemAttnRefIdeal.Hand.refY_at (m ((c : Thread nD τ).loc main_arg0)) (m ((c : Thread nD τ).loc main_arg1)) (m ((c : Thread nD τ).loc main_arg2))
    ⟨t.val / 8, by omega⟩ ⟨(y 2).val / 128, by idx_bounds; omega⟩ ⟨t.val % 8 * 512 + (y 1).val, by idx_bounds; omega⟩ ⟨(y 2).val % 128, by omega⟩).symm ?_)
  · refine attn_congr (fun i => ?_) (fun j i => ?_) fun j => ?_
    · blk_point [iblk, V, idx t]
    · blk_point [iblk, V, idx t]
    · blk_point [iblk, V, idx t]
  · unfold refY
    generalize Cert.MemAttnRefIdeal.Hand.refP _ _ = Z
    blk_point [idx t]

end Cert.MemAttnIdeal.Hand
end
end
-- ==== Proof.MemAttnSValue.lean ====
module

public import proofs.«01_k».proof.Proof.Gen.MemAttnSIdeal.Value
public import proofs.«01_k».proof.Proof.Gen.MemAttnSRefIdeal.Run
public import Idealize.ShloMosaic.Lib.Pipeline.ValueKit
public import Idealize.ShloMosaic.Lib.Pointwise

@[expose] public section

set_option maxRecDepth 16384

noncomputable section

namespace Cert.MemAttnSRefIdeal.Hand

open Cert.MemAttnSRefIdeal Cert.MemAttnSRefIdeal.Gen Idealize.ShloMosaic Idealize.ShloMosaic.TcCoe Idealize.SL.Sem Idealize.ShloMosaic.StableHlo

/-- The scaled scores of every query against the memory's keys, head by head. -/
def refS (A0 : FVec Ideal S128x512 .bf16) (A1 : FVec Ideal S8x256x512 .f32) : FVec Ideal S8x4x16x256 .f32 :=
  (mulf (Host.dotGeneral dot_S8x16x4x128_S8x256x4x128_S8x4x16x256_3_3_1_1_02_02 none (shapeCast _ (extf .f32 A0 bitsLt_bf16_f32) shapeCasts_S128x512_S8x16x4x128) (shapeCast _ A1 shapeCasts_S8x256x512_S8x256x4x128)) (broadcastInDim S8x4x16x256 ![] bcast_S_S8x4x16x256 (constant S_ .f32 0x3DB504F3#32)))

/-- Each row's greatest score. -/
def refM (S : FVec Ideal S8x4x16x256 .f32) : FVec Ideal S8x4x16 .f32 :=
  Host.reduce FloatOps.maximumf S (constant S_ .f32 0xFF800000#32) reducesTo_S8x4x16x256_S8x4x16_d3 h_S_

/-- The exponentials, each row shifted by its greatest score. -/
def refE (S : FVec Ideal S8x4x16x256 .f32) (M : FVec Ideal S8x4x16 .f32) : FVec Ideal S8x4x16x256 .f32 :=
  Host.exp (subf S (broadcastInDim S8x4x16x256 ![0, 1, 2, 3] bcast_S8x4x16x1_S8x4x16x256_0_1_2_3 (broadcastInDim S8x4x16x1 ![0, 1, 2] bcast_S8x4x16_S8x4x16x1_0_1_2 (maximumf (broadcastInDim S8x4x16 ![] bcast_S_S8x4x16 (constant S_ .f32 0xFF800000#32)) M))))

/-- The weights: each row of exponentials divided by its sum. -/
def refW (E : FVec Ideal S8x4x16x256 .f32) : FVec Ideal S8x4x16x256 .f32 :=
  Host.divf E (broadcastInDim S8x4x16x256 ![0, 1, 2, 3] bcast_S8x4x16x1_S8x4x16x256_0_1_2_3 (broadcastInDim S8x4x16x1 ![0, 1, 2] bcast_S8x4x16_S8x4x16x1_0_1_2 (Host.reduceAdd E (constant S_ .f32 0x00000000#32) reducesTo_S8x4x16x256_S8x4x16_d3 h_S_)))

/-- The weights against the memory's values. -/
def refP (W : FVec Ideal S8x4x16x256 .f32) (A2 : FVec Ideal S8x256x512 .f32) : FVec Ideal S8x16x512 .bf16 :=
  truncf .bf16 (shapeCast _ (transpose S8x16x4x128 [0, 3, 1, 2] (Host.dotGeneral dot_S8x256x4x128_S8x4x16x256_S8x4x128x16_1_3_3_2_02_01 none (shapeCast _ A2 shapeCasts_S8x256x512_S8x256x4x128) W) transposes_S8x4x128x16_S8x16x4x128_0_3_1_2) shapeCasts_S8x16x4x128_S8x16x512) bitsLt_bf16_f32

/-- The softmax of one row of scores. -/
def soft (S : Fin 256 → EReal) (j : Fin 256) : EReal :=
  Ideal.div (Ideal.exp (S j - Finset.fold max (Ideal.ofBits .f32 0xFF800000#32) S Finset.univ))
    (∑ x, Ideal.exp (S x - Finset.fold max (Ideal.ofBits .f32 0xFF800000#32) S Finset.univ))

/-- One query's head against the memory: the softmax of its scaled scores over the values. -/
def attn (q : Fin 128 → EReal) (k : Fin 256 → Fin 128 → EReal) (v : Fin 256 → EReal) : EReal :=
  ∑ j, v j * soft (fun j => (∑ x, q x * k j x) * Ideal.ofBits .f32 0x3DB504F3#32) j

theorem fold_max (S : Fin 256 → EReal) :
    max (Ideal.ofBits .f32 0xFF800000#32) (Finset.fold max (Ideal.ofBits .f32 0xFF800000#32) S Finset.univ)
      = Finset.fold max (Ideal.ofBits .f32 0xFF800000#32) S Finset.univ :=
  max_eq_right ((Finset.le_fold_max _).2 (Or.inl le_rfl))

theorem refS_at (A0 : FVec Ideal S128x512 .bf16) (A1 : FVec Ideal S8x256x512 .f32) (b : Fin 8) (h : Fin 4) (t : Fin 16) (j : Fin 256) :
    refS A0 A1 (ix4 b h t j) = (∑ x : Fin 128, A0 (ix2 ⟨b.val * 16 + t.val, by omega⟩ ⟨h.val * 128 + x.val, by omega⟩) * A1 (ix3 b j ⟨h.val * 128 + x.val, by omega⟩)) * Ideal.ofBits .f32 0x3DB504F3#32 := by
  pointwise [refS]

theorem refM_at (S : FVec Ideal S8x4x16x256 .f32) (b : Fin 8) (h : Fin 4) (t : Fin 16) :
    refM S (ix3 b h t) = Finset.fold max (Ideal.ofBits .f32 0xFF800000#32) (fun x => S (ix4 b h t x)) Finset.univ := by
  unfold refM
  refine (Host.reduce_eq_fold_single (FloatOps.maximumf (F := Ideal) (φ := .f32)) S _ _ (by decide) _ _).trans ?_
  refine congrArg (fun f : Fin 256 → EReal => Finset.fold max (Ideal.ofBits .f32 0xFF800000#32) f Finset.univ) (funext fun x => congrArg S (funext fun a => ?_))
  fin_cases a <;> rfl

theorem refE_at (S : FVec Ideal S8x4x16x256 .f32) (M : FVec Ideal S8x4x16 .f32) (b : Fin 8) (h : Fin 4) (t : Fin 16) (j : Fin 256) :
    refE S M (ix4 b h t j) = Ideal.exp (S (ix4 b h t j) - max (Ideal.ofBits .f32 0xFF800000#32) (M (ix3 b h t))) := by
  pointwise [refE]

theorem refW_at (S : FVec Ideal S8x4x16x256 .f32) (b : Fin 8) (h : Fin 4) (t : Fin 16) (j : Fin 256) :
    refW S (ix4 b h t j) = Ideal.div (S (ix4 b h t j)) (∑ x, S (ix4 b h t x)) := by
  pointwise [refW]

theorem refP_at (W : FVec Ideal S8x4x16x256 .f32) (A2 : FVec Ideal S8x256x512 .f32) (b : Fin 8) (h : Fin 4) (t : Fin 16) (d : Fin 128) :
    refP W A2 (ix3 b t ⟨h.val * 128 + d.val, by omega⟩) = ∑ x, A2 (ix3 b x ⟨h.val * 128 + d.val, by omega⟩) * W (ix4 b h t x) := by
  pointwise [refP]

theorem refY_at (A0 : FVec Ideal S128x512 .bf16) (A1 A2 : FVec Ideal S8x256x512 .f32) (b : Fin 8) (h : Fin 4) (t : Fin 16) (d : Fin 128) :
    refP (refW (refE (refS A0 A1) (refM (refS A0 A1)))) A2 (ix3 b t ⟨h.val * 128 + d.val, by omega⟩)
      = attn (fun x => A0 (ix2 ⟨b.val * 16 + t.val, by omega⟩ ⟨h.val * 128 + x.val, by omega⟩))
          (fun j x => A1 (ix3 b j ⟨h.val * 128 + x.val, by omega⟩)) (fun j => A2 (ix3 b j ⟨h.val * 128 + d.val, by omega⟩)) := by
  rw [refP_at]
  unfold attn soft
  simp only [refW_at, refE_at, refM_at, fold_max, refS_at]

end Cert.MemAttnSRefIdeal.Hand

namespace Cert.MemAttnSIdeal.Hand

open Cert.MemAttnSIdeal Cert.MemAttnSIdeal.Gen Idealize.ShloMosaic Idealize.ShloMosaic.TcCoe Idealize.SL.Sem Idealize.ShloMosaic.StableHlo
open Cert.MemAttnSRefIdeal.Hand (attn soft)

/-- One query's head with the products written the kernel's way round. -/
def attnK (q : Fin 128 → EReal) (k : Fin 256 → Fin 128 → EReal) (v : Fin 256 → EReal) : EReal :=
  ∑ j, soft (fun j => (∑ x, q x * k j x) * Ideal.ofBits .f32 0x3DB504F3#32) j * v j

theorem attnK_eq (q : Fin 128 → EReal) (k : Fin 256 → Fin 128 → EReal) (v : Fin 256 → EReal) : attnK q k v = attn q k v :=
  Finset.sum_congr rfl fun _ _ => mul_comm _ _

theorem pay1_at (q : FVec Ideal S1x16x128 .bf16) (k v : FVec Ideal S1x256x128 .f32) (x : S1x16x128.Idx) :
    k0_pay1 (F := Ideal) q k v x = attnK (fun i => q (ix3 0 (x 1) i)) (fun j i => k (ix3 0 j i)) (fun j => v (ix3 0 j (x 2))) := by
  pointwise [k0_pay1]
  rfl

theorem pay3_at (q : FVec Ideal S1x16x128 .bf16) (k v : FVec Ideal S1x256x128 .f32) (x : S1x16x128.Idx) :
    k0_pay3 (F := Ideal) (k0_pay2 q k) (Scalar.ofBits .f32 0x3DB504F3#32) v x = attnK (fun i => q (ix3 0 (x 1) i)) (fun j i => k (ix3 0 j i)) (fun j => v (ix3 0 j (x 2))) := by
  pointwise [k0_pay3, k0_pay2]
  rfl

theorem pay5_at (q : FVec Ideal S1x16x128 .bf16) (k v : FVec Ideal S1x256x128 .f32) (x : S1x16x128.Idx) :
    k0_pay5 (F := Ideal) (k0_pay4 q k) v x = attnK (fun i => q (ix3 0 (x 1) i)) (fun j i => k (ix3 0 j i)) (fun j => v (ix3 0 j (x 2))) := by
  pointwise [k0_pay5, k0_pay4]
  rfl

theorem pay6_at (q : FVec Ideal S1x16x128 .bf16) (k v : FVec Ideal S1x256x128 .f32) (x : S1x16x128.Idx) :
    k0_pay6 (F := Ideal) q k v x = attnK (fun i => q (ix3 0 (x 1) i)) (fun j i => k (ix3 0 j i)) (fun j => v (ix3 0 j (x 2))) := by
  pointwise [k0_pay6]
  rfl

theorem attnK_congr {q q' : Fin 128 → EReal} {k k' : Fin 256 → Fin 128 → EReal} {v v' : Fin 256 → EReal}
    (hq : ∀ i, q i = q' i) (hk : ∀ j i, k j i = k' j i) (hv : ∀ j, v j = v' j) : attnK q k v = attnK q' k' v' := by
  rw [show q = q' from funext hq, show k = k' from funext fun j => funext (hk j), show v = v' from funext hv]

theorem attn_congr {q q' : Fin 128 → EReal} {k k' : Fin 256 → Fin 128 → EReal} {v v' : Fin 256 → EReal}
    (hq : ∀ i, q i = q' i) (hk : ∀ j i, k j i = k' j i) (hv : ∀ j, v j = v' j) : attn q k v = attn q' k' v' := by
  rw [show q = q' from funext hq, show k = k' from funext fun j => funext (hk j), show v = v' from funext hv]

/-- The block that the body's four stores leave, one head each. -/
theorem out_at (x0 : FVec Ideal S1x16x512 .bf16) (x1 x2 : FVec Ideal S1x256x512 .f32) (y : S1x16x512.Idx) :
    out0_3 (F := Ideal) x0 x1 x2 y = attn (fun i => x0 (ix3 0 (y 1) ⟨(y 2).val / 128 * 128 + i.val, by idx_bounds; omega⟩))
      (fun j i => x1 (ix3 0 j ⟨(y 2).val / 128 * 128 + i.val, by idx_bounds; omega⟩)) (fun j => x2 (ix3 0 j (y 2))) := by
  refine Eq.trans ?_ (attnK_eq _ _ _)
  unfold out0_3
  canon_tiles x h
  case piece0 => refine (pay6_at _ _ _ x).trans (attnK_congr (fun i => ?_) (fun j i => ?_) fun j => ?_) <;> first | (open_payloads; blk_ext) | (pointwise []; blk_ext)
  case piece1 => refine (pay5_at _ _ _ x).trans (attnK_congr (fun i => ?_) (fun j i => ?_) fun j => ?_) <;> first | (open_payloads; blk_ext) | (pointwise []; blk_ext)
  case piece2 => refine (pay3_at _ _ _ x).trans (attnK_congr (fun i => ?_) (fun j i => ?_) fun j => ?_) <;> first | (open_payloads; blk_ext) | (pointwise []; blk_ext)
  case piece3 => refine (pay1_at _ _ _ x).trans (attnK_congr (fun i => ?_) (fun j i => ?_) fun j => ?_) <;> first | (open_payloads; blk_ext) | (pointwise []; blk_ext)

/-- Which block each window is at. -/
theorem idx : ∀ t : Fin cfg0.N, win0_0.index t = ![t.val, 0, 0] ∧ win0_1.index t = ![t.val, 0, 0] ∧ win0_2.index t = ![t.val, 0, 0] ∧ win0_3.index t = ![t.val, 0, 0] ∧ t.val < 8 :=
  (by decide +kernel : ∀ t : Fin grid0.N, _)

variable (m : (ℓ : Loc nD τ sig) → Buf (Elt Ideal) ℓ)

/-- The reference's result as a function of its three arguments. -/
def refY (A0 : FVec Ideal Cert.MemAttnSRefIdeal.S128x512 .bf16) (A1 A2 : FVec Ideal Cert.MemAttnSRefIdeal.S8x256x512 .f32) : FVec Ideal Cert.MemAttnSRefIdeal.S8x16x512 .bf16 :=
  Cert.MemAttnSRefIdeal.Hand.refP (Cert.MemAttnSRefIdeal.Hand.refW (Cert.MemAttnSRefIdeal.Hand.refE (Cert.MemAttnSRefIdeal.Hand.refS A0 A1) (Cert.MemAttnSRefIdeal.Hand.refM (Cert.MemAttnSRefIdeal.Hand.refS A0 A1)))) A2

/-- The kernel's result. -/
theorem final (c : Dev nD) : (dats m 0 c).arrAt 3 cfg0.N = refY (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := idx t
  blk_simp
  rw [after0_3]
  refine (out_at _ _ _ y).trans ?_
  refine Eq.trans ?_ (Eq.trans (Cert.MemAttnSRefIdeal.Hand.refY_at (m ((c : Thread nD τ).loc main_arg0)) (m ((c : Thread nD τ).loc main_arg1)) (m ((c : Thread nD τ).loc main_arg2))
    ⟨t.val, by omega⟩ ⟨(y 2).val / 128, by idx_bounds; omega⟩ ⟨0 * 16 + (y 1).val, by idx_bounds; omega⟩ ⟨(y 2).val % 128, by omega⟩).symm ?_)
  · refine attn_congr (fun i => ?_) (fun j i => ?_) fun j => ?_
    · blk_point [iblk, V, idx t]
    · blk_point [iblk, V, idx t]
    · blk_point [iblk, V, idx t]
  · unfold refY
    generalize Cert.MemAttnSRefIdeal.Hand.refP _ _ = Z
    blk_point [idx t]

end Cert.MemAttnSIdeal.Hand
end
end
-- ==== Proof.SattnIdealFrame.lean ====
module

public import proofs.«01_k».proof.Proof.Gen.SattnIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.SattnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) : Vec F S1x1x1024 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).1)

/-- Case A's pieces for scratch `arg11`, which the kernel carries between points, cover it: 2 pieces of `S8x1` tiling it (Lib/Ring.lean `Piece.tiledL`). -/
theorem scover0_A_0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (y : S8x1.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.1 S8x1.size (by sl_kernel_rfl) y

/-- What case A leaves in scratch `arg11`: its pieces read back over junk. -/
def sout0_A_0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) : Vec F S8x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.1)

/-- Case A's pieces for scratch `arg12`, which the kernel carries between points, cover it: 2 pieces of `S8x1` tiling it (Lib/Ring.lean `Piece.tiledL`). -/
theorem scover0_A_1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (y : S8x1.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.2.1 S8x1.size (by sl_kernel_rfl) y

/-- What case A leaves in scratch `arg12`: its pieces read back over junk. -/
def sout0_A_1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) : Vec F S8x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.2.1)

/-- Case A's pieces for scratch `arg13`, which the kernel carries between points, cover it: 2 pieces of `S8x1024` tiling it (Lib/Ring.lean `Piece.tiledL`). -/
theorem scover0_A_2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (y : S8x1024.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.2.2.1 S8x1024.size (by sl_kernel_rfl) y

/-- What case A leaves in scratch `arg13`: its pieces read back over junk. -/
def sout0_A_2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) : Vec F S8x1024 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 xt0).2.2.2.1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S1x1x1024 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).1)

/-- Case B's pieces for scratch `arg11`, which the kernel carries between points, cover it: 1 piece of `S8x1` tiling it (Lib/Ring.lean `Piece.tiledL`). -/
theorem scover0_B_0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S8x1.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.1 S8x1.size (by sl_kernel_rfl) y

/-- What case B leaves in scratch `arg11`: its pieces read back over junk. -/
def sout0_B_0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S8x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.1)

/-- Case B's pieces for scratch `arg12`, which the kernel carries between points, cover it: 1 piece of `S8x1` tiling it (Lib/Ring.lean `Piece.tiledL`). -/
theorem scover0_B_1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S8x1.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.1 S8x1.size (by sl_kernel_rfl) y

/-- What case B leaves in scratch `arg12`: its pieces read back over junk. -/
def sout0_B_1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S8x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.1)

/-- Case B's pieces for scratch `arg13`, which the kernel carries between points, cover it: 1 piece of `S8x1024` tiling it (Lib/Ring.lean `Piece.tiledL`). -/
theorem scover0_B_2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S8x1024.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.2.1 S8x1024.size (by sl_kernel_rfl) y

/-- What case B leaves in scratch `arg13`: its pieces read back over junk. -/
def sout0_B_2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S8x1024 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.2.1)

/-- Case C's pieces for output 7 tile its block (1 store of `S1x1x1024`, checked by the kernel's evaluation: Lib/Ring.lean `Piece.tiledL`, linear in the pieces, through a loop's `@[irreducible]` trip theorem too), so they cover it. -/
theorem cover0_C_7 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S1x1x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).1 S1x1x1024.size (by sl_kernel_rfl) y

/-- What case C leaves in output 7's staging buffer: its pieces read back over junk. -/
def out0_C_7 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S1x1x1024 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).1)

/-- Case C's pieces for scratch `arg11`, which the kernel carries between points, cover it: 2 pieces of `S8x1` tiling it (Lib/Ring.lean `Piece.tiledL`). -/
theorem scover0_C_0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S8x1.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.1 S8x1.size (by sl_kernel_rfl) y

/-- What case C leaves in scratch `arg11`: its pieces read back over junk. -/
def sout0_C_0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S8x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.1)

/-- Case C's pieces for scratch `arg12`, which the kernel carries between points, cover it: 2 pieces of `S8x1` tiling it (Lib/Ring.lean `Piece.tiledL`). -/
theorem scover0_C_1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S8x1.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.1 S8x1.size (by sl_kernel_rfl) y

/-- What case C leaves in scratch `arg12`: its pieces read back over junk. -/
def sout0_C_1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S8x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.1)

/-- Case C's pieces for scratch `arg13`, which the kernel carries between points, cover it: 2 pieces of `S8x1024` tiling it (Lib/Ring.lean `Piece.tiledL`). -/
theorem scover0_C_2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) (y : S8x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.2.1 S8x1024.size (by sl_kernel_rfl) y

/-- What case C leaves in scratch `arg13`: its pieces read back over junk. -/
def sout0_C_2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec F S1x1x1024 .bf16) (x1 : Vec F S1x1x128x1024 .f32) (x2 : Vec F S1x1x128x1024 .f32) (x3 : Vec F S1x1x1x128 .f32) (x4 : Vec F S1x1x1x128 .f32) (x5 : Vec F S1x1x1024 .f32) (x6 : Vec F S1x1x1024 .f32) (xt0 : TbBuf0 (F := F) c tbM0_0) (xs0 : Vec F S8x1 .f32) (xs1 : Vec F S8x1 .f32) (xs2 : Vec F S8x1024 .f32) : Vec F S8x1024 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x1x1024 .bf16 × Vec F S8x1 .f32 × Vec F S8x1 .f32 × Vec F S8x1024 .f32
  | 0, hn => (out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0))
  | n + 1, hn =>
    if h0 : (n + 1) % 128 = 0 then
      if h1 : (n + 1) % 128 = 127 then
        False.elim (by have hN : n + 1 < 1024 := lt_of_lt_of_eq hn (show (cfgM m hO).N = 1024 from N_0); omega)
      else
        (out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0))
    else
      if h1 : (n + 1) % 128 = 127 then
        (out0_C_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2)
      else
        (out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2)

set_option maxHeartbeats 4000000 in
/-- `outsAt0` at a point of case A: that case's contents. -/
theorem outsAt0_A (hO : Ok m) (c : Dev nD) (t : Fin (cfgM m hO).N) (h0 : t.val % 128 = 0) (h1 : ¬t.val % 128 = 127) :
    outsAt0 m hO c t.val t.isLt = (out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)) := by
  obtain ⟨n, hn⟩ := t
  cases n with
  | zero => exact rfl
  | succ n => exact (dif_pos h0).trans ((dif_neg h1).trans rfl)

set_option maxHeartbeats 4000000 in
/-- `outsAt0` at a point of case B: that case's contents, over what the point before left. -/
theorem outsAt0_B (hO : Ok m) (c : Dev nD) (t : Fin (cfgM m hO).N) (h0 : ¬t.val % 128 = 0) (h1 : ¬t.val % 128 = 127) :
    outsAt0 m hO c t.val t.isLt = (out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- `outsAt0` at a point of case C: that case's contents, over what the point before left. -/
theorem outsAt0_C (hO : Ok m) (c : Dev nD) (t : Fin (cfgM m hO).N) (h0 : ¬t.val % 128 = 0) (h1 : t.val % 128 = 127) :
    outsAt0 m hO c t.val t.isLt = (out0_C_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 1024 := lt_of_lt_of_eq t.isLt (show (cfgM m hO).N = 1024 from N_0)
  by_cases h0 : t.val % 128 = 0
  · by_cases h1 : t.val % 128 = 127
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [Dat.leavesExact_idle (dats m hO 0 c) 7 t (idleAt0_7_A m hO t ((hcond0_0 t).mpr h0) (fun h => h1 ((hcond0_1 t).mp h))) (noFlush0_7_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HT0]; · iexact HT0
        iintro ⟨H0, H1, H2, H3, H4, H5, H6, H7, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m hO c t, PhiS_pos m hO c _ _ hz, PhiT0_eq]
        rw [outsAt0_A m hO c t h0 h1]
        unfold sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        isplitl [HT0]; · iexact HT0
        iintro ⟨H0, H1, H2, H3, H4, H5, H6, H7, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 128 = 127
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7_C m hO t (fun h => h0 ((hcond0_0 t).mp h)) ((hcond0_1 t).mpr h1)]; try rfl, after0_7]
      by_cases hz : t.val = 0
      · exfalso; have hN : t.val < 1024 := lt_of_lt_of_eq t.isLt (show (cfgM m hO).N = 1024 from N_0); omega
      · rw [PhiS_castSucc m hO c t, PhiS_pos m hO c _ _ hz, PhiT0_eq]
        rw [outsAt0_C m hO c t h0 h1]
        unfold out0_C_7 sout0_C_0 sout0_C_1 sout0_C_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        isplitl [HT0]; · iexact HT0
        iintro ⟨H0, H1, H2, H3, H4, H5, H6, ⟨%e7, H7⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [Dat.leavesExact_idle (dats m hO 0 c) 7 t (idleAt0_7_B m hO t (fun h => h0 ((hcond0_0 t).mp h)) (fun h => h1 ((hcond0_1 t).mp h))) (noFlush0_7_B m hO t (fun h => h0 ((hcond0_0 t).mp h)) (fun h => h1 ((hcond0_1 t).mp h)))]
      by_cases hz : t.val = 0
      · exfalso; have hN : t.val < 1024 := lt_of_lt_of_eq t.isLt (show (cfgM m hO).N = 1024 from N_0); omega
      · rw [PhiS_castSucc m hO c t, PhiS_pos m hO c _ _ hz, PhiT0_eq]
        rw [outsAt0_B m hO c t h0 h1]
        unfold sout0_B_0 sout0_B_1 sout0_B_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HT0]; · iexact HT0
        iintro ⟨H0, H1, H2, H3, H4, H5, H6, H7, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1024 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_SattnIdeal`'s statement (Defs.lean) at any `F` — Proof.lean cites it at `Bits`:
    `theorem Cert.Proof.claim : Cert.Claim := ⟨Cert.SattnIdeal.Gen.facts, fun m ρ _ => Cert.SattnIdeal.Gen.frame m ρ⟩`; here for every contents of the PREFETCHED TABLES, UNDER `Gen.Ok m` (the pipeline's side condition of
    them), which Proof.lean proves from the precondition: `⟨…, fun m ρ h => Cert.SattnIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.SattnIdeal.Gen

end
-- ==== Proof.SattnMath.lean ====
module

public import Idealize.ShloMosaic.Lib.Pipeline.ValueKit
public import Idealize.ShloMosaic.Lib.Pointwise

@[expose] public section

noncomputable section

/-! # The running softmax over the extended reals -/

namespace Cert.Running

open Idealize.ShloMosaic

/-- A chosen key's weight at a shift: the exponential of its score less the shift; no weight for a key not chosen. -/
def wt (c : ℕ → BitVec 1) (s : ℕ → ℝ) (m : ℝ) (j : ℕ) : ℝ := if c j = 1#1 then Real.exp (s j - m) else 0

/-- A running weight, as the kernel writes it: the exponential where the key is chosen, zero elsewhere. -/
theorem wt_coe (c : ℕ → BitVec 1) (s : ℕ → ℝ) (m : ℝ) (j : ℕ) :
    Scalar.select (c j) (Ideal.exp ((s j : EReal) - (m : EReal))) 0 = ((wt c s m j : ℝ) : EReal) := by
  unfold wt Scalar.select
  rw [← EReal.coe_sub, Ideal.exp_coe]
  by_cases h : c j = 1#1
  · rw [if_pos h]; exact if_pos h
  · rw [if_neg h, EReal.coe_zero]; exact if_neg h

/-- The same weight, as the reference writes it: the exponential of minus infinity where the key isn't chosen. -/
theorem wt_bot (c : ℕ → BitVec 1) (s : ℕ → ℝ) (m : ℝ) (j : ℕ) :
    Ideal.exp (Scalar.select (c j) (s j : EReal) ⊥ - (m : EReal)) = ((wt c s m j : ℝ) : EReal) := by
  unfold wt Scalar.select
  by_cases h : c j = 1#1
  · rw [if_pos h, ← Ideal.exp_coe, EReal.coe_sub]
    exact congrArg (fun x : EReal => Ideal.exp (x - (m : EReal))) (if_pos h)
  · rw [if_neg h, EReal.coe_zero]
    refine (congrArg (fun x : EReal => Ideal.exp (x - (m : EReal))) (if_neg h)).trans ?_
    rw [EReal.bot_sub, Ideal.exp_bot]

/-- Moving the shift rescales a weight. -/
theorem wt_shift (c : ℕ → BitVec 1) (s : ℕ → ℝ) (m m' : ℝ) (j : ℕ) : Real.exp (m - m') * wt c s m j = wt c s m' j := by
  unfold wt
  split
  · rw [← Real.exp_add]; congr 1; ring
  · exact mul_zero _

/-- A weight is not negative. -/
theorem wt_nonneg (c : ℕ → BitVec 1) (s : ℕ → ℝ) (m : ℝ) (j : ℕ) : 0 ≤ wt c s m j := by
  unfold wt
  split
  · exact (Real.exp_pos _).le
  · exact le_rfl

/-- A nonnegative real factor goes into a sum of extended reals. -/
theorem mul_sum_real {ι : Type*} [DecidableEq ι] (r : ℝ) (hr : 0 ≤ r) (S : Finset ι) (f : ι → EReal) :
    (r : EReal) * ∑ i ∈ S, f i = ∑ i ∈ S, (r : EReal) * f i := by
  induction S using Finset.induction_on with
  | empty => simp
  | insert a S ha ih =>
    rw [Finset.sum_insert ha, Finset.sum_insert ha, EReal.left_distrib_of_nonneg_of_ne_top (EReal.coe_nonneg.2 hr) (EReal.coe_ne_top _), ih]

/-- A sum of reals, read in the extended reals. -/
theorem coe_sum {ι : Type*} [DecidableEq ι] (S : Finset ι) (f : ι → ℝ) : ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- What the running softmax holds after the first `N` keys: some real shift, the weights' sum, and the weighted values' sum, both at that shift. -/
def Inv (c : ℕ → BitVec 1) (s : ℕ → ℝ) (v : ℕ → EReal) (N : ℕ) (m l a : EReal) : Prop :=
  ∃ r : ℝ, m = r ∧ l = ((∑ j ∈ Finset.range N, wt c s r j : ℝ) : EReal) ∧ a = ∑ j ∈ Finset.range N, ((wt c s r j : ℝ) : EReal) * v j

/-- Before the first key both sums are empty. -/
theorem Inv.zero (c : ℕ → BitVec 1) (s : ℕ → ℝ) (v : ℕ → EReal) (r : ℝ) : Inv c s v 0 r 0 0 :=
  ⟨r, rfl, by simp, by simp⟩

/-- One step: the sums so far are rescaled to the new shift and the next `K` keys' terms are added. -/
theorem Inv.step {c : ℕ → BitVec 1} {s : ℕ → ℝ} {v : ℕ → EReal} {N K : ℕ} {m l a m' l' a' : EReal} (h : Inv c s v N m l a)
    (hm : ∃ r : ℝ, m' = r)
    (hl : l' = Ideal.exp (m - m') * l + ∑ x : Fin K, Scalar.select (c (N + x.val)) (Ideal.exp ((s (N + x.val) : EReal) - m')) 0)
    (ha : a' = Ideal.exp (m - m') * a + ∑ x : Fin K, Scalar.select (c (N + x.val)) (Ideal.exp ((s (N + x.val) : EReal) - m')) 0 * v (N + x.val)) :
    Inv c s v (N + K) m' l' a' := by
  obtain ⟨r, rfl, rfl, rfl⟩ := h
  obtain ⟨r', rfl⟩ := hm
  refine ⟨r', rfl, ?_, ?_⟩
  · rw [hl, ← EReal.coe_sub, Ideal.exp_coe, ← EReal.coe_mul, Finset.mul_sum]
    simp only [wt_shift, wt_coe]
    rw [← coe_sum, ← EReal.coe_add, Finset.sum_range_add, Finset.sum_range (fun x => wt c s r' (N + x))]
  · rw [ha, ← EReal.coe_sub, Ideal.exp_coe, mul_sum_real _ (Real.exp_pos _).le]
    simp only [wt_coe, ← mul_assoc, ← EReal.coe_mul, wt_shift]
    rw [Finset.sum_range_add, Finset.sum_range (fun x => ((wt c s r' (N + x) : ℝ) : EReal) * v (N + x))]

/-- The quotient of the two sums is the plain softmax's weighted sum, whatever real shift that one takes. -/
theorem Inv.out {c : ℕ → BitVec 1} {s : ℕ → ℝ} {v : ℕ → EReal} {N : ℕ} {m l a : EReal} (h : Inv c s v N m l a)
    (hc : ∃ j, j < N ∧ c j = 1#1) (M : ℝ) :
    Ideal.div a l = ∑ j : Fin N, Ideal.div (Ideal.exp (Scalar.select (c j.val) (s j.val : EReal) ⊥ - (M : EReal)))
      (∑ k : Fin N, Ideal.exp (Scalar.select (c k.val) (s k.val : EReal) ⊥ - (M : EReal))) * v j.val := by
  obtain ⟨r, rfl, rfl, rfl⟩ := h
  have pos : ∀ q : ℝ, 0 < ∑ j ∈ Finset.range N, wt c s q j := by
    intro q
    obtain ⟨j, hj, h1⟩ := hc
    refine Finset.sum_pos' (fun i _ => wt_nonneg c s q i) ⟨j, Finset.mem_range.2 hj, ?_⟩
    unfold wt; rw [if_pos h1]; exact Real.exp_pos _
  have hs : Real.exp (r - M) * ∑ j ∈ Finset.range N, wt c s r j = ∑ j ∈ Finset.range N, wt c s M j := by
    rw [Finset.mul_sum]; simp only [wt_shift]
  simp only [wt_bot]
  rw [← coe_sum, ← Finset.sum_range (fun k => wt c s M k)]
  rw [Ideal.div_coe (pos r).ne', mul_comm, mul_sum_real _ (one_div_pos.2 (pos r)).le, Finset.sum_range]
  refine Finset.sum_congr rfl fun j _ => ?_
  rw [Ideal.div_coe (pos M).ne', ← mul_assoc, ← EReal.coe_mul, ← EReal.coe_mul]
  congr 2
  rw [← wt_shift c s r M j.val, ← hs]
  have e := (Real.exp_pos (r - M)).ne'
  have p := (pos r).ne'
  field_simp

/-- The greatest of finitely many scores is real where none is `⊤` and some is not `⊥`. -/
theorem fold_real {n : ℕ} (f : Fin n → EReal) (h : ∀ i, f i ≠ ⊤) (hb : ∃ i, f i ≠ ⊥) : ∃ r : ℝ, Finset.fold max ⊥ f Finset.univ = r := by
  have h1 : Finset.fold max ⊥ f Finset.univ ≠ ⊤ := (lt_top_iff_ne_top.1 ((Finset.fold_max_lt _).2 ⟨bot_lt_top, fun i _ => lt_top_iff_ne_top.2 (h i)⟩))
  obtain ⟨i, hi⟩ := hb
  have h2 : Finset.fold max ⊥ f Finset.univ ≠ ⊥ := (bot_lt_iff_ne_bot.1 ((Finset.lt_fold_max _).2 (Or.inr ⟨i, Finset.mem_univ _, bot_lt_iff_ne_bot.2 hi⟩)))
  exact ⟨_, (EReal.coe_toReal h1 h2).symm⟩

/-- A finite sum of reals is real. -/
theorem sum_real {n : ℕ} (f : Fin n → EReal) (h : ∀ i, ∃ r : ℝ, f i = r) : ∃ r : ℝ, ∑ i, f i = r := by
  choose g hg using h
  refine ⟨∑ i, g i, ?_⟩
  rw [coe_sum]
  exact Finset.sum_congr rfl fun i _ => hg i

/-- A product of reals is real. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The greater of two reals is real. -/
theorem max_real {x y : EReal} (hx : ∃ r : ℝ, x = r) (hy : ∃ r : ℝ, y = r) : ∃ r : ℝ, max x y = r := by
  rcases max_choice x y with h | h <;> rw [h] <;> assumption

/-- The word of minus infinity reads as the bottom element. -/
theorem ninf : Ideal.ofBits .f32 0xFF800000#32 = (⊥ : EReal) := by
  simp [Ideal.ofBits, Ideal.ieee]

/-- The floor of the running maximum is a real number. -/
theorem low_real : ∃ r : ℝ, Ideal.ofBits .f32 0xF149F2CA#32 = (r : EReal) := by
  simp only [Ideal.ofBits, Ideal.ieee]
  rw [if_neg (by decide), if_neg (by decide)]
  exact ⟨_, rfl⟩

/-- The scale of the scores is a real number. -/
theorem scale_real : ∃ r : ℝ, Ideal.ofBits .f32 0x3DB504F3#32 = (r : EReal) := by
  simp only [Ideal.ofBits, Ideal.ieee]
  rw [if_neg (by decide), if_neg (by decide)]
  exact ⟨_, rfl⟩

/-- A sum in which only one head's 128 columns count. -/
theorem sum_head (h : Fin 8) (q k : Fin 1024 → EReal) :
    ∑ i : Fin 1024, (if i.val / 128 = h.val then q i else 0) * k i
      = ∑ d : Fin 128, q ⟨h.val * 128 + d.val, by omega⟩ * k ⟨h.val * 128 + d.val, by omega⟩ := by
  refine (Finset.sum_of_injOn (fun d : Fin 128 => (⟨h.val * 128 + d.val, by omega⟩ : Fin 1024)) ?_ ?_ ?_ ?_).symm
  · intro a _ b _ e
    have := congrArg Fin.val e
    exact Fin.ext (by simp only at this; omega)
  · intro a _; exact Finset.mem_coe.2 (Finset.mem_univ _)
  · intro i _ hi
    rw [if_neg, zero_mul]
    intro e
    exact hi ⟨⟨i.val % 128, by omega⟩, Finset.mem_coe.2 (Finset.mem_univ _), Fin.ext (by simp only; omega)⟩
  · intro d _
    rw [if_pos (show (h.val * 128 + d.val) / 128 = h.val by omega)]

end Cert.Running
end
end
-- ==== Proof.SattnPay.lean ====
module

public import proofs.«01_k».proof.Proof.SattnIdealFrame
public import proofs.«01_k».proof.Proof.SattnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SattnIdeal.Hand

open Cert.SattnIdeal Cert.SattnIdeal.Gen Idealize.ShloMosaic Idealize.ShloMosaic.TcCoe Idealize.SL.Sem Idealize.ShloMosaic.StableHlo

/-! ## The body's values at an index -/

/-- Head `h` owns the columns `128 h` to `128 h + 127`. -/
theorem own_at (h : Fin 8) (i : Fin 1024) : k0_pay15 (ix2 h i) = if i.val / 128 = h.val then 1#1 else 0#1 := by
  revert h i
  decide +kernel

/-- The query spread over the heads: row `h` keeps head `h`'s columns. -/
theorem pay16_at (q : Vec Ideal S1x1x1024 .bf16) (h : Fin 8) (i : Fin 1024) :
    k0_pay16 (F := Ideal) q (ix2 h i) = if i.val / 128 = h.val then q (ix3 0 0 i) else 0 := by
  pointwise [k0_pay16]
  rw [own_at]
  unfold Scalar.select
  split <;> simp_all

/-- A page's scores. -/
theorem pay21_at (q : Vec Ideal S1x1x1024 .bf16) (k : Vec Ideal S1x1x128x1024 .f32) (h : Fin 8) (l : Fin 128) :
    k0_pay21 (F := Ideal) (k0_pay16 q) (k0_pay20 k) (ix2 h l)
      = (∑ d : Fin 128, q (ix3 0 0 ⟨h.val * 128 + d.val, by omega⟩) * k (ix4 0 0 l ⟨h.val * 128 + d.val, by omega⟩)) * Ideal.ofBits .f32 0x3DB504F3#32 := by
  pointwise [k0_pay21, k0_pay20]
  simp only [pay16_at]
  exact congrArg (· * _) (Cert.Running.sum_head h (fun i => q (ix3 0 0 i)) fun i => k (ix4 0 0 l i))

/-- The new key's score. -/
theorem pay8_at (q : Vec Ideal S1x1x1024 .bf16) (k : Vec Ideal S1x1x1024 .f32) (h : Fin 8) :
    k0_pay8 (F := Ideal) (k0_pay16 q) k (ix2 h 0)
      = (∑ d : Fin 128, q (ix3 0 0 ⟨h.val * 128 + d.val, by omega⟩) * k (ix3 0 0 ⟨h.val * 128 + d.val, by omega⟩)) * Ideal.ofBits .f32 0x3DB504F3#32 := by
  pointwise [k0_pay8]
  simp only [pay16_at]
  exact congrArg (· * _) (Cert.Running.sum_head h (fun i => q (ix3 0 0 i)) fun i => k (ix3 0 0 i))

/-- Whether a mask entry chooses its key. -/
def bit (x : EReal) : BitVec 1 := FloatOps.cmpf (F := Ideal) (φ := .f32) .ogt x (Ideal.ofBits .f32 0x3F000000#32)

/-- Choosing by a mask entry is choosing by its comparison. -/
theorem select_bit (x a b : EReal) : Scalar.select (bit x) a b = if Ideal.ofBits .f32 0x3F000000#32 < x then a else b := by
  have e : bit x = BitVec.ofBool (decide (Ideal.ofBits .f32 0x3F000000#32 < x)) := rfl
  rw [e]
  by_cases h : Ideal.ofBits .f32 0x3F000000#32 < x
  · simp [Scalar.select, h]
  · simp [Scalar.select, h]

variable (v34 : FVec Ideal S8x1024 .bf16) (v39 : FVec Ideal S128x1024 .f32) (mask : Vec Ideal S1x1x1x128 .f32) (mo lo : Vec Ideal S8x1 .f32) (ao : Vec Ideal S8x1024 .f32)
  (vb : Vec Ideal S1x1x128x1024 .f32) (kn vn : Vec Ideal S1x1x1024 .f32)

/-- The maximum after a page. -/
theorem pay23_at (h : Fin 8) : k0_pay23 (F := Ideal) v34 v39 mask mo (ix2 h 0)
    = max (mo (ix2 h 0)) (Finset.fold max (Ideal.ofBits .f32 0xFF800000#32) (fun l : Fin 128 =>
        Scalar.select (bit (mask (ix4 0 0 0 l))) (k0_pay21 v34 v39 (ix2 h l)) (Ideal.ofBits .f32 0xF149F2CA#32)) Finset.univ) := by
  simp only [select_bit]
  pointwise [k0_pay23, k0_pay22]

/-- A page's weights. -/
theorem pay24_at (h : Fin 8) (l : Fin 128) : k0_pay24 (F := Ideal) v34 v39 mask mo (ix2 h l)
    = Scalar.select (bit (mask (ix4 0 0 0 l))) (Ideal.exp (k0_pay21 v34 v39 (ix2 h l) - k0_pay23 v34 v39 mask mo (ix2 h 0))) 0 := by
  simp only [select_bit]
  pointwise [k0_pay24, k0_pay22]

/-- The sum of weights after a page. -/
theorem pay26_at (h : Fin 8) : k0_pay26 (F := Ideal) v34 v39 mask mo lo (ix2 h 0)
    = Ideal.exp (mo (ix2 h 0) - k0_pay23 v34 v39 mask mo (ix2 h 0)) * lo (ix2 h 0) + ∑ l : Fin 128, k0_pay24 v34 v39 mask mo (ix2 h l) := by
  pointwise [k0_pay26, k0_pay25]

/-- The weighted sum of values after a page. -/
theorem pay1_at (h : Fin 8) (i : Fin 1024) : k0_pay1 (F := Ideal) (k0_pay27 v34 v39 mask mo ao) (k0_pay28 v34 v39 mask mo) vb (ix2 h i)
    = Ideal.exp (mo (ix2 h 0) - k0_pay23 v34 v39 mask mo (ix2 h 0)) * ao (ix2 h i) + ∑ l : Fin 128, k0_pay24 v34 v39 mask mo (ix2 h l) * vb (ix4 0 0 l i) := by
  pointwise [k0_pay1, k0_pay27, k0_pay28, k0_pay25]

/-- The stored maximum is the maximum. -/
theorem pay2_at (h : Fin 8) (x : FVec Ideal S8x1 .f32) : k0_pay2 (F := Ideal) x (ix2 h 0) = x (ix2 h 0) := by
  pointwise [k0_pay2]

/-- The same, of the new key's maximum. -/
theorem pay5_at (h : Fin 8) (x : FVec Ideal S8x1 .f32) : k0_pay5 (F := Ideal) x (ix2 h 0) = x (ix2 h 0) := by
  pointwise [k0_pay5]

/-- The maximum starts at its floor. -/
theorem pay17_at (h : Fin 8) : k0_pay17 (F := Ideal) (ix2 h 0) = Ideal.ofBits .f32 0xF149F2CA#32 := by
  pointwise [k0_pay17]

/-- The sum of weights starts at zero. -/
theorem pay18_at (h : Fin 8) : k0_pay18 (F := Ideal) (ix2 h 0) = 0 := by
  pointwise [k0_pay18]

/-- The weighted sum starts at zero. -/
theorem pay19_at (h : Fin 8) (i : Fin 1024) : k0_pay19 (F := Ideal) (ix2 h i) = 0 := by
  pointwise [k0_pay19]

/-- The maximum after the new key. -/
theorem pay10_at (h : Fin 8) : k0_pay10 (F := Ideal) v34 kn mask mo (ix2 h 0)
    = max (mo (ix2 h 0)) (Finset.fold max (Ideal.ofBits .f32 0xFF800000#32) (fun l : Fin 1 =>
        Scalar.select (bit (mask (ix4 0 0 0 0))) (k0_pay8 v34 kn (ix2 h l)) (Ideal.ofBits .f32 0xF149F2CA#32)) Finset.univ) := by
  simp only [select_bit]
  pointwise [k0_pay10, k0_pay9]

/-- The new key's weight. -/
theorem pay11_at (h : Fin 8) (l : Fin 1) : k0_pay11 (F := Ideal) v34 kn mask mo (ix2 h l)
    = Scalar.select (bit (mask (ix4 0 0 0 0))) (Ideal.exp (k0_pay8 v34 kn (ix2 h 0) - k0_pay10 v34 kn mask mo (ix2 h 0))) 0 := by
  obtain rfl : l = 0 := Subsingleton.elim _ _
  simp only [select_bit]
  pointwise [k0_pay11, k0_pay9]

/-- The sum of weights after the new key. -/
theorem pay3_at (h : Fin 8) : k0_pay3 (F := Ideal) (k0_pay13 v34 kn mask mo lo) (k0_pay14 v34 kn mask mo) (ix2 h 0)
    = Ideal.exp (mo (ix2 h 0) - k0_pay10 v34 kn mask mo (ix2 h 0)) * lo (ix2 h 0) + ∑ l : Fin 1, k0_pay11 v34 kn mask mo (ix2 h l) := by
  pointwise [k0_pay3, k0_pay13, k0_pay14, k0_pay12]

/-- The weighted sum of values after the new key. -/
theorem pay4_at (h : Fin 8) (i : Fin 1024) : k0_pay4 (F := Ideal) (k0_pay7 vn) (k0_pay11 v34 kn mask mo) (k0_pay12 v34 kn mask mo) ao (ix2 h i)
    = Ideal.exp (mo (ix2 h 0) - k0_pay10 v34 kn mask mo (ix2 h 0)) * ao (ix2 h i) + k0_pay11 v34 kn mask mo (ix2 h 0) * vn (ix3 0 0 i) := by
  pointwise [k0_pay4, k0_pay7, k0_pay12]

/-- The output: each head's weighted sum divided by its sum of weights. -/
theorem pay6_at (i : Fin 1024) : k0_pay6 (F := Ideal) k0_pay15 ao lo (ix3 0 0 i)
    = Ideal.div (ao (ix2 ⟨i.val / 128, by omega⟩ i)) (lo (ix2 ⟨i.val / 128, by omega⟩ 0)) := by
  pointwise [k0_pay6]
  simp only [own_at]
  rw [Finset.sum_eq_single (⟨i.val / 128, by omega⟩ : Fin 8)]
  · rw [if_pos rfl]; rfl
  · intro b _ hb
    rw [if_neg (fun e => hb (Fin.ext e.symm))]; rfl
  · intro hn; exact absurd (Finset.mem_univ _) hn

/-! ## What a point's stores leave -/

/-- The running maximum after a row's first page. -/
theorem leftA0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 xt0 = k0_pay2 (k0_pay23 (k0_pay16 x0) (k0_pay20 x1) x3 (k0_pay17 (F := Ideal))) := by
  unfold sout0_A_0
  frame_out

/-- The running sum after a row's first page. -/
theorem leftA1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 x6 xt0 = k0_pay26 (k0_pay16 x0) (k0_pay20 x1) x3 (k0_pay17 (F := Ideal)) (k0_pay18 (F := Ideal)) := by
  unfold sout0_A_1
  frame_out

/-- The running weighted sum after a row's first page. -/
theorem leftA2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5 x6 xt0 = k0_pay1 (k0_pay27 (k0_pay16 x0) (k0_pay20 x1) x3 (k0_pay17 (F := Ideal)) (k0_pay19 (F := Ideal))) (k0_pay28 (k0_pay16 x0) (k0_pay20 x1) x3 (k0_pay17 (F := Ideal))) x2 := by
  unfold sout0_A_2
  frame_out

/-- The running maximum after a later page. -/
theorem leftB0 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) (xs0 : Vec Ideal S8x1 .f32) (xs1 : Vec Ideal S8x1 .f32) (xs2 : Vec Ideal S8x1024 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2 = k0_pay2 (k0_pay23 (k0_pay16 x0) (k0_pay20 x1) x3 xs0) := by
  unfold sout0_B_0
  frame_out

/-- The running sum after a later page. -/
theorem leftB1 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) (xs0 : Vec Ideal S8x1 .f32) (xs1 : Vec Ideal S8x1 .f32) (xs2 : Vec Ideal S8x1024 .f32) :
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2 = k0_pay26 (k0_pay16 x0) (k0_pay20 x1) x3 xs0 xs1 := by
  unfold sout0_B_1
  frame_out

/-- The running weighted sum after a later page. -/
theorem leftB2 (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) (xs0 : Vec Ideal S8x1 .f32) (xs1 : Vec Ideal S8x1 .f32) (xs2 : Vec Ideal S8x1024 .f32) :
    sout0_B_2 c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2 = k0_pay1 (k0_pay27 (k0_pay16 x0) (k0_pay20 x1) x3 xs0 xs2) (k0_pay28 (k0_pay16 x0) (k0_pay20 x1) x3 xs0) x2 := by
  unfold sout0_B_2
  frame_out

/-- What a row's last point stores: the last page's update, the new key's update, and the quotient. -/
theorem leftC (c : Dev nD) (i : grid0.Coords) (arg3 : Memref sig .tc .vmem S1x1x1024 .bf16) (harg3 : arg3.IsWhole) (arg4 : Memref sig .tc .vmem S1x1x128x1024 .f32) (harg4 : arg4.IsWhole) (arg5 : Memref sig .tc .vmem S1x1x128x1024 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .bf16) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i)
    (x0 : Vec Ideal S1x1x1024 .bf16) (x1 : Vec Ideal S1x1x128x1024 .f32) (x2 : Vec Ideal S1x1x128x1024 .f32) (x3 : Vec Ideal S1x1x1x128 .f32) (x4 : Vec Ideal S1x1x1x128 .f32) (x5 : Vec Ideal S1x1x1024 .f32) (x6 : Vec Ideal S1x1x1024 .f32) (xt0 : TbBuf0 (F := Ideal) c tbM0_0) (xs0 : Vec Ideal S8x1 .f32) (xs1 : Vec Ideal S8x1 .f32) (xs2 : Vec Ideal S8x1024 .f32) :
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xt0 xs0 xs1 xs2 = k0_pay6 k0_pay15 (k0_pay4 (k0_pay7 x6) (k0_pay11 (k0_pay16 x0) x5 x4 (k0_pay2 (k0_pay23 (k0_pay16 x0) (k0_pay20 x1) x3 xs0))) (k0_pay12 (k0_pay16 x0) x5 x4 (k0_pay2 (k0_pay23 (k0_pay16 x0) (k0_pay20 x1) x3 xs0))) (k0_pay1 (k0_pay27 (k0_pay16 x0) (k0_pay20 x1) x3 xs0 xs2) (k0_pay28 (k0_pay16 x0) (k0_pay20 x1) x3 xs0) x2))
      (k0_pay3 (k0_pay13 (k0_pay16 x0) x5 x4 (k0_pay2 (k0_pay23 (k0_pay16 x0) (k0_pay20 x1) x3 xs0)) (k0_pay26 (k0_pay16 x0) (k0_pay20 x1) x3 xs0 xs1)) (k0_pay14 (k0_pay16 x0) x5 x4 (k0_pay2 (k0_pay23 (k0_pay16 x0) (k0_pay20 x1) x3 xs0)))) := by
  unfold out0_C_7
  frame_out

end Cert.SattnIdeal.Hand
end
end
-- ==== Proof.SattnStep.lean ====
module

public import proofs.«01_k».proof.Proof.SattnPay

@[expose] public section

set_option maxRecDepth 16384

noncomputable section

namespace Cert.SattnIdeal.Hand

open Cert.SattnIdeal Cert.SattnIdeal.Gen Idealize.ShloMosaic Idealize.ShloMosaic.TcCoe Idealize.SL.Sem Idealize.ShloMosaic.StableHlo

/-! ## What the scratch and the output hold after a point -/

variable (m : (ℓ : Loc nD τ sig) → Buf (Elt Ideal) ℓ) (hO : Ok m) (c : Dev nD)

set_option maxHeartbeats 4000000 in
/-- The scratch after a row's first page. -/
theorem stepA (t : Fin (cfgM m hO).N) (h0 : t.val % 128 = 0) (h1 : ¬t.val % 128 = 127) :
    (outsAt0 m hO c t.val t.isLt).2.1 = k0_pay2 (k0_pay23 (k0_pay16 (iblk m hO c 0 t)) (k0_pay20 (iblk m hO c 1 t)) (iblk m hO c 3 t) (k0_pay17 (F := Ideal)))
    ∧ (outsAt0 m hO c t.val t.isLt).2.2.1 = k0_pay26 (k0_pay16 (iblk m hO c 0 t)) (k0_pay20 (iblk m hO c 1 t)) (iblk m hO c 3 t) (k0_pay17 (F := Ideal)) (k0_pay18 (F := Ideal))
    ∧ (outsAt0 m hO c t.val t.isLt).2.2.2 = k0_pay1 (k0_pay27 (k0_pay16 (iblk m hO c 0 t)) (k0_pay20 (iblk m hO c 1 t)) (iblk m hO c 3 t) (k0_pay17 (F := Ideal)) (k0_pay19 (F := Ideal))) (k0_pay28 (k0_pay16 (iblk m hO c 0 t)) (k0_pay20 (iblk m hO c 1 t)) (iblk m hO c 3 t) (k0_pay17 (F := Ideal))) (iblk m hO c 2 t) := by
  rw [outsAt0_A m hO c t h0 h1]
  exact ⟨leftA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0),
    leftA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0),
    leftA2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)⟩

set_option maxHeartbeats 4000000 in
/-- The scratch after a later page, before the last. -/
theorem stepB (t : Fin (cfgM m hO).N) (h0 : ¬t.val % 128 = 0) (h1 : ¬t.val % 128 = 127) (Z) (hZ : Z = outsAt0 m hO c (t.val - 1) (Nat.lt_of_le_of_lt (Nat.sub_le _ _) t.isLt)) :
    (outsAt0 m hO c t.val t.isLt).2.1 = k0_pay2 (k0_pay23 (k0_pay16 (iblk m hO c 0 t)) (k0_pay20 (iblk m hO c 1 t)) (iblk m hO c 3 t) Z.2.1)
    ∧ (outsAt0 m hO c t.val t.isLt).2.2.1 = k0_pay26 (k0_pay16 (iblk m hO c 0 t)) (k0_pay20 (iblk m hO c 1 t)) (iblk m hO c 3 t) Z.2.1 Z.2.2.1
    ∧ (outsAt0 m hO c t.val t.isLt).2.2.2 = k0_pay1 (k0_pay27 (k0_pay16 (iblk m hO c 0 t)) (k0_pay20 (iblk m hO c 1 t)) (iblk m hO c 3 t) Z.2.1 Z.2.2.2) (k0_pay28 (k0_pay16 (iblk m hO c 0 t)) (k0_pay20 (iblk m hO c 1 t)) (iblk m hO c 3 t) Z.2.1) (iblk m hO c 2 t) := by
  rw [outsAt0_B m hO c t h0 h1, ← hZ]
  exact ⟨leftB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) Z.2.1 Z.2.2.1 Z.2.2.2,
    leftB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) Z.2.1 Z.2.2.1 Z.2.2.2,
    leftB2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) Z.2.1 Z.2.2.1 Z.2.2.2⟩

end Cert.SattnIdeal.Hand
end
end
-- ==== Proof.SattnBlocks.lean ====
module

public import proofs.«01_k».proof.Proof.SattnIdealFrame
public import proofs.«01_k».proof.Proof.SattnMath
public import proofs.«01_k».proof.Proof.Gen.Pre_some_chosen
public import Idealize.ShloMosaic.Lib.Pipeline.ValueKit
public import Idealize.ShloMosaic.Lib.Pointwise
public import Idealize.ShloMosaic.Lib.ReduceAll

@[expose] public section

set_option maxRecDepth 16384

noncomputable section

namespace Cert.SattnIdeal.Hand

open Cert.SattnIdeal Cert.SattnIdeal.Gen Idealize.ShloMosaic Idealize.ShloMosaic.TcCoe Idealize.SL.Sem Idealize.ShloMosaic.StableHlo

/-! ## The precondition -/

section
variable {F : FTy → Type} [FloatOps F] (x0 : FVec F Pre_some_chosen.S8x1024 .bf16) (x1 x2 : FVec F Pre_some_chosen.S8x1024 .f32) (x3 : FVec F Pre_some_chosen.S8x129x128 .f32)
  (x4 x5 : FVec F Pre_some_chosen.S1x1280x128x8x128 .f32) (x6 : IVec Pre_some_chosen.S8x128 32)

/-- The precondition's five conditions, each at every entry. -/
theorem parts (h : Pre_some_chosen.fn x0 x1 x2 x3 x4 x5 x6 = fun _ => 1#1) :
    (∀ y, (x6 y).toNat < 1280)
    ∧ (∀ b, Host.reduce IntOp.ori (cmpf .ogt (extractStridedSlice Pre_some_chosen.S8x16385 ![0, 0] (shapeCast Pre_some_chosen.S8x16512 x3 Pre_some_chosen.Gen.shapeCasts_S8x129x128_S8x16512)
          Pre_some_chosen.Gen.slices_S8x16512_S8x16385_0_0) (broadcastInDim Pre_some_chosen.S8x16385 ![] Pre_some_chosen.Gen.bcast_S_S8x16385 (constant Pre_some_chosen.S_ .f32 0x3F000000#32)))
        (constantI Pre_some_chosen.S_ 1 0#1) Pre_some_chosen.Gen.reducesTo_S8x16385_S8_d1 Pre_some_chosen.Gen.h_S_ b = 1#1)
    ∧ (∀ y, cmpf .olt (Host.absf x0) (broadcastInDim Pre_some_chosen.S8x1024 ![] Pre_some_chosen.Gen.bcast_S_S8x1024 (constant Pre_some_chosen.S_ .bf16 0x7F80#16)) y = 1#1)
    ∧ (∀ y, cmpf .olt (Host.absf x1) (broadcastInDim Pre_some_chosen.S8x1024 ![] Pre_some_chosen.Gen.bcast_S_S8x1024 (constant Pre_some_chosen.S_ .f32 0x7F800000#32)) y = 1#1)
    ∧ (∀ y, cmpf .olt (Host.absf x4) (broadcastInDim Pre_some_chosen.S1x1280x128x8x128 ![] Pre_some_chosen.Gen.bcast_S_S1x1280x128x8x128 (constant Pre_some_chosen.S_ .f32 0x7F800000#32)) y = 1#1) := by
  haveI : Subsingleton Pre_some_chosen.S_.Idx := ⟨fun a b => funext fun i => i.elim0⟩
  have e : Pre_some_chosen.fn x0 x1 x2 x3 x4 x5 x6 (fun i => i.elim0) = 1#1 := congrFun h _
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun y => ?_, fun b => Host.reduce_andi_all _ _ _ _ _ e2 b, fun y => Host.reduce_andi_all _ _ _ _ _ e3 y,
    fun y => Host.reduce_andi_all _ _ _ _ _ e4 y, fun y => Host.reduce_andi_all _ _ _ _ _ e5 y⟩
  have e := Host.reduce_andi_all _ _ _ _ _ e1 y
  obtain ⟨hge, hlt⟩ := IntOp.andi_eq_one.1 e
  have ofBool_eq_one (p : Bool) : (BitVec.ofBool p = 1#1) ↔ p = true := by cases p <;> decide
  simp only [cmpi, broadcastInDim, constantI, IntOp.cmpi, ofBool_eq_one] at hge hlt
  simp only [BitVec.sle, BitVec.slt, decide_eq_true_eq, BitVec.toInt, BitVec.toNat_ofNat] at hge hlt
  omega

end

/-- A reduction by `or` from zero that is one has a one among its elements. -/
theorem some_of_ori {s t u : Shape} {axes : List (Fin s.rank)} (x : s.Idx → BitVec 1) (init : u.Idx → BitVec 1) (h : s.ReducesTo axes t) (hu : 0 < u.numel)
    (j : t.Idx) (h0 : ∀ i, init i = 0#1) (e : Host.reduce IntOp.ori x init h hu j = 1#1) : ∃ i, h.drop i = j ∧ x i = 1#1 := by
  have key : ∀ (l : List s.Idx) (a : BitVec 1), l.foldl (fun r n => IntOp.ori r (x n)) a = 1#1 → a = 1#1 ∨ ∃ n ∈ l, x n = 1#1 := by
    intro l
    induction l with
    | nil => exact fun a h => Or.inl h
    | cons b l ih =>
      intro a h
      rcases ih _ h with h | ⟨n, hn, h⟩
      · have : ∀ p q : BitVec 1, IntOp.ori p q = 1#1 → p = 1#1 ∨ q = 1#1 := by decide
        rcases this _ _ h with h | h
        · exact Or.inl h
        · exact Or.inr ⟨b, List.mem_cons_self .., h⟩
      · exact Or.inr ⟨n, List.mem_cons_of_mem _ hn, h⟩
  rw [Host.reduce_eq_foldl] at e
  rcases key _ _ e with h | ⟨n, hn, h⟩
  · rw [h0] at h; exact absurd h (by decide)
  · exact ⟨n, by simpa using (List.mem_filter.1 hn).2, h⟩

/-- A float below infinity in absolute value is a real number. -/
theorem real_of_abs {s : Shape} (φ : FTy) (x : FVec Ideal s φ) (T : FVec Ideal s φ) (y : s.Idx) (ht : T y = (⊤ : EReal)) (h : cmpf .olt (Host.absf x) T y = 1#1) :
    ∃ r : ℝ, x y = (r : EReal) := by
  have e : BitVec.ofBool (decide (max (x y : EReal) (-(x y : EReal)) < T y)) = 1#1 := h
  have ofBool_eq_one (p : Bool) : (BitVec.ofBool p = 1#1) ↔ p = true := by cases p <;> decide
  rw [ofBool_eq_one, decide_eq_true_eq, ht] at e
  generalize (x y : EReal) = z at e ⊢
  induction z using EReal.rec with
  | bot => simp at e
  | top => simp at e
  | coe r => exact ⟨r, rfl⟩

/-- The word of infinity in bf16 reads as the top element. -/
theorem inf16 : Ideal.ofBits .bf16 0x7F80#16 = (⊤ : EReal) := by
  simp [Ideal.ofBits, Ideal.ieee]

/-- The word of infinity in f32 reads as the top element. -/
theorem inf32 : Ideal.ofBits .f32 0x7F800000#32 = (⊤ : EReal) := by
  simp [Ideal.ofBits, Ideal.ieee]

/-! ## Where the blocks sit -/

/-- The page a grid point fetches: the table's entry at the point. -/
theorem transform1 {F : FTy → Type} [FloatOps F] (pf : pre0.Contents (Elt F)) (i : grid0.Coords) :
    cc0_transform_1 Gen.facts.k0_off1_inb Gen.facts.numel1_S1x1 pf i
      = ![0, BitVec.toNat (w := 32) (pf 0 (ix2 (i 0) (i 1))), 0, 0] := by
  unfold cc0_transform_1
  have h0 : (i 0).val < 8 := (i 0).isLt
  have h1 : (i 1).val < 128 := (i 1).isLt
  have e0 : (BitVec.ofNat 32 (i 0).val).toNat = (i 0).val := by simp; omega
  have e1 : (BitVec.ofNat 32 (i 1).val).toNat = (i 1).val := by simp; omega
  have key : ∀ (y : S8x128.Idx), y = ix2 (i 0) (i 1) →
      ![0, BitVec.toNat (w := 32) (pf 0 y), 0, 0] = ![0, BitVec.toNat (w := 32) (pf 0 (ix2 (i 0) (i 1))), 0, 0] := by
    rintro y rfl; rfl
  refine key _ ?_
  funext a
  refine Fin.ext ?_
  match a with
  | ⟨0, _⟩ => exact (Nat.add_zero _).trans e0
  | ⟨1, _⟩ => exact (Nat.add_zero _).trans e1

/-- The values are fetched by the same map. -/
theorem transform2 {F : FTy → Type} [FloatOps F] (pf : pre0.Contents (Elt F)) (i : grid0.Coords) :
    cc0_transform_2 Gen.facts.k0_off1_inb Gen.facts.numel1_S1x1 pf i
      = ![0, BitVec.toNat (w := 32) (pf 0 (ix2 (i 0) (i 1))), 0, 0] := transform1 pf i

/-- A table of pages below 1280 keeps every fetch inside the cache. -/
theorem ok_of_lt {F : FTy → Type} [FloatOps F] (pf : pre0.Contents (Elt F)) (h : ∀ y, BitVec.toNat (w := 32) (pf 0 y) < 1280) :
    ok0 pf := by
  refine ⟨fun i => ?_, fun i => ?_⟩ <;>
  · refine ⟨fun a => ?_, Or.inl rfl⟩
    first | rw [transform1] | rw [transform2]
    have := h (ix2 (i 0) (i 1))
    match a with
    | ⟨0, _⟩ => exact Nat.le_refl 1
    | ⟨1, _⟩ => exact (Nat.mul_one _).le.trans this
    | ⟨2, _⟩ => exact Nat.le_refl 128
    | ⟨3, _⟩ => exact Nat.le_refl 1024

variable (m : (ℓ : Loc nD τ sig) → Buf (Elt Ideal) ℓ) (hO : Ok m)

/-- The block each window stages at a grid point, and the point's row and page. -/
theorem idx (t : Fin (cfgM m hO).N) : ((cfgM m hO).win 0).index t = ![t.val / 128, 0, 0]
    ∧ ((cfgM m hO).win 3).index t = ![t.val / 128, t.val % 128, 0, 0] ∧ ((cfgM m hO).win 4).index t = ![t.val / 128, 128, 0, 0]
    ∧ ((cfgM m hO).win 5).index t = ![t.val / 128, 0, 0] ∧ ((cfgM m hO).win 6).index t = ![t.val / 128, 0, 0] ∧ ((cfgM m hO).win 7).index t = ![t.val / 128, 0, 0]
    ∧ ((grid0.coords t) 0).val = t.val / 128 ∧ ((grid0.coords t) 1).val = t.val % 128 ∧ t.val / 128 < 8 :=
  (by decide +kernel : ∀ t : Fin grid0.N, cc0_transform_0 (grid0.coords t) = ![t.val / 128, 0, 0]
    ∧ cc0_transform_3 (grid0.coords t) = ![t.val / 128, t.val % 128, 0, 0] ∧ cc0_transform_4 (grid0.coords t) = ![t.val / 128, 128, 0, 0]
    ∧ cc0_transform_5 (grid0.coords t) = ![t.val / 128, 0, 0] ∧ cc0_transform_6 (grid0.coords t) = ![t.val / 128, 0, 0] ∧ cc0_transform_7 (grid0.coords t) = ![t.val / 128, 0, 0]
    ∧ ((grid0.coords t) 0).val = t.val / 128 ∧ ((grid0.coords t) 1).val = t.val % 128 ∧ t.val / 128 < 8) t

/-! ## What the region finds in the arrays the host lines before it write -/

/-- The mask the region reads: the argument with a unit axis. -/
theorem V2 (c : Dev nD) : V m c main_v2 = shapeCast _ (m ((c : Thread nD τ).loc main_arg3)) Gen.facts.shapeCasts_S8x129x128_S8x129x1x128 := by
  unfold V
  simp only [hostOps0, List.flatten_cons, List.flatten_nil, List.append_nil]
  after_results <;> rfl

/-- The query it reads: the argument with a unit axis. -/
theorem V3 (c : Dev nD) : V m c main_v3 = shapeCast _ (m ((c : Thread nD τ).loc main_arg0)) Gen.facts.shapeCasts_S8x1024_S8x1x1024 := by
  unfold V
  simp only [hostOps0, List.flatten_cons, List.flatten_nil, List.append_nil]
  after_results <;> rfl

/-- The cached keys it reads: the argument with its heads side by side. -/
theorem V4 (c : Dev nD) : V m c main_v4 = shapeCast _ (shapeCast S1280x128x8x128 (m ((c : Thread nD τ).loc main_arg4)) Gen.facts.shapeCasts_S1x1280x128x8x128_S1280x128x8x128) Gen.facts.shapeCasts_S1280x128x8x128_S1x1280x128x1024 := by
  unfold V
  simp only [hostOps0, List.flatten_cons, List.flatten_nil, List.append_nil]
  after_results <;> rfl

/-- The cached values it reads: the argument with its heads side by side. -/
theorem V5 (c : Dev nD) : V m c main_v5 = shapeCast _ (shapeCast S1280x128x8x128 (m ((c : Thread nD τ).loc main_arg5)) Gen.facts.shapeCasts_S1x1280x128x8x128_S1280x128x8x128) Gen.facts.shapeCasts_S1280x128x8x128_S1x1280x128x1024 := by
  unfold V
  simp only [hostOps0, List.flatten_cons, List.flatten_nil, List.append_nil]
  after_results <;> rfl

/-- The new key it reads: the argument with a unit axis. -/
theorem V6 (c : Dev nD) : V m c main_v6 = shapeCast _ (m ((c : Thread nD τ).loc main_arg1)) Gen.facts.shapeCasts_S8x1024_S8x1x1024 := by
  unfold V
  simp only [hostOps0, List.flatten_cons, List.flatten_nil, List.append_nil]
  after_results <;> rfl

/-- The new value it reads: the argument with a unit axis. -/
theorem V7 (c : Dev nD) : V m c main_v7 = shapeCast _ (m ((c : Thread nD τ).loc main_arg2)) Gen.facts.shapeCasts_S8x1024_S8x1x1024 := by
  unfold V
  simp only [hostOps0, List.flatten_cons, List.flatten_nil, List.append_nil]
  after_results <;> rfl

/-- The staged query at an index. -/
theorem blk0 (c : Dev nD) (t : Fin (cfgM m hO).N) (i : Fin 1024) (q : Fin 8) (hq : q.val = t.val / 128) :
    (iblk m hO c 0 t : Vec Ideal S1x1x1024 .bf16) (ix3 0 0 i) = ((m ((c : Thread nD τ).loc main_arg0)) : FVec Ideal S8x1024 .bf16) (ix2 q i) := by
  have e : ((((cfgM m hO).win 0).blk t).view.emb (ix3 0 0 i) : S8x1x1024.Idx) = ix3 q 0 i := by
    funext a
    refine Fin.ext ((Pipeline.Window.rect_emb_val ((cfgM m hO).win 0) t _ a).trans ?_)
    rw [(idx m hO t).1]
    match a with
    | ⟨0, _⟩ => exact (show t.val / 128 * 1 + 0 = q.val by omega)
    | ⟨1, _⟩ => exact (show 0 * 1 + 0 = 0 by omega)
    | ⟨2, _⟩ => exact (show 0 * 1024 + i.val = i.val by omega)
  refine (congrArg (V m c main_v3 : FVec Ideal S8x1x1024 .bf16) e).trans ?_
  rw [V3]; pointwise

/-- The staged new key at an index. -/
theorem blk5 (c : Dev nD) (t : Fin (cfgM m hO).N) (i : Fin 1024) (q : Fin 8) (hq : q.val = t.val / 128) :
    (iblk m hO c 5 t : Vec Ideal S1x1x1024 .f32) (ix3 0 0 i) = ((m ((c : Thread nD τ).loc main_arg1)) : FVec Ideal S8x1024 .f32) (ix2 q i) := by
  have e : ((((cfgM m hO).win 5).blk t).view.emb (ix3 0 0 i) : S8x1x1024.Idx) = ix3 q 0 i := by
    funext a
    refine Fin.ext ((Pipeline.Window.rect_emb_val ((cfgM m hO).win 5) t _ a).trans ?_)
    rw [(idx m hO t).2.2.2.1]
    match a with
    | ⟨0, _⟩ => exact (show t.val / 128 * 1 + 0 = q.val by omega)
    | ⟨1, _⟩ => exact (show 0 * 1 + 0 = 0 by omega)
    | ⟨2, _⟩ => exact (show 0 * 1024 + i.val = i.val by omega)
  refine (congrArg (V m c main_v6 : FVec Ideal S8x1x1024 .f32) e).trans ?_
  rw [V6]; pointwise

/-- The staged new value at an index. -/
theorem blk6 (c : Dev nD) (t : Fin (cfgM m hO).N) (i : Fin 1024) (q : Fin 8) (hq : q.val = t.val / 128) :
    (iblk m hO c 6 t : Vec Ideal S1x1x1024 .f32) (ix3 0 0 i) = ((m ((c : Thread nD τ).loc main_arg2)) : FVec Ideal S8x1024 .f32) (ix2 q i) := by
  have e : ((((cfgM m hO).win 6).blk t).view.emb (ix3 0 0 i) : S8x1x1024.Idx) = ix3 q 0 i := by
    funext a
    refine Fin.ext ((Pipeline.Window.rect_emb_val ((cfgM m hO).win 6) t _ a).trans ?_)
    rw [(idx m hO t).2.2.2.2.1]
    match a with
    | ⟨0, _⟩ => exact (show t.val / 128 * 1 + 0 = q.val by omega)
    | ⟨1, _⟩ => exact (show 0 * 1 + 0 = 0 by omega)
    | ⟨2, _⟩ => exact (show 0 * 1024 + i.val = i.val by omega)
  refine (congrArg (V m c main_v7 : FVec Ideal S8x1x1024 .f32) e).trans ?_
  rw [V7]; pointwise

/-- The staged page's mask at an index. -/
theorem blk3 (c : Dev nD) (t : Fin (cfgM m hO).N) (l : Fin 128) (q : Fin 8) (hq : q.val = t.val / 128) (p : Fin 129) (hp : p.val = t.val % 128) :
    (iblk m hO c 3 t : Vec Ideal S1x1x1x128 .f32) (ix4 0 0 0 l) = ((m ((c : Thread nD τ).loc main_arg3)) : FVec Ideal S8x129x128 .f32) (ix3 q p l) := by
  have e : ((((cfgM m hO).win 3).blk t).view.emb (ix4 0 0 0 l) : S8x129x1x128.Idx) = ix4 q p 0 l := by
    funext a
    refine Fin.ext ((Pipeline.Window.rect_emb_val ((cfgM m hO).win 3) t _ a).trans ?_)
    rw [(idx m hO t).2.1]
    match a with
    | ⟨0, _⟩ => exact (show t.val / 128 * 1 + 0 = q.val by omega)
    | ⟨1, _⟩ => exact (show t.val % 128 * 1 + 0 = p.val by omega)
    | ⟨2, _⟩ => exact (show 0 * 1 + 0 = 0 by omega)
    | ⟨3, _⟩ => exact (show 0 * 128 + l.val = l.val by omega)
  refine (congrArg (V m c main_v2 : FVec Ideal S8x129x1x128 .f32) e).trans ?_
  rw [V2]; pointwise

/-- The staged new key's mask at an index. -/
theorem blk4 (c : Dev nD) (t : Fin (cfgM m hO).N) (l : Fin 128) (q : Fin 8) (hq : q.val = t.val / 128)  :
    (iblk m hO c 4 t : Vec Ideal S1x1x1x128 .f32) (ix4 0 0 0 l) = ((m ((c : Thread nD τ).loc main_arg3)) : FVec Ideal S8x129x128 .f32) (ix3 q (128 : Fin 129) l) := by
  have e : ((((cfgM m hO).win 4).blk t).view.emb (ix4 0 0 0 l) : S8x129x1x128.Idx) = ix4 q (128 : Fin 129) 0 l := by
    funext a
    refine Fin.ext ((Pipeline.Window.rect_emb_val ((cfgM m hO).win 4) t _ a).trans ?_)
    rw [(idx m hO t).2.2.1]
    match a with
    | ⟨0, _⟩ => exact (show t.val / 128 * 1 + 0 = q.val by omega)
    | ⟨1, _⟩ => exact (show 128 * 1 + 0 = 128 by omega)
    | ⟨2, _⟩ => exact (show 0 * 1 + 0 = 0 by omega)
    | ⟨3, _⟩ => exact (show 0 * 128 + l.val = l.val by omega)
  refine (congrArg (V m c main_v2 : FVec Ideal S8x129x1x128 .f32) e).trans ?_
  rw [V2]; pointwise

/-- The staged page of keys at an index. -/
theorem blk1 (c : Dev nD) (t : Fin (cfgM m hO).N) (l : Fin 128) (i : Fin 1024) (n : Fin 1280)
    (hn : n.val = BitVec.toNat (w := 32) (tbl m 0 (ix2 (grid0.coords t 0) (grid0.coords t 1)))) :
    (iblk m hO c 1 t : Vec Ideal S1x1x128x1024 .f32) (ix4 0 0 l i)
      = ((m ((c : Thread nD τ).loc main_arg4)) : FVec Ideal S1x1280x128x8x128 .f32) (ix5 0 n l ⟨i.val / 128, by omega⟩ ⟨i.val % 128, by omega⟩) := by
  have i1 : ((cfgM m hO).win 1).index t = ![0, n.val, 0, 0] := by
    rw [hn]; exact transform1 _ _
  have e : ((((cfgM m hO).win 1).blk t).view.emb (ix4 0 0 l i) : S1x1280x128x1024.Idx) = ix4 0 n l i := by
    funext a
    refine Fin.ext ((Pipeline.Window.rect_emb_val ((cfgM m hO).win 1) t _ a).trans ?_)
    rw [i1]
    match a with
    | ⟨0, _⟩ => exact (show 0 * 1 + 0 = 0 by omega)
    | ⟨1, _⟩ => exact (show n.val * 1 + 0 = n.val by omega)
    | ⟨2, _⟩ => exact (show 0 * 128 + l.val = l.val by omega)
    | ⟨3, _⟩ => exact (show 0 * 1024 + i.val = i.val by omega)
  refine (congrArg (V m c main_v4 : FVec Ideal S1x1280x128x1024 .f32) e).trans ?_
  rw [V4]; pointwise

/-- The staged page of values at an index. -/
theorem blk2 (c : Dev nD) (t : Fin (cfgM m hO).N) (l : Fin 128) (i : Fin 1024) (n : Fin 1280)
    (hn : n.val = BitVec.toNat (w := 32) (tbl m 0 (ix2 (grid0.coords t 0) (grid0.coords t 1)))) :
    (iblk m hO c 2 t : Vec Ideal S1x1x128x1024 .f32) (ix4 0 0 l i)
      = ((m ((c : Thread nD τ).loc main_arg5)) : FVec Ideal S1x1280x128x8x128 .f32) (ix5 0 n l ⟨i.val / 128, by omega⟩ ⟨i.val % 128, by omega⟩) := by
  have i1 : ((cfgM m hO).win 2).index t = ![0, n.val, 0, 0] := by
    rw [hn]; exact transform2 _ _
  have e : ((((cfgM m hO).win 2).blk t).view.emb (ix4 0 0 l i) : S1x1280x128x1024.Idx) = ix4 0 n l i := by
    funext a
    refine Fin.ext ((Pipeline.Window.rect_emb_val ((cfgM m hO).win 2) t _ a).trans ?_)
    rw [i1]
    match a with
    | ⟨0, _⟩ => exact (show 0 * 1 + 0 = 0 by omega)
    | ⟨1, _⟩ => exact (show n.val * 1 + 0 = n.val by omega)
    | ⟨2, _⟩ => exact (show 0 * 128 + l.val = l.val by omega)
    | ⟨3, _⟩ => exact (show 0 * 1024 + i.val = i.val by omega)
  refine (congrArg (V m c main_v5 : FVec Ideal S1x1280x128x1024 .f32) e).trans ?_
  rw [V5]; pointwise

/-- Where the output's block sits. -/
theorem emb7 (t : Fin (cfgM m hO).N) (i : Fin 1024) (q : Fin 8) (hq : q.val = t.val / 128) :
    ((((cfgM m hO).win 7).blk t).view.emb (ix3 0 0 i) : S8x1x1024.Idx) = ix3 q 0 i := by
  funext a
  refine Fin.ext ((Pipeline.Window.rect_emb_val ((cfgM m hO).win 7) t _ a).trans ?_)
  rw [(idx m hO t).2.2.2.2.2.1]
  match a with
  | ⟨0, _⟩ => exact (show t.val / 128 * 1 + 0 = q.val by omega)
  | ⟨1, _⟩ => exact (show 0 * 1 + 0 = 0 by omega)
  | ⟨2, _⟩ => exact (show 0 * 1024 + i.val = i.val by omega)

end Cert.SattnIdeal.Hand
end
end
-- ==== Proof.SattnRef.lean ====
module

public import proofs.«01_k».proof.Proof.Gen.SattnRefIdeal.Run
public import proofs.«01_k».proof.Proof.SattnMath
public import Idealize.ShloMosaic.Lib.Pipeline.ValueKit
public import Idealize.ShloMosaic.Lib.Pointwise

@[expose] public section

set_option maxRecDepth 16384

noncomputable section

namespace Cert.SattnRefIdeal.Hand

open Cert.SattnRefIdeal Cert.SattnRefIdeal.Gen Idealize.ShloMosaic Idealize.ShloMosaic.TcCoe Idealize.SL.Sem Idealize.ShloMosaic.StableHlo

/-! ## The reference's term -/

/-- The gathered pages, `ik[page_table]`. -/
def refG (K : FVec Ideal S1x1280x128x8x128 .f32) (T : IVec S8x128 32) :
    FVec Ideal S8x128x128x8x128 .f32 :=
  Host.gather gather_S1280x128x8x128_S8x128x1_S8x128x128x8x128_234_0_n_n_0_2_11288128
    (shapeCast _ K shapeCasts_S1x1280x128x8x128_S1280x128x8x128)
    (broadcastInDim S8x128x1 ![0, 1] bcast_S8x128_S8x128x1_0_1
      (select (cmpi .slt T (broadcastInDim S8x128 ![] bcast_S_S8x128 (constantI S_ 32 0#32)))
        (addi T (broadcastInDim S8x128 ![] bcast_S_S8x128 (constantI S_ 32 1280#32))) T))

/-- The gather at an index, for start indices that name pages. -/
theorem gather_at (X : FVec Ideal S1280x128x8x128 .f32) (I : IVec S8x128x1 32)
    (b : Fin 8) (p r : Fin 128) (h : Fin 8) (l : Fin 128) (n : Fin 1280) (hI : I (ix3 b p 0) = BitVec.ofNat 32 n.val) :
    Host.gather gather_S1280x128x8x128_S8x128x1_S8x128x128x8x128_234_0_n_n_0_2_11288128 X I (ix5 b p r h l) = X (ix4 n r h l) := by
  unfold Host.gather
  congr 1
  funext a
  refine Fin.ext ?_
  show gather_S1280x128x8x128_S8x128x1_S8x128x128x8x128_234_0_n_n_0_2_11288128.start _ I a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 4) ∈ gather_S1280x128x8x128_S8x128x1_S8x128x128x8x128_234_0_n_n_0_2_11288128.startIndexMap from List.mem_singleton.mpr rfl)]
    have hsi : gather_S1280x128x8x128_S8x128x1_S8x128x128x8x128_234_0_n_n_0_2_11288128.siIdx (ix5 b p r h l)
        ⟨List.idxOf (0 : Fin 4) gather_S1280x128x8x128_S8x128x1_S8x128x128x8x128_234_0_n_n_0_2_11288128.startIndexMap,
          List.idxOf_lt_length_iff.2 (List.mem_singleton.mpr rfl)⟩ = ix3 b p 0 := by
      funext e; refine Fin.ext ?_
      match e with
      | ⟨0, _⟩ => rfl
      | ⟨1, _⟩ => rfl
      | ⟨2, _⟩ => rfl
    have hn : (BitVec.ofNat 32 n.val).toInt.toNat = n.val := by
      have := n.isLt
      rw [BitVec.toInt_eq_toNat_of_lt (by simp; omega)]
      simp; omega
    show min (I (gather_S1280x128x8x128_S8x128x1_S8x128x128x8x128_234_0_n_n_0_2_11288128.siIdx (ix5 b p r h l) ⟨List.idxOf (0 : Fin 4) gather_S1280x128x8x128_S8x128x1_S8x128x128x8x128_234_0_n_n_0_2_11288128.startIndexMap,
          List.idxOf_lt_length_iff.2 (List.mem_singleton.mpr rfl)⟩)).toInt.toNat (1280 - 1) + 0 + 0 = n.val
    rw [hsi, hI, hn]
    have := n.isLt
    omega
  | ⟨1, _⟩ =>
    have h0 : gather_S1280x128x8x128_S8x128x1_S8x128x128x8x128_234_0_n_n_0_2_11288128.start (ix5 b p r h l) I 1 = 0 := by
      unfold GatherDims.start
      rw [dif_neg (by decide)]
    exact (congrArg (· + 0 + _) h0).trans (by simp; rfl)
  | ⟨2, _⟩ =>
    have h0 : gather_S1280x128x8x128_S8x128x1_S8x128x128x8x128_234_0_n_n_0_2_11288128.start (ix5 b p r h l) I 2 = 0 := by
      unfold GatherDims.start
      rw [dif_neg (by decide)]
    exact (congrArg (· + 0 + _) h0).trans (by simp; rfl)
  | ⟨3, _⟩ =>
    have h0 : gather_S1280x128x8x128_S8x128x1_S8x128x128x8x128_234_0_n_n_0_2_11288128.start (ix5 b p r h l) I 3 = 0 := by
      unfold GatherDims.start
      rw [dif_neg (by decide)]
    exact (congrArg (· + 0 + _) h0).trans (by simp; rfl)

/-- A gathered page at an index. -/
theorem refG_at (K : FVec Ideal S1x1280x128x8x128 .f32) (T : IVec S8x128 32)
    (hT : ∀ y, (T y).toNat < 1280) (b : Fin 8) (p r : Fin 128) (h : Fin 8) (l : Fin 128) :
    refG K T (ix5 b p r h l) = K (ix5 0 ⟨(T (ix2 b p)).toNat, hT _⟩ r h l) := by
  unfold refG
  have hp := hT (ix2 b p)
  rw [gather_at _ _ b p r h l ⟨(T (ix2 b p)).toNat, hp⟩]
  · pointwise
  · pointwise
    have hc : IntOp.cmpi CmpIPredicate.slt (T (ix2 b p)) 0#32 = 0#1 := by
      simp only [IntOp.cmpi, BitVec.slt, BitVec.toInt, BitVec.toNat_ofNat]
      rw [if_pos (by omega)]
      have : ¬ ((T (ix2 b p)).toNat : ℤ) < 0 := by omega
      simp [this]
    rw [hc]
    simp [Scalar.select]

/-- The pages' rows and the new token's row, one after the other. -/
def refC (G : FVec Ideal S8x128x128x8x128 .f32) (N : FVec Ideal S8x1024 .f32) : FVec Ideal S8x16385x8x128 .f32 :=
  concatenate S8x16385x8x128 1 [⟨S8x16384x8x128, (shapeCast _ G shapeCasts_S8x128x128x8x128_S8x16384x8x128)⟩, ⟨S8x1x8x128, (shapeCast _ N shapeCasts_S8x1024_S8x1x8x128)⟩] concatenates_S8x16384x8x128_S8x1x8x128_S8x16385x8x128_d1

/-- The keys the mask chooses. -/
def refB (A : FVec Ideal S8x129x128 .f32) : IVec S8x16385 1 :=
  cmpf .ogt (extractStridedSlice S8x16385 ![0, 0] (shapeCast _ A shapeCasts_S8x129x128_S8x16512) slices_S8x16512_S8x16385_0_0) (broadcastInDim S8x16385 ![] bcast_S_S8x16385 (constant S_ .f32 0x3F000000#32))

/-- The scaled scores. -/
def refS (Q : FVec Ideal S8x1024 .bf16) (C : FVec Ideal S8x16385x8x128 .f32) : FVec Ideal S8x8x16385 .f32 :=
  mulf (Host.dotGeneral dot_S8x8x128_S8x16385x8x128_S8x8x16385_2_3_n_1_01_02 none (shapeCast _ (extf .f32 Q bitsLt_bf16_f32) shapeCasts_S8x1024_S8x8x128) C) (broadcastInDim S8x8x16385 ![] bcast_S_S8x8x16385 (constant S_ .f32 0x3DB504F3#32))

/-- The chosen keys' scores, minus infinity elsewhere. -/
def refX (B : IVec S8x16385 1) (S : FVec Ideal S8x8x16385 .f32) : FVec Ideal S8x8x16385 .f32 :=
  select (broadcastInDim S8x8x16385 ![0, 1, 2] bcast_S8x1x16385_S8x8x16385_0_1_2 (broadcastInDim S8x1x16385 ![0, 2] bcast_S8x16385_S8x1x16385_0_2 B)) S (broadcastInDim S8x8x16385 ![] bcast_S_S8x8x16385 (id (constant S_ .f32 0xFF800000#32)))

/-- Each head's greatest score. -/
def refM (X : FVec Ideal S8x8x16385 .f32) : FVec Ideal S8x8 .f32 :=
  Host.reduce FloatOps.maximumf X (constant S_ .f32 0xFF800000#32) reducesTo_S8x8x16385_S8x8_d2 h_S_

/-- The exponentials, each row shifted by its greatest score. -/
def refE (X : FVec Ideal S8x8x16385 .f32) (M : FVec Ideal S8x8 .f32) : FVec Ideal S8x8x16385 .f32 :=
  Host.exp (subf X (broadcastInDim S8x8x16385 ![0, 1, 2] bcast_S8x8x1_S8x8x16385_0_1_2 (broadcastInDim S8x8x1 ![0, 1] bcast_S8x8_S8x8x1_0_1 (maximumf (broadcastInDim S8x8 ![] bcast_S_S8x8 (constant S_ .f32 0xFF800000#32)) M))))

/-- The weights: each row of exponentials divided by its sum. -/
def refW (E : FVec Ideal S8x8x16385 .f32) : FVec Ideal S8x8x16385 .f32 :=
  Host.divf E (broadcastInDim S8x8x16385 ![0, 1, 2] bcast_S8x8x1_S8x8x16385_0_1_2 (broadcastInDim S8x8x1 ![0, 1] bcast_S8x8_S8x8x1_0_1 (Host.reduceAdd E (constant S_ .f32 0x00000000#32) reducesTo_S8x8x16385_S8x8_d2 h_S_)))

/-- The weights against the values. -/
def refO (W : FVec Ideal S8x8x16385 .f32) (C : FVec Ideal S8x16385x8x128 .f32) : FVec Ideal S8x1x1024 .bf16 :=
  truncf .bf16 (shapeCast _ (Host.dotGeneral dot_S8x8x16385_S8x16385x8x128_S8x8x128_2_1_n_3_01_02 none W C) shapeCasts_S8x8x128_S8x1x1024) bitsLt_bf16_f32

/-- A key: from the gathered pages, or the new one. -/
theorem refC_at (G : FVec Ideal S8x128x128x8x128 .f32) (N : FVec Ideal S8x1024 .f32) (b : Fin 8) (j : Fin 16385) (h : Fin 8) (d : Fin 128) :
    refC G N (ix4 b j h d) = if hj : j.val < 16384 then G (ix5 b ⟨j.val / 128, by omega⟩ ⟨j.val % 128, by omega⟩ h d) else N (ix2 b ⟨h.val * 128 + d.val, by omega⟩) := by
  pointwise [refC]

/-- Whether a key is chosen. -/
theorem refB_at (A : FVec Ideal S8x129x128 .f32) (b : Fin 8) (j : Fin 16385) :
    refB A (ix2 b j) = FloatOps.cmpf (F := Ideal) (φ := .f32) .ogt (A (ix3 b ⟨j.val / 128, by omega⟩ ⟨j.val % 128, by omega⟩)) (Ideal.ofBits .f32 0x3F000000#32) := by
  pointwise [refB]

/-- A score. -/
theorem refS_at (Q : FVec Ideal S8x1024 .bf16) (C : FVec Ideal S8x16385x8x128 .f32) (b h : Fin 8) (j : Fin 16385) :
    refS Q C (ix3 b h j) = (∑ d : Fin 128, Q (ix2 b ⟨h.val * 128 + d.val, by omega⟩) * C (ix4 b j h d)) * Ideal.ofBits .f32 0x3DB504F3#32 := by
  pointwise [refS]

/-- A chosen key's score, minus infinity elsewhere. -/
theorem refX_at (B : IVec S8x16385 1) (S : FVec Ideal S8x8x16385 .f32) (b h : Fin 8) (j : Fin 16385) :
    refX B S (ix3 b h j) = Scalar.select (B (ix2 b j)) (S (ix3 b h j)) ⊥ := by
  pointwise [refX]
  exact congrArg (Scalar.select _ _) Cert.Running.ninf

/-- A head's greatest score. -/
theorem refM_at (X : FVec Ideal S8x8x16385 .f32) (b h : Fin 8) :
    refM X (ix2 b h) = Finset.fold max ⊥ (fun x => X (ix3 b h x)) Finset.univ := by
  unfold refM
  rw [← Cert.Running.ninf]
  refine (Host.reduce_eq_fold_single (FloatOps.maximumf (F := Ideal) (φ := .f32)) X _ _ (by decide) _ _).trans ?_
  refine congrArg (fun f : Fin 16385 → EReal => Finset.fold max (Ideal.ofBits .f32 0xFF800000#32) f Finset.univ) (funext fun x => congrArg X (funext fun a => ?_))
  fin_cases a <;> rfl

/-- An exponential. -/
theorem refE_at (X : FVec Ideal S8x8x16385 .f32) (M : FVec Ideal S8x8 .f32) (b h : Fin 8) (j : Fin 16385) :
    refE X M (ix3 b h j) = Ideal.exp (X (ix3 b h j) - max (Ideal.ofBits .f32 0xFF800000#32) (M (ix2 b h))) := by
  pointwise [refE]

/-- A weight. -/
theorem refW_at (E : FVec Ideal S8x8x16385 .f32) (b h : Fin 8) (j : Fin 16385) :
    refW E (ix3 b h j) = Ideal.div (E (ix3 b h j)) (∑ x, E (ix3 b h x)) := by
  pointwise [refW]

/-- An output element: the weights against a value column. -/
theorem refO_at (W : FVec Ideal S8x8x16385 .f32) (C : FVec Ideal S8x16385x8x128 .f32) (b : Fin 8) (i : Fin 1024) :
    refO W C (ix3 b 0 i) = ∑ j, W (ix3 b ⟨i.val / 128, by omega⟩ j) * C (ix4 b j ⟨i.val / 128, by omega⟩ ⟨i.val % 128, by omega⟩) := by
  pointwise [refO]

/-- The reference's result at an index: the plain softmax's weighted sum. -/
theorem refY_at (B : IVec S8x16385 1) (S : FVec Ideal S8x8x16385 .f32) (C : FVec Ideal S8x16385x8x128 .f32) (b : Fin 8) (i : Fin 1024) :
    refO (refW (refE (refX B S) (refM (refX B S)))) C (ix3 b 0 i)
      = ∑ j, Ideal.div (Ideal.exp (Scalar.select (B (ix2 b j)) (S (ix3 b ⟨i.val / 128, by omega⟩ j)) ⊥
            - Finset.fold max ⊥ (fun x => Scalar.select (B (ix2 b x)) (S (ix3 b ⟨i.val / 128, by omega⟩ x)) ⊥) Finset.univ))
          (∑ k, Ideal.exp (Scalar.select (B (ix2 b k)) (S (ix3 b ⟨i.val / 128, by omega⟩ k)) ⊥
            - Finset.fold max ⊥ (fun x => Scalar.select (B (ix2 b x)) (S (ix3 b ⟨i.val / 128, by omega⟩ x)) ⊥) Finset.univ))
        * C (ix4 b j ⟨i.val / 128, by omega⟩ ⟨i.val % 128, by omega⟩) := by
  rw [refO_at]
  simp only [refW_at, refE_at, refM_at, refX_at]
  rw [show Ideal.ofBits FTy.f32 0xFF800000#32 = (⊥ : EReal) from Cert.Running.ninf]
  simp only [max_eq_right bot_le]

end Cert.SattnRefIdeal.Hand
end
end
-- ==== Proof.SattnValue.lean ====
module

public import proofs.«01_k».proof.Proof.SattnStep
public import proofs.«01_k».proof.Proof.SattnBlocks
public import proofs.«01_k».proof.Proof.SattnRef

@[expose] public section

set_option maxRecDepth 16384

noncomputable section

namespace Cert.SattnIdeal.Hand

open Cert.SattnIdeal Cert.SattnIdeal.Gen Idealize.ShloMosaic Idealize.ShloMosaic.TcCoe Idealize.SL.Sem Idealize.ShloMosaic.StableHlo
open Cert.Running Cert.SattnRefIdeal.Hand

/-! ## One update of the running softmax -/

section
variable (q : Vec Ideal S1x1x1024 .bf16) (k vb : Vec Ideal S1x1x128x1024 .f32) (mask : Vec Ideal S1x1x1x128 .f32) (kn vn : Vec Ideal S1x1x1024 .f32)
  (mo lo : Vec Ideal S8x1 .f32) (ao : Vec Ideal S8x1024 .f32) (cb : ℕ → BitVec 1) (s : Fin 8 → ℕ → ℝ) (v : Fin 1024 → ℕ → EReal) (N : ℕ)

/-- A greatest score over finitely many keys, each a real score or the floor. -/
theorem fold_select {n : ℕ} (hn : 0 < n) (b : Fin n → BitVec 1) (f : Fin n → ℝ) :
    ∃ r : ℝ, Finset.fold max (Ideal.ofBits .f32 0xFF800000#32) (fun l : Fin n => Scalar.select (b l) ((f l : ℝ) : EReal) (Ideal.ofBits .f32 0xF149F2CA#32)) Finset.univ = r := by
  rw [ninf]
  obtain ⟨w, hw⟩ := low_real
  have hr : ∀ l, ∃ r : ℝ, Scalar.select (b l) ((f l : ℝ) : EReal) (Ideal.ofBits .f32 0xF149F2CA#32) = r := fun l => by
    unfold Scalar.select
    split
    · exact ⟨_, rfl⟩
    · exact ⟨w, hw⟩
  refine fold_real _ (fun l => ?_) ⟨⟨0, hn⟩, ?_⟩
  · obtain ⟨r, e⟩ := hr l
    rw [e]; exact EReal.coe_ne_top r
  · obtain ⟨r, e⟩ := hr ⟨0, hn⟩
    rw [e]; exact EReal.coe_ne_bot r

/-- A page's update adds the page's 128 keys. -/
theorem page_step (hs : ∀ h l, k0_pay21 (F := Ideal) (k0_pay16 q) (k0_pay20 k) (ix2 h l) = ((s h (N + l.val) : ℝ) : EReal))
    (hc : ∀ l : Fin 128, bit (mask (ix4 0 0 0 l)) = cb (N + l.val)) (hv : ∀ (l : Fin 128) i, vb (ix4 0 0 l i) = v i (N + l.val))
    (hI : ∀ h i, Inv cb (s h) (v i) N (mo (ix2 h 0)) (lo (ix2 h 0)) (ao (ix2 h i))) (h : Fin 8) (i : Fin 1024) :
    Inv cb (s h) (v i) (N + 128) (k0_pay2 (k0_pay23 (k0_pay16 q) (k0_pay20 k) mask mo) (ix2 h 0)) (k0_pay26 (k0_pay16 q) (k0_pay20 k) mask mo lo (ix2 h 0))
      (k0_pay1 (k0_pay27 (k0_pay16 q) (k0_pay20 k) mask mo ao) (k0_pay28 (k0_pay16 q) (k0_pay20 k) mask mo) vb (ix2 h i)) := by
  refine (hI h i).step ?_ ?_ ?_
  · rw [pay2_at, pay23_at]
    refine max_real ((hI h i).imp fun _ e => e.1) ?_
    simp only [hs]
    exact fold_select (by omega) (fun l => bit (mask (ix4 0 0 0 l))) fun l => s h (N + l.val)
  · rw [pay2_at, pay26_at]
    simp only [pay24_at, hs, hc]
  · rw [pay2_at, pay1_at]
    simp only [pay24_at, hs, hc, hv]

/-- The new key's update adds one key. -/
theorem key_step (hs : ∀ h, k0_pay8 (F := Ideal) (k0_pay16 q) kn (ix2 h 0) = ((s h N : ℝ) : EReal))
    (hc : bit (mask (ix4 0 0 0 0)) = cb N) (hv : ∀ i, vn (ix3 0 0 i) = v i N)
    (hI : ∀ h i, Inv cb (s h) (v i) N (mo (ix2 h 0)) (lo (ix2 h 0)) (ao (ix2 h i))) (h : Fin 8) (i : Fin 1024) :
    Inv cb (s h) (v i) (N + 1) (k0_pay10 (k0_pay16 q) kn mask mo (ix2 h 0))
      (k0_pay3 (k0_pay13 (k0_pay16 q) kn mask mo lo) (k0_pay14 (k0_pay16 q) kn mask mo) (ix2 h 0))
      (k0_pay4 (k0_pay7 vn) (k0_pay11 (k0_pay16 q) kn mask mo) (k0_pay12 (k0_pay16 q) kn mask mo) ao (ix2 h i)) := by
  have hs' : ∀ h (l : Fin 1), k0_pay8 (F := Ideal) (k0_pay16 q) kn (ix2 h l) = ((s h N : ℝ) : EReal) := fun h l => by
    obtain rfl : l = 0 := Subsingleton.elim _ _
    exact hs h
  refine (hI h i).step ?_ ?_ ?_
  · rw [pay10_at]
    refine max_real ((hI h i).imp fun _ e => e.1) ?_
    simp only [hs']
    exact fold_select (by omega) (fun l => bit (mask (ix4 0 0 0 0))) fun l => s h N
  · rw [pay3_at]
    simp only [pay11_at, hs', hc, Finset.univ_unique, Finset.sum_singleton, Fin.default_eq_zero, Fin.val_zero, Nat.add_zero]
  · rw [pay4_at]
    simp only [pay11_at, hs', hc, hv, Finset.univ_unique, Finset.sum_singleton, Fin.default_eq_zero, Fin.val_zero, Nat.add_zero]

end

/-! ## The reference's keys, scores and values, numbered from 0 -/

section
variable (B : IVec Cert.SattnRefIdeal.S8x16385 1) (S : FVec Ideal Cert.SattnRefIdeal.S8x8x16385 .f32) (C : FVec Ideal Cert.SattnRefIdeal.S8x16385x8x128 .f32)

/-- Whether key `j` of row `b` is chosen. -/
def cF (b : Fin 8) (j : ℕ) : BitVec 1 := if hj : j < 16385 then B (ix2 b ⟨j, hj⟩) else 0#1
/-- The score of key `j` for head `h` of row `b`, a real number. -/
def sF (b h : Fin 8) (j : ℕ) : ℝ := if hj : j < 16385 then (S (ix3 b h ⟨j, hj⟩) : EReal).toReal else 0
/-- Column `i` of value `j` of row `b`. -/
def vF (b : Fin 8) (i : Fin 1024) (j : ℕ) : EReal :=
  if hj : j < 16385 then C (ix4 b ⟨j, hj⟩ ⟨i.val / 128, by omega⟩ ⟨i.val % 128, by omega⟩) else 0

/-- Inside the row that is the reference's choice. -/
theorem cF_at (b : Fin 8) (j : ℕ) (hj : j < 16385) : cF B b j = B (ix2 b ⟨j, hj⟩) := dif_pos hj
/-- Inside the row that is the reference's value. -/
theorem vF_at (b : Fin 8) (i : Fin 1024) (j : ℕ) (hj : j < 16385) :
    vF C b i j = C (ix4 b ⟨j, hj⟩ ⟨i.val / 128, by omega⟩ ⟨i.val % 128, by omega⟩) := dif_pos hj
/-- Inside the row that is the reference's score. -/
theorem sF_at (hS : ∀ b h j, ∃ r : ℝ, S (ix3 b h j) = (r : EReal)) (b h : Fin 8) (j : ℕ) (hj : j < 16385) :
    ((sF S b h j : ℝ) : EReal) = S (ix3 b h ⟨j, hj⟩) := by
  obtain ⟨r, e⟩ := hS b h ⟨j, hj⟩
  unfold sF
  rw [dif_pos hj, e, EReal.toReal_coe]

/-- The running softmax over all the keys ends at the plain one. -/
theorem out_plain (hS : ∀ b h j, ∃ r : ℝ, S (ix3 b h j) = (r : EReal)) (b : Fin 8) (hc : ∃ j, B (ix2 b j) = 1#1) (i : Fin 1024) (m l a : EReal)
    (hI : Inv (cF B b) (sF S b ⟨i.val / 128, by omega⟩) (vF C b i) 16385 m l a) :
    Ideal.div a l = refO (refW (refE (refX B S) (refM (refX B S)))) C (ix3 b 0 i) := by
  rw [refY_at]
  obtain ⟨j0, hj0⟩ := hc
  have hr : ∀ j, Scalar.select (B (ix2 b j)) (S (ix3 b ⟨i.val / 128, by omega⟩ j)) (⊥ : EReal) ≠ ⊤ := fun j => by
    obtain ⟨r, e⟩ := hS b ⟨i.val / 128, by omega⟩ j
    unfold Scalar.select
    split
    · rw [e]; exact EReal.coe_ne_top r
    · exact bot_ne_top
  obtain ⟨M, hM⟩ := fold_real _ hr ⟨j0, by
    obtain ⟨r, e⟩ := hS b ⟨i.val / 128, by omega⟩ j0
    rw [hj0, e]; exact EReal.coe_ne_bot r⟩
  rw [hM]
  refine (hI.out ⟨j0.val, j0.isLt, (cF_at B b _ j0.isLt).trans hj0⟩ M).trans ?_
  simp only [cF_at B b _ (Fin.isLt _), sF_at S hS b _ _ (Fin.isLt _), vF_at C b i _ (Fin.isLt _), Fin.eta]

end

/-- A page's row among the keys is the cache's row. -/
theorem page_at (K : FVec Ideal Cert.SattnRefIdeal.S1x1280x128x8x128 .f32) (T : IVec Cert.SattnRefIdeal.S8x128 32) (hT : ∀ y, (T y).toNat < 1280)
    (N : FVec Ideal Cert.SattnRefIdeal.S8x1024 .f32) (b : Fin 8) (p l : Fin 128) (hj : 128 * p.val + l.val < 16385) (h : Fin 8) (d : Fin 128) :
    refC (refG K T) N (ix4 b ⟨128 * p.val + l.val, hj⟩ h d) = K (ix5 0 ⟨(T (ix2 b p)).toNat, hT _⟩ l h d) := by
  rw [refC_at, dif_pos (show 128 * p.val + l.val < 16384 by omega), refG_at K T hT]
  have key : ∀ (p' l' : Fin 128), p' = p → l' = l → K (ix5 0 ⟨(T (ix2 b p')).toNat, hT _⟩ l' h d) = K (ix5 0 ⟨(T (ix2 b p)).toNat, hT _⟩ l h d) := by
    rintro _ _ rfl rfl; rfl
  exact key _ _ (Fin.ext (by show (128 * p.val + l.val) / 128 = p.val; omega)) (Fin.ext (by show (128 * p.val + l.val) % 128 = l.val; omega))

/-- The last key is the new one. -/
theorem new_at (G : FVec Ideal Cert.SattnRefIdeal.S8x128x128x8x128 .f32) (N : FVec Ideal Cert.SattnRefIdeal.S8x1024 .f32) (b : Fin 8) (hj : 16384 < 16385) (h : Fin 8) (d : Fin 128) :
    refC G N (ix4 b ⟨16384, hj⟩ h d) = N (ix2 b ⟨h.val * 128 + d.val, by omega⟩) := by
  rw [refC_at, dif_neg (show ¬16384 < 16384 by omega)]

/-- Finite queries and keys have finite scores. -/
theorem score_real (Q : FVec Ideal Cert.SattnRefIdeal.S8x1024 .bf16) (N : FVec Ideal Cert.SattnRefIdeal.S8x1024 .f32)
    (K : FVec Ideal Cert.SattnRefIdeal.S1x1280x128x8x128 .f32) (T : IVec Cert.SattnRefIdeal.S8x128 32) (hT : ∀ y, (T y).toNat < 1280)
    (hQ : ∀ y, ∃ r : ℝ, Q y = (r : EReal)) (hN : ∀ y, ∃ r : ℝ, N y = (r : EReal)) (hK : ∀ y, ∃ r : ℝ, K y = (r : EReal)) (b h : Fin 8) (j : Fin 16385) :
    ∃ r : ℝ, refS Q (refC (refG K T) N) (ix3 b h j) = (r : EReal) := by
  rw [refS_at]
  refine mul_real (sum_real _ fun d => mul_real (hQ _) ?_) scale_real
  rw [refC_at]
  split
  · rw [refG_at K T hT]; exact hK _
  · exact hN _

end Cert.SattnIdeal.Hand
end
end
-- ==== Proof.SattnLast.lean ====
module

public import proofs.«01_k».proof.Proof.SattnPay

@[expose] public section

set_option maxRecDepth 16384

noncomputable section

namespace Cert.SattnIdeal.Hand

open Cert.SattnIdeal Cert.SattnIdeal.Gen Idealize.ShloMosaic Idealize.ShloMosaic.TcCoe Idealize.SL.Sem Idealize.ShloMosaic.StableHlo

/-! ## What the scratch and the output hold after a point -/

variable (m : (ℓ : Loc nD τ sig) → Buf (Elt Ideal) ℓ) (hO : Ok m) (c : Dev nD)

/-- The first entry of a pair known by an equation. -/
theorem fst_of_eq {α β : Type} {p : α × β} {a b : α} {q : β} (h : p = (a, q)) (h2 : a = b) : p.1 = b := by
  rw [h]; exact h2

set_option maxHeartbeats 400000 in
/-- The last page's update, the new key's update, and the quotient. -/
theorem stepC (t : Fin (cfgM m hO).N) (h0 : ¬t.val % 128 = 0) (h1 : t.val % 128 = 127) (Z) (hZ : Z = outsAt0 m hO c (t.val - 1) (Nat.lt_of_le_of_lt (Nat.sub_le _ _) t.isLt)) :
    (outsAt0 m hO c t.val t.isLt).1 = k0_pay6 k0_pay15 (k0_pay4 (k0_pay7 (iblk m hO c 6 t)) (k0_pay11 (k0_pay16 (iblk m hO c 0 t)) (iblk m hO c 5 t) (iblk m hO c 4 t) (k0_pay2 (k0_pay23 (k0_pay16 (iblk m hO c 0 t)) (k0_pay20 (iblk m hO c 1 t)) (iblk m hO c 3 t) Z.2.1))) (k0_pay12 (k0_pay16 (iblk m hO c 0 t)) (iblk m hO c 5 t) (iblk m hO c 4 t) (k0_pay2 (k0_pay23 (k0_pay16 (iblk m hO c 0 t)) (k0_pay20 (iblk m hO c 1 t)) (iblk m hO c 3 t) Z.2.1))) (k0_pay1 (k0_pay27 (k0_pay16 (iblk m hO c 0 t)) (k0_pay20 (iblk m hO c 1 t)) (iblk m hO c 3 t) Z.2.1 Z.2.2.2) (k0_pay28 (k0_pay16 (iblk m hO c 0 t)) (k0_pay20 (iblk m hO c 1 t)) (iblk m hO c 3 t) Z.2.1) (iblk m hO c 2 t)))
      (k0_pay3 (k0_pay13 (k0_pay16 (iblk m hO c 0 t)) (iblk m hO c 5 t) (iblk m hO c 4 t) (k0_pay2 (k0_pay23 (k0_pay16 (iblk m hO c 0 t)) (k0_pay20 (iblk m hO c 1 t)) (iblk m hO c 3 t) Z.2.1)) (k0_pay26 (k0_pay16 (iblk m hO c 0 t)) (k0_pay20 (iblk m hO c 1 t)) (iblk m hO c 3 t) Z.2.1 Z.2.2.1)) (k0_pay14 (k0_pay16 (iblk m hO c 0 t)) (iblk m hO c 5 t) (iblk m hO c 4 t) (k0_pay2 (k0_pay23 (k0_pay16 (iblk m hO c 0 t)) (k0_pay20 (iblk m hO c 1 t)) (iblk m hO c 3 t) Z.2.1)))) := by
  subst hZ
  have e := fst_of_eq (outsAt0_C m hO c t h0 h1) (leftC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2)
  exact e

end Cert.SattnIdeal.Hand
end
end
-- ==== Proof.SattnRun.lean ====
module

public import proofs.«01_k».proof.Proof.SattnValue
public import proofs.«01_k».proof.Proof.SattnLast

@[expose] public section

set_option maxRecDepth 16384

noncomputable section

namespace Cert.SattnIdeal.Hand

open Cert.SattnIdeal Cert.SattnIdeal.Gen Idealize.ShloMosaic Idealize.ShloMosaic.TcCoe Idealize.SL.Sem Idealize.ShloMosaic.StableHlo
open Cert.Running Cert.SattnRefIdeal.Hand

variable (m : (ℓ : Loc nD τ sig) → Buf (Elt Ideal) ℓ) (hO : Ok m)

/-! ## The arguments and the reference's arrays of them -/

/-- The queries. -/
abbrev aQ : FVec Ideal S8x1024 .bf16 := m (((0 : Dev nD) : Thread nD τ).loc main_arg0)
/-- The new keys. -/
abbrev aKn : FVec Ideal S8x1024 .f32 := m (((0 : Dev nD) : Thread nD τ).loc main_arg1)
/-- The new values. -/
abbrev aVn : FVec Ideal S8x1024 .f32 := m (((0 : Dev nD) : Thread nD τ).loc main_arg2)
/-- The mask. -/
abbrev aM : FVec Ideal S8x129x128 .f32 := m (((0 : Dev nD) : Thread nD τ).loc main_arg3)
/-- The cached keys. -/
abbrev aK : FVec Ideal S1x1280x128x8x128 .f32 := m (((0 : Dev nD) : Thread nD τ).loc main_arg4)
/-- The cached values. -/
abbrev aV : FVec Ideal S1x1280x128x8x128 .f32 := m (((0 : Dev nD) : Thread nD τ).loc main_arg5)
/-- The page table. -/
abbrev aT : IVec S8x128 32 := m (((0 : Dev nD) : Thread nD τ).loc main_arg6)

/-- The keys of every row: its pages, then the new one. -/
abbrev keys := refC (refG (aK m) (aT m)) (aKn m)
/-- The values of every row: its pages, then the new one. -/
abbrev vals := refC (refG (aV m) (aT m)) (aVn m)
/-- The keys the mask chooses. -/
abbrev bits := refB (aM m)
/-- The scaled scores. -/
abbrev scores := refS (aQ m) (keys m)

/-- The reference's result of the arguments. -/
abbrev attended := refO (refW (refE (refX (bits m) (scores m)) (refM (refX (bits m) (scores m))))) (vals m)

/-- What the claim needs of the arguments: pages of the cache, and finite queries and keys. -/
structure Fine : Prop where
  page : ∀ y, (aT m y).toNat < 1280
  q : ∀ y, ∃ r : ℝ, aQ m y = (r : EReal)
  kn : ∀ y, ∃ r : ℝ, aKn m y = (r : EReal)
  k : ∀ y, ∃ r : ℝ, aK m y = (r : EReal)

variable (hF : Fine m)

include hF in
/-- The scores are finite. -/
theorem scores_real (b h : Fin 8) (j : Fin 16385) : ∃ r : ℝ, scores m (ix3 b h j) = (r : EReal) :=
  score_real (aQ m) (aKn m) (aK m) (aT m) hF.page hF.q hF.kn hF.k b h j

/-! ## The blocks of one page -/

section
variable (t : Fin (cfgM m hO).N) (b : Fin 8) (p : Fin 128) (ht : t.val = b.val * 128 + p.val)

include ht in
/-- The page fetched at a grid point. -/
theorem page_of : (aT m (ix2 b p)).toNat = BitVec.toNat (w := 32) (tbl m 0 (ix2 (grid0.coords t 0) (grid0.coords t 1))) := by
  have e0 : grid0.coords t 0 = b := Fin.ext ((idx m hO t).2.2.2.2.2.2.1.trans (by omega))
  have e1 : grid0.coords t 1 = p := Fin.ext ((idx m hO t).2.2.2.2.2.2.2.1.trans (by omega))
  rw [e0, e1]
  exact congrArg (fun T : IVec S8x128 32 => BitVec.toNat (w := 32) (T (ix2 b p))) (V_main_arg6 m 0).symm

include hF ht in
/-- A page's scores are the reference's. -/
theorem page_score (h : Fin 8) (l : Fin 128) :
    k0_pay21 (F := Ideal) (k0_pay16 (iblk m hO 0 0 t)) (k0_pay20 (iblk m hO 0 1 t)) (ix2 h l) = ((sF (scores m) b h (128 * p.val + l.val) : ℝ) : EReal) := by
  have hj : 128 * p.val + l.val < 16385 := by omega
  refine (pay21_at (iblk m hO 0 0 t) (iblk m hO 0 1 t) h l).trans ?_
  refine Eq.trans ?_ ((refS_at (aQ m) (keys m) b h ⟨_, hj⟩).symm.trans (sF_at (scores m) (scores_real m hF) b h _ hj).symm)
  refine congrArg (· * _) (Finset.sum_congr rfl fun d _ => ?_)
  refine congrArg₂ (· * ·) (blk0 m hO 0 t ⟨h.val * 128 + d.val, by omega⟩ b (by omega)) ?_
  refine (blk1 m hO 0 t l ⟨h.val * 128 + d.val, by omega⟩ ⟨_, hF.page (ix2 b p)⟩ (page_of m hO t b p ht)).trans ?_
  refine Eq.trans ?_ (page_at (aK m) (aT m) hF.page (aKn m) b p l hj h d).symm
  exact congrArg₂ (fun h' d' => aK m (ix5 0 ⟨_, hF.page (ix2 b p)⟩ l h' d')) (Fin.ext (by show (h.val * 128 + d.val) / 128 = h.val; omega))
    (Fin.ext (by show (h.val * 128 + d.val) % 128 = d.val; omega))

include ht in
/-- A page's mask chooses the reference's keys. -/
theorem page_bit (l : Fin 128) : bit ((iblk m hO 0 3 t : Vec Ideal S1x1x1x128 .f32) (ix4 0 0 0 l)) = cF (bits m) b (128 * p.val + l.val) := by
  have hj : 128 * p.val + l.val < 16385 := by omega
  refine (congrArg bit (blk3 m hO 0 t l b (by omega) ⟨p.val, by omega⟩ (show p.val = t.val % 128 by omega))).trans ?_
  refine Eq.trans ?_ ((refB_at (aM m) b ⟨_, hj⟩).symm.trans (cF_at (bits m) b _ hj).symm)
  exact congrArg bit (congrArg₂ (fun p' l' => aM m (ix3 b p' l')) (Fin.ext (by show p.val = (128 * p.val + l.val) / 128; omega))
    (Fin.ext (by show l.val = (128 * p.val + l.val) % 128; omega)))

include hF ht in
/-- A page's values are the reference's. -/
theorem page_val (l : Fin 128) (i : Fin 1024) : (iblk m hO 0 2 t : Vec Ideal S1x1x128x1024 .f32) (ix4 0 0 l i) = vF (vals m) b i (128 * p.val + l.val) := by
  have hj : 128 * p.val + l.val < 16385 := by omega
  refine (blk2 m hO 0 t l i ⟨_, hF.page (ix2 b p)⟩ (page_of m hO t b p ht)).trans ?_
  exact (page_at (aV m) (aT m) hF.page (aVn m) b p l hj ⟨i.val / 128, by omega⟩ ⟨i.val % 128, by omega⟩).symm.trans (vF_at (vals m) b i _ hj).symm

/-! ## The blocks of the new key -/

include hF ht in
/-- The new key's score is the reference's. -/
theorem new_score (h : Fin 8) :
    k0_pay8 (F := Ideal) (k0_pay16 (iblk m hO 0 0 t)) (iblk m hO 0 5 t) (ix2 h 0) = ((sF (scores m) b h 16384 : ℝ) : EReal) := by
  have hj : 16384 < 16385 := by omega
  refine (pay8_at (iblk m hO 0 0 t) (iblk m hO 0 5 t) h).trans ?_
  refine Eq.trans ?_ ((refS_at (aQ m) (keys m) b h ⟨_, hj⟩).symm.trans (sF_at (scores m) (scores_real m hF) b h _ hj).symm)
  refine congrArg (· * _) (Finset.sum_congr rfl fun d _ => ?_)
  refine congrArg₂ (· * ·) (blk0 m hO 0 t ⟨h.val * 128 + d.val, by omega⟩ b (by omega)) ?_
  exact (blk5 m hO 0 t ⟨h.val * 128 + d.val, by omega⟩ b (by omega)).trans (new_at (refG (aK m) (aT m)) (aKn m) b hj h d).symm

include ht in
/-- The new key is chosen when the reference chooses it. -/
theorem new_bit : bit ((iblk m hO 0 4 t : Vec Ideal S1x1x1x128 .f32) (ix4 0 0 0 0)) = cF (bits m) b 16384 := by
  have hj : 16384 < 16385 := by omega
  refine (congrArg bit (blk4 m hO 0 t 0 b (by omega))).trans ?_
  refine Eq.trans ?_ ((refB_at (aM m) b ⟨_, hj⟩).symm.trans (cF_at (bits m) b _ hj).symm)
  exact congrArg bit (congrArg₂ (fun p' l' => aM m (ix3 b p' l')) (Fin.ext (by show 128 = 16384 / 128; omega))
    (Fin.ext (by show 0 = 16384 % 128; omega)))

include ht in
/-- The new value is the reference's. -/
theorem new_val (i : Fin 1024) : (iblk m hO 0 6 t : Vec Ideal S1x1x1024 .f32) (ix3 0 0 i) = vF (vals m) b i 16384 := by
  have hj : 16384 < 16385 := by omega
  refine (blk6 m hO 0 t i b (by omega)).trans ?_
  refine Eq.trans ?_ ((new_at (refG (aV m) (aT m)) (aVn m) b hj ⟨i.val / 128, by omega⟩ ⟨i.val % 128, by omega⟩).symm.trans (vF_at (vals m) b i _ hj).symm)
  exact congrArg (fun i' => aVn m (ix2 b i')) (Fin.ext (by show i.val = i.val / 128 * 128 + i.val % 128; omega))

end

/-! ## The scratch after each page -/

/-- The running state may be replaced by an equal one. -/
theorem Inv.of_eq {c : ℕ → BitVec 1} {s : ℕ → ℝ} {v : ℕ → EReal} {N : ℕ} {m l a m' l' a' : EReal} (em : m = m') (el : l = l') (ea : a = a')
    (h : Inv c s v N m' l' a') : Inv c s v N m l a := by
  subst em el ea; exact h

include hF in
/-- After a row's page `p` the scratch holds the running softmax over the pages up to it. -/
theorem running (b : Fin 8) (p : ℕ) (hp : p < 127) : ∀ (t : Fin (cfgM m hO).N) (ht : t.val = b.val * 128 + p) (h : Fin 8) (i : Fin 1024),
    Inv (cF (bits m) b) (sF (scores m) b h) (vF (vals m) b i) (128 * p + 128)
      ((outsAt0 m hO 0 t.val t.isLt).2.1 (ix2 h 0)) ((outsAt0 m hO 0 t.val t.isLt).2.2.1 (ix2 h 0)) ((outsAt0 m hO 0 t.val t.isLt).2.2.2 (ix2 h i)) := by
  induction p with
  | zero =>
    intro t ht h i
    obtain ⟨e0, e1, e2⟩ := stepA m hO 0 t (by omega) (by omega)
    refine Inv.of_eq (congrFun e0 _) (congrFun e1 _) (congrFun e2 _) ?_
    obtain ⟨r, hr⟩ := low_real
    exact page_step (iblk m hO 0 0 t) (iblk m hO 0 1 t) (iblk m hO 0 2 t) (iblk m hO 0 3 t) (k0_pay17 (F := Ideal)) (k0_pay18 (F := Ideal)) (k0_pay19 (F := Ideal))
      (cF (bits m) b) (sF (scores m) b) (vF (vals m) b) (128 * 0)
      (page_score m hO hF t b ⟨0, by omega⟩ ht) (page_bit m hO t b ⟨0, by omega⟩ ht) (page_val m hO hF t b ⟨0, by omega⟩ ht)
      (fun h i => Inv.of_eq ((pay17_at h).trans hr) (pay18_at h) (pay19_at h i) (Inv.zero _ _ _ r)) h i
  | succ p ih =>
    intro t ht h i
    obtain ⟨e0, e1, e2⟩ := stepB m hO 0 t (by omega) (by omega) (outsAt0 m hO 0 (t.val - 1) (Nat.lt_of_le_of_lt (Nat.sub_le _ _) t.isLt)) rfl
    refine Inv.of_eq (congrFun e0 _) (congrFun e1 _) (congrFun e2 _) ?_
    exact page_step (iblk m hO 0 0 t) (iblk m hO 0 1 t) (iblk m hO 0 2 t) (iblk m hO 0 3 t) _ _ _
      (cF (bits m) b) (sF (scores m) b) (vF (vals m) b) (128 * (p + 1))
      (page_score m hO hF t b ⟨p + 1, by omega⟩ ht) (page_bit m hO t b ⟨p + 1, by omega⟩ ht) (page_val m hO hF t b ⟨p + 1, by omega⟩ ht)
      (ih (by omega) ⟨t.val - 1, Nat.lt_of_le_of_lt (Nat.sub_le _ _) t.isLt⟩ (show t.val - 1 = b.val * 128 + p by omega)) h i

include hF in
/-- After a row's last page the output block holds the reference's row. -/
theorem row_at (b : Fin 8) (hc : ∃ j, bits m (ix2 b j) = 1#1) (t : Fin (cfgM m hO).N) (ht : t.val = b.val * 128 + 127) (i : Fin 1024) :
    (outsAt0 m hO 0 t.val t.isLt).1 (ix3 0 0 i) = attended m (ix3 b 0 i) := by
  refine (congrFun (stepC m hO 0 t (by omega) (by omega) (outsAt0 m hO 0 (t.val - 1) (Nat.lt_of_le_of_lt (Nat.sub_le _ _) t.isLt)) rfl) (ix3 0 0 i)).trans ?_
  refine (pay6_at _ _ i).trans ?_
  refine out_plain (bits m) (scores m) (vals m) (scores_real m hF) b hc i _ _ _
    (key_step (iblk m hO 0 0 t) (iblk m hO 0 4 t) (iblk m hO 0 5 t) (iblk m hO 0 6 t) _ _ _ (cF (bits m) b) (sF (scores m) b) (vF (vals m) b) 16384
      (new_score m hO hF t b ⟨127, by omega⟩ ht) (new_bit m hO t b ⟨127, by omega⟩ ht) (new_val m hO t b ⟨127, by omega⟩ ht) (fun h i => ?_) _ i)
  exact page_step (iblk m hO 0 0 t) (iblk m hO 0 1 t) (iblk m hO 0 2 t) (iblk m hO 0 3 t) _ _ _
      (cF (bits m) b) (sF (scores m) b) (vF (vals m) b) (128 * 127)
      (page_score m hO hF t b ⟨127, by omega⟩ ht) (page_bit m hO t b ⟨127, by omega⟩ ht) (page_val m hO hF t b ⟨127, by omega⟩ ht)
      (running m hO hF b 126 (by omega) ⟨t.val - 1, Nat.lt_of_le_of_lt (Nat.sub_le _ _) t.isLt⟩ (show t.val - 1 = b.val * 128 + 126 by omega)) h i

include hF in
/-- The region's output array after the run. -/
theorem final (hc : ∀ b, ∃ j, bits m (ix2 b j) = 1#1) : (dats m hO 0 0).arrAt 7 (cfgM m hO).N = attended m := by
  refine (dats m hO 0 0).arrAt_eq_of_emb 7 _ (fun t hf y => ?_) (fun i => ?_)
  · have hlt := (idx m hO t).2.2.2.2.2.2.2.2
    have hm : t.val % 128 = 127 := (flush0_7 (adm m hO) t).mp hf
    refine (cast_eq _ _).trans ((congrFun (after0_7 m hO 0 t) y).trans ?_)
    revert y
    refine fun (y : S1x1x1024.Idx) => ?_
    idx_vars y
    obtain rfl : y0 = 0 := Subsingleton.elim _ _
    obtain rfl : y1 = 0 := Subsingleton.elim _ _
    exact (row_at m hO hF ⟨t.val / 128, hlt⟩ (hc _) t (by show t.val = t.val / 128 * 128 + 127; omega) y2).trans
      (congrArg (attended m) (emb7 m hO t y2 ⟨t.val / 128, hlt⟩ rfl).symm)
  · revert i
    refine fun (i : S8x1x1024.Idx) => ?_
    idx_vars i
    obtain rfl : i1 = 0 := Subsingleton.elim _ _
    refine ⟨⟨i0.val * 128 + 127, by show _ < 1024; omega⟩, (flush0_7 (adm m hO) _).mpr (by show (i0.val * 128 + 127) % 128 = 127; omega), ?_⟩
    have e := emb7 m hO ⟨i0.val * 128 + 127, by show _ < 1024; omega⟩ i2 i0 (by show _ = (_ * _ + _) / _; omega)
    exact e ▸ View.emb_mem_set _ _

include hO hF in
/-- The kernel's run: its result is the reference's term, its arguments end unchanged. -/
theorem run (ρ : Dev nD → PrngReg) (hc : ∀ b, ∃ j, bits m (ix2 b j) = 1#1) :
    θ_run defs (onTc (τ := τ) (main (F := Ideal))) ⟨m, fun _ => 0, ρ⟩ (fun r => ∀ c : Dev nD,
      r.2.mem ((c.tc : Thread nD τ).loc main_v8) = attended m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain rfl : c = 0 := Subsingleton.elim _ _
    exact ⟨((h.2 0).1 7).trans (final m hO hF hc), h.1 0⟩) (θ_run_and (unchanged m ρ hO) (run_main m ρ hO))

/-- The precondition gives all of it: pages of the cache, finite queries and keys, and a chosen key in every row. -/
theorem fine_of (h : Pre_some_chosen.fn (aQ m) (aKn m) (aVn m) (aM m) (aK m) (aV m) (aT m) = fun _ => 1#1) :
    Fine m ∧ ∀ b, ∃ j, bits m (ix2 b j) = 1#1 := by
  obtain ⟨h1, h2, h3, h4, h5⟩ := parts (aQ m) (aKn m) (aVn m) (aM m) (aK m) (aV m) (aT m) h
  refine ⟨⟨h1, fun y => real_of_abs .bf16 _ _ y inf16 (h3 y), fun y => real_of_abs .f32 _ _ y inf32 (h4 y), fun y => real_of_abs .f32 _ _ y inf32 (h5 y)⟩, fun b => ?_⟩
  obtain ⟨i, hd, hx⟩ := some_of_ori _ _ _ _ _ (fun _ => rfl) (h2 (ix1 b))
  revert hd hx
  revert i
  refine fun (i : Pre_some_chosen.S8x16385.Idx) => ?_
  idx_vars i
  intro hd hx
  have hv := Shape.ReducesTo.drop_apply_val Pre_some_chosen.Gen.reducesTo_S8x16385_S8_d1 (ix2 i0 i1) 0
  rw [hd] at hv
  obtain rfl : b = i0 := Fin.ext hv
  exact ⟨i1, hx⟩

end Cert.SattnIdeal.Hand
end
end
-- ==== Proof.lean ====
module

public import proofs.«01_k».proof.Proof.Gen.Pre_any_page
public import proofs.«01_k».proof.Proof.Gen.Pre_some_chosen
public import proofs.«01_k».proof.Proof.Gen.Scores.Frame
public import proofs.«01_k».proof.Proof.Gen.ScoresIdeal.Frame
public import proofs.«01_k».proof.Proof.Gen.ScoresRefIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjS.Frame
public import proofs.«01_k».proof.Proof.Gen.ProjSIdeal.Frame
public import proofs.«01_k».proof.Proof.Gen.ProjSRefIdeal.Run
public import proofs.«01_k».proof.Proof.Gen.MemKv.Frame
public import proofs.«01_k».proof.Proof.Gen.MemKvIdeal.Frame
public import proofs.«01_k».proof.Proof.Gen.MemKvRefIdeal.Run
public import proofs.«01_k».proof.Proof.Gen.FfnS.Frame
public import proofs.«01_k».proof.Proof.Gen.FfnSIdeal.Value
public import proofs.«01_k».proof.Proof.Gen.FfnSRefIdeal.Run
public import proofs.«01_k».proof.Proof.Gen.MergeS.Frame
public import proofs.«01_k».proof.Proof.Gen.MergeSIdeal.Value
public import proofs.«01_k».proof.Proof.Gen.MergeSRefIdeal.Run
public import proofs.«01_k».proof.Proof.Gen.Gmlp.Frame
public import proofs.«01_k».proof.Proof.Gen.GmlpIdeal.Value
public import proofs.«01_k».proof.Proof.Gen.GmlpRefIdeal.Run
public import proofs.«01_k».proof.Proof.Gen.GmlpS.Frame
public import proofs.«01_k».proof.Proof.Gen.GmlpSIdeal.Value
public import proofs.«01_k».proof.Proof.Gen.GmlpSRefIdeal.Run
public import proofs.«01_k».proof.Proof.Gen.MemAttn.Frame
public import proofs.«01_k».proof.Proof.Gen.MemAttnIdeal.Value
public import proofs.«01_k».proof.Proof.Gen.MemAttnRefIdeal.Run
public import proofs.«01_k».proof.Proof.Gen.MemAttnS.Frame
public import proofs.«01_k».proof.Proof.Gen.MemAttnSIdeal.Value
public import proofs.«01_k».proof.Proof.Gen.MemAttnSRefIdeal.Run
public import proofs.«01_k».proof.Proof.Gen.Sattn.Frame.RunC
public import proofs.«01_k».proof.Proof.Gen.SattnIdeal.Frame.RunC
public import proofs.«01_k».proof.Proof.Gen.SattnRefIdeal.Run
public import proofs.«01_k».proof.Proof.ScoresValue
public import proofs.«01_k».proof.Proof.FfnValue
public import proofs.«01_k».proof.Proof.MergeValue
public import proofs.«01_k».proof.Proof.ProjValue
public import proofs.«01_k».proof.Proof.ProjSValue
public import proofs.«01_k».proof.Proof.MemKvValue
public import proofs.«01_k».proof.Proof.FfnSValue
public import proofs.«01_k».proof.Proof.MergeSValue
public import proofs.«01_k».proof.Proof.GmlpValue
public import proofs.«01_k».proof.Proof.GmlpSValue
public import proofs.«01_k».proof.Proof.MemAttnValue
public import proofs.«01_k».proof.Proof.MemAttnSValue
public import proofs.«01_k».proof.Proof.SattnFrame
public import proofs.«01_k».proof.Proof.SattnRun
public import proofs.«01_k».proof.Defs
public import Idealize.ShloMosaic.Adequacy
public import Idealize.ShloMosaic.Init

@[expose] public section

noncomputable section

namespace Cert.Proof

open Idealize.ShloMosaic Idealize.SL.Sem

/-! ## The sample scores -/

/-- A page table the precondition admits names only pages of the cache, as the program reads it (floats in words). -/
theorem ok_scores (m : (ℓ : Loc Cert.Scores.nD Cert.Scores.τ Cert.Scores.sig) → Buf (Elt Bits) ℓ) (h : Cert.Pre_Scores m) :
    Cert.Scores.Gen.Ok m :=
  Cert.ScoresIdeal.Hand.ok_of_lt _ fun y =>
    (congrArg (fun T => BitVec.toNat (w := 32) (T y)) (Cert.Scores.Gen.V_main_arg4 m 0)).trans_lt
      (Cert.ScoresIdeal.Hand.page_lt _ _ _ _ _ (h 0) y)

/-- The pages are in range in the ideal program too. -/
theorem page_ideal (m : (ℓ : Loc Cert.ScoresIdeal.nD Cert.ScoresIdeal.τ Cert.ScoresIdeal.sig) → Buf (Elt Ideal) ℓ) (h : Cert.Pre_ScoresIdeal m) (y) :
    BitVec.toNat (w := 32) (m (((0 : Dev Cert.ScoresIdeal.nD).tc : Thread Cert.ScoresIdeal.nD Cert.ScoresIdeal.τ).loc Cert.ScoresIdeal.main_arg4) y) < 1280 :=
  Cert.ScoresIdeal.Hand.page_lt _ _ _ _ _ (h 0) y

/-- Likewise the pipeline's side condition there. -/
theorem ok_scoresIdeal (m : (ℓ : Loc Cert.ScoresIdeal.nD Cert.ScoresIdeal.τ Cert.ScoresIdeal.sig) → Buf (Elt Ideal) ℓ) (h : Cert.Pre_ScoresIdeal m) :
    Cert.ScoresIdeal.Gen.Ok m :=
  Cert.ScoresIdeal.Hand.ok_of_lt _ fun y =>
    (congrArg (fun T => BitVec.toNat (w := 32) (T y)) (Cert.ScoresIdeal.Gen.V_main_arg4 m 0)).trans_lt (page_ideal m h y)

/-- The sample scores: kernel and reference end with equal results. -/
theorem scores_eq : Cert.algebraic_ScoresIdeal_ScoresRefIdeal := by
  pair_intro
  · run_from Cert.ScoresIdeal.Hand.run m (ok_scoresIdeal m hpre) g (page_ideal m hpre)
  · run_from Cert.ScoresRefIdeal.Value.run m' g'
    rw [(hagree c).2.2.1, (hagree c).2.2.2.1, (hagree c).2.2.2.2]
    unfold Cert.ScoresIdeal.Hand.refY Cert.ScoresIdeal.Hand.refG
    rfl

/-! ## The feed-forward block -/

/-- The feed-forward block: kernel and reference end with equal results. -/
theorem ffn_eq : Cert.algebraic_FfnIdeal_FfnRefIdeal := by
  pair_intro
  · run_from Cert.FfnIdeal.Value.run_blocks m g
  · run_from Cert.FfnRefIdeal.Value.run m' g'
    rw [Cert.FfnIdeal.Hand.final m c, Cert.FfnIdeal.Hand.res_eq m' c, (hagree c).1, (hagree c).2.1, (hagree c).2.2.1, (hagree c).2.2.2.1, (hagree c).2.2.2.2]

/-! ## The merge -/

/-- The merge: kernel and reference end with equal results, both of them. -/
theorem merge_eq : Cert.algebraic_MergeIdeal_MergeRefIdeal := by
  pair_intro
  · run_from Cert.MergeIdeal.Value.run_blocks m g
  · run_from Cert.MergeRefIdeal.Value.run m' g'
    · rw [Cert.MergeIdeal.Hand.final0 m c, Cert.MergeIdeal.Hand.res_eq0 m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    · rw [Cert.MergeIdeal.Hand.final1 m c, Cert.MergeIdeal.Hand.res_eq1 m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

/-! ## The projections of the prompts -/

/-- The projections of the prompts: kernel and reference end with equal results, all eleven. -/
theorem proj_eq : Cert.algebraic_ProjIdeal_ProjRefIdeal := by
  pair_intro
  · run_from Cert.ProjIdeal.Hand.run m g
  · run_from Cert.ProjRefIdeal.Hand.run m' g'

/-! ## The projections of the sampled tokens -/

/-- The projections of the sampled tokens: kernel and reference end with equal results, all eleven. -/
theorem projs_eq : Cert.algebraic_ProjSIdeal_ProjSRefIdeal := by
  pair_intro
  · run_from Cert.ProjSIdeal.Hand.run m g
  · run_from Cert.ProjSRefIdeal.Hand.run m' g'

/-! ## The memory's keys and values -/

/-- The memory's keys and values: kernel and reference end with equal results, both of them. -/
theorem mkv_eq : Cert.algebraic_MemKvIdeal_MemKvRefIdeal := by
  pair_intro
  · run_from Cert.MemKvIdeal.Hand.run m g
  · run_from Cert.MemKvRefIdeal.Hand.run m' g'

/-! ## The feed-forward block of the sample -/

/-- The feed-forward block of the sample: kernel and reference end with equal results. -/
theorem ffns_eq : Cert.algebraic_FfnSIdeal_FfnSRefIdeal := by
  pair_intro
  · run_from Cert.FfnSIdeal.Value.run_blocks m g
  · run_from Cert.FfnSRefIdeal.Value.run m' g'
    rw [Cert.FfnSIdeal.Hand.final m c, Cert.FfnSIdeal.Hand.res_eq m' c, (hagree c).1, (hagree c).2.1, (hagree c).2.2.1, (hagree c).2.2.2.1, (hagree c).2.2.2.2]

/-! ## The merge of the sample -/

/-- The merge of the sample: kernel and reference end with equal results, both of them. -/
theorem merges_eq : Cert.algebraic_MergeSIdeal_MergeSRefIdeal := by
  pair_intro
  · run_from Cert.MergeSIdeal.Value.run_blocks m g
  · run_from Cert.MergeSRefIdeal.Value.run m' g'
    · rw [Cert.MergeSIdeal.Hand.final0 m c, Cert.MergeSIdeal.Hand.res_eq0 m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    · rw [Cert.MergeSIdeal.Hand.final1 m c, Cert.MergeSIdeal.Hand.res_eq1 m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

/-! ## The gMLP of the prompt -/

/-- The gMLP of the prompt: kernel and reference end with equal results. -/
theorem gmlp_eq : Cert.algebraic_GmlpIdeal_GmlpRefIdeal := by
  pair_intro
  · run_from Cert.GmlpIdeal.Value.run_blocks m g
  · run_from Cert.GmlpRefIdeal.Value.run m' g'
    rw [Cert.GmlpIdeal.Hand.final m c]
    rfl

/-! ## The gMLP of the sample -/

/-- The gMLP of the sample: kernel and reference end with equal results. -/
theorem gmlps_eq : Cert.algebraic_GmlpSIdeal_GmlpSRefIdeal := by
  pair_intro
  · run_from Cert.GmlpSIdeal.Value.run_blocks m g
  · run_from Cert.GmlpSRefIdeal.Value.run m' g'
    rw [Cert.GmlpSIdeal.Hand.final m c]
    rfl

/-! ## The attention over the memory -/

/-- The attention over the memory: kernel and reference end with equal results. -/
theorem mattn_eq : Cert.algebraic_MemAttnIdeal_MemAttnRefIdeal := by
  pair_intro
  · run_from Cert.MemAttnIdeal.Value.run_blocks m g
  · run_from Cert.MemAttnRefIdeal.Value.run m' g'
    rw [Cert.MemAttnIdeal.Hand.final m c]
    unfold Cert.MemAttnIdeal.Hand.refY Cert.MemAttnRefIdeal.Hand.refP Cert.MemAttnRefIdeal.Hand.refW Cert.MemAttnRefIdeal.Hand.refE Cert.MemAttnRefIdeal.Hand.refM Cert.MemAttnRefIdeal.Hand.refS
    rfl

/-! ## The attention of the sample over the memory -/

/-- The attention of the sample over the memory: kernel and reference end with equal results. -/
theorem mattns_eq : Cert.algebraic_MemAttnSIdeal_MemAttnSRefIdeal := by
  pair_intro
  · run_from Cert.MemAttnSIdeal.Value.run_blocks m g
  · run_from Cert.MemAttnSRefIdeal.Value.run m' g'
    rw [Cert.MemAttnSIdeal.Hand.final m c]
    unfold Cert.MemAttnSIdeal.Hand.refY Cert.MemAttnSRefIdeal.Hand.refP Cert.MemAttnSRefIdeal.Hand.refW Cert.MemAttnSRefIdeal.Hand.refE Cert.MemAttnSRefIdeal.Hand.refM Cert.MemAttnSRefIdeal.Hand.refS
    rfl

/-! ## The sample's attention over the chosen keys -/

/-- A page table the precondition admits names only pages of the cache, as the program reads it (floats in words). -/
theorem ok_sattn (m : (ℓ : Loc Cert.Sattn.nD Cert.Sattn.τ Cert.Sattn.sig) → Buf (Elt Bits) ℓ) (h : Cert.Pre_Sattn m) :
    Cert.Sattn.Gen.Ok m :=
  Cert.SattnIdeal.Hand.ok_of_lt _ fun y =>
    (congrArg (fun T => BitVec.toNat (w := 32) (T y)) (Cert.Sattn.Gen.V_main_arg6 m 0)).trans_lt
      ((Cert.SattnIdeal.Hand.parts _ _ _ _ _ _ _ (h 0)).1 y)

/-- Likewise the pipeline's side condition in the ideal program. -/
theorem ok_sattnIdeal (m : (ℓ : Loc Cert.SattnIdeal.nD Cert.SattnIdeal.τ Cert.SattnIdeal.sig) → Buf (Elt Ideal) ℓ) (h : Cert.Pre_SattnIdeal m) :
    Cert.SattnIdeal.Gen.Ok m :=
  Cert.SattnIdeal.Hand.ok_of_lt _ fun y =>
    (congrArg (fun T => BitVec.toNat (w := 32) (T y)) (Cert.SattnIdeal.Gen.V_main_arg6 m 0)).trans_lt
      ((Cert.SattnIdeal.Hand.parts _ _ _ _ _ _ _ (h 0)).1 y)

/-- The sample's attention over the chosen keys: kernel and reference end with equal results. -/
theorem sattn_eq : Cert.algebraic_SattnIdeal_SattnRefIdeal := by
  pair_intro
  · run_from Cert.SattnIdeal.Hand.run m (ok_sattnIdeal m hpre) (Cert.SattnIdeal.Hand.fine_of m (hpre 0)).1 g (Cert.SattnIdeal.Hand.fine_of m (hpre 0)).2
  · refine Idealize.ShloMosaic.θ_run_mono (Cert.SattnRefIdeal.Value.run m' g') ?_
    intro r h c
    refine ⟨(h c).1.trans ?_, (h c).2⟩
    obtain rfl : c = 0 := Subsingleton.elim _ _
    unfold Cert.SattnRefIdeal.Value.res_main_v46
    rw [(hagree 0).1, (hagree 0).2.1, (hagree 0).2.2.1, (hagree 0).2.2.2.1, (hagree 0).2.2.2.2.1, (hagree 0).2.2.2.2.2.1, (hagree 0).2.2.2.2.2.2]
    rfl

/-- Every claim. -/
theorem claim : Cert.Claim :=
  ⟨Cert.Scores.Gen.facts,
    Cert.ScoresIdeal.Gen.facts,
    Cert.ScoresRefIdeal.Gen.facts,
    Cert.Ffn.Gen.facts,
    Cert.FfnIdeal.Gen.facts,
    Cert.FfnRefIdeal.Gen.facts,
    Cert.Merge.Gen.facts,
    Cert.MergeIdeal.Gen.facts,
    Cert.MergeRefIdeal.Gen.facts,
    Cert.Proj.Gen.facts,
    Cert.ProjIdeal.Gen.facts,
    Cert.ProjRefIdeal.Gen.facts,
    Cert.ProjS.Gen.facts,
    Cert.ProjSIdeal.Gen.facts,
    Cert.ProjSRefIdeal.Gen.facts,
    Cert.MemKv.Gen.facts,
    Cert.MemKvIdeal.Gen.facts,
    Cert.MemKvRefIdeal.Gen.facts,
    Cert.FfnS.Gen.facts,
    Cert.FfnSIdeal.Gen.facts,
    Cert.FfnSRefIdeal.Gen.facts,
    Cert.MergeS.Gen.facts,
    Cert.MergeSIdeal.Gen.facts,
    Cert.MergeSRefIdeal.Gen.facts,
    Cert.Gmlp.Gen.facts,
    Cert.GmlpIdeal.Gen.facts,
    Cert.GmlpRefIdeal.Gen.facts,
    Cert.GmlpS.Gen.facts,
    Cert.GmlpSIdeal.Gen.facts,
    Cert.GmlpSRefIdeal.Gen.facts,
    Cert.MemAttn.Gen.facts,
    Cert.MemAttnIdeal.Gen.facts,
    Cert.MemAttnRefIdeal.Gen.facts,
    Cert.MemAttnS.Gen.facts,
    Cert.MemAttnSIdeal.Gen.facts,
    Cert.MemAttnSRefIdeal.Gen.facts,
    Cert.Sattn.Gen.facts,
    Cert.SattnIdeal.Gen.facts,
    Cert.SattnRefIdeal.Gen.facts,
    Cert.Pre_any_page.Gen.facts,
    Cert.Pre_some_chosen.Gen.facts,
    fun m ρ h => Cert.Scores.Gen.frame m ρ (ok_scores m h),
    fun m ρ h => Cert.ScoresIdeal.Gen.frame m ρ (ok_scoresIdeal m h),
    fun m ρ _ => (θ_run Cert.ScoresRefIdeal.defs _ _).mono (fun r h => ⟨fun c => (h c).2,
      Idealize.ShloMosaic.sem_eq_zero_of_no_sems (by decide) r.2⟩) (Cert.ScoresRefIdeal.Value.run (F := Ideal) m ρ),
    fun m ρ _ => Cert.Ffn.Gen.frame m ρ,
    fun m ρ _ => Cert.FfnIdeal.Gen.frame m ρ,
    fun m ρ _ => (θ_run Cert.FfnRefIdeal.defs _ _).mono (fun r h => ⟨fun c => (h c).2,
      Idealize.ShloMosaic.sem_eq_zero_of_no_sems (by decide) r.2⟩) (Cert.FfnRefIdeal.Value.run (F := Ideal) m ρ),
    fun m ρ _ => Cert.Merge.Gen.frame m ρ,
    fun m ρ _ => Cert.MergeIdeal.Gen.frame m ρ,
    fun m ρ _ => (θ_run Cert.MergeRefIdeal.defs _ _).mono (fun r h => ⟨fun c => (h c).2.2,
      Idealize.ShloMosaic.sem_eq_zero_of_no_sems (by decide) r.2⟩) (Cert.MergeRefIdeal.Value.run (F := Ideal) m ρ),
    fun m ρ _ => Cert.Proj.Gen.frame m ρ,
    fun m ρ _ => Cert.ProjIdeal.Gen.frame m ρ,
    fun m ρ _ => (θ_run Cert.ProjRefIdeal.defs _ _).mono (fun r h => ⟨fun c => (h c).2.2.2.2.2.2.2.2.2.2.2,
      Idealize.ShloMosaic.sem_eq_zero_of_no_sems (by decide) r.2⟩) (Cert.ProjRefIdeal.Value.run (F := Ideal) m ρ),
    fun m ρ _ => Cert.ProjS.Gen.frame m ρ,
    fun m ρ _ => Cert.ProjSIdeal.Gen.frame m ρ,
    fun m ρ _ => (θ_run Cert.ProjSRefIdeal.defs _ _).mono (fun r h => ⟨fun c => (h c).2.2.2.2.2.2.2.2.2.2.2,
      Idealize.ShloMosaic.sem_eq_zero_of_no_sems (by decide) r.2⟩) (Cert.ProjSRefIdeal.Value.run (F := Ideal) m ρ),
    fun m ρ _ => Cert.MemKv.Gen.frame m ρ,
    fun m ρ _ => Cert.MemKvIdeal.Gen.frame m ρ,
    fun m ρ _ => (θ_run Cert.MemKvRefIdeal.defs _ _).mono (fun r h => ⟨fun c => (h c).2.2,
      Idealize.ShloMosaic.sem_eq_zero_of_no_sems (by decide) r.2⟩) (Cert.MemKvRefIdeal.Value.run (F := Ideal) m ρ),
    fun m ρ _ => Cert.FfnS.Gen.frame m ρ,
    fun m ρ _ => Cert.FfnSIdeal.Gen.frame m ρ,
    fun m ρ _ => (θ_run Cert.FfnSRefIdeal.defs _ _).mono (fun r h => ⟨fun c => (h c).2,
      Idealize.ShloMosaic.sem_eq_zero_of_no_sems (by decide) r.2⟩) (Cert.FfnSRefIdeal.Value.run (F := Ideal) m ρ),
    fun m ρ _ => Cert.MergeS.Gen.frame m ρ,
    fun m ρ _ => Cert.MergeSIdeal.Gen.frame m ρ,
    fun m ρ _ => (θ_run Cert.MergeSRefIdeal.defs _ _).mono (fun r h => ⟨fun c => (h c).2.2,
      Idealize.ShloMosaic.sem_eq_zero_of_no_sems (by decide) r.2⟩) (Cert.MergeSRefIdeal.Value.run (F := Ideal) m ρ),
    fun m ρ _ => Cert.Gmlp.Gen.frame m ρ,
    fun m ρ _ => Cert.GmlpIdeal.Gen.frame m ρ,
    fun m ρ _ => (θ_run Cert.GmlpRefIdeal.defs _ _).mono (fun r h => ⟨fun c => (h c).2,
      Idealize.ShloMosaic.sem_eq_zero_of_no_sems (by decide) r.2⟩) (Cert.GmlpRefIdeal.Value.run (F := Ideal) m ρ),
    fun m ρ _ => Cert.GmlpS.Gen.frame m ρ,
    fun m ρ _ => Cert.GmlpSIdeal.Gen.frame m ρ,
    fun m ρ _ => (θ_run Cert.GmlpSRefIdeal.defs _ _).mono (fun r h => ⟨fun c => (h c).2,
      Idealize.ShloMosaic.sem_eq_zero_of_no_sems (by decide) r.2⟩) (Cert.GmlpSRefIdeal.Value.run (F := Ideal) m ρ),
    fun m ρ _ => Cert.MemAttn.Gen.frame m ρ,
    fun m ρ _ => Cert.MemAttnIdeal.Gen.frame m ρ,
    fun m ρ _ => (θ_run Cert.MemAttnRefIdeal.defs _ _).mono (fun r h => ⟨fun c => (h c).2,
      Idealize.ShloMosaic.sem_eq_zero_of_no_sems (by decide) r.2⟩) (Cert.MemAttnRefIdeal.Value.run (F := Ideal) m ρ),
    fun m ρ _ => Cert.MemAttnS.Gen.frame m ρ,
    fun m ρ _ => Cert.MemAttnSIdeal.Gen.frame m ρ,
    fun m ρ _ => (θ_run Cert.MemAttnSRefIdeal.defs _ _).mono (fun r h => ⟨fun c => (h c).2,
      Idealize.ShloMosaic.sem_eq_zero_of_no_sems (by decide) r.2⟩) (Cert.MemAttnSRefIdeal.Value.run (F := Ideal) m ρ),
    fun m ρ h => Cert.Sattn.Gen.frame m ρ (ok_sattn m h),
    fun m ρ h => Cert.SattnIdeal.Gen.frame m ρ (ok_sattnIdeal m h),
    fun m ρ _ => (θ_run Cert.SattnRefIdeal.defs _ _).mono (fun r h => ⟨fun c => (h c).2,
      Idealize.ShloMosaic.sem_eq_zero_of_no_sems (by decide) r.2⟩) (Cert.SattnRefIdeal.Value.run (F := Ideal) m ρ),
    trivial,
    scores_eq,
    trivial,
    ffn_eq,
    trivial,
    merge_eq,
    trivial,
    proj_eq,
    trivial,
    projs_eq,
    trivial,
    mkv_eq,
    trivial,
    ffns_eq,
    trivial,
    merges_eq,
    trivial,
    gmlp_eq,
    trivial,
    gmlps_eq,
    trivial,
    mattn_eq,
    trivial,
    mattns_eq,
    trivial,
    sattn_eq⟩

end Cert.Proof

end
end
